-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel3_Kernel3Ideal : Prop :=
  IdealRules.named_const.Statement Cert.Kernel3Ideal.κ "ln2" .f32 0x3F317218#32 ((Real.log 2 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v48)) (v1 : (c : Dev Cert.Kernel3Ideal.nD) → Buf (Elt Ideal) ((c.tc : Thread Cert.Kernel3Ideal.nD Cert.Kernel3Ideal.τ).loc Cert.Kernel3Ideal.main_v52)) (v2 : (c : Dev Cert.Kernel3Ideal.nD) → Buf (Elt Ideal) ((c.tc : Thread Cert.Kernel3Ideal.nD Cert.Kernel3Ideal.τ).loc Cert.Kernel3Ideal.main_v53)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v48) = v0 c
          ∧ r.2.mem ((c.tc : Thread Cert.Kernel3Ideal.nD Cert.Kernel3Ideal.τ).loc Cert.Kernel3Ideal.main_v52) = v1 c
          ∧ r.2.mem ((c.tc : Thread Cert.Kernel3Ideal.nD Cert.Kernel3Ideal.τ).loc Cert.Kernel3Ideal.main_v53) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_v62) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v6) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v28) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v25)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v25) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel13_Kernel13Ideal : Prop :=
  IdealRules.named_const.Statement Cert.Kernel13Ideal.κ "inv_ln2" .f32 0x3FB8AA3B#32 (((Real.log 2)⁻¹ : ℝ) : EReal)

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v18_0)) (v1 : (c : Dev Cert.Kernel13Ideal.nD) → Buf (Elt Ideal) ((c.tc : Thread Cert.Kernel13Ideal.nD Cert.Kernel13Ideal.τ).loc Cert.Kernel13Ideal.main_v23)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v18_0) = v0 c
          ∧ r.2.mem ((c.tc : Thread Cert.Kernel13Ideal.nD Cert.Kernel13Ideal.τ).loc Cert.Kernel13Ideal.main_v23) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)) (v3 : (c : Dev Cert.Kernel10Ideal.nD) → Buf (Elt Ideal) ((c.tc : Thread Cert.Kernel10Ideal.nD Cert.Kernel10Ideal.τ).loc Cert.Kernel10Ideal.main_v7_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_v7_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v76) = v0 c
          ∧ r.2.mem ((c.tc : Thread Cert.Reference10Ideal.nD Cert.Reference10Ideal.τ).loc Cert.Reference10Ideal.main_v77) = v1 c
          ∧ r.2.mem ((c.tc : Thread Cert.Reference10Ideal.nD Cert.Reference10Ideal.τ).loc Cert.Reference10Ideal.main_v78) = v2 c
          ∧ r.2.mem ((c.tc : Thread Cert.Reference10Ideal.nD Cert.Reference10Ideal.τ).loc Cert.Reference10Ideal.main_v79) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v1_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v1_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v42) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v25_0)) (v1 : (c : Dev Cert.Kernel12Ideal.nD) → Buf (Elt Ideal) ((c.tc : Thread Cert.Kernel12Ideal.nD Cert.Kernel12Ideal.τ).loc Cert.Kernel12Ideal.main_v25_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v25_0) = v0 c
          ∧ r.2.mem ((c.tc : Thread Cert.Kernel12Ideal.nD Cert.Kernel12Ideal.τ).loc Cert.Kernel12Ideal.main_v25_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v41) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v7_0)) (v1 : (c : Dev Cert.Kernel16Ideal.nD) → Buf (Elt Ideal) ((c.tc : Thread Cert.Kernel16Ideal.nD Cert.Kernel16Ideal.τ).loc Cert.Kernel16Ideal.main_v7_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7_0) = v0 c
          ∧ r.2.mem ((c.tc : Thread Cert.Kernel16Ideal.nD Cert.Kernel16Ideal.τ).loc Cert.Kernel16Ideal.main_v7_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v28) = v0 c
          ∧ r.2.mem ((c.tc : Thread Cert.Reference16Ideal.nD Cert.Reference16Ideal.τ).loc Cert.Reference16Ideal.main_v29) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v16) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v24_0)) (v1 : (c : Dev Cert.Kernel18Ideal.nD) → Buf (Elt Ideal) ((c.tc : Thread Cert.Kernel18Ideal.nD Cert.Kernel18Ideal.τ).loc Cert.Kernel18Ideal.main_v24_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v24_0) = v0 c
          ∧ r.2.mem ((c.tc : Thread Cert.Kernel18Ideal.nD Cert.Kernel18Ideal.τ).loc Cert.Kernel18Ideal.main_v24_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v65) = v0 c
          ∧ r.2.mem ((c.tc : Thread Cert.Reference18Ideal.nD Cert.Reference18Ideal.τ).loc Cert.Reference18Ideal.main_v67) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  IdealRules.named_const.Statement Cert.Kernel19Ideal.κ "inv_qk" .f32 0x3C2AAAAB#32 ((96⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v41)) (v1 : (c : Dev Cert.Kernel19Ideal.nD) → Buf (Elt Ideal) ((c.tc : Thread Cert.Kernel19Ideal.nD Cert.Kernel19Ideal.τ).loc Cert.Kernel19Ideal.main_v43)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v41) = v0 c
          ∧ r.2.mem ((c.tc : Thread Cert.Kernel19Ideal.nD Cert.Kernel19Ideal.τ).loc Cert.Kernel19Ideal.main_v43) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v98) = v0 c
          ∧ r.2.mem ((c.tc : Thread Cert.Reference19Ideal.nD Cert.Reference19Ideal.τ).loc Cert.Reference19Ideal.main_v99) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel13 : Cert.Kernel13.Facts) (hKernel13Ideal : Cert.Kernel13Ideal.Facts) (hReference13Ideal : Cert.Reference13Ideal.Facts) (hKernel4 : Cert.Kernel4.Facts) (hKernel4Ideal : Cert.Kernel4Ideal.Facts) (hReference4Ideal : Cert.Reference4Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite3 : Cert.Pre_finite3.Facts) (hPre_finite13 : Cert.Pre_finite13.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel4_Kernel4Ideal
    ∧ algebraic_Kernel4Ideal_Reference4Ideal (hKernel4Ideal := hKernel4Ideal) (hReference4Ideal := hReference4Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite13.lean ====
abbrev S8192x8x96 : Shape := ⟨3, ![8192, 8, 96]⟩
abbrev S8192x8x64 : Shape := ⟨3, ![8192, 8, 64]⟩
abbrev S8192x8x192 : Shape := ⟨3, ![8192, 8, 192]⟩
abbrev S_ : Shape := ⟨0, ![]⟩

class Facts : Prop where
  bitsLt_bf16_f32 : FTy.bits .bf16 < FTy.bits .f32
  concatenates_S8192x8x96_S8192x8x96_S8192x8x192_d2 : Shape.Concatenates [S8192x8x96, S8192x8x96] S8192x8x192 2
  bcast_S_S8192x8x192 : S_.BroadcastsInDim S8192x8x192 (![] : Fin 0 → Fin S8192x8x192.rank)

variable [Facts]

def fn {F : FTy → Type} [FloatOps F] (main_arg0 : FVec F S8192x8x96 .bf16) (main_arg1 : FVec F S8192x8x96 .bf16) (main_arg2 : FVec F S8192x8x64 .bf16) : IVec S8192x8x192 1 :=
  let main_v0 : FVec F S8192x8x96 .f32 := (extf .f32 · bitsLt_bf16_f32) main_arg0
  let main_v1 : FVec F S8192x8x96 .f32 := (extf .f32 · bitsLt_bf16_f32) main_arg1
  let main_v2 : FVec F S8192x8x192 .f32 := (fun a b => concatenate S8192x8x192 2 [⟨S8192x8x96, a⟩, ⟨S8192x8x96, b⟩] concatenates_S8192x8x96_S8192x8x96_S8192x8x192_d2) main_v0 main_v1
  let main_v3 : FVec F S8192x8x192 .f32 := Host.absf main_v2
  let main_cst : FVec F S_ .f32 := constant S_ .f32 0x7F800000#32
  let main_v4 : FVec F S8192x8x192 .f32 := broadcastInDim S8192x8x192 ![] bcast_S_S8192x8x192 main_cst
  let main_v5 : IVec S8192x8x192 1 := cmpf .olt main_v3 main_v4
  main_v5
-- ==== Pre_finite3.lean ====
abbrev S8192x8x96 : Shape := ⟨3, ![8192, 8, 96]⟩
abbrev S8192x8x64 : Shape := ⟨3, ![8192, 8, 64]⟩
abbrev S8192x512 : Shape := ⟨2, ![8192, 512]⟩
abbrev S8192x8x320 : Shape := ⟨3, ![8192, 8, 320]⟩
abbrev S_ : Shape := ⟨0, ![]⟩

class Facts : Prop where
  shapeCasts_S8192x512_S8192x8x64 : S8192x512.ShapeCasts S8192x8x64
  bitsLt_bf16_f32 : FTy.bits .bf16 < FTy.bits .f32
  concatenates_S8192x8x96_S8192x8x96_S8192x8x64_S8192x8x64_S8192x8x320_d2 : Shape.Concatenates [S8192x8x96, S8192x8x96, S8192x8x64, S8192x8x64] S8192x8x320 2
  bcast_S_S8192x8x320 : S_.BroadcastsInDim S8192x8x320 (![] : Fin 0 → Fin S8192x8x320.rank)

variable [Facts]

def fn {F : FTy → Type} [FloatOps F] (main_arg0 : FVec F S8192x8x96 .bf16) (main_arg1 : FVec F S8192x8x96 .bf16) (main_arg2 : FVec F S8192x8x64 .bf16) (main_arg3 : FVec F S8192x512 .bf16) : IVec S8192x8x320 1 :=
  let main_v0 : FVec F S8192x8x64 .bf16 := shapeCast S8192x8x64 main_arg3 shapeCasts_S8192x512_S8192x8x64
  let main_v1 : FVec F S8192x8x96 .f32 := (extf .f32 · bitsLt_bf16_f32) main_arg0
  let main_v2 : FVec F S8192x8x96 .f32 := (extf .f32 · bitsLt_bf16_f32) main_arg1
  let main_v3 : FVec F S8192x8x64 .f32 := (extf .f32 · bitsLt_bf16_f32) main_arg2
  let main_v4 : FVec F S8192x8x64 .f32 := (extf .f32 · bitsLt_bf16_f32) main_v0
  let main_v5 : FVec F S8192x8x320 .f32 := concatenate S8192x8x320 2 [⟨S8192x8x96, main_v1⟩, ⟨S8192x8x96, main_v2⟩, ⟨S8192x8x64, main_v3⟩, ⟨S8192x8x64, main_v4⟩] concatenates_S8192x8x96_S8192x8x96_S8192x8x64_S8192x8x64_S8192x8x320_d2
  let main_v6 : FVec F S8192x8x320 .f32 := Host.absf main_v5
  let main_cst : FVec F S_ .f32 := constant S_ .f32 0x7F800000#32
  let main_v7 : FVec F S8192x8x320 .f32 := broadcastInDim S8192x8x320 ![] bcast_S_S8192x8x320 main_cst
  let main_v8 : IVec S8192x8x320 1 := cmpf .olt main_v6 main_v7
  main_v8
-- ==== Kernel.lean ====
abbrev S8192x5632 : Shape := ⟨2, ![8192, 5632]⟩
abbrev S8192x2816 : Shape := ⟨2, ![8192, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x8192x64 : Shape := ⟨3, ![8, 8192, 64]⟩
abbrev S8192x8x1 : Shape := ⟨3, ![8192, 8, 1]⟩
abbrev S8192x8x128 : Shape := ⟨3, ![8192, 8, 128]⟩
abbrev S8192x1024 : Shape := ⟨2, ![8192, 1024]⟩
abbrev S8192x1536 : Shape := ⟨2, ![8192, 1536]⟩
abbrev S512x512 : Shape := ⟨2, ![512, 512]⟩
abbrev S2048x512 : Shape := ⟨2, ![2048, 512]⟩
abbrev S2048x256 : Shape := ⟨2, ![2048, 256]⟩
abbrev S512x256 : Shape := ⟨2, ![512, 256]⟩
abbrev S512x128 : Shape := ⟨2, ![512, 128]⟩
abbrev S2048x128 : Shape := ⟨2, ![2048, 128]⟩
abbrev S1x128 : Shape := ⟨2, ![1, 128]⟩
abbrev S512x2048 : Shape := ⟨2, ![512, 2048]⟩
abbrev S512x1 : Shape := ⟨2, ![512, 1]⟩
abbrev S512 : Shape := ⟨1, ![512]⟩

abbrev nBuf : Space → Nat
  | .hbm => 70
  | .vmem => 19
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x512, .bf16⟩
  | .hbm, ⟨4, _⟩ => ⟨S8192x8x96, .f32⟩
  | .hbm, ⟨5, _⟩ => ⟨S8192x8x96, .f32⟩
  | .hbm, ⟨6, _⟩ => ⟨S8192x8x64, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x64, .f32⟩
  | .hbm, ⟨21, _⟩ => ⟨S8x8192x64, .f32⟩
  | .hbm, ⟨22, _⟩ => ⟨S8x8192x64, .f32⟩
  | .hbm, ⟨23, _⟩ => ⟨S8192x8x64, .f32⟩
  | .hbm, ⟨24, _⟩ => ⟨S8192x512, .f32⟩
  | .hbm, ⟨25, _⟩ => ⟨S8192x512, .bf16⟩
  | .hbm, ⟨26, _⟩ => ⟨S_, .f32⟩
  | .hbm, ⟨27, _⟩ => ⟨S_, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8192x8x1, .f32⟩
  | .hbm, ⟨33, _⟩ => ⟨S8192x8x128, .f32⟩
  | .hbm, ⟨34, _⟩ => ⟨S8192x1024, .f32⟩
  | .hbm, ⟨35, _⟩ => ⟨S_, .i32⟩
  | .hbm, ⟨36, _⟩ => ⟨S_, .f32⟩
  | .hbm, ⟨37, _⟩ => ⟨S8192x8x128, .f32⟩
  | .hbm, ⟨38, _⟩ => ⟨S8192x1024, .f32⟩
  | .hbm, ⟨39, _⟩ => ⟨S8192x1024, .bf16⟩
  | .hbm, ⟨40, _⟩ => ⟨S8192x1024, .f32⟩
  | .hbm, ⟨41, _⟩ => ⟨S8192x512, .f32⟩
  | .hbm, ⟨42, _⟩ => ⟨S8192x1536, .f32⟩
  | .hbm, ⟨43, _⟩ => ⟨S8192x1536, .bf16⟩
  | .hbm, ⟨44, _⟩ => ⟨S_, .f32⟩
  | .hbm, ⟨45, _⟩ => ⟨S8192x8x96, .f32⟩
  | .hbm, ⟨46, _⟩ => ⟨S8192x8x96, .f32⟩
  | .hbm, ⟨47, _⟩ => ⟨S8192x8x96, .f32⟩
  | .hbm, ⟨48, _⟩ => ⟨S8192x8x96, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S8192x1024, .bf16⟩
  | .hbm, ⟨56, _⟩ => ⟨S8192x512, .bf16⟩
  | .hbm, ⟨57, _⟩ => ⟨S8192x8x128, .f32⟩
  | .hbm, ⟨58, _⟩ => ⟨S8192x8x96, .f32⟩
  | .hbm, ⟨59, _⟩ => ⟨S_, .f32⟩
  | .hbm, ⟨60, _⟩ => ⟨S8192x8x96, .f32⟩
  | .hbm, ⟨61, _⟩ => ⟨S8192x8x96, .f32⟩
  | .hbm, ⟨62, _⟩ => ⟨S8192x8x96, .f32⟩
  | .hbm, ⟨63, _⟩ => ⟨S8192x8x96, .f32⟩
  | .hbm, ⟨64, _⟩ => ⟨S8192x8x96, .bf16⟩
  | .hbm, ⟨65, _⟩ => ⟨S8192x1024, .f32⟩
  | .hbm, ⟨66, _⟩ => ⟨S8192x8x128, .f32⟩
  | .hbm, ⟨67, _⟩ => ⟨S8192x8x96, .f32⟩
  | .hbm, ⟨68, _⟩ => ⟨S8192x8x96, .bf16⟩
  | .hbm, ⟨69, _⟩ => ⟨S8192x8x64, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S512x512, .f32⟩
  | .local _ .vmem, ⟨9, _⟩ => ⟨S512x512, .f32⟩
  | .local _ .vmem, ⟨10, _⟩ => ⟨S512x256, .bf16⟩
  | .local _ .vmem, ⟨11, _⟩ => ⟨S512x256, .bf16⟩
  | .local _ .vmem, ⟨12, _⟩ => ⟨S8192x512, .f32⟩
  | .local _ .vmem, ⟨13, _⟩ => ⟨S2048x512, .bf16⟩
  | .local _ .vmem, ⟨14, _⟩ => ⟨S2048x512, .bf16⟩
  | .local _ .vmem, ⟨15, _⟩ => ⟨S2048x256, .bf16⟩
  | .local _ .vmem, ⟨16, _⟩ => ⟨S2048x256, .bf16⟩
  | .local _ .vmem, ⟨17, _⟩ => ⟨S2048x512, .f32⟩
  | .local _ .vmem, ⟨18, _⟩ => ⟨S2048x256, .f32⟩
  | _, _ => ⟨S8192x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_call1_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c512_i32 : BitVec 32 := 512#32
  let v8 : BitVec 32 := Scalar.muli arg2 c512_i32
  v8
def k0_off1 (i : grid0.Coords) : Fin 2 → Nat :=
  let arg2 : BitVec 32 := BitVec.ofNat 32 (i 2).val
  let c512_i32 : BitVec 32 := 512#32
  let v8 : BitVec 32 := Scalar.muli arg2 c512_i32
  let v9 : BitVec 32 := v8
  let v64 : Index := Scalar.indexCast v9
  let c0_31 : Index := 0#32
  ![v64.toNat, 0]
def k0_off2 (i : grid0.Coords) : Fin 2 → Nat :=
  let arg2 : BitVec 32 := BitVec.ofNat 32 (i 2).val
  let c512_i32 : BitVec 32 := 512#32
  let v8 : BitVec 32 := Scalar.muli arg2 c512_i32
  let v9 : BitVec 32 := v8
  let v125 : Index := Scalar.indexCast v9
  let c128_63 : Index := 128#32
  ![v125.toNat, 128]
def k0_off3 (i : grid0.Coords) : Fin 2 → Nat :=
  let arg2 : BitVec 32 := BitVec.ofNat 32 (i 2).val
  let c512_i32 : BitVec 32 := 512#32
  let v8 : BitVec 32 := Scalar.muli arg2 c512_i32
  let v9 : BitVec 32 := v8
  let v186 : Index := Scalar.indexCast v9
  let c256_96 : Index := 256#32
  ![v186.toNat, 256]
def k0_off4 (i : grid0.Coords) : Fin 2 → Nat :=
  let arg2 : BitVec 32 := BitVec.ofNat 32 (i 2).val
  let c512_i32 : BitVec 32 := 512#32
  let v8 : BitVec 32 := Scalar.muli arg2 c512_i32
  let v9 : BitVec 32 := v8
  let v247 : Index := Scalar.indexCast v9
  let c384_129 : Index := 384#32
  ![v247.toNat, 384]
def k0_cond3 (i : grid0.Coords) : BitVec 1 :=
  let arg2 : BitVec 32 := BitVec.ofNat 32 (i 2).val
  let c15_i32 : BitVec 32 := 15#32
  let v254 : BitVec 1 := Scalar.cmpi .eq arg2 c15_i32
  let v255 : BitVec 32 := Scalar.extui v254
  let c0_i32_132 : BitVec 32 := 0#32
  let v256 : BitVec 1 := Scalar.cmpi .ne v255 c0_i32_132
  v256

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 1 → Memref sig .tc .vmem S8192x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Kernel3Ideal.lean ====
variable {F : FTy → Type} [FloatOps F] [Named F]
def κ : String → Option EReal := fun
  | "ln2" => some ((Real.log 2 : ℝ) : EReal)
  | _ => none
-- ==== Reference3Ideal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩

abbrev nBuf : Space → Nat
  | .hbm => 81
  | .vmem => 0
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x512, .bf16⟩
  | .hbm, ⟨4, _⟩ => ⟨S8192x512, .f32⟩
  | .hbm, ⟨5, _⟩ => ⟨S8192x8x64, .f32⟩
  | .hbm, ⟨6, _⟩ => ⟨S8192x8x96, .f32⟩
  | .hbm, ⟨7, _⟩ => ⟨S8192x8x96, .f32⟩
  | .hbm, ⟨8, _⟩ => ⟨S8192x8x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .i1⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S_, .f32⟩
  | .hbm, ⟨25, _⟩ => ⟨S8x8192, .f32⟩
  | .hbm, ⟨26, _⟩ => ⟨S8x8192, .i1⟩
  | .hbm, ⟨27, _⟩ => ⟨S_, .f32⟩
  | .hbm, ⟨28, _⟩ => ⟨S8x8192, .f32⟩
  | .hbm, ⟨29, _⟩ => ⟨S8x8192, .i1⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x64x8192, .f32⟩
  | .hbm, ⟨52, _⟩ => ⟨S8192x8x64, .f32⟩
  | .hbm, ⟨53, _⟩ => ⟨S8x64x8192, .f32⟩
  | .hbm, ⟨54, _⟩ => ⟨S8x8192x8192, .f32⟩
  | .hbm, ⟨55, _⟩ => ⟨S8x64x8192, .f32⟩
  | .hbm, ⟨56, _⟩ => ⟨S8192x8x64, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192x8192, .f32⟩
  | .hbm, ⟨73, _⟩ => ⟨S8x8192x8192, .f32⟩
  | .hbm, ⟨74, _⟩ => ⟨S8x8192x96, .f32⟩
  | .hbm, ⟨75, _⟩ => ⟨S8192x8x96, .f32⟩
  | .hbm, ⟨76, _⟩ => ⟨S8x8192x96, .f32⟩
  | .hbm, ⟨77, _⟩ => ⟨S8192x8x96, .f32⟩
  | .hbm, ⟨78, _⟩ => ⟨S8192x8x96, .bf16⟩
  | .hbm, ⟨79, _⟩ => ⟨S8192x8x96, .bf16⟩
  | .hbm, ⟨80, _⟩ => ⟨S8192x8x64, .bf16⟩
  | _, _ => ⟨S8192x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel6.lean ====
abbrev S8192x1024 : Shape := ⟨2, ![8192, 1024]⟩
abbrev S_ : Shape := ⟨0, ![]⟩
abbrev S8192x5632 : Shape := ⟨2, ![8192, 5632]⟩
abbrev S2048x128 : Shape := ⟨2, ![2048, 128]⟩
abbrev S2048 : Shape := ⟨1, ![2048]⟩
abbrev S2048x1 : Shape := ⟨2, ![2048, 1]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S_, .i32⟩
  | .hbm, ⟨6, _⟩ => ⟨S_, .f32⟩
  | .hbm, ⟨7, _⟩ => ⟨S8192x5632, .f32⟩
  | .hbm, ⟨8, _⟩ => ⟨S8192x5632, .bf16⟩
  | .hbm, ⟨9, _⟩ => ⟨S_, .f32⟩
  | .hbm, ⟨10, _⟩ => ⟨S8192x5632, .f32⟩
  | .hbm, ⟨11, _⟩ => ⟨S8192x5632, .bf16⟩
  | .hbm, ⟨12, _⟩ => ⟨S8192x1024, .bf16⟩
  | .hbm, ⟨13, _⟩ => ⟨S8192x5632, .bf16⟩
  | .hbm, ⟨14, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x128, .f32⟩
  | .hbm, ⟨23, _⟩ => ⟨S8192x8x128, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x8x128, .f32⟩
  | .hbm, ⟨47, _⟩ => ⟨S8192x8x128, .f32⟩
  | .hbm, ⟨48, _⟩ => ⟨S_, .f32⟩
  | .hbm, ⟨49, _⟩ => ⟨S8192x8, .f32⟩
  | .hbm, ⟨50, _⟩ => ⟨S8192x8x1, .f32⟩
  | .hbm, ⟨51, _⟩ => ⟨S8192x8x128, .f32⟩
  | .hbm, ⟨52, _⟩ => ⟨S8192x8x128, .f32⟩
  | .hbm, ⟨53, _⟩ => ⟨S8192x8x1, .f32⟩
  | .hbm, ⟨54, _⟩ => ⟨S_, .f32⟩
  | .hbm, ⟨55, _⟩ => ⟨S8192x8x1, .f32⟩
  | .hbm, ⟨56, _⟩ => ⟨S8192x8x1, .f32⟩
  | .hbm, ⟨57, _⟩ => ⟨S_, .f32⟩
  | .hbm, ⟨58, _⟩ => ⟨S8192x8, .f32⟩
  | .hbm, ⟨59, _⟩ => ⟨S8192x8x128, .f32⟩
  | .hbm, ⟨60, _⟩ => ⟨S8192x8x128, .f32⟩
  | .hbm, ⟨61, _⟩ => ⟨S8192x8x128, .f32⟩
  | .hbm, ⟨62, _⟩ => ⟨S8192x8x128, .f32⟩
  | .hbm, ⟨63, _⟩ => ⟨S8192x8x128, .f32⟩
  | .hbm, ⟨64, _⟩ => ⟨S8192x1024, .f32⟩
  | .hbm, ⟨65, _⟩ => ⟨S8192x1024, .bf16⟩
  | .hbm, ⟨66, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S_ : Shape := ⟨0, ![]⟩
abbrev S8192x5632 : Shape := ⟨2, ![8192, 5632]⟩
abbrev S512x1024 : Shape := ⟨2, ![512, 1024]⟩
abbrev S512x2048 : Shape := ⟨2, ![512, 2048]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S_, .i32⟩
  | .hbm, ⟨6, _⟩ => ⟨S_, .f32⟩
  | .hbm, ⟨7, _⟩ => ⟨S8192x5632, .f32⟩
  | .hbm, ⟨8, _⟩ => ⟨S8192x5632, .bf16⟩
  | .hbm, ⟨9, _⟩ => ⟨S8192x5632, .bf16⟩
  | .hbm, ⟨10, _⟩ => ⟨S8192x1024, .bf16⟩
  | .hbm, ⟨11, _⟩ => ⟨S8192x1024, .bf16⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x2048, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S8192x1024, .bf16⟩
  | .hbm, ⟨37, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel7.lean ====
abbrev S8192 : Shape := ⟨1, ![8192]⟩
abbrev S8192x512 : Shape := ⟨2, ![8192, 512]⟩
abbrev S_ : Shape := ⟨0, ![]⟩
abbrev S8192x5632 : Shape := ⟨2, ![8192, 5632]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S2048x128 : Shape := ⟨2, ![2048, 128]⟩

abbrev nBuf : Space → Nat
  | .hbm => 36
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S_, .i32⟩
  | .hbm, ⟨6, _⟩ => ⟨S_, .f32⟩
  | .hbm, ⟨7, _⟩ => ⟨S8192x5632, .f32⟩
  | .hbm, ⟨8, _⟩ => ⟨S8192x5632, .bf16⟩
  | .hbm, ⟨9, _⟩ => ⟨S_, .f32⟩
  | .hbm, ⟨10, _⟩ => ⟨S8192x5632, .f32⟩
  | .hbm, ⟨11, _⟩ => ⟨S8192x5632, .bf16⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .f32⟩
  | .hbm, ⟨21, _⟩ => ⟨S8192x1, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x5632, .bf16⟩
  | .hbm, ⟨35, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192 : Shape := ⟨1, ![8192]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩

abbrev nBuf : Space → Nat
  | .hbm => 62
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S8192x8x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x1x32, .f32⟩
  | .hbm, ⟨22, _⟩ => ⟨S8192x32, .f32⟩
  | .hbm, ⟨23, _⟩ => ⟨S8192x1x32, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x64, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x8x64, .f32⟩
  | .hbm, ⟨42, _⟩ => ⟨S8192x8x32, .f32⟩
  | .hbm, ⟨43, _⟩ => ⟨S8192x8x32, .f32⟩
  | .hbm, ⟨44, _⟩ => ⟨S8192x8x32, .f32⟩
  | .hbm, ⟨45, _⟩ => ⟨S8192x8x32, .f32⟩
  | .hbm, ⟨46, _⟩ => ⟨S8192x8x32, .f32⟩
  | .hbm, ⟨47, _⟩ => ⟨S8192x8x32, .f32⟩
  | .hbm, ⟨48, _⟩ => ⟨S8192x8x32, .f32⟩
  | .hbm, ⟨49, _⟩ => ⟨S8192x8x32, .f32⟩
  | .hbm, ⟨50, _⟩ => ⟨S8192x8x32, .f32⟩
  | .hbm, ⟨51, _⟩ => ⟨S8192x8x32, .f32⟩
  | .hbm, ⟨52, _⟩ => ⟨S8192x8x32, .f32⟩
  | .hbm, ⟨53, _⟩ => ⟨S8192x8x32, .f32⟩
  | .hbm, ⟨54, _⟩ => ⟨S8192x8x32, .f32⟩
  | .hbm, ⟨55, _⟩ => ⟨S_, .f32⟩
  | .hbm, ⟨56, _⟩ => ⟨S8192x8x64, .f32⟩
  | .hbm, ⟨57, _⟩ => ⟨S_, .f32⟩
  | .hbm, ⟨58, _⟩ => ⟨S8192x8x64, .f32⟩
  | .hbm, ⟨59, _⟩ => ⟨S8192x8x64, .f32⟩
  | .hbm, ⟨60, _⟩ => ⟨S8192x512, .f32⟩
  | .hbm, ⟨61, _⟩ => ⟨S8192x512, .bf16⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_cst_2 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Kernel8.lean ====
abbrev S8192 : Shape := ⟨1, ![8192]⟩
abbrev S8192x512 : Shape := ⟨2, ![8192, 512]⟩
abbrev S_ : Shape := ⟨0, ![]⟩
abbrev S8192x5632 : Shape := ⟨2, ![8192, 5632]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S2048x128 : Shape := ⟨2, ![2048, 128]⟩

abbrev nBuf : Space → Nat
  | .hbm => 36
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S_, .i32⟩
  | .hbm, ⟨6, _⟩ => ⟨S_, .f32⟩
  | .hbm, ⟨7, _⟩ => ⟨S8192x5632, .f32⟩
  | .hbm, ⟨8, _⟩ => ⟨S8192x5632, .bf16⟩
  | .hbm, ⟨9, _⟩ => ⟨S_, .f32⟩
  | .hbm, ⟨10, _⟩ => ⟨S8192x5632, .f32⟩
  | .hbm, ⟨11, _⟩ => ⟨S8192x5632, .bf16⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .f32⟩
  | .hbm, ⟨21, _⟩ => ⟨S8192x1, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x5632, .bf16⟩
  | .hbm, ⟨35, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S8192 : Shape := ⟨1, ![8192]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩

abbrev nBuf : Space → Nat
  | .hbm => 68
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S8192x8x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x1x32, .f32⟩
  | .hbm, ⟨22, _⟩ => ⟨S8192x32, .f32⟩
  | .hbm, ⟨23, _⟩ => ⟨S8192x1x32, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x64, .f32⟩
  | .hbm, ⟨37, _⟩ => ⟨S_, .f32⟩
  | .hbm, ⟨38, _⟩ => ⟨S8192x8x64, .f32⟩
  | .hbm, ⟨39, _⟩ => ⟨S8192x8x64, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x8x64, .f32⟩
  | .hbm, ⟨45, _⟩ => ⟨S_, .f32⟩
  | .hbm, ⟨46, _⟩ => ⟨S8192x8x64, .f32⟩
  | .hbm, ⟨47, _⟩ => ⟨S8192x8x64, .f32⟩
  | .hbm, ⟨48, _⟩ => ⟨S8192x8x32, .f32⟩
  | .hbm, ⟨49, _⟩ => ⟨S8192x8x32, .f32⟩
  | .hbm, ⟨50, _⟩ => ⟨S8192x8x32, .f32⟩
  | .hbm, ⟨51, _⟩ => ⟨S8192x8x32, .f32⟩
  | .hbm, ⟨52, _⟩ => ⟨S8192x8x32, .f32⟩
  | .hbm, ⟨53, _⟩ => ⟨S8192x8x32, .f32⟩
  | .hbm, ⟨54, _⟩ => ⟨S8192x8x32, .f32⟩
  | .hbm, ⟨55, _⟩ => ⟨S8192x8x32, .f32⟩
  | .hbm, ⟨56, _⟩ => ⟨S8192x8x32, .f32⟩
  | .hbm, ⟨57, _⟩ => ⟨S8192x8x32, .f32⟩
  | .hbm, ⟨58, _⟩ => ⟨S8192x8x32, .f32⟩
  | .hbm, ⟨59, _⟩ => ⟨S8192x8x32, .f32⟩
  | .hbm, ⟨60, _⟩ => ⟨S8192x8x32, .f32⟩
  | .hbm, ⟨61, _⟩ => ⟨S_, .f32⟩
  | .hbm, ⟨62, _⟩ => ⟨S8192x8x64, .f32⟩
  | .hbm, ⟨63, _⟩ => ⟨S_, .f32⟩
  | .hbm, ⟨64, _⟩ => ⟨S8192x8x64, .f32⟩
  | .hbm, ⟨65, _⟩ => ⟨S8192x8x64, .f32⟩
  | .hbm, ⟨66, _⟩ => ⟨S8192x512, .f32⟩
  | .hbm, ⟨67, _⟩ => ⟨S8192x512, .bf16⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst_3 : Ref sig .tc := ⟨.hbm, 61, rfl⟩
abbrev main_v53 : Ref sig .tc := ⟨.hbm, 62, rfl⟩
abbrev main_cst_4 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩

abbrev nD : Nat := 1
abbrev τ : Topo := Topo.v7x

variable {F : FTy → Type} [FloatOps F]
-- ==== Kernel13.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8192x512 : Shape := ⟨2, ![8192, 512]⟩
abbrev S8192x1536 : Shape := ⟨2, ![8192, 1536]⟩
abbrev S256x1024 : Shape := ⟨2, ![256, 1024]⟩
abbrev S256x512 : Shape := ⟨2, ![256, 512]⟩
abbrev S256x128 : Shape := ⟨2, ![256, 128]⟩
abbrev S8192x128 : Shape := ⟨2, ![8192, 128]⟩
abbrev S256x8192 : Shape := ⟨2, ![256, 8192]⟩
abbrev S256 : Shape := ⟨1, ![256]⟩
abbrev S256x1 : Shape := ⟨2, ![256, 1]⟩
abbrev S1x128 : Shape := ⟨2, ![1, 128]⟩
abbrev S8192x8x1 : Shape := ⟨3, ![8192, 8, 1]⟩
abbrev S8192x8 : Shape := ⟨2, ![8192, 8]⟩

abbrev nBuf : Space → Nat
  | .hbm => 34
  | .vmem => 8
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x96, .f32⟩
  | .hbm, ⟨4, _⟩ => ⟨S8192x8x96, .f32⟩
  | .hbm, ⟨5, _⟩ => ⟨S8192x8x64, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S8192x8x128, .f32⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x512, .f32⟩
  | .hbm, ⟨15, _⟩ => ⟨S8192x1536, .f32⟩
  | .hbm, ⟨16, _⟩ => ⟨S8192x1536, .bf16⟩
  | .hbm, ⟨17, _⟩ => ⟨S_, .f32⟩
  | .hbm, ⟨18, _⟩ => ⟨S8192x8x96, .f32⟩
  | .hbm, ⟨19, _⟩ => ⟨S8192x8x96, .f32⟩
  | .hbm, ⟨20, _⟩ => ⟨S8192x8x96, .f32⟩
  | .hbm, ⟨21, _⟩ => ⟨S8192x8x96, .f32⟩
  | .hbm, ⟨22, _⟩ => ⟨S_, .i32⟩
  | .hbm, ⟨23, _⟩ => ⟨S_, .f32⟩
  | .hbm, ⟨24, _⟩ => ⟨S8192x8x128, .f32⟩
  | .hbm, ⟨25, _⟩ => ⟨S8192x1024, .f32⟩
  | .hbm, ⟨26, _⟩ => ⟨S8192x1024, .bf16⟩
  | .hbm, ⟨27, _⟩ => ⟨S8192x512, .bf16⟩
  | .hbm, ⟨28, _⟩ => ⟨S8192x1024, .f32⟩
  | .hbm, ⟨29, _⟩ => ⟨S8192x8x128, .f32⟩
  | .hbm, ⟨30, _⟩ => ⟨S8192x8x1, .f32⟩
  | .hbm, ⟨31, _⟩ => ⟨S8192x8, .f32⟩
  | .hbm, ⟨32, _⟩ => ⟨S8192x8, .f32⟩
  | .hbm, ⟨33, _⟩ => ⟨S8192x8, .f32⟩
  | .local _ .vmem, ⟨0, _⟩ => ⟨S256x1024, .bf16⟩
  | .local _ .vmem, ⟨1, _⟩ => ⟨S256x1024, .bf16⟩
  | .local _ .vmem, ⟨2, _⟩ => ⟨S8192x1024, .bf16⟩
  | .local _ .vmem, ⟨3, _⟩ => ⟨S8192x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | _, _ => ⟨S8192x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel13Ideal.lean ====
variable {F : FTy → Type} [FloatOps F] [Named F]
def κ : String → Option EReal := fun
  | "inv_ln2" => some (((Real.log 2)⁻¹ : ℝ) : EReal)
  | _ => none
-- ==== Reference13Ideal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x512 : Shape := ⟨2, ![8192, 512]⟩
abbrev S8192x8 : Shape := ⟨2, ![8192, 8]⟩

abbrev nBuf : Space → Nat
  | .hbm => 39
  | .vmem => 0
  | .smem => 0
  | _ => 0

abbrev bufTy : (tb : Table) → Fin (tcTables nBuf tb) → BufTy
  | .hbm, ⟨0, _⟩ => ⟨S8192x8x96, .bf16⟩
  | .hbm, ⟨1, _⟩ => ⟨S8192x8x96, .bf16⟩
  | .hbm, ⟨2, _⟩ => ⟨S8192x8x64, .bf16⟩
  | .hbm, ⟨3, _⟩ => ⟨S8192x8x96, .f32⟩
  | .hbm, ⟨4, _⟩ => ⟨S8192x8x96, .f32⟩
  | .hbm, ⟨5, _⟩ => ⟨S8192x8x64, .f32⟩
  | .hbm, ⟨6, _⟩ => ⟨S8x8192x8192, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S_, .f32⟩
  | .hbm, ⟨11, _⟩ => ⟨S8x8192, .f32⟩
  | .hbm, ⟨12, _⟩ => ⟨S_, .f32⟩
  | .hbm, ⟨13, _⟩ => ⟨S8x8192, .f32⟩
  | .hbm, ⟨14, _⟩ => ⟨S8x8192, .f32⟩
  | .hbm, ⟨15, _⟩ => ⟨S8x8192x1, .f32⟩
  | .hbm, ⟨16, _⟩ => ⟨S8x8192x8192, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x64x8192, .f32⟩
  | .hbm, ⟨25, _⟩ => ⟨S8192x8x64, .f32⟩
  | .hbm, ⟨26, _⟩ => ⟨S8192x512, .f32⟩
  | .hbm, ⟨27, _⟩ => ⟨S8192x512, .bf16⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192, .f32⟩
  | .hbm, ⟨38, _⟩ => ⟨S8192x8, .f32⟩
  | _, _ => ⟨S8192x8x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | .local _ .vmem, ⟨12, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg0 : BitVec 32 := BitVec.ofNat 32 (i 0).val
  let c0_i32_25 : BitVec 32 := 0#32
  let v35 : BitVec 1 := Scalar.cmpi .eq arg0 c0_i32_25
  let v36 : BitVec 32 := Scalar.extui v35
  let c0_i32_26 : BitVec 32 := 0#32
  let v37 : BitVec 1 := Scalar.cmpi .ne v36 c0_i32_26
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel10.lean ====
abbrev S8192x256 : Shape := ⟨2, ![8192, 256]⟩
abbrev S8192x128 : Shape := ⟨2, ![8192, 128]⟩
abbrev S256 : Shape := ⟨1, ![256]⟩
abbrev S128 : Shape := ⟨1, ![128]⟩
abbrev S8192x384 : Shape := ⟨2, ![8192, 384]⟩
abbrev S_ : Shape := ⟨0, ![]⟩
abbrev S8192x5632 : Shape := ⟨2, ![8192, 5632]⟩
abbrev S1x256 : Shape := ⟨2, ![1, 256]⟩
abbrev S1x128 : Shape := ⟨2, ![1, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 16
  | .smem => 0
  | _ => 0

abbrev bufTy : (tb : Table) → Fin (tcTables nBuf tb) → BufTy
  | .hbm, ⟨0, _⟩ => ⟨S8192x256, .bf16⟩
  | .hbm, ⟨1, _⟩ => ⟨S8192x128, .bf16⟩
  | .hbm, ⟨2, _⟩ => ⟨S256, .f32⟩
  | .hbm, ⟨3, _⟩ => ⟨S128, .f32⟩
  | .hbm, ⟨4, _⟩ => ⟨S8192x256, .bf16⟩
  | .hbm, ⟨5, _⟩ => ⟨S8192x128, .bf16⟩
  | .hbm, ⟨6, _⟩ => ⟨S8192x256, .f32⟩
  | .hbm, ⟨7, _⟩ => ⟨S8192x128, .f32⟩
  | .hbm, ⟨8, _⟩ => ⟨S8192x384, .f32⟩
  | .hbm, ⟨9, _⟩ => ⟨S_, .i32⟩
  | .hbm, ⟨10, _⟩ => ⟨S_, .f32⟩
  | .hbm, ⟨11, _⟩ => ⟨S8192x5632, .f32⟩
  | .hbm, ⟨12, _⟩ => ⟨S8192x5632, .bf16⟩
  | .hbm, ⟨13, _⟩ => ⟨S1x256, .f32⟩
  | .hbm, ⟨14, _⟩ => ⟨S1x128, .f32⟩
  | .hbm, ⟨15, _⟩ => ⟨S8192x256, .bf16⟩
  | .hbm, ⟨16, _⟩ => ⟨S8192x128, .bf16⟩
  | .hbm, ⟨17, _⟩ => ⟨S1x256, .f32⟩
  | .hbm, ⟨18, _⟩ => ⟨S1x128, .f32⟩
  | .local _ .vmem, ⟨0, _⟩ => ⟨S1x256, .f32⟩
  | .local _ .vmem, ⟨1, _⟩ => ⟨S1x128, .f32⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S512x256, .bf16⟩
  | .local _ .vmem, ⟨11, _⟩ => ⟨S512x256, .bf16⟩
  | .local _ .vmem, ⟨12, _⟩ => ⟨S512x128, .bf16⟩
  | .local _ .vmem, ⟨13, _⟩ => ⟨S512x128, .bf16⟩
  | .local _ .vmem, ⟨14, _⟩ => ⟨S1x256, .f32⟩
  | .local _ .vmem, ⟨15, _⟩ => ⟨S1x128, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg0.toNat, c42_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference10Ideal.lean ====
abbrev S8192x256 : Shape := ⟨2, ![8192, 256]⟩
abbrev S8192x128 : Shape := ⟨2, ![8192, 128]⟩
abbrev S256 : Shape := ⟨1, ![256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x128, .bf16⟩
  | .hbm, ⟨2, _⟩ => ⟨S256, .f32⟩
  | .hbm, ⟨3, _⟩ => ⟨S128, .f32⟩
  | .hbm, ⟨4, _⟩ => ⟨S8192x256, .bf16⟩
  | .hbm, ⟨5, _⟩ => ⟨S8192x128, .bf16⟩
  | .hbm, ⟨6, _⟩ => ⟨S8192x256, .f32⟩
  | .hbm, ⟨7, _⟩ => ⟨S8192x128, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x256, .f32⟩
  | .hbm, ⟨24, _⟩ => ⟨S8192x256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x128, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S8192x256, .f32⟩
  | .hbm, ⟨49, _⟩ => ⟨S8192x128, .f32⟩
  | .hbm, ⟨50, _⟩ => ⟨S8192x128, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S128, .f32⟩
  | .hbm, ⟨58, _⟩ => ⟨S8192x128, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x128, .f32⟩
  | .hbm, ⟨63, _⟩ => ⟨S8192x128, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x128, .f32⟩
  | .hbm, ⟨74, _⟩ => ⟨S8192x128, .f32⟩
  | .hbm, ⟨75, _⟩ => ⟨S8192x256, .f32⟩
  | .hbm, ⟨76, _⟩ => ⟨S_, .f32⟩
  | .hbm, ⟨77, _⟩ => ⟨S256, .f32⟩
  | .hbm, ⟨78, _⟩ => ⟨S1x256, .f32⟩
  | .hbm, ⟨79, _⟩ => ⟨S8192x256, .f32⟩
  | .hbm, ⟨80, _⟩ => ⟨S8192x256, .f32⟩
  | .hbm, ⟨81, _⟩ => ⟨S_, .f32⟩
  | .hbm, ⟨82, _⟩ => ⟨S256, .f32⟩
  | .hbm, ⟨83, _⟩ => ⟨S8192x256, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x256, .f32⟩
  | .hbm, ⟨88, _⟩ => ⟨S8192x256, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8192x256, .f32⟩
  | .hbm, ⟨99, _⟩ => ⟨S8192x256, .f32⟩
  | .hbm, ⟨100, _⟩ => ⟨S8192x256, .bf16⟩
  | .hbm, ⟨101, _⟩ => ⟨S8192x128, .bf16⟩
  | .hbm, ⟨102, _⟩ => ⟨S1x256, .f32⟩
  | .hbm, ⟨103, _⟩ => ⟨S1x128, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Kernel11.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_29 : BitVec 32 := 0#32
  let v56 : BitVec 1 := Scalar.cmpi .eq arg0 c0_i32_29
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== Reference11Ideal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x5632, .f32⟩
  | .hbm, ⟨26, _⟩ => ⟨S8192x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel12.lean ====
abbrev S8192x5536 : Shape := ⟨2, ![8192, 5536]⟩
abbrev S1024x5536 : Shape := ⟨2, ![1024, 5536]⟩
abbrev S8192x1024 : Shape := ⟨2, ![8192, 1024]⟩
abbrev S1024 : Shape := ⟨1, ![1024]⟩
abbrev S8192x256 : Shape := ⟨2, ![8192, 256]⟩
abbrev S8192x128 : Shape := ⟨2, ![8192, 128]⟩
abbrev S8192x32 : Shape := ⟨2, ![8192, 32]⟩
abbrev S8192x512 : Shape := ⟨2, ![8192, 512]⟩
abbrev S8192x2048 : Shape := ⟨2, ![8192, 2048]⟩
abbrev S_ : Shape := ⟨0, ![]⟩
abbrev S8192x5632 : Shape := ⟨2, ![8192, 5632]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x1024 : Shape := ⟨2, ![1024, 1024]⟩
abbrev S1024x2048 : Shape := ⟨2, ![1024, 2048]⟩
abbrev S1024x5632 : Shape := ⟨2, ![1024, 5632]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩

abbrev nBuf : Space → Nat
  | .hbm => 36
  | .vmem => 13
  | .smem => 0
  | _ => 0

abbrev bufTy : (tb : Table) → Fin (tcTables nBuf tb) → BufTy
  | .hbm, ⟨0, _⟩ => ⟨S8192x5536, .bf16⟩
  | .hbm, ⟨1, _⟩ => ⟨S1024x5536, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x5536, .f32⟩
  | .hbm, ⟨6, _⟩ => ⟨S8192x256, .f32⟩
  | .hbm, ⟨7, _⟩ => ⟨S8192x128, .f32⟩
  | .hbm, ⟨8, _⟩ => ⟨S8192x32, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S8192x1024, .f32⟩
  | .hbm, ⟨13, _⟩ => ⟨S8192x2048, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S8192x5632, .f32⟩
  | .hbm, ⟨18, _⟩ => ⟨S8192x5632, .bf16⟩
  | .hbm, ⟨19, _⟩ => ⟨S1024x5536, .f32⟩
  | .hbm, ⟨20, _⟩ => ⟨S1024x256, .f32⟩
  | .hbm, ⟨21, _⟩ => ⟨S1024x128, .f32⟩
  | .hbm, ⟨22, _⟩ => ⟨S1024x32, .f32⟩
  | .hbm, ⟨23, _⟩ => ⟨S1024x512, .f32⟩
  | .hbm, ⟨24, _⟩ => ⟨S1024x512, .f32⟩
  | .hbm, ⟨25, _⟩ => ⟨S1024x1024, .f32⟩
  | .hbm, ⟨26, _⟩ => ⟨S1024x1024, .f32⟩
  | .hbm, ⟨27, _⟩ => ⟨S1024x2048, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S1024x5632, .f32⟩
  | .hbm, ⟨32, _⟩ => ⟨S1024x5632, .bf16⟩
  | .hbm, ⟨33, _⟩ => ⟨S1x1024, .f32⟩
  | .hbm, ⟨34, _⟩ => ⟨S8192x1024, .f32⟩
  | .hbm, ⟨35, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x5536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_call1_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_27 : BitVec 32 := 0#32
  let v56 : BitVec 1 := Scalar.cmpi .eq arg0 c0_i32_27
  let v57 : BitVec 32 := Scalar.extui v56
  let c0_i32_28 : BitVec 32 := 0#32
  let v58 : BitVec 1 := Scalar.cmpi .ne v57 c0_i32_28
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference12Ideal.lean ====
abbrev S8192x5536 : Shape := ⟨2, ![8192, 5536]⟩
abbrev S1024x5536 : Shape := ⟨2, ![1024, 5536]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x5536, .bf16⟩
  | .hbm, ⟨1, _⟩ => ⟨S1024x5536, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x5536, .f32⟩
  | .hbm, ⟨26, _⟩ => ⟨S8192x5536, .f32⟩
  | .hbm, ⟨27, _⟩ => ⟨S8192x5536, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x5536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel14.lean ====
abbrev S8192x5632 : Shape := ⟨2, ![8192, 5632]⟩
abbrev S8192x2816 : Shape := ⟨2, ![8192, 2816]⟩
abbrev S512x2816 : Shape := ⟨2, ![512, 2816]⟩

abbrev nBuf : Space → Nat
  | .hbm => 2
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference14Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x2816, .f32⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel15.lean ====
abbrev S8192x2048 : Shape := ⟨2, ![8192, 2048]⟩
abbrev S8192x1024 : Shape := ⟨2, ![8192, 1024]⟩
abbrev S_ : Shape := ⟨0, ![]⟩
abbrev S8192x5632 : Shape := ⟨2, ![8192, 5632]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S_, .i32⟩
  | .hbm, ⟨5, _⟩ => ⟨S_, .f32⟩
  | .hbm, ⟨6, _⟩ => ⟨S8192x5632, .f32⟩
  | .hbm, ⟨7, _⟩ => ⟨S8192x5632, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S8192x2048 : Shape := ⟨2, ![8192, 2048]⟩
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel16.lean ====
abbrev S8192x256 : Shape := ⟨2, ![8192, 256]⟩
abbrev S8192x128 : Shape := ⟨2, ![8192, 128]⟩
abbrev S256 : Shape := ⟨1, ![256]⟩
abbrev S128 : Shape := ⟨1, ![128]⟩
abbrev S8192x384 : Shape := ⟨2, ![8192, 384]⟩
abbrev S_ : Shape := ⟨0, ![]⟩
abbrev S8192x5632 : Shape := ⟨2, ![8192, 5632]⟩
abbrev S1x256 : Shape := ⟨2, ![1, 256]⟩
abbrev S1x128 : Shape := ⟨2, ![1, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S8192x256, .bf16⟩
  | .hbm, ⟨1, _⟩ => ⟨S8192x128, .bf16⟩
  | .hbm, ⟨2, _⟩ => ⟨S256, .f32⟩
  | .hbm, ⟨3, _⟩ => ⟨S128, .f32⟩
  | .hbm, ⟨4, _⟩ => ⟨S8192x256, .f32⟩
  | .hbm, ⟨5, _⟩ => ⟨S8192x128, .f32⟩
  | .hbm, ⟨6, _⟩ => ⟨S8192x384, .f32⟩
  | .hbm, ⟨7, _⟩ => ⟨S_, .i32⟩
  | .hbm, ⟨8, _⟩ => ⟨S_, .f32⟩
  | .hbm, ⟨9, _⟩ => ⟨S8192x5632, .f32⟩
  | .hbm, ⟨10, _⟩ => ⟨S8192x5632, .bf16⟩
  | .hbm, ⟨11, _⟩ => ⟨S1x256, .f32⟩
  | .hbm, ⟨12, _⟩ => ⟨S1x128, .f32⟩
  | .hbm, ⟨13, _⟩ => ⟨S8192x256, .bf16⟩
  | .hbm, ⟨14, _⟩ => ⟨S8192x128, .bf16⟩
  | .local _ .vmem, ⟨0, _⟩ => ⟨S1x256, .f32⟩
  | .local _ .vmem, ⟨1, _⟩ => ⟨S1x128, .f32⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let c0_i32 : BitVec 32 := 0#32
  ![arg0.toNat, c42_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference16Ideal.lean ====
abbrev S8192x256 : Shape := ⟨2, ![8192, 256]⟩
abbrev S8192x128 : Shape := ⟨2, ![8192, 128]⟩
abbrev S256 : Shape := ⟨1, ![256]⟩
abbrev S128 : Shape := ⟨1, ![128]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x128, .bf16⟩
  | .hbm, ⟨2, _⟩ => ⟨S256, .f32⟩
  | .hbm, ⟨3, _⟩ => ⟨S128, .f32⟩
  | .hbm, ⟨4, _⟩ => ⟨S8192x256, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S1x256, .f32⟩
  | .hbm, ⟨19, _⟩ => ⟨S8192x256, .f32⟩
  | .hbm, ⟨20, _⟩ => ⟨S8192x256, .f32⟩
  | .hbm, ⟨21, _⟩ => ⟨S8192x128, .f32⟩
  | .hbm, ⟨22, _⟩ => ⟨S8192x128, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x256, .bf16⟩
  | .hbm, ⟨39, _⟩ => ⟨S8192x128, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel17.lean ====
abbrev S8192x1024 : Shape := ⟨2, ![8192, 1024]⟩
abbrev S_ : Shape := ⟨0, ![]⟩
abbrev S8192x5632 : Shape := ⟨2, ![8192, 5632]⟩
abbrev S2048x128 : Shape := ⟨2, ![2048, 128]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S_, .i32⟩
  | .hbm, ⟨5, _⟩ => ⟨S_, .f32⟩
  | .hbm, ⟨6, _⟩ => ⟨S8192x5632, .f32⟩
  | .hbm, ⟨7, _⟩ => ⟨S8192x5632, .bf16⟩
  | .hbm, ⟨8, _⟩ => ⟨S8192x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x128, .f32⟩
  | .hbm, ⟨17, _⟩ => ⟨S8192x8x128, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel18.lean ====
abbrev S8192 : Shape := ⟨1, ![8192]⟩
abbrev S8192x512 : Shape := ⟨2, ![8192, 512]⟩
abbrev S8192x1024 : Shape := ⟨2, ![8192, 1024]⟩
abbrev S_ : Shape := ⟨0, ![]⟩
abbrev S8192x5632 : Shape := ⟨2, ![8192, 5632]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S2048x128 : Shape := ⟨2, ![2048, 128]⟩

abbrev nBuf : Space → Nat
  | .hbm => 34
  | .vmem => 14
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S_, .i32⟩
  | .hbm, ⟨7, _⟩ => ⟨S_, .f32⟩
  | .hbm, ⟨8, _⟩ => ⟨S8192x5632, .f32⟩
  | .hbm, ⟨9, _⟩ => ⟨S8192x5632, .bf16⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S_, .f32⟩
  | .hbm, ⟨27, _⟩ => ⟨S8192x32, .f32⟩
  | .hbm, ⟨28, _⟩ => ⟨S8192x32, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x512, .bf16⟩
  | .hbm, ⟨33, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S8192 : Shape := ⟨1, ![8192]⟩
abbrev S8192x512 : Shape := ⟨2, ![8192, 512]⟩
abbrev S8192x8x64 : Shape := ⟨3, ![8192, 8, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩

abbrev nBuf : Space → Nat
  | .hbm => 76
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x8x64, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S8192, .f32⟩
  | .hbm, ⟨14, _⟩ => ⟨S8192x1, .f32⟩
  | .hbm, ⟨15, _⟩ => ⟨S1x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x1x32, .f32⟩
  | .hbm, ⟨21, _⟩ => ⟨S8192x32, .f32⟩
  | .hbm, ⟨22, _⟩ => ⟨S8192x1x32, .f32⟩
  | .hbm, ⟨23, _⟩ => ⟨S8192x8x32, .f32⟩
  | .hbm, ⟨24, _⟩ => ⟨S8192x8x32, .f32⟩
  | .hbm, ⟨25, _⟩ => ⟨S8192x8x32, .f32⟩
  | .hbm, ⟨26, _⟩ => ⟨S8192x8x32, .f32⟩
  | .hbm, ⟨27, _⟩ => ⟨S8192x8x32, .f32⟩
  | .hbm, ⟨28, _⟩ => ⟨S8192x8x32, .f32⟩
  | .hbm, ⟨29, _⟩ => ⟨S8192x8x32, .f32⟩
  | .hbm, ⟨30, _⟩ => ⟨S8192x8x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x64, .f32⟩
  | .hbm, ⟨36, _⟩ => ⟨S8192x512, .f32⟩
  | .hbm, ⟨37, _⟩ => ⟨S8192x8x64, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S8192, .f32⟩
  | .hbm, ⟨47, _⟩ => ⟨S8192x1, .f32⟩
  | .hbm, ⟨48, _⟩ => ⟨S1x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x1x32, .f32⟩
  | .hbm, ⟨54, _⟩ => ⟨S8192x32, .f32⟩
  | .hbm, ⟨55, _⟩ => ⟨S8192x1x32, .f32⟩
  | .hbm, ⟨56, _⟩ => ⟨S8192x8x32, .f32⟩
  | .hbm, ⟨57, _⟩ => ⟨S8192x8x32, .f32⟩
  | .hbm, ⟨58, _⟩ => ⟨S8192x8x32, .f32⟩
  | .hbm, ⟨59, _⟩ => ⟨S8192x8x32, .f32⟩
  | .hbm, ⟨60, _⟩ => ⟨S8192x8x32, .f32⟩
  | .hbm, ⟨61, _⟩ => ⟨S8192x8x32, .f32⟩
  | .hbm, ⟨62, _⟩ => ⟨S8192x8x32, .f32⟩
  | .hbm, ⟨63, _⟩ => ⟨S8192x8x32, .f32⟩
  | .hbm, ⟨64, _⟩ => ⟨S8192x8x32, .f32⟩
  | .hbm, ⟨65, _⟩ => ⟨S8192x8x32, .f32⟩
  | .hbm, ⟨66, _⟩ => ⟨S8192x8x32, .f32⟩
  | .hbm, ⟨67, _⟩ => ⟨S8192x8x32, .f32⟩
  | .hbm, ⟨68, _⟩ => ⟨S8192x8x64, .f32⟩
  | .hbm, ⟨69, _⟩ => ⟨S_, .f32⟩
  | .hbm, ⟨70, _⟩ => ⟨S8192x8x64, .f32⟩
  | .hbm, ⟨71, _⟩ => ⟨S8192x8x64, .f32⟩
  | .hbm, ⟨72, _⟩ => ⟨S8192x512, .f32⟩
  | .hbm, ⟨73, _⟩ => ⟨S8192x512, .bf16⟩
  | .hbm, ⟨74, _⟩ => ⟨S8192x512, .f32⟩
  | .hbm, ⟨75, _⟩ => ⟨S8192x512, .bf16⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_3 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩

abbrev nD : Nat := 1
abbrev τ : Topo := Topo.v7x

variable {F : FTy → Type} [FloatOps F]
-- ==== Kernel19.lean ====
abbrev S8192 : Shape := ⟨1, ![8192]⟩
abbrev S8192x8x96 : Shape := ⟨3, ![8192, 8, 96]⟩
abbrev S8192x8x64 : Shape := ⟨3, ![8192, 8, 64]⟩
abbrev S8192x32 : Shape := ⟨2, ![8192, 32]⟩
abbrev S96 : Shape := ⟨1, ![96]⟩
abbrev S1x96 : Shape := ⟨2, ![1, 96]⟩
abbrev S_ : Shape := ⟨0, ![]⟩
abbrev S1x128 : Shape := ⟨2, ![1, 128]⟩
abbrev S8192x8x128 : Shape := ⟨3, ![8192, 8, 128]⟩
abbrev S8192x1024 : Shape := ⟨2, ![8192, 1024]⟩
abbrev S8192x5632 : Shape := ⟨2, ![8192, 5632]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x48 : Shape := ⟨2, ![8192, 48]⟩
abbrev S8192x80 : Shape := ⟨2, ![8192, 80]⟩
abbrev S8192x128 : Shape := ⟨2, ![8192, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 69
  | .vmem => 18
  | .smem => 0
  | _ => 0

abbrev bufTy : (tb : Table) → Fin (tcTables nBuf tb) → BufTy
  | .hbm, ⟨0, _⟩ => ⟨S8192, .i32⟩
  | .hbm, ⟨1, _⟩ => ⟨S8192x8x96, .bf16⟩
  | .hbm, ⟨2, _⟩ => ⟨S8192x8x64, .bf16⟩
  | .hbm, ⟨3, _⟩ => ⟨S8192x32, .bf16⟩
  | .hbm, ⟨4, _⟩ => ⟨S96, .f32⟩
  | .hbm, ⟨5, _⟩ => ⟨S96, .f32⟩
  | .hbm, ⟨6, _⟩ => ⟨S1x96, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S1x96, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S8192x8x96, .f32⟩
  | .hbm, ⟨15, _⟩ => ⟨S_, .i32⟩
  | .hbm, ⟨16, _⟩ => ⟨S_, .f32⟩
  | .hbm, ⟨17, _⟩ => ⟨S8192x8x128, .f32⟩
  | .hbm, ⟨18, _⟩ => ⟨S8192x1024, .f32⟩
  | .hbm, ⟨19, _⟩ => ⟨S8192x1024, .bf16⟩
  | .hbm, ⟨20, _⟩ => ⟨S8192x8x64, .f32⟩
  | .hbm, ⟨21, _⟩ => ⟨S_, .i32⟩
  | .hbm, ⟨22, _⟩ => ⟨S_, .f32⟩
  | .hbm, ⟨23, _⟩ => ⟨S8192x8x128, .f32⟩
  | .hbm, ⟨24, _⟩ => ⟨S8192x1024, .f32⟩
  | .hbm, ⟨25, _⟩ => ⟨S8192x1024, .bf16⟩
  | .hbm, ⟨26, _⟩ => ⟨S8192x32, .f32⟩
  | .hbm, ⟨27, _⟩ => ⟨S_, .i32⟩
  | .hbm, ⟨28, _⟩ => ⟨S_, .f32⟩
  | .hbm, ⟨29, _⟩ => ⟨S8192x5632, .f32⟩
  | .hbm, ⟨30, _⟩ => ⟨S8192x5632, .bf16⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8192, .f32⟩
  | .hbm, ⟨40, _⟩ => ⟨S8192x1, .f32⟩
  | .hbm, ⟨41, _⟩ => ⟨S1x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x64, .f32⟩
  | .hbm, ⟨49, _⟩ => ⟨S_, .f32⟩
  | .hbm, ⟨50, _⟩ => ⟨S8192x32, .f32⟩
  | .hbm, ⟨51, _⟩ => ⟨S_, .f32⟩
  | .hbm, ⟨52, _⟩ => ⟨S8192x64, .f32⟩
  | .hbm, ⟨53, _⟩ => ⟨S8192x16, .f32⟩
  | .hbm, ⟨54, _⟩ => ⟨S_, .f32⟩
  | .hbm, ⟨55, _⟩ => ⟨S8192x48, .f32⟩
  | .hbm, ⟨56, _⟩ => ⟨S_, .f32⟩
  | .hbm, ⟨57, _⟩ => ⟨S8192x80, .f32⟩
  | .hbm, ⟨58, _⟩ => ⟨S_, .f32⟩
  | .hbm, ⟨59, _⟩ => ⟨S8192x32, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x1024, .bf16⟩
  | .hbm, ⟨64, _⟩ => ⟨S8192x1024, .bf16⟩
  | .hbm, ⟨65, _⟩ => ⟨S8192x8x128, .bf16⟩
  | .hbm, ⟨66, _⟩ => ⟨S8192x8x96, .bf16⟩
  | .hbm, ⟨67, _⟩ => ⟨S8192x8x128, .bf16⟩
  | .hbm, ⟨68, _⟩ => ⟨S8192x8x96, .bf16⟩
  | .local _ .vmem, ⟨0, _⟩ => ⟨S1x128, .f32⟩
  | .local _ .vmem, ⟨1, _⟩ => ⟨S1x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_call3_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_3 : Ref sig .tc := ⟨.hbm, 27, rfl⟩
abbrev main_call4_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_cst_9 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let c0_i32 : BitVec 32 := 0#32
  ![arg0.toNat, c43_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel19Ideal.lean ====
variable {F : FTy → Type} [FloatOps F] [Named F]
def κ : String → Option EReal := fun
  | "inv_qk" => some ((96⁻¹ : ℝ) : EReal)
  | _ => none
-- ==== Reference19Ideal.lean ====
abbrev S8192 : Shape := ⟨1, ![8192]⟩
abbrev S8192x8x96 : Shape := ⟨3, ![8192, 8, 96]⟩
abbrev S8192x8x64 : Shape := ⟨3, ![8192, 8, 64]⟩
abbrev S8192x32 : Shape := ⟨2, ![8192, 32]⟩
abbrev S96 : Shape := ⟨1, ![96]⟩
abbrev S8192x1x32 : Shape := ⟨3, ![8192, 1, 32]⟩
abbrev S8192x8x32 : Shape := ⟨3, ![8192, 8, 32]⟩
abbrev S_ : Shape := ⟨0, ![]⟩
abbrev S8192x8 : Shape := ⟨2, ![8192, 8]⟩
abbrev S8192x8x1 : Shape := ⟨3, ![8192, 8, 1]⟩
abbrev S1x1x96 : Shape := ⟨3, ![1, 1, 96]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S8192x8x16 : Shape := ⟨3, ![8192, 8, 16]⟩

abbrev nBuf : Space → Nat
  | .hbm => 117
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x8x96, .bf16⟩
  | .hbm, ⟨2, _⟩ => ⟨S8192x8x64, .bf16⟩
  | .hbm, ⟨3, _⟩ => ⟨S8192x32, .bf16⟩
  | .hbm, ⟨4, _⟩ => ⟨S96, .f32⟩
  | .hbm, ⟨5, _⟩ => ⟨S96, .f32⟩
  | .hbm, ⟨6, _⟩ => ⟨S8192x8x96, .f32⟩
  | .hbm, ⟨7, _⟩ => ⟨S8192x8x64, .f32⟩
  | .hbm, ⟨8, _⟩ => ⟨S8192x32, .f32⟩
  | .hbm, ⟨9, _⟩ => ⟨S8192x1x32, .f32⟩
  | .hbm, ⟨10, _⟩ => ⟨S8192x8x32, .f32⟩
  | .hbm, ⟨11, _⟩ => ⟨S8192x8x96, .f32⟩
  | .hbm, ⟨12, _⟩ => ⟨S8192x8x96, .f32⟩
  | .hbm, ⟨13, _⟩ => ⟨S_, .f32⟩
  | .hbm, ⟨14, _⟩ => ⟨S8192x8, .f32⟩
  | .hbm, ⟨15, _⟩ => ⟨S8192x8x1, .f32⟩
  | .hbm, ⟨16, _⟩ => ⟨S_, .f32⟩
  | .hbm, ⟨17, _⟩ => ⟨S8192x8x1, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x1, .f32⟩
  | .hbm, ⟨23, _⟩ => ⟨S8192x8x96, .f32⟩
  | .hbm, ⟨24, _⟩ => ⟨S8192x8x96, .f32⟩
  | .hbm, ⟨25, _⟩ => ⟨S1x1x96, .f32⟩
  | .hbm, ⟨26, _⟩ => ⟨S8192x8x96, .f32⟩
  | .hbm, ⟨27, _⟩ => ⟨S8192x8x96, .f32⟩
  | .hbm, ⟨28, _⟩ => ⟨S8192x8x96, .f32⟩
  | .hbm, ⟨29, _⟩ => ⟨S_, .f32⟩
  | .hbm, ⟨30, _⟩ => ⟨S8192x8, .f32⟩
  | .hbm, ⟨31, _⟩ => ⟨S8192x8x1, .f32⟩
  | .hbm, ⟨32, _⟩ => ⟨S_, .f32⟩
  | .hbm, ⟨33, _⟩ => ⟨S8192x8x1, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S8192x8x1, .f32⟩
  | .hbm, ⟨39, _⟩ => ⟨S8192x8x96, .f32⟩
  | .hbm, ⟨40, _⟩ => ⟨S8192x8x96, .f32⟩
  | .hbm, ⟨41, _⟩ => ⟨S1x1x96, .f32⟩
  | .hbm, ⟨42, _⟩ => ⟨S8192x8x96, .f32⟩
  | .hbm, ⟨43, _⟩ => ⟨S8192x8x96, .f32⟩
  | .hbm, ⟨44, _⟩ => ⟨S8192x8x64, .f32⟩
  | .hbm, ⟨45, _⟩ => ⟨S8192x8x32, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S8192, .f32⟩
  | .hbm, ⟨55, _⟩ => ⟨S8192x1, .f32⟩
  | .hbm, ⟨56, _⟩ => ⟨S1x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x1x16, .f32⟩
  | .hbm, ⟨62, _⟩ => ⟨S8192x16, .f32⟩
  | .hbm, ⟨63, _⟩ => ⟨S8192x1x16, .f32⟩
  | .hbm, ⟨64, _⟩ => ⟨S8192x8x16, .f32⟩
  | .hbm, ⟨65, _⟩ => ⟨S8192x8x16, .f32⟩
  | .hbm, ⟨66, _⟩ => ⟨S8192x8x16, .f32⟩
  | .hbm, ⟨67, _⟩ => ⟨S8192x8x16, .f32⟩
  | .hbm, ⟨68, _⟩ => ⟨S8192x8x16, .f32⟩
  | .hbm, ⟨69, _⟩ => ⟨S8192x8x16, .f32⟩
  | .hbm, ⟨70, _⟩ => ⟨S8192x8x16, .f32⟩
  | .hbm, ⟨71, _⟩ => ⟨S8192x8x16, .f32⟩
  | .hbm, ⟨72, _⟩ => ⟨S8192x8x16, .f32⟩
  | .hbm, ⟨73, _⟩ => ⟨S8192x8x16, .f32⟩
  | .hbm, ⟨74, _⟩ => ⟨S8192x8x16, .f32⟩
  | .hbm, ⟨75, _⟩ => ⟨S8192x8x16, .f32⟩
  | .hbm, ⟨76, _⟩ => ⟨S8192x8x32, .f32⟩
  | .hbm, ⟨77, _⟩ => ⟨S8192x8x96, .f32⟩
  | .hbm, ⟨78, _⟩ => ⟨S8192x8x64, .f32⟩
  | .hbm, ⟨79, _⟩ => ⟨S8192x8x32, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S8192, .f32⟩
  | .hbm, ⟨89, _⟩ => ⟨S8192x1, .f32⟩
  | .hbm, ⟨90, _⟩ => ⟨S1x16, .f32⟩
  | .hbm, ⟨91, _⟩ => ⟨S8192x16, .f32⟩
  | .hbm, ⟨92, _⟩ => ⟨S8192x16, .f32⟩
  | .hbm, ⟨93, _⟩ => ⟨S8192x16, .f32⟩
  | .hbm, ⟨94, _⟩ => ⟨S8192x16, .f32⟩
  | .hbm, ⟨95, _⟩ => ⟨S8192x1x16, .f32⟩
  | .hbm, ⟨96, _⟩ => ⟨S8192x16, .f32⟩
  | .hbm, ⟨97, _⟩ => ⟨S8192x1x16, .f32⟩
  | .hbm, ⟨98, _⟩ => ⟨S8192x8x16, .f32⟩
  | .hbm, ⟨99, _⟩ => ⟨S8192x8x16, .f32⟩
  | .hbm, ⟨100, _⟩ => ⟨S8192x8x16, .f32⟩
  | .hbm, ⟨101, _⟩ => ⟨S8192x8x16, .f32⟩
  | .hbm, ⟨102, _⟩ => ⟨S8192x8x16, .f32⟩
  | .hbm, ⟨103, _⟩ => ⟨S8192x8x16, .f32⟩
  | .hbm, ⟨104, _⟩ => ⟨S8192x8x16, .f32⟩
  | .hbm, ⟨105, _⟩ => ⟨S8192x8x16, .f32⟩
  | .hbm, ⟨106, _⟩ => ⟨S8192x8x16, .f32⟩
  | .hbm, ⟨107, _⟩ => ⟨S8192x8x16, .f32⟩
  | .hbm, ⟨108, _⟩ => ⟨S8192x8x16, .f32⟩
  | .hbm, ⟨109, _⟩ => ⟨S8192x8x16, .f32⟩
  | .hbm, ⟨110, _⟩ => ⟨S8192x8x32, .f32⟩
  | .hbm, ⟨111, _⟩ => ⟨S8192x8x96, .f32⟩
  | .hbm, ⟨112, _⟩ => ⟨S_, .f32⟩
  | .hbm, ⟨113, _⟩ => ⟨S8192x8x96, .f32⟩
  | .hbm, ⟨114, _⟩ => ⟨S8192x8x96, .f32⟩
  | .hbm, ⟨115, _⟩ => ⟨S8192x8x96, .bf16⟩
  | .hbm, ⟨116, _⟩ => ⟨S8192x8x96, .bf16⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_9 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩

abbrev nD : Nat := 1
abbrev τ : Topo := Topo.v7x

variable {F : FTy → Type} [FloatOps F]
-- ==== Kernel20.lean ====
abbrev S8192x1024 : Shape := ⟨2, ![8192, 1024]⟩
abbrev S8192x5632 : Shape := ⟨2, ![8192, 5632]⟩
abbrev S4x2x512x1408 : Shape := ⟨4, ![4, 2, 512, 1408]⟩
abbrev S2048x512 : Shape := ⟨2, ![2048, 512]⟩
abbrev S2048x1408 : Shape := ⟨2, ![2048, 1408]⟩
abbrev S1x1x512x1408 : Shape := ⟨4, ![1, 1, 512, 1408]⟩
abbrev S512x1408 : Shape := ⟨2, ![512, 1408]⟩
abbrev S2x512x4x1408 : Shape := ⟨4, ![2, 512, 4, 1408]⟩
abbrev S1024x5632 : Shape := ⟨2, ![1024, 5632]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x2x512x1408, .bf16⟩
  | .hbm, ⟨3, _⟩ => ⟨S2x512x4x1408, .bf16⟩
  | .hbm, ⟨4, _⟩ => ⟨S1024x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x512x1408, .bf16⟩
  | .local _ .vmem, ⟨5, _⟩ => ⟨S1x1x512x1408, .bf16⟩
  | .local _ .vmem, ⟨6, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S8192x5632 : Shape := ⟨2, ![8192, 5632]⟩
abbrev S1024x8192 : Shape := ⟨2, ![1024, 8192]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S1024x8192, .f32⟩
  | .hbm, ⟨4, _⟩ => ⟨S8192x5632, .f32⟩
  | .hbm, ⟨5, _⟩ => ⟨S1024x5632, .f32⟩
  | .hbm, ⟨6, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S1024x1408 : Shape := ⟨2, ![1024, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S1024x1408 : Shape := ⟨2, ![1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S_, .f32⟩
  | .hbm, ⟨5, _⟩ => ⟨S1024x1408, .f32⟩
  | .hbm, ⟨6, _⟩ => ⟨S1024x1408, .f32⟩
  | .hbm, ⟨7, _⟩ => ⟨S_, .f32⟩
  | .hbm, ⟨8, _⟩ => ⟨S1024x1408, .f32⟩
  | .hbm, ⟨9, _⟩ => ⟨S1024x1408, .f32⟩
  | .hbm, ⟨10, _⟩ => ⟨S1024x1408, .f32⟩
  | .hbm, ⟨11, _⟩ => ⟨S_, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S_, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S1024x1408, .f32⟩
  | .hbm, ⟨34, _⟩ => ⟨S_, .f32⟩
  | .hbm, ⟨35, _⟩ => ⟨S1024x1408, .f32⟩
  | .hbm, ⟨36, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8x512x1408 : Shape := ⟨3, ![8, 512, 1408]⟩
abbrev S512x1408 : Shape := ⟨2, ![512, 1408]⟩
abbrev S8x256x1408 : Shape := ⟨3, ![8, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1408, .bf16⟩
  | .hbm, ⟨1, _⟩ => ⟨S512x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | _, _ => ⟨S8x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8x512x1408 : Shape := ⟨3, ![8, 512, 1408]⟩
abbrev S_ : Shape := ⟨0, ![]⟩
abbrev S512x1408 : Shape := ⟨2, ![512, 1408]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1408, .bf16⟩
  | .hbm, ⟨1, _⟩ => ⟨S8x512x1408, .f32⟩
  | .hbm, ⟨2, _⟩ => ⟨S_, .f32⟩
  | .hbm, ⟨3, _⟩ => ⟨S512x1408, .f32⟩
  | _, _ => ⟨S8x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S8192x1024 : Shape := ⟨2, ![8192, 1024]⟩
abbrev S_ : Shape := ⟨0, ![]⟩
abbrev S8192x5632 : Shape := ⟨2, ![8192, 5632]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S8192x5632, .f32⟩
  | .hbm, ⟨4, _⟩ => ⟨S8192x5632, .bf16⟩
  | .hbm, ⟨5, _⟩ => ⟨S8192x5632, .bf16⟩
  | .hbm, ⟨6, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference23Ideal.lean ====
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Swiglu.lean ====
module

public import proofs.«01_k».proof.Proof.Gen.KernelIdeal.Frame
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Swi

open Cert.KernelIdeal Cert.KernelIdeal.Gen

variable (m : (ℓ : Loc nD τ sig) → Buf (Elt Ideal) ℓ)

/-- The logistic function as both programs spell it over the extended reals. -/
def sg (x : EReal) : EReal := Ideal.div 1 (1 + Ideal.exp (0 - x))

/-- The gradient of the gated unit at a row and a column of the joint array:
    the gate's half first, the upward half second. -/
def grad (X : FVec Ideal S8192x5632 .bf16) (D : FVec Ideal S8192x2816 .bf16) : FVec Ideal S8192x5632 .bf16 := fun j =>
  if h : (j 1 : ℕ) < 2816 then
    D (ix2 (j 0) ⟨j 1, h⟩) * X (ix2 (j 0) ⟨2816 + j 1, by omega⟩) * sg (X (ix2 (j 0) ⟨j 1, by omega⟩))
      + X (ix2 (j 0) ⟨j 1, by omega⟩) * (D (ix2 (j 0) ⟨j 1, h⟩) * X (ix2 (j 0) ⟨2816 + j 1, by omega⟩))
        * sg (X (ix2 (j 0) ⟨j 1, by omega⟩)) * (1 - sg (X (ix2 (j 0) ⟨j 1, by omega⟩)))
  else
    X (ix2 (j 0) ⟨j 1 - 2816, by have := ValueIdx.idx2_lt1 j; omega⟩) * sg (X (ix2 (j 0) ⟨j 1 - 2816, by have := ValueIdx.idx2_lt1 j; omega⟩))
      * D (ix2 (j 0) ⟨j 1 - 2816, by have := ValueIdx.idx2_lt1 j; omega⟩)

/-- Every window's block index at every grid point: rows follow the point, columns stand. -/
theorem idx : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

/-- What one grid point stores at an index of its block is the gradient at the array's index there. -/
theorem point (c : Dev nD) (t : Fin cfg0.N) (y : S256x5632.Idx) (j : S8192x5632.Idx)
    (h0 : (j 0 : ℕ) = t.val * 256 + y 0) (h1 : (j 1 : ℕ) = y 1) :
    k0_pay1 (F := Ideal) (iblk m c 0 t) (iblk m c 1 t) (iblk m c 2 t) y
      = grad (m ((c : Thread nD τ).loc main_arg0)) (m ((c : Thread nD τ).loc main_arg1)) j := by
  pointwise [k0_pay1, grad, sg]
  by_cases h : (y 1 : ℕ) < 2816
  · rw [dif_pos h, dif_pos (h1 ▸ h)]
    blk_point [iblk, V, idx t]
  · rw [dif_neg h, dif_neg (h1 ▸ h)]
    blk_point [iblk, V, idx t]

/-- The result array after the run is the gradient. -/
theorem final (c : Dev nD) : (dats m 0 c).arrAt 3 (cfgs 0).N
    = grad (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y _ (by blk_simp [idx t]) (by blk_simp [idx t])

end Cert.KernelIdeal.Swi

end
-- ==== Proof.MlaMath.lean ====
module

public import Idealize.ShloMosaic.Lib.Pipeline.ValueKit
public import Idealize.ShloMosaic.PureOps.Ideal.Laws

@[expose] public section

noncomputable section

namespace Cert.MlaMath

open Idealize.ShloMosaic

/-- A finite sum of real numbers is the sum of their extended reals. -/
theorem coe_sum {α : Type*} (s : Finset α) (f : α → ℝ) : (∑ a ∈ s, ((f a : ℝ) : EReal)) = ((∑ a ∈ s, f a : ℝ) : EReal) := by
  classical
  refine Finset.induction_on s (by simp) fun a s ha ih => ?_
  rw [Finset.sum_insert ha, Finset.sum_insert ha, ih, EReal.coe_add]

/-- The quotient of real numbers by a nonzero one. -/
theorem coe_div (a b : ℝ) (hb : b ≠ 0) : Ideal.div (a : EReal) (b : EReal) = ((a / b : ℝ) : EReal) := by
  rw [Ideal.div_coe hb, ← EReal.coe_mul, mul_one_div]

/-- The logarithm of a positive real number. -/
theorem coe_log (a : ℝ) (ha : 0 < a) : Ideal.log (a : EReal) = ((Real.log a : ℝ) : EReal) := by
  rw [Ideal.log_coe, if_neg (not_le.mpr ha)]

/-- The maximum of a nonempty finite family of real numbers, folded from minus infinity, is a real number. -/
theorem fold_max_coe {α : Type*} (s : Finset α) (hs : s.Nonempty) (f : α → EReal) (hf : ∀ a ∈ s, ∃ r : ℝ, f a = r) :
    ∃ r : ℝ, s.fold max (⊥ : EReal) f = r := by
  classical
  have key : ∀ s : Finset α, (∀ a ∈ s, ∃ r : ℝ, f a = r) → s.fold max (⊥ : EReal) f = ⊥ ∧ s = ∅ ∨ ∃ r : ℝ, s.fold max (⊥ : EReal) f = r := by
    intro s
    refine Finset.induction_on s (fun _ => Or.inl ⟨rfl, rfl⟩) fun a s ha ih h => Or.inr ?_
    obtain ⟨r, hr⟩ := h a (Finset.mem_insert_self a s)
    rw [Finset.fold_insert ha, hr]
    rcases ih fun b hb => h b (Finset.mem_insert_of_mem hb) with ⟨h0, -⟩ | ⟨q, hq⟩
    · exact ⟨r, by rw [h0, max_bot_right]⟩
    · exact ⟨max r q, by rw [hq]; exact (EReal.coe_strictMono.monotone.map_max).symm⟩
  rcases key s hf with ⟨-, h⟩ | h
  · exact absurd h hs.ne_empty
  · exact h

/-- The greater of two arrays, at an index. -/
theorem max_at {s : Shape} (x y : FVec Ideal s .f32) (j : s.Idx) : maximumf x y j = max (x j : EReal) (y j) := rfl

/-- The greatest entry of real numbers along reduced axes, from minus infinity, is a real number. -/
theorem top_real {s t u : Shape} {axes : List (Fin s.rank)} (x : FVec Ideal s .f32) (init : FVec Ideal u .f32) (h : s.ReducesTo axes t) (hu : 0 < u.numel)
    (j : t.Idx) (i0 : s.Idx) (hi0 : h.drop i0 = j) (hx : ∀ a, ∃ r : ℝ, x a = (r : EReal)) (hinit : init (Shape.Idx.first hu) = (⊥ : EReal)) :
    ∃ M : ℝ, Host.reduce (FloatOps.maximumf (F := Ideal) (φ := .f32)) x init h hu j = (M : EReal) := by
  rw [Host.reduce_eq_fold, hinit]
  exact fold_max_coe _ ⟨i0, by rw [Finset.mem_filter]; exact ⟨Finset.mem_univ _, hi0⟩⟩ _ fun a _ => hx a

/-- A sum over blocks of equal length is the sum over all. -/
theorem sum_blocks {X : Type*} [AddCommMonoid X] {A B N : ℕ} (hN : A * B = N) (F : Fin N → X) :
    ∑ s : Fin A, ∑ j : Fin B, F ⟨B * s.val + j.val, by
      have h1 := s.isLt; have h2 := j.isLt
      calc B * s.val + j.val < B * s.val + B := by omega
        _ = B * (s.val + 1) := by ring
        _ ≤ B * A := Nat.mul_le_mul_left _ h1
        _ = N := by rw [mul_comm, hN]⟩ = ∑ i, F i := by
  subst hN
  rw [← Equiv.sum_comp finProdFinEquiv, Fintype.sum_prod_type]
  refine Finset.sum_congr rfl fun s _ => Finset.sum_congr rfl fun j _ => congrArg F (Fin.ext ?_)
  simp [finProdFinEquiv, add_comm]

/-- A sum of products over padded lanes is the sum over the lanes that are not. -/
theorem sum_padded (a b : Fin 96 → ℝ) :
    ∑ d : Fin 128, (if h : d.val < 96 then a ⟨d.val, h⟩ else 0) * (if h : d.val < 96 then b ⟨d.val, h⟩ else 0) = ∑ d, a d * b d := by
  refine (Fin.sum_univ_add (a := 96) (b := 32) fun d : Fin 128 => (if h : d.val < 96 then a ⟨d.val, h⟩ else 0) * (if h : d.val < 96 then b ⟨d.val, h⟩ else 0)).trans ?_
  simp

/-- The column of lane `l` of head `h` among the eight heads' columns. -/
def oc (h : Fin 8) (l : Fin 64) : Fin 512 := ⟨64 * h.val + l.val, by omega⟩

/-- Lane `l` of head `h` among the 128 lanes of a pair of heads. -/
def lane (h : Fin 4) (l : Fin 64) : Fin 128 := ⟨64 * (h.val % 2) + l.val, by omega⟩

/-- A sum over a pair's lanes that keeps one head's is the sum over the head's lanes. -/
theorem sum_masked {X : Type*} [AddCommMonoid X] (h : Fin 4) (f : Fin 128 → X) :
    (∑ l : Fin 128, if l.val / 64 = h.val % 2 then f l else 0) = ∑ l : Fin 64, f (lane h l) := by
  rw [← Finset.sum_filter]
  symm
  refine Finset.sum_nbij (lane h) (fun l _ => ?_) (fun l _ l' _ e => ?_) (fun l hl => ?_) (fun _ _ => rfl)
  · rw [Finset.mem_filter]
    refine ⟨Finset.mem_univ _, ?_⟩
    show (64 * (h.val % 2) + l.val) / 64 = h.val % 2
    omega
  · have := congrArg Fin.val e
    change 64 * (h.val % 2) + l.val = 64 * (h.val % 2) + l'.val at this
    exact Fin.ext (by omega)
  · have e := (Finset.mem_filter.mp (Finset.mem_coe.mp hl)).2
    have := l.isLt
    exact ⟨⟨l.val - 64 * (h.val % 2), by omega⟩, Finset.mem_coe.mpr (Finset.mem_univ _), Fin.ext (by show 64 * (h.val % 2) + (l.val - 64 * (h.val % 2)) = l.val; omega)⟩

/-! ## The attention's gradient over the real numbers -/

variable {I J : Type} [Fintype I] [Fintype J]

/-- The weights of a row of scores. -/
def soft (s : J → ℝ) (j : J) : ℝ := Real.exp (s j) / ∑ i, Real.exp (s i)

/-- The gradient with respect to the scores, `dp` that with respect to the weights. -/
def slopeR (s dp : J → ℝ) (j : J) : ℝ := soft s j * (dp j - ∑ i, soft s i * dp i)

/-- The weights do not change when a number is taken off every score. -/
theorem soft_shift [Nonempty J] (s : J → ℝ) (M : ℝ) (j : J) :
    Real.exp (s j - M) / ∑ i, Real.exp (s i - M) = soft s j := by
  unfold soft
  simp only [Real.exp_sub, ← Finset.sum_div]
  have : 0 < ∑ i, Real.exp (s i) := Finset.sum_pos (fun i _ => Real.exp_pos _) Finset.univ_nonempty
  have := Real.exp_pos M
  field_simp

/-- The sum of shifted exponentials is positive. -/
theorem sum_exp_pos [Nonempty J] (s : J → ℝ) (M : ℝ) : 0 < ∑ i, Real.exp (s i - M) :=
  Finset.sum_pos (fun i _ => Real.exp_pos _) Finset.univ_nonempty

/-- The gradient of a quotient by the sum, as differentiation writes it. -/
theorem slope_of_quotient [Nonempty J] (s dp : J → ℝ) (M : ℝ) (j : J) :
    (dp j / (∑ i, Real.exp (s i - M)) + -(∑ i, dp i * (1 / ((∑ i, Real.exp (s i - M)) * (∑ i, Real.exp (s i - M)))) * Real.exp (s i - M)))
        * Real.exp (s j - M) = slopeR s dp j := by
  unfold slopeR
  simp only [← soft_shift s M]
  have hl := sum_exp_pos s M
  generalize (∑ i, Real.exp (s i - M)) = l at hl ⊢
  have h1 : ∑ i, dp i * (1 / (l * l)) * Real.exp (s i - M) = (∑ i, Real.exp (s i - M) / l * dp i) / l := by
    rw [Finset.sum_div]
    exact Finset.sum_congr rfl fun i _ => by field_simp
  rw [h1]; field_simp; ring

/-- The weights as a power of two of the scores less the row's logarithm, both in units of `log 2`. -/
theorem soft_of_exp2 [Nonempty J] (s : J → ℝ) (M : ℝ) (j : J) :
    Real.rpow 2 (s j / Real.log 2 - (M + Real.log (∑ i, Real.exp (s i - M))) / Real.log 2) = soft s j := by
  have hl := sum_exp_pos s M
  have h2 : Real.log 2 ≠ 0 := (Real.log_pos one_lt_two).ne'
  rw [← soft_shift s M, ← sub_div]
  rw [Real.rpow_eq_pow, Real.rpow_def_of_pos two_pos, mul_div_cancel₀ _ h2, sub_add_eq_sub_sub, Real.exp_sub, Real.exp_log hl]

end Cert.MlaMath

end
-- ==== Proof.MlaRef.lean ====
module

public import proofs.«01_k».proof.Proof.MlaMath
public import proofs.«01_k».proof.Proof.Gen.Reference3Ideal.Run

@[expose] public section

set_option maxRecDepth 16384

noncomputable section

namespace Cert.Reference3Ideal.Mla

open Idealize.ShloMosaic Idealize.ShloMosaic.ValueKit
open Cert.Reference3Ideal Cert.Reference3Ideal.Gen Cert.MlaMath

variable (Q K : FVec Ideal S8192x8x96 .bf16) (V : FVec Ideal S8192x8x64 .bf16) (D : FVec Ideal S8192x512 .bf16)

/-! ## The reference's lines, named -/

/-- The scores. -/
def sc : FVec Ideal S8x8192x8192 .f32 :=
  mulf (Host.dotGeneral dot_S8192x8x96_S8192x8x96_S8x8192x8192_2_2_0_0_1_1 none (extf .f32 Q bitsLt_bf16_f32) (extf .f32 K bitsLt_bf16_f32)) (broadcastInDim S8x8192x8192 ![] bcast_S_S8x8192x8192 (constant S_ .f32 0x3DD105EC#32))

/-- The rows' greatest scores. -/
def mx : FVec Ideal S8x8192 .f32 :=
  maximumf (broadcastInDim S8x8192 ![] bcast_S_S8x8192 (constant S_ .f32 0xFF800000#32)) (Host.reduce FloatOps.maximumf (sc Q K) (constant S_ .f32 0xFF800000#32) reducesTo_S8x8192x8192_S8x8192_d2 h_S_)

/-- The exponentials. -/
def ex : FVec Ideal S8x8192x8192 .f32 :=
  Host.exp (subf (sc Q K) (broadcastInDim S8x8192x8192 ![0, 1, 2] bcast_S8x8192x1_S8x8192x8192_0_1_2 (broadcastInDim S8x8192x1 ![0, 1] bcast_S8x8192_S8x8192x1_0_1 (mx Q K))))

/-- Their sums. -/
def sm : FVec Ideal S8x8192x1 .f32 :=
  broadcastInDim S8x8192x1 ![0, 1] bcast_S8x8192_S8x8192x1_0_1 (Host.reduceAdd (ex Q K) (constant S_ .f32 0x00000000#32) reducesTo_S8x8192x8192_S8x8192_d2 h_S_)

/-- The cotangent by heads. -/
def ct : FVec Ideal S8x64x8192 .f32 :=
  transpose S8x64x8192 [1, 2, 0] (shapeCast S8192x8x64 (extf .f32 D bitsLt_bf16_f32) shapeCasts_S8192x512_S8192x8x64) transposes_S8192x8x64_S8x64x8192_1_2_0

/-- The weights' cotangent. -/
def dp : FVec Ideal S8x8192x8192 .f32 :=
  Host.dotGeneral dot_S8x64x8192_S8192x8x64_S8x8192x8192_1_2_2_0_0_1 none (ct D) (extf .f32 V bitsLt_bf16_f32)

/-- What the sums' cotangent gives back to each exponential. -/
def back : FVec Ideal S8x8192 .f32 :=
  Host.reduceAdd (Host.negf (shapeCast S8x8192x1 (Host.reduceAdd (mulf (mulf (dp V D) (broadcastInDim S8x8192x8192 ![0, 1, 2] bcast_S8x8192x1_S8x8192x8192_0_1_2 (Host.divf (broadcastInDim S8x8192x1 ![] bcast_S_S8x8192x1 (constant S_ .f32 0x3F800000#32)) (mulf (sm Q K) (sm Q K))))) (ex Q K)) (constant S_ .f32 0x00000000#32) reducesTo_S8x8192x8192_S8x8192_d2 h_S_) shapeCasts_S8x8192_S8x8192x1)) (constant S_ .f32 0x00000000#32) reducesTo_S8x8192x1_S8x8192_d2 h_S_

/-- The scores' cotangent. -/
def ds : FVec Ideal S8x8192x8192 .f32 :=
  mulf (mulf (addf (Host.divf (dp V D) (broadcastInDim S8x8192x8192 ![0, 1, 2] bcast_S8x8192x1_S8x8192x8192_0_1_2 (sm Q K))) (broadcastInDim S8x8192x8192 ![0, 1] bcast_S8x8192_S8x8192x8192_0_1 (back Q K V D))) (ex Q K)) (broadcastInDim S8x8192x8192 ![] bcast_S_S8x8192x8192 (constant S_ .f32 0x3DD105EC#32))

/-- The query gradient. -/
def gq : FVec Ideal S8192x8x96 .bf16 :=
  truncf .bf16 (transpose S8192x8x96 [1, 0, 2] (Host.dotGeneral dot_S8x8192x8192_S8192x8x96_S8x8192x96_2_0_1_2_0_1 none (ds Q K V D) (extf .f32 K bitsLt_bf16_f32)) transposes_S8x8192x96_S8192x8x96_1_0_2) bitsLt_bf16_f32

/-- The key gradient. -/
def gk : FVec Ideal S8192x8x96 .bf16 :=
  truncf .bf16 (transpose S8192x8x96 [1, 0, 2] (Host.dotGeneral dot_S8x8192x8192_S8192x8x96_S8x8192x96_1_0_2_2_0_1 none (ds Q K V D) (extf .f32 Q bitsLt_bf16_f32)) transposes_S8x8192x96_S8192x8x96_1_0_2) bitsLt_bf16_f32

/-- The value gradient. -/
def gv : FVec Ideal S8192x8x64 .bf16 :=
  truncf .bf16 (transpose S8192x8x64 [2, 0, 1] (Host.dotGeneral dot_S8x64x8192_S8x8192x8192_S8x64x8192_2_1_1_2_0_0 none (ct D) (Host.divf (ex Q K) (broadcastInDim S8x8192x8192 ![0, 1, 2] bcast_S8x8192x1_S8x8192x8192_0_1_2 (sm Q K)))) transposes_S8x64x8192_S8192x8x64_2_0_1) bitsLt_bf16_f32

/-! ## Their values at real arguments -/

/-- The scores' constant. -/
def cst : ℝ := (Ideal.ofBits .f32 0x3DD105EC#32).toReal

/-- It is a real number. -/
theorem cst_eq : (Ideal.ofBits .f32 0x3DD105EC#32 : EReal) = (cst : EReal) := by
  have h : ∃ r : ℝ, (Ideal.ofBits .f32 0x3DD105EC#32 : EReal) = (r : EReal) := by
    simp only [Ideal.ofBits, Ideal.ieee]
    norm_num
    exact ⟨_, rfl⟩
  obtain ⟨r, hr⟩ := h
  unfold cst; rw [hr]; rfl

variable (q k : Fin 8192 → Fin 8 → Fin 96 → ℝ) (v g : Fin 8192 → Fin 8 → Fin 64 → ℝ)

/-- The real scores. -/
def S (h : Fin 8) (i j : Fin 8192) : ℝ := (∑ d, q i h d * k j h d) * cst
/-- The real cotangent of the weights. -/
def DP (h : Fin 8) (i j : Fin 8192) : ℝ := ∑ l, g i h l * v j h l

variable (hQ : ∀ i h d, Q (ix3 i h d) = ((q i h d : ℝ) : EReal)) (hK : ∀ i h d, K (ix3 i h d) = ((k i h d : ℝ) : EReal))
  (hV : ∀ i h d, V (ix3 i h d) = ((v i h d : ℝ) : EReal))
  (hD : ∀ i (h : Fin 8) (l : Fin 64), D (ix2 i (oc h l)) = ((g i h l : ℝ) : EReal))

include hQ hK in
/-- The scores. -/
theorem sc_at (h : Fin 8) (i j : Fin 8192) : sc Q K (ix3 h i j) = ((S q k h i j : ℝ) : EReal) := by
  pointwise [sc]
  simp only [hQ, hK, cst_eq, ← EReal.coe_mul, coe_sum]
  rfl

/-- Minus infinity's bits. -/
theorem low_eq : (Ideal.ofBits .f32 0xFF800000#32 : EReal) = ⊥ := by
  simp [Ideal.ofBits, Ideal.ieee]

/-- The row an entry of the scores is reduced into. -/
theorem drop_at (h : Fin 8) (i j : Fin 8192) : reducesTo_S8x8192x8192_S8x8192_d2.drop (ix3 h i j) = ix2 h i := by
  funext b
  match b with
  | 0 => exact Fin.ext (Shape.ReducesTo.drop_apply_val reducesTo_S8x8192x8192_S8x8192_d2 (ix3 h i j) 0)
  | 1 => exact Fin.ext (Shape.ReducesTo.drop_apply_val reducesTo_S8x8192x8192_S8x8192_d2 (ix3 h i j) 1)

/-- An index of three coordinates. -/
theorem ix3_eta (a : S8x8192x8192.Idx) : ∃ x y z, a = ix3 x y z :=
  ⟨a 0, a 1, a 2, by funext b; match b with | 0 => rfl | 1 => rfl | 2 => rfl⟩

/-- A greatest of minus infinity and a real number. -/
theorem low_max (x : FVec Ideal S8x8192 .f32) (j : S8x8192.Idx) :
    maximumf (broadcastInDim S8x8192 ![] bcast_S_S8x8192 (constant S_ .f32 0xFF800000#32)) x j = x j := by
  rw [max_at]
  have e : (broadcastInDim S8x8192 ![] bcast_S_S8x8192 (constant (F := Ideal) S_ .f32 0xFF800000#32) j : EReal) = ⊥ := low_eq
  rw [e, max_bot_left]

include hQ hK in
/-- The greatest scores are real numbers. -/
theorem mx_at (h : Fin 8) (i : Fin 8192) : ∃ M : ℝ, mx Q K (ix2 h i) = (M : EReal) := by
  unfold mx
  rw [low_max]
  refine top_real _ _ _ _ _ (ix3 h i 0) (drop_at h i 0) (fun a => ?_) low_eq
  obtain ⟨x, y, z, rfl⟩ := ix3_eta a
  exact ⟨_, sc_at Q K q k hQ hK x y z⟩

/-- A row's greatest score as a real number. -/
def M (h : Fin 8) (i : Fin 8192) : ℝ := (mx Q K (ix2 h i) : EReal).toReal

include hQ hK in
/-- The row's greatest score is that number. -/
theorem mx_eq (h : Fin 8) (i : Fin 8192) : mx Q K (ix2 h i) = ((M Q K h i : ℝ) : EReal) := by
  obtain ⟨r, hr⟩ := mx_at Q K q k hQ hK h i
  unfold M; rw [hr]; rfl

include hQ hK in
/-- The exponentials. -/
theorem ex_at (h : Fin 8) (i j : Fin 8192) : ex Q K (ix3 h i j) = ((Real.exp (S q k h i j - M Q K h i) : ℝ) : EReal) := by
  pointwise [ex]
  rw [sc_at Q K q k hQ hK, mx_eq Q K q k hQ hK, ← EReal.coe_sub, Ideal.exp_coe]

/-- A row's sum of exponentials. -/
def Z (h : Fin 8) (i : Fin 8192) : ℝ := ∑ j, Real.exp (S q k h i j - M Q K h i)

include hQ hK in
/-- Their sums. -/
theorem sm_at (h : Fin 8) (i : Fin 8192) (z : Fin 1) : sm Q K (ix3 h i z) = ((Z Q K q k h i : ℝ) : EReal) := by
  pointwise [sm]
  simp only [ex_at Q K q k hQ hK, coe_sum, Ideal.ofBits_zero_f32, zero_add]
  rfl

/-- The sums are positive. -/
theorem Z_pos (h : Fin 8) (i : Fin 8192) : 0 < Z Q K q k h i := sum_exp_pos _ _

include hD in
/-- The cotangent by heads. -/
theorem ct_at (h : Fin 8) (l : Fin 64) (i : Fin 8192) : ct D (ix3 h l i) = ((g i h l : ℝ) : EReal) := by
  pointwise [ct]
  rw [← hD]
  exact congrArg D (congrArg (ix2 i) (Fin.ext (by show h.val * 64 + l.val = 64 * h.val + l.val; omega)))

include hV hD in
/-- The weights' cotangent. -/
theorem dp_at (h : Fin 8) (i j : Fin 8192) : dp V D (ix3 h i j) = ((DP v g h i j : ℝ) : EReal) := by
  pointwise [dp]
  simp only [ct_at D g hD, hV, ← EReal.coe_mul, coe_sum]
  rfl

include hQ hK hV hD in
/-- What the sums' cotangent gives back. -/
theorem back_at (h : Fin 8) (i : Fin 8192) : back Q K V D (ix2 h i)
    = ((-(∑ j, DP v g h i j * (1 / (Z Q K q k h i * Z Q K q k h i)) * Real.exp (S q k h i j - M Q K h i)) : ℝ) : EReal) := by
  pointwise [back]
  have hz := (mul_pos (Z_pos Q K q k h i) (Z_pos Q K q k h i)).ne'
  have h1 : Ideal.div 1 ((Z Q K q k h i * Z Q K q k h i : ℝ) : EReal) = ((1 / (Z Q K q k h i * Z Q K q k h i) : ℝ) : EReal) :=
    coe_div 1 _ hz
  simp only [dp_at V D v g hV hD, sm_at Q K q k hQ hK, ex_at Q K q k hQ hK, ← EReal.coe_mul, h1, coe_sum, Ideal.ofBits_zero_f32, zero_add, ← EReal.coe_neg, Finset.univ_unique, Finset.sum_singleton]

include hQ hK hV hD in
/-- The scores' cotangent. -/
theorem ds_at (h : Fin 8) (i j : Fin 8192) : ds Q K V D (ix3 h i j) = ((slopeR (S q k h i) (DP v g h i) j * cst : ℝ) : EReal) := by
  pointwise [ds]
  have hz := (Z_pos Q K q k h i).ne'
  simp only [dp_at V D v g hV hD, sm_at Q K q k hQ hK, ex_at Q K q k hQ hK, back_at Q K V D q k v g hQ hK hV hD, coe_div _ _ hz, ← EReal.coe_mul, ← EReal.coe_add, cst_eq]
  rw [← slope_of_quotient (S q k h i) (DP v g h i) (M Q K h i) j]
  rfl

include hQ hK hV hD in
/-- The query gradient. -/
theorem gq_at (i : Fin 8192) (h : Fin 8) (d : Fin 96) : gq Q K V D (ix3 i h d)
    = ((∑ j, slopeR (S q k h i) (DP v g h i) j * cst * k j h d : ℝ) : EReal) := by
  pointwise [gq]
  simp only [ds_at Q K V D q k v g hQ hK hV hD, hK, ← EReal.coe_mul, coe_sum]

include hQ hK hV hD in
/-- The key gradient. -/
theorem gk_at (j : Fin 8192) (h : Fin 8) (d : Fin 96) : gk Q K V D (ix3 j h d)
    = ((∑ i, slopeR (S q k h i) (DP v g h i) j * cst * q i h d : ℝ) : EReal) := by
  pointwise [gk]
  simp only [ds_at Q K V D q k v g hQ hK hV hD, hQ, ← EReal.coe_mul, coe_sum]

include hQ hK hD in
/-- The value gradient. -/
theorem gv_at (j : Fin 8192) (h : Fin 8) (l : Fin 64) : gv Q K D (ix3 j h l)
    = ((∑ i, g i h l * soft (S q k h i) j : ℝ) : EReal) := by
  pointwise [gv]
  have hz := fun i => (Z_pos Q K q k h i).ne'
  simp only [ct_at D g hD, ex_at Q K q k hQ hK, sm_at Q K q k hQ hK, coe_div _ _ (hz _), ← EReal.coe_mul, coe_sum]
  congr 1
  refine Finset.sum_congr rfl fun i _ => ?_
  rw [← soft_shift (S q k h i) (M Q K h i) j]
  rfl

/-- The reference's first result. -/
theorem res0 (m : (ℓ : Loc nD τ sig) → Buf (Elt Ideal) ℓ) (c : Dev nD) : Value.res_out0 (F := Ideal) m c
    = gq (m ((c.tc : Thread nD τ).loc main_arg0)) (m ((c.tc : Thread nD τ).loc main_arg1)) (m ((c.tc : Thread nD τ).loc main_arg2)) (m ((c.tc : Thread nD τ).loc main_arg3)) := rfl

/-- The reference's second result. -/
theorem res1 (m : (ℓ : Loc nD τ sig) → Buf (Elt Ideal) ℓ) (c : Dev nD) : Value.res_out1 (F := Ideal) m c
    = gk (m ((c.tc : Thread nD τ).loc main_arg0)) (m ((c.tc : Thread nD τ).loc main_arg1)) (m ((c.tc : Thread nD τ).loc main_arg2)) (m ((c.tc : Thread nD τ).loc main_arg3)) := rfl

end Cert.Reference3Ideal.Mla

end
-- ==== Proof.MlaHost.lean ====
module

public import proofs.«01_k».proof.Proof.MlaRef
public import proofs.«01_k».proof.Proof.Gen.Kernel3Ideal.Frame
public import Idealize.ShloMosaic.Lib.Claim
public import Idealize.ShloMosaic.Lib.StableHlo.RunRead

@[expose] public section

set_option maxRecDepth 16384

noncomputable section

namespace Cert.Kernel3Ideal.Mla

open Idealize.ShloMosaic Idealize.ShloMosaic.ValueKit Idealize.ShloMosaic.TcCoe
open Cert.Kernel3Ideal Cert.Kernel3Ideal.Gen Cert.MlaMath

/-! ## The lines of the forward pass and of the call's arguments, named -/

section Lines

variable (Q K : FVec Ideal S8192x8x96 .bf16) (V : FVec Ideal S8192x8x64 .bf16)

/-- The scores. -/
def sc : FVec Ideal S8x8192x8192 .f32 :=
  mulf (Host.dotGeneral dot_S8192x8x96_S8192x8x96_S8x8192x8192_2_2_0_0_1_1 none (extf .f32 Q bitsLt_bf16_f32) (extf .f32 K bitsLt_bf16_f32)) (broadcastInDim S8x8192x8192 ![] bcast_S_S8x8192x8192 (constant S_ .f32 0x3DD105EC#32))

/-- The rows' greatest scores. -/
def mx : FVec Ideal S8x8192 .f32 :=
  Host.reduce FloatOps.maximumf (sc Q K) (constant S_ .f32 0xFF800000#32) reducesTo_S8x8192x8192_S8x8192_d2 h_S_

/-- The exponentials. -/
def ex : FVec Ideal S8x8192x8192 .f32 :=
  Host.exp (subf (sc Q K) (broadcastInDim S8x8192x8192 ![0, 1, 2] bcast_S8x8192x1_S8x8192x8192_0_1_2 (broadcastInDim S8x8192x1 ![0, 1] bcast_S8x8192_S8x8192x1_0_1 (mx Q K))))

/-- Their sums. -/
def sm : FVec Ideal S8x8192x1 .f32 :=
  broadcastInDim S8x8192x1 ![0, 1] bcast_S8x8192_S8x8192x1_0_1 (Host.reduceAdd (ex Q K) (constant S_ .f32 0x00000000#32) reducesTo_S8x8192x8192_S8x8192_d2 h_S_)

/-- The scores are the reference's. -/
theorem sc_eq : sc Q K = Cert.Reference3Ideal.Mla.sc Q K := rfl

/-- The greatest scores are the reference's. -/
theorem mx_eq_ref : mx Q K = Cert.Reference3Ideal.Mla.mx Q K := by
  funext j
  unfold Cert.Reference3Ideal.Mla.mx
  rw [Cert.Reference3Ideal.Mla.low_max]
  unfold mx
  rw [sc_eq]

/-- The exponentials are the reference's. -/
theorem ex_eq : ex Q K = Cert.Reference3Ideal.Mla.ex Q K := by
  unfold ex Cert.Reference3Ideal.Mla.ex
  rw [sc_eq, mx_eq_ref]

/-- Their sums are the reference's. -/
theorem sm_eq : sm Q K = Cert.Reference3Ideal.Mla.sm Q K := by
  unfold sm Cert.Reference3Ideal.Mla.sm
  rw [ex_eq]

/-- The logarithm of two, as the host computes it. -/
def log2 : FVec Ideal S_ .f32 := Host.log (constant S_ .f32 0x40000000#32)

/-- The attention's output. -/
def outA : FVec Ideal S8192x512 .bf16 :=
  truncf .bf16 (shapeCast S8192x512 (transpose S8192x8x64 [1, 0, 2] (Host.divf (Host.dotGeneral dot_S8x8192x8192_S8192x8x64_S8x8192x64_2_0_1_2_0_1 none (ex Q K) (extf .f32 V bitsLt_bf16_f32)) (broadcastInDim S8x8192x64 ![0, 1, 2] bcast_S8x8192x1_S8x8192x64_0_1_2 (sm Q K))) transposes_S8x8192x64_S8192x8x64_1_0_2) shapeCasts_S8192x8x64_S8192x512) bitsLt_bf16_f32

/-- Log-sums to base two from greatest scores and sums. -/
def lseOf (X : FVec Ideal S8x8192 .f32) (Y : FVec Ideal S8x8192x1 .f32) : FVec Ideal S8x8192x1 .f32 :=
  Host.divf (addf (broadcastInDim S8x8192x1 ![0, 1] bcast_S8x8192_S8x8192x1_0_1 X) (Host.log Y)) (broadcastInDim S8x8192x1 ![] bcast_S_S8x8192x1 log2)

/-- Log-sums to base two, at an index. -/
theorem lseOf_at (X : FVec Ideal S8x8192 .f32) (Y : FVec Ideal S8x8192x1 .f32) (h : Fin 8) (i : Fin 8192) (z : Fin 1) :
    lseOf X Y (ix3 h i z) = Ideal.div (X (ix2 h i) + Ideal.log (Y (ix3 h i z))) (log2 ix0) := by
  pointwise [lseOf]

/-- The rows' log-sums to base two. -/
def lseB : FVec Ideal S8x8192x1 .f32 := lseOf (mx Q K) (sm Q K)

/-- A column per head repeated over the lanes. -/
def lanes (x : FVec Ideal S8x8192x1 .f32) : FVec Ideal S8192x1024 .f32 :=
  shapeCast S8192x1024 (broadcastInDim S8192x8x128 ![0, 1, 2] bcast_S8192x8x1_S8192x8x128_0_1_2 (transpose S8192x8x1 [1, 0, 2] x transposes_S8x8192x1_S8192x8x1_1_0_2)) shapeCasts_S8192x8x128_S8192x1024

/-- The rows' log-sums to base two, repeated over the lanes. -/
def lseA : FVec Ideal S8192x1024 .f32 := lanes (lseB Q K)

/-- An array's last axis padded with zeros to the lanes. -/
def padA (x : FVec Ideal S8192x8x96 .f32) : FVec Ideal S8192x1024 .bf16 :=
  truncf .bf16 (shapeCast S8192x1024 (pad S8192x8x128 ![0, 0, 0] ![0, 0, 32] ![0, 0, 0] x (sitofp .f32 (constantI S_ 32 0#32)) pads_S8192x8x96_S8192x8x128_000_000_0320 h_S_) shapeCasts_S8192x8x128_S8192x1024) bitsLt_bf16_f32

/-- The keys, padded. -/
def keyA : FVec Ideal S8192x1024 .bf16 := padA (extf .f32 K bitsLt_bf16_f32)

/-- The queries, scaled and padded. -/
def qryA : FVec Ideal S8192x1024 .bf16 :=
  padA (Host.divf (mulf (extf .f32 Q bitsLt_bf16_f32) (broadcastInDim S8192x8x96 ![] bcast_S_S8192x8x96 (constant S_ .f32 0x3DD105EC#32))) (broadcastInDim S8192x8x96 ![] bcast_S_S8192x8x96 log2))

/-- The keys and the values side by side. -/
def kvA : FVec Ideal S8192x1536 .bf16 :=
  truncf .bf16 (concatenate S8192x1536 1 [⟨S8192x1024, extf .f32 (keyA K) bitsLt_bf16_f32⟩, ⟨S8192x512, shapeCast S8192x512 (extf .f32 V bitsLt_bf16_f32) shapeCasts_S8192x8x64_S8192x512⟩] concatenates_S8192x1024_S8192x512_S8192x1536_d1) bitsLt_bf16_f32

end Lines

/-! ## The region finds them -/

variable (m : (ℓ : Loc nD τ sig) → Buf (Elt Ideal) ℓ) (c : Dev nD)

/-- The query argument. -/
abbrev argQ : FVec Ideal S8192x8x96 .bf16 := m ((c.tc : Thread nD τ).loc main_arg0)
/-- The key argument. -/
abbrev argK : FVec Ideal S8192x8x96 .bf16 := m ((c.tc : Thread nD τ).loc main_arg1)
/-- The value argument. -/
abbrev argV : FVec Ideal S8192x8x64 .bf16 := m ((c.tc : Thread nD τ).loc main_arg2)
/-- The cotangent argument. -/
abbrev argD : FVec Ideal S8192x512 .bf16 := m ((c.tc : Thread nD τ).loc main_arg3)

/-- The padded keys are found. -/
theorem V_key : Gen.V m c main_v29 = keyA (argK m c) := by
  unfold_abbrev_sides
  after_reads_simp
  rfl

/-- The padded queries are found. -/
theorem V_qry : Gen.V m c main_v40 = qryA (argQ m c) := by
  unfold_abbrev_sides
  after_reads_simp
  rfl

/-- The keys and values are found. -/
theorem V_kv : Gen.V m c main_v33 = kvA (argK m c) (argV m c) := by
  unfold_abbrev_sides
  after_reads_simp
  rfl

/-- The logarithm of two is found. -/
theorem V_log : Gen.V m c main_v19 = log2 := by
  unfold_abbrev_sides
  after_reads_simp
  rfl

/-- The row log-sums are found. -/
theorem V_lse : Gen.V m c main_v26 = lseA (argQ m c) (argK m c) := by
  unfold lseA lanes lseB lseOf sm ex mx sc
  unfold_abbrev_sides
  after_reads_simp
  rfl

/-- The output is found. -/
theorem V_out : Gen.V m c main_v18 = outA (argQ m c) (argK m c) (argV m c) := by
  unfold outA sm ex mx sc
  unfold_abbrev_sides
  after_reads_simp
  rfl

/-! ## Their values at real arguments -/

section Values

variable (Q K : FVec Ideal S8192x8x96 .bf16) (V : FVec Ideal S8192x8x64 .bf16)
  (q k : Fin 8192 → Fin 8 → Fin 96 → ℝ) (v : Fin 8192 → Fin 8 → Fin 64 → ℝ)
  (hQ : ∀ i h d, Q (ix3 i h d) = ((q i h d : ℝ) : EReal)) (hK : ∀ i h d, K (ix3 i h d) = ((k i h d : ℝ) : EReal))
  (hV : ∀ i h d, V (ix3 i h d) = ((v i h d : ℝ) : EReal))

open Cert.Reference3Ideal.Mla (S DP M Z cst sc_at mx_eq ex_at sm_at Z_pos cst_eq)

/-- The bits of two. -/
theorem two_eq : (Ideal.ofBits .f32 0x40000000#32 : EReal) = ((2 : ℝ) : EReal) := by
  simp [Ideal.ofBits, Ideal.ieee, -EReal.coe_mul]; norm_num

/-- The logarithm of two is that. -/
theorem log2_at (j : S_.Idx) : log2 j = ((Real.log 2 : ℝ) : EReal) := by
  show Ideal.log (Ideal.ofBits .f32 0x40000000#32) = _
  rw [two_eq, coe_log _ two_pos]

theorem log2_ne : Real.log 2 ≠ 0 := (Real.log_pos one_lt_two).ne'

include hQ hK hV in
/-- The output. -/
theorem outA_at (i : Fin 8192) (h : Fin 8) (l : Fin 64) (x : Fin 512) (hx : x.val = 64 * h.val + l.val) :
    outA Q K V (ix2 i x) = ((∑ j, soft (S q k h i) j * v j h l : ℝ) : EReal) := by
  rw [show x = ⟨h.val * 64 + l.val, by omega⟩ from Fin.ext (by rw [hx]; show _ = h.val * 64 + l.val; omega)]
  pointwise [outA]
  have hz := (Z_pos Q K q k h i).ne'
  simp only [ex_eq, sm_eq, ex_at Q K q k hQ hK, sm_at Q K q k hQ hK, hV, ← EReal.coe_mul, coe_sum, coe_div _ _ hz]
  congr 1
  rw [Finset.sum_div]
  refine Finset.sum_congr rfl fun j _ => ?_
  rw [← soft_shift (S q k h i) (M Q K h i) j, mul_div_right_comm]
  rfl

/-- A column repeated over the lanes. -/
theorem lanes_at (x : FVec Ideal S8x8192x1 .f32) (i : Fin 8192) (h : Fin 8) (d : Fin 128) (y : Fin 1024) (hy : y.val = 128 * h.val + d.val) :
    lanes x (ix2 i y) = x (ix3 h i 0) := by
  rw [show y = ⟨h.val * 128 + d.val, by omega⟩ from Fin.ext (by rw [hy]; show _ = h.val * 128 + d.val; omega)]
  pointwise [lanes]

include hQ hK in
/-- The row log-sums. -/
theorem lseB_at (i : Fin 8192) (h : Fin 8) (z : Fin 1) :
    lseB Q K (ix3 h i z) = (((M Q K h i + Real.log (Z Q K q k h i)) / Real.log 2 : ℝ) : EReal) := by
  have e : lseB Q K = lseOf (Cert.Reference3Ideal.Mla.mx Q K) (Cert.Reference3Ideal.Mla.sm Q K) := by
    unfold lseB; rw [mx_eq_ref, sm_eq]
  rw [e, lseOf_at, mx_eq Q K q k hQ hK, sm_at Q K q k hQ hK, log2_at, coe_log _ (Z_pos Q K q k h i), ← EReal.coe_add, coe_div _ _ log2_ne]

include hQ hK in
/-- The row log-sums, repeated over the lanes. -/
theorem lseA_at (i : Fin 8192) (h : Fin 8) (d : Fin 128) (y : Fin 1024) (hy : y.val = 128 * h.val + d.val) :
    lseA Q K (ix2 i y) = (((M Q K h i + Real.log (Z Q K q k h i)) / Real.log 2 : ℝ) : EReal) :=
  (lanes_at _ i h d y hy).trans (lseB_at Q K q k hQ hK i h 0)

/-- A padded array. -/
theorem padA_at (x : FVec Ideal S8192x8x96 .f32) (r : Fin 8192 → Fin 8 → Fin 96 → ℝ) (hr : ∀ i h d, x (ix3 i h d) = ((r i h d : ℝ) : EReal))
    (i : Fin 8192) (h : Fin 8) (d : Fin 128) (y : Fin 1024) (hy : y.val = 128 * h.val + d.val) :
    padA x (ix2 i y) = (((if hd : d.val < 96 then r i h ⟨d.val, hd⟩ else 0) : ℝ) : EReal) := by
  rw [show y = ⟨h.val * 128 + d.val, by omega⟩ from Fin.ext (by rw [hy]; show _ = h.val * 128 + d.val; omega)]
  pointwise [padA]
  have h0 : (FloatOps.sitofp .f32 0#32 : Ideal .f32) = ((0 : ℝ) : EReal) := by
    show (((0#32 : BitVec 32).toInt : ℝ) : EReal) = _
    simp
  split
  · exact hr _ _ _
  · exact h0

include hV in
/-- The values among the keys and values. -/
theorem kvA_at (i : Fin 8192) (h : Fin 8) (l : Fin 64) (y : Fin 1536) (hy : y.val = 1024 + (64 * h.val + l.val)) :
    kvA K V (ix2 i y) = ((v i h l : ℝ) : EReal) := by
  rw [show y = ⟨1024 + (h.val * 64 + l.val), by omega⟩ from Fin.ext (by rw [hy]; show _ = 1024 + (h.val * 64 + l.val); omega)]
  pointwise [kvA]
  exact hV i h l

include hQ in
/-- The scaled queries. -/
theorem qryA_at (i : Fin 8192) (h : Fin 8) (d : Fin 128) (y : Fin 1024) (hy : y.val = 128 * h.val + d.val) :
    qryA Q (ix2 i y) = (((if hd : d.val < 96 then q i h ⟨d.val, hd⟩ * cst / Real.log 2 else 0) : ℝ) : EReal) := by
  refine padA_at _ (fun i h d => q i h d * cst / Real.log 2) (fun i h d => ?_) i h d y hy
  pointwise []
  rw [hQ, cst_eq, ← EReal.coe_mul, log2_at, coe_div _ _ log2_ne]

include hK in
/-- The padded keys. -/
theorem keyA_at (i : Fin 8192) (h : Fin 8) (d : Fin 128) (y : Fin 1024) (hy : y.val = 128 * h.val + d.val) :
    keyA K (ix2 i y) = (((if hd : d.val < 96 then k i h ⟨d.val, hd⟩ else 0) : ℝ) : EReal) := by
  refine padA_at _ k (fun i h d => ?_) i h d y hy
  pointwise []
  exact hK i h d

end Values
end Cert.Kernel3Ideal.Mla

end
-- ==== Proof.MlaPay.lean ====
module

public import proofs.«01_k».proof.Proof.Gen.Kernel3Ideal.Skeleton
public import Idealize.ShloMosaic.Lib.Pipeline.ValueKit
public import Idealize.ShloMosaic.Lib.Claim
public import Idealize.ShloMosaic.Lib.WholeRead
public import Idealize.ShloMosaic.Lib.WritesUnit

@[expose] public section

set_option maxRecDepth 16384

noncomputable section

namespace Cert.Kernel3Ideal.Mla

open Idealize.ShloMosaic Idealize.ShloMosaic.ValueKit
open Cert.Kernel3Ideal.Gen

/-! ### One grid point's additions, entry by entry -/

/-- Column `d` of head `h` among the 512 columns of four heads. -/
def col (h : Fin 4) (d : Fin 128) : Fin 512 := ⟨128 * h.val + d.val, by omega⟩

/-- Lane `l` of the pair of heads that head `h` belongs to, among the 256 columns of two pairs. -/
def vcol (h : Fin 4) (l : Fin 128) : Fin 256 := ⟨128 * (h.val / 2) + l.val, by omega⟩

/-- The natural logarithm of two, as the kernel's named constant. -/
def lg2 : EReal := Named.named (F := Ideal) Cert.Kernel3Ideal.κ (φ := .f32) "ln2" 1060205080#32

section Terms

variable (x0 : Vec Ideal S512x512 .bf16) (x1 : Vec Ideal S2048x512 .bf16) (x2 : Vec Ideal S2048x256 .bf16)
  (x3 : Vec Ideal S512x256 .bf16) (x4 : Vec Ideal S512x512 .f32) (x5 : Vec Ideal S512x256 .bf16)

/-- The probability of key `j` for query `r`: two to the power of score less saved row log-sum. -/
def prob (h : Fin 4) (r : Fin 512) (j : Fin 2048) : EReal :=
  Ideal.exp2 ((∑ d : Fin 128, x0 (ix2 r (col h d)) * x1 (ix2 j (col h d))) - x4 (ix2 r (col h 0)))

/-- The gradient of the score of key `j` for query `r`: the probability times what the cotangent says of the key's values
less what it says of the output, on the lanes of the head. -/
def slope (h : Fin 4) (r : Fin 512) (j : Fin 2048) : EReal :=
  prob x0 x1 x4 h r j * ((∑ l : Fin 128, if l.val / 64 = h.val % 2 then x3 (ix2 r (vcol h l)) * x2 (ix2 j (vcol h l)) else 0)
    - ∑ l : Fin 128, if l.val / 64 = h.val % 2 then x3 (ix2 r (vcol h l)) * x5 (ix2 r (vcol h l)) else 0) * lg2

/-- What a block of queries adds to the gradient of the values. -/
def dvTerm (h : Fin 4) (j : Fin 2048) (l : Fin 128) : EReal :=
  ∑ r : Fin 512, if l.val / 64 = h.val % 2 then prob x0 x1 x4 h r j * x3 (ix2 r (vcol h l)) else 0

/-- What a block of queries adds to the gradient of the keys. -/
def dkTerm (h : Fin 4) (j : Fin 2048) (d : Fin 128) : EReal :=
  ∑ r : Fin 512, slope x0 x1 x2 x3 x4 x5 h r j * x0 (ix2 r (col h d))

/-- What a block of keys adds to the gradient of the queries. -/
def dqTerm (h : Fin 4) (r : Fin 512) (d : Fin 128) : EReal :=
  ∑ j : Fin 2048, slope x0 x1 x2 x3 x4 x5 h r j * x1 (ix2 j (col h d))

end Terms

/-- The head column `q` belongs to. -/
def hd (q : Fin 512) : Fin 4 := ⟨q.val / 128, by omega⟩
/-- The lane of column `q` within its head. -/
def ln (q : Fin 512) : Fin 128 := ⟨q.val % 128, by omega⟩
/-- The lane of column `q` within its pair of heads. -/
def vln (q : Fin 256) : Fin 128 := ⟨q.val % 128, by omega⟩

theorem hd_col (h : Fin 4) (d : Fin 128) : hd (col h d) = h := Fin.ext (by show (128 * h.val + d.val) / 128 = h.val; omega)
theorem ln_col (h : Fin 4) (d : Fin 128) : ln (col h d) = d := Fin.ext (by show (128 * h.val + d.val) % 128 = d.val; omega)

/-- A cleared block. -/
def zeros {s : Shape} : Vec Ideal s .f32 := fun _ => (0 : EReal)

/-- A block of `H` rows from row `o` on gets a term per head, row and lane added; the other rows stay. -/
def addRows {N H : ℕ} (o : ℕ) (base : Vec Ideal ⟨2, ![N, 512]⟩ .f32) (T : Fin 4 → Fin H → Fin 128 → EReal) :
    Vec Ideal ⟨2, ![N, 512]⟩ .f32 :=
  fun y => if h : o ≤ (y 0).val ∧ (y 0).val < o + H then
    base y + T (hd (y 1)) ⟨(y 0).val - o, by omega⟩ (ln (y 1)) else base y

theorem addRows_in {N H : ℕ} (o : ℕ) (base : Vec Ideal ⟨2, ![N, 512]⟩ .f32) (T : Fin 4 → Fin H → Fin 128 → EReal)
    (r : Fin H) (hr : o + r.val < N) (h : Fin 4) (d : Fin 128) :
    addRows o base T (ix2 ⟨o + r.val, hr⟩ (col h d)) = base (ix2 ⟨o + r.val, hr⟩ (col h d)) + T h r d := by
  unfold addRows
  rw [dif_pos (by show o ≤ o + r.val ∧ o + r.val < o + H; have := r.isLt; omega)]
  congr 1
  have e1 : (⟨o + r.val - o, by have := r.isLt; omega⟩ : Fin H) = r := Fin.ext (by dsimp only; omega)
  show T (hd (col h d)) ⟨o + r.val - o, _⟩ (ln (col h d)) = T h r d
  rw [hd_col, ln_col, e1]

theorem addRows_out {N H : ℕ} (o : ℕ) (base : Vec Ideal ⟨2, ![N, 512]⟩ .f32) (T : Fin 4 → Fin H → Fin 128 → EReal)
    (r : Fin N) (d : Fin 512) (h : r.val < o ∨ o + H ≤ r.val) : addRows o base T (ix2 r d) = base (ix2 r d) := by
  unfold addRows
  rw [dif_neg (by show ¬(o ≤ r.val ∧ r.val < o + H); omega)]

/-- A block of values gets the terms of the two heads of each pair added, the even head's first. -/
def addPair {N : ℕ} (base : Vec Ideal ⟨2, ![N, 256]⟩ .f32) (T : Fin 4 → Fin N → Fin 128 → EReal) : Vec Ideal ⟨2, ![N, 256]⟩ .f32 :=
  fun y => base y + T ⟨2 * ((y 1).val / 128), by have : (y 1).val < 256 := (y 1).isLt; omega⟩ (y 0) (vln (y 1))
    + T ⟨2 * ((y 1).val / 128) + 1, by have : (y 1).val < 256 := (y 1).isLt; omega⟩ (y 0) (vln (y 1))

theorem addPair_lo {N : ℕ} (base : Vec Ideal ⟨2, ![N, 256]⟩ .f32) (T : Fin 4 → Fin N → Fin 128 → EReal) (r : Fin N) (d : Fin 128) :
    addPair base T (ix2 r (vcol 1 d)) = base (ix2 r (vcol 0 d)) + T 0 r d + T 1 r d := by
  have e : vln (vcol 1 d) = d := Fin.ext (by show (128 * (1 / 2) + d.val) % 128 = d.val; omega)
  have e0 : (⟨2 * ((vcol 1 d).val / 128), by have := (vcol 1 d).isLt; omega⟩ : Fin 4) = 0 := Fin.ext (by show 2 * ((128 * (1 / 2) + d.val) / 128) = 0; omega)
  have e1 : (⟨2 * ((vcol 1 d).val / 128) + 1, by have := (vcol 1 d).isLt; omega⟩ : Fin 4) = 1 := Fin.ext (by show 2 * ((128 * (1 / 2) + d.val) / 128) + 1 = 1; omega)
  show base (ix2 r (vcol 1 d)) + T ⟨2 * ((vcol 1 d).val / 128), _⟩ r (vln (vcol 1 d)) + T ⟨2 * ((vcol 1 d).val / 128) + 1, _⟩ r (vln (vcol 1 d)) = _
  rw [e, e0, e1]; rfl

theorem addPair_hi {N : ℕ} (base : Vec Ideal ⟨2, ![N, 256]⟩ .f32) (T : Fin 4 → Fin N → Fin 128 → EReal) (r : Fin N) (d : Fin 128) :
    addPair base T (ix2 r (vcol 3 d)) = base (ix2 r (vcol 2 d)) + T 2 r d + T 3 r d := by
  have e : vln (vcol 3 d) = d := Fin.ext (by show (128 * (3 / 2) + d.val) % 128 = d.val; omega)
  have e0 : (⟨2 * ((vcol 3 d).val / 128), by have := (vcol 3 d).isLt; omega⟩ : Fin 4) = 2 := Fin.ext (by show 2 * ((128 * (3 / 2) + d.val) / 128) = 2; omega)
  have e1 : (⟨2 * ((vcol 3 d).val / 128) + 1, by have := (vcol 3 d).isLt; omega⟩ : Fin 4) = 3 := Fin.ext (by show 2 * ((128 * (3 / 2) + d.val) / 128) + 1 = 3; omega)
  show base (ix2 r (vcol 3 d)) + T ⟨2 * ((vcol 3 d).val / 128), _⟩ r (vln (vcol 3 d)) + T ⟨2 * ((vcol 3 d).val / 128) + 1, _⟩ r (vln (vcol 3 d)) = _
  rw [e, e0, e1]; rfl

/-! ### Payloads -/

/-- The even head's mask keeps the lower half of the lanes. -/
theorem mask_even (l : Fin 128) (a b : EReal) :
    Scalar.select (IntOp.xori (IntOp.xori (IntOp.cmpi CmpIPredicate.sge (BitVec.ofNat 32 l.val) 64#32) 0#1) 1#1) a b
      = if l.val / 64 = 0 then a else b := by
  have h : IntOp.xori (IntOp.xori (IntOp.cmpi CmpIPredicate.sge (BitVec.ofNat 32 l.val) 64#32) 0#1) 1#1
      = if l.val / 64 = 0 then 1#1 else 0#1 := by
    revert l; decide +kernel
  rw [h]; split <;> rfl

/-- The odd head's mask keeps the upper half of the lanes. -/
theorem mask_odd (l : Fin 128) (a b : EReal) :
    Scalar.select (IntOp.xori (IntOp.xori (IntOp.cmpi CmpIPredicate.sge (BitVec.ofNat 32 l.val) 64#32) 1#1) 1#1) a b
      = if l.val / 64 = 1 then a else b := by
  have h : IntOp.xori (IntOp.xori (IntOp.cmpi CmpIPredicate.sge (BitVec.ofNat 32 l.val) 64#32) 1#1) 1#1
      = if l.val / 64 = 1 then 1#1 else 0#1 := by
    revert l; decide +kernel
  rw [h]; split <;> rfl

/-! ### Loads and stores of columns -/

variable {kd : Kind} {sp : Space} {e : EltTy}

/-- A load of 128 columns of a named buffer reads the buffer at the row and the shifted column. -/
theorem ld_at {N W H D o c : ℕ} {m : Memref sig kd sp ⟨2, ![N, W]⟩ e} (h : m.IsWhole) (X : Vec Ideal ⟨2, ![N, W]⟩ e)
    (off : Fin 2 → ℕ) (hoff : off = ![o, c]) (inb : ∀ a : Fin 2, off a + (![H, D] : Fin 2 → ℕ) a ≤ (![N, W] : Fin 2 → ℕ) a) (r : Fin H) (d : Fin D)
    (r' : Fin N) (d' : Fin W) (hr : r'.val = o + r.val) (hd : d'.val = c + d.val) :
    View.readAt (Elt Ideal) m.view (Rect.unit (s := ⟨2, ![N, W]⟩) off ![H, D] inb).toLoadRect (h.unread X) (ix2 r d)
      = X (ix2 r' d') := by
  subst hoff
  rw [h.readAt_unread]
  congr 1
  funext a
  match a with
  | ⟨0, _⟩ => exact Fin.ext (by show o + 1 * r.val = r'.val; omega)
  | ⟨1, _⟩ => exact Fin.ext (by show c + 1 * d.val = d'.val; omega)

/-- A load of columns of a buffer whose contents are stores reads those contents at the row and the shifted column. -/
theorem cov_at {N W H D o c : ℕ} (v : View sig kd sp ⟨2, ![N, W]⟩ e) (g : v.ty.Contents (Elt Ideal)) {off : Fin 2 → ℕ}
    {inb : ∀ a : Fin 2, off a + (![H, D] : Fin 2 → ℕ) a ≤ (![N, W] : Fin 2 → ℕ) a} (hoff : off = ![o, c]) (r : Fin H) (d : Fin D)
    (r' : Fin N) (d' : Fin W) (hr : r'.val = o + r.val) (hd : d'.val = c + d.val) :
    View.readAt (Elt Ideal) v (Rect.unit (s := ⟨2, ![N, W]⟩) off ![H, D] inb).toLoadRect g (ix2 r d)
      = v.read (Elt Ideal) g (ix2 r' d') := by
  subst hoff
  show v.read (Elt Ideal) g _ = _
  congr 1
  funext a
  match a with
  | ⟨0, _⟩ => exact Fin.ext (by show o + 1 * r.val = r'.val; omega)
  | ⟨1, _⟩ => exact Fin.ext (by show c + 1 * d.val = d'.val; omega)

section Stores
variable {N W H D o c : ℕ} (v : View sig kd sp ⟨2, ![N, W]⟩ e) (f : v.ty.Contents (Elt Ideal)) {off : Fin 2 → ℕ}
  {inb : ∀ a : Fin 2, off a + (![H, D] : Fin 2 → ℕ) a ≤ (![N, W] : Fin 2 → ℕ) a}
  (w : (⟨2, ![H, D]⟩ : Shape).Idx → Elt Ideal e) (L : List (View.Piece (Elt Ideal) ⟨2, ![N, W]⟩ e)) (r : Fin N) (d : Fin W)

/-- An entry under the newest store reads its payload. -/
theorem rd_in (hoff : off = ![o, c]) (r' : Fin H) (d' : Fin D) (hr : r.val = o + r'.val) (hd : d.val = c + d'.val) :
    v.read (Elt Ideal) (v.writes (Elt Ideal) f
      ((⟨Rect.unit (s := ⟨2, ![N, W]⟩) off ![H, D] inb, w⟩ : View.Piece (Elt Ideal) ⟨2, ![N, W]⟩ e) :: L)) (ix2 r d) = w (ix2 r' d') :=
  View.read_writes_cons_unit_of_mem (s := ⟨2, ![N, W]⟩) v f (off' := ![o, c]) inb w L (ix2 r d) (ix2 r' d') hoff
    (fun a => match a with | ⟨0, _⟩ => hr | ⟨1, _⟩ => hd)

/-- An entry beside the newest store reads what the older ones left. -/
theorem rd_out (hoff : off = ![o, c]) (h : (r.val < o ∨ o + H ≤ r.val) ∨ (d.val < c ∨ c + D ≤ d.val)) :
    v.read (Elt Ideal) (v.writes (Elt Ideal) f
      ((⟨Rect.unit (s := ⟨2, ![N, W]⟩) off ![H, D] inb, w⟩ : View.Piece (Elt Ideal) ⟨2, ![N, W]⟩ e) :: L)) (ix2 r d)
      = v.read (Elt Ideal) (v.writes (Elt Ideal) f L) (ix2 r d) := by
  rcases h with h | h
  · exact View.read_writes_cons_unit_of_not_mem (s := ⟨2, ![N, W]⟩) v f (off' := ![o, c]) inb w L (ix2 r d) hoff (0 : Fin 2) h
  · exact View.read_writes_cons_unit_of_not_mem (s := ⟨2, ![N, W]⟩) v f (off' := ![o, c]) inb w L (ix2 r d) hoff (1 : Fin 2) h
end Stores

section Cols
variable {N H : ℕ} (v : View sig kd sp ⟨2, ![N, 512]⟩ e) (f : v.ty.Contents (Elt Ideal)) (o : ℕ)

/-- Four stores of 128 columns side by side, read back: the rows stored hold the payloads, the others what was there. -/
theorem read_cols4 {off1 off2 off3 off4 : Fin 2 → ℕ}
    {inb1 : ∀ a : Fin 2, off1 a + (![H, 128] : Fin 2 → ℕ) a ≤ (![N, 512] : Fin 2 → ℕ) a}
    {inb2 : ∀ a : Fin 2, off2 a + (![H, 128] : Fin 2 → ℕ) a ≤ (![N, 512] : Fin 2 → ℕ) a}
    {inb3 : ∀ a : Fin 2, off3 a + (![H, 128] : Fin 2 → ℕ) a ≤ (![N, 512] : Fin 2 → ℕ) a}
    {inb4 : ∀ a : Fin 2, off4 a + (![H, 128] : Fin 2 → ℕ) a ≤ (![N, 512] : Fin 2 → ℕ) a}
    (w1 w2 w3 w4 : (⟨2, ![H, 128]⟩ : Shape).Idx → Elt Ideal e) (L : List (View.Piece (Elt Ideal) ⟨2, ![N, 512]⟩ e))
    (e1 : off1 = ![o, 0]) (e2 : off2 = ![o, 128]) (e3 : off3 = ![o, 256]) (e4 : off4 = ![o, 384])
    (G : Vec Ideal ⟨2, ![N, 512]⟩ e) (hH : o + H ≤ N)
    (g1 : ∀ (r : Fin H) (d : Fin 128), w1 (ix2 r d) = G (ix2 ⟨o + r.val, by omega⟩ (col 0 d)))
    (g2 : ∀ (r : Fin H) (d : Fin 128), w2 (ix2 r d) = G (ix2 ⟨o + r.val, by omega⟩ (col 1 d)))
    (g3 : ∀ (r : Fin H) (d : Fin 128), w3 (ix2 r d) = G (ix2 ⟨o + r.val, by omega⟩ (col 2 d)))
    (g4 : ∀ (r : Fin H) (d : Fin 128), w4 (ix2 r d) = G (ix2 ⟨o + r.val, by omega⟩ (col 3 d)))
    (hout : ∀ (r : Fin N) (d : Fin 512), (r.val < o ∨ o + H ≤ r.val) →
      v.read (Elt Ideal) (v.writes (Elt Ideal) f L) (ix2 r d) = G (ix2 r d)) :
    v.read (Elt Ideal) (v.writes (Elt Ideal) f
      ((⟨Rect.unit (s := ⟨2, ![N, 512]⟩) off4 ![H, 128] inb4, w4⟩ : View.Piece (Elt Ideal) ⟨2, ![N, 512]⟩ e)
        :: (⟨Rect.unit (s := ⟨2, ![N, 512]⟩) off3 ![H, 128] inb3, w3⟩ : View.Piece (Elt Ideal) ⟨2, ![N, 512]⟩ e)
        :: (⟨Rect.unit (s := ⟨2, ![N, 512]⟩) off2 ![H, 128] inb2, w2⟩ : View.Piece (Elt Ideal) ⟨2, ![N, 512]⟩ e)
        :: (⟨Rect.unit (s := ⟨2, ![N, 512]⟩) off1 ![H, 128] inb1, w1⟩ : View.Piece (Elt Ideal) ⟨2, ![N, 512]⟩ e) :: L)) = G := by
  funext y
  obtain ⟨r, d, rfl⟩ : ∃ (r : Fin N) (d : Fin 512), y = ix2 r d := ⟨y 0, y 1, eq_ix2 y⟩
  by_cases hr : r.val < o ∨ o + H ≤ r.val
  · refine (rd_out v f _ _ r d e4 (.inl hr)).trans ?_
    refine (rd_out v f _ _ r d e3 (.inl hr)).trans ?_
    refine (rd_out v f _ _ r d e2 (.inl hr)).trans ?_
    exact (rd_out v f _ _ r d e1 (.inl hr)).trans (hout r d hr)
  · have hd := d.isLt
    have hR : r.val - o < H := by omega
    have hrr : (⟨o + (⟨r.val - o, hR⟩ : Fin H).val, by dsimp only; omega⟩ : Fin N) = r := Fin.ext (by dsimp only; omega)
    by_cases h3 : 384 ≤ d.val
    · refine (rd_in v f _ _ r d e4 ⟨r.val - o, hR⟩ ⟨d.val - 384, by omega⟩ (by dsimp only; omega) (by dsimp only; omega)).trans ?_
      rw [g4, hrr]
      exact congrArg (fun z => G (ix2 r z)) (Fin.ext (by show 128 * 3 + (d.val - 384) = d.val; omega))
    refine (rd_out v f _ _ r d e4 (.inr (.inl (by omega)))).trans ?_
    by_cases h2 : 256 ≤ d.val
    · refine (rd_in v f _ _ r d e3 ⟨r.val - o, hR⟩ ⟨d.val - 256, by omega⟩ (by dsimp only; omega) (by dsimp only; omega)).trans ?_
      rw [g3, hrr]
      exact congrArg (fun z => G (ix2 r z)) (Fin.ext (by show 128 * 2 + (d.val - 256) = d.val; omega))
    refine (rd_out v f _ _ r d e3 (.inr (.inl (by omega)))).trans ?_
    by_cases h1 : 128 ≤ d.val
    · refine (rd_in v f _ _ r d e2 ⟨r.val - o, hR⟩ ⟨d.val - 128, by omega⟩ (by dsimp only; omega) (by dsimp only; omega)).trans ?_
      rw [g2, hrr]
      exact congrArg (fun z => G (ix2 r z)) (Fin.ext (by show 128 * 1 + (d.val - 128) = d.val; omega))
    refine (rd_out v f _ _ r d e2 (.inr (.inl (by omega)))).trans ?_
    refine (rd_in v f _ _ r d e1 ⟨r.val - o, hR⟩ ⟨d.val, by omega⟩ (by dsimp only; omega) (by dsimp only; omega)).trans ?_
    rw [g1, hrr]
    exact congrArg (fun z => G (ix2 r z)) (Fin.ext (by show 128 * 0 + d.val = d.val; omega))

end Cols

/-- Two stores of 128 columns side by side over two older ones of the same columns, read back: the newer payloads. -/
theorem read_cols2 {N : ℕ} (v : View sig kd sp ⟨2, ![N, 256]⟩ e) (f : v.ty.Contents (Elt Ideal))
    {inb1 : ∀ a : Fin 2, (![0, 0] : Fin 2 → ℕ) a + (![N, 128] : Fin 2 → ℕ) a ≤ (![N, 256] : Fin 2 → ℕ) a}
    {inb2 : ∀ a : Fin 2, (![0, 128] : Fin 2 → ℕ) a + (![N, 128] : Fin 2 → ℕ) a ≤ (![N, 256] : Fin 2 → ℕ) a}
    (w1 w2 w3 : (⟨2, ![N, 128]⟩ : Shape).Idx → Elt Ideal e) (L : List (View.Piece (Elt Ideal) ⟨2, ![N, 256]⟩ e))
    (G : Vec Ideal ⟨2, ![N, 256]⟩ e)
    (g1 : ∀ (r : Fin N) (d : Fin 128), w1 (ix2 r d) = G (ix2 r (vcol 1 d)))
    (g2 : ∀ (r : Fin N) (d : Fin 128), w2 (ix2 r d) = G (ix2 r (vcol 3 d))) :
    v.read (Elt Ideal) (v.writes (Elt Ideal) f
      ((⟨Rect.unit (s := ⟨2, ![N, 256]⟩) ![0, 128] ![N, 128] inb2, w2⟩ : View.Piece (Elt Ideal) ⟨2, ![N, 256]⟩ e)
        :: (⟨Rect.unit (s := ⟨2, ![N, 256]⟩) ![0, 128] ![N, 128] inb2, w3⟩ : View.Piece (Elt Ideal) ⟨2, ![N, 256]⟩ e)
        :: (⟨Rect.unit (s := ⟨2, ![N, 256]⟩) ![0, 0] ![N, 128] inb1, w1⟩ : View.Piece (Elt Ideal) ⟨2, ![N, 256]⟩ e) :: L)) = G := by
  funext y
  obtain ⟨r, d, rfl⟩ : ∃ (r : Fin N) (d : Fin 256), y = ix2 r d := ⟨y 0, y 1, eq_ix2 y⟩
  have hd := d.isLt
  by_cases h1 : 128 ≤ d.val
  · refine (rd_in v f _ _ r d rfl r ⟨d.val - 128, by omega⟩ (by omega) (by dsimp only; omega)).trans ?_
    rw [g2]
    exact congrArg (fun z => G (ix2 r z)) (Fin.ext (by show 128 * (3 / 2) + (d.val - 128) = d.val; omega))
  · refine (rd_out v f _ _ r d rfl (.inr (.inl (by omega)))).trans ?_
    refine (rd_out v f _ _ r d rfl (.inr (.inl (by omega)))).trans ?_
    refine (rd_in v f _ _ r d rfl r ⟨d.val, by omega⟩ (by omega) (by dsimp only; omega)).trans ?_
    rw [g1]
    exact congrArg (fun z => G (ix2 r z)) (Fin.ext (by show 128 * (1 / 2) + d.val = d.val; omega))

/-! ### The loads the body makes -/

section Loads
variable {N : ℕ} {m : Memref sig kd sp ⟨2, ![N, 512]⟩ e} (h : m.IsWhole) (X : Vec Ideal ⟨2, ![N, 512]⟩ e)
  (r : Fin N) (d : Fin 128)

/-- Columns of the first head. -/
theorem ld4_0 (inb : ∀ a : Fin 2, (![0, 0] : Fin 2 → ℕ) a + (![N, 128] : Fin 2 → ℕ) a ≤ (![N, 512] : Fin 2 → ℕ) a) :
    View.readAt (Elt Ideal) m.view (Rect.unit (s := ⟨2, ![N, 512]⟩) ![0, 0] ![N, 128] inb).toLoadRect (h.unread X) (ix2 r d)
      = X (ix2 r (col 0 d)) := ld_at h X _ rfl inb r d _ _ (Nat.zero_add _).symm (by show 128 * 0 + d.val = _; omega)
/-- Columns of the second head. -/
theorem ld4_1 (inb : ∀ a : Fin 2, (![0, 128] : Fin 2 → ℕ) a + (![N, 128] : Fin 2 → ℕ) a ≤ (![N, 512] : Fin 2 → ℕ) a) :
    View.readAt (Elt Ideal) m.view (Rect.unit (s := ⟨2, ![N, 512]⟩) ![0, 128] ![N, 128] inb).toLoadRect (h.unread X) (ix2 r d)
      = X (ix2 r (col 1 d)) := ld_at h X _ rfl inb r d _ _ (Nat.zero_add _).symm (by show 128 * 1 + d.val = _; omega)
/-- Columns of the third head. -/
theorem ld4_2 (inb : ∀ a : Fin 2, (![0, 256] : Fin 2 → ℕ) a + (![N, 128] : Fin 2 → ℕ) a ≤ (![N, 512] : Fin 2 → ℕ) a) :
    View.readAt (Elt Ideal) m.view (Rect.unit (s := ⟨2, ![N, 512]⟩) ![0, 256] ![N, 128] inb).toLoadRect (h.unread X) (ix2 r d)
      = X (ix2 r (col 2 d)) := ld_at h X _ rfl inb r d _ _ (Nat.zero_add _).symm (by show 128 * 2 + d.val = _; omega)
/-- Columns of the fourth head. -/
theorem ld4_3 (inb : ∀ a : Fin 2, (![0, 384] : Fin 2 → ℕ) a + (![N, 128] : Fin 2 → ℕ) a ≤ (![N, 512] : Fin 2 → ℕ) a) :
    View.readAt (Elt Ideal) m.view (Rect.unit (s := ⟨2, ![N, 512]⟩) ![0, 384] ![N, 128] inb).toLoadRect (h.unread X) (ix2 r d)
      = X (ix2 r (col 3 d)) := ld_at h X _ rfl inb r d _ _ (Nat.zero_add _).symm (by show 128 * 3 + d.val = _; omega)
end Loads

section Loads2
variable {N : ℕ} {m : Memref sig kd sp ⟨2, ![N, 256]⟩ e} (h : m.IsWhole) (X : Vec Ideal ⟨2, ![N, 256]⟩ e)
  (r : Fin N) (d : Fin 128)

/-- Columns of the first pair of heads. -/
theorem ld2_0 (inb : ∀ a : Fin 2, (![0, 0] : Fin 2 → ℕ) a + (![N, 128] : Fin 2 → ℕ) a ≤ (![N, 256] : Fin 2 → ℕ) a) :
    View.readAt (Elt Ideal) m.view (Rect.unit (s := ⟨2, ![N, 256]⟩) ![0, 0] ![N, 128] inb).toLoadRect (h.unread X) (ix2 r d)
      = X (ix2 r (vcol 0 d)) := ld_at h X _ rfl inb r d _ _ (Nat.zero_add _).symm (by show 128 * (0 / 2) + d.val = _; omega)
/-- Columns of the second pair of heads. -/
theorem ld2_1 (inb : ∀ a : Fin 2, (![0, 128] : Fin 2 → ℕ) a + (![N, 128] : Fin 2 → ℕ) a ≤ (![N, 256] : Fin 2 → ℕ) a) :
    View.readAt (Elt Ideal) m.view (Rect.unit (s := ⟨2, ![N, 256]⟩) ![0, 128] ![N, 128] inb).toLoadRect (h.unread X) (ix2 r d)
      = X (ix2 r (vcol 2 d)) := ld_at h X _ rfl inb r d _ _ (Nat.zero_add _).symm (by show 128 * (2 / 2) + d.val = _; omega)
end Loads2

end Cert.Kernel3Ideal.Mla

end
-- ==== Proof.MlaTerms.lean ====
module

public import proofs.«01_k».proof.Proof.MlaHost
public import proofs.«01_k».proof.Proof.MlaPay

@[expose] public section

set_option maxRecDepth 16384

noncomputable section

namespace Cert.Kernel3Ideal.Mla

open Idealize.ShloMosaic Idealize.ShloMosaic.ValueKit Idealize.ShloMosaic.TcCoe
open Cert.Kernel3Ideal Cert.Kernel3Ideal.Gen Cert.MlaMath
open Cert.Reference3Ideal.Mla (S DP M Z cst)

variable (m : (ℓ : Loc nD τ sig) → Buf (Elt Ideal) ℓ) (c : Dev nD)

/-- The index map of every window. -/
theorem idx : ∀ t : Fin cfg0.N, win0_0.index t = ![t.val % 16, t.val / 64] ∧ win0_1.index t = ![t.val / 16 % 4, t.val / 64]
    ∧ win0_2.index t = ![t.val / 16 % 4, 4 + t.val / 64] ∧ win0_3.index t = ![t.val % 16, t.val / 64]
    ∧ win0_4.index t = ![t.val % 16, t.val / 64] ∧ win0_5.index t = ![t.val % 16, t.val / 64]
    ∧ win0_6.index t = ![0, t.val / 64] ∧ win0_7.index t = ![t.val / 16 % 4, t.val / 64] ∧ win0_8.index t = ![t.val / 16 % 4, t.val / 64] :=
  (by decide +kernel : ∀ t : Fin grid0.N, _)

/-! ## The blocks -/

/-- The queries' block. -/
theorem blk0 (t : Fin cfg0.N) (r x : Fin 512) (R : Fin 8192) (X : Fin 1024) (hR : R.val = 512 * (t.val % 16) + r.val) (hX : X.val = 512 * (t.val / 64) + x.val) :
    iblk m c 0 t (ix2 r x) = qryA (argQ m c) (ix2 R X) := by
  rw [← V_qry]
  blk_ext [iblk, idx t]

/-- The keys' block. -/
theorem blk1 (t : Fin cfg0.N) (r : Fin 2048) (x : Fin 512) (R : Fin 8192) (X : Fin 1024) (hR : R.val = 2048 * (t.val / 16 % 4) + r.val) (hX : X.val = 512 * (t.val / 64) + x.val) :
    iblk m c 1 t (ix2 r x) = keyA (argK m c) (ix2 R X) := by
  rw [← V_key]
  blk_ext [iblk, idx t]

/-- The values' block. -/
theorem blk2 (t : Fin cfg0.N) (r : Fin 2048) (x : Fin 256) (R : Fin 8192) (X : Fin 1536) (hR : R.val = 2048 * (t.val / 16 % 4) + r.val) (hX : X.val = 1024 + 256 * (t.val / 64) + x.val) :
    iblk m c 2 t (ix2 r x) = kvA (argK m c) (argV m c) (ix2 R X) := by
  rw [← V_kv]
  blk_ext [iblk, idx t]

/-- The cotangents' block. -/
theorem blk3 (t : Fin cfg0.N) (r : Fin 512) (x : Fin 256) (R : Fin 8192) (X : Fin 512) (hR : R.val = 512 * (t.val % 16) + r.val) (hX : X.val = 256 * (t.val / 64) + x.val) :
    iblk m c 3 t (ix2 r x) = argD m c (ix2 R X) := by
  rw [← show Gen.V m c main_arg3 = argD m c from V_main_arg3 m c]
  blk_ext [iblk, idx t]

/-- The log-sums' block. -/
theorem blk4 (t : Fin cfg0.N) (r x : Fin 512) (R : Fin 8192) (X : Fin 1024) (hR : R.val = 512 * (t.val % 16) + r.val) (hX : X.val = 512 * (t.val / 64) + x.val) :
    iblk m c 4 t (ix2 r x) = lseA (argQ m c) (argK m c) (ix2 R X) := by
  rw [← V_lse]
  blk_ext [iblk, idx t]

/-- The outputs' block. -/
theorem blk5 (t : Fin cfg0.N) (r : Fin 512) (x : Fin 256) (R : Fin 8192) (X : Fin 512) (hR : R.val = 512 * (t.val % 16) + r.val) (hX : X.val = 256 * (t.val / 64) + x.val) :
    iblk m c 5 t (ix2 r x) = outA (argQ m c) (argK m c) (argV m c) (ix2 R X) := by
  rw [← V_out]
  blk_ext [iblk, idx t]

/-! ## One grid point's terms at real arguments -/

section Values

variable (q k : Fin 8192 → Fin 8 → Fin 96 → ℝ) (v g : Fin 8192 → Fin 8 → Fin 64 → ℝ)
  (hQ : ∀ i h d, argQ m c (ix3 i h d) = ((q i h d : ℝ) : EReal)) (hK : ∀ i h d, argK m c (ix3 i h d) = ((k i h d : ℝ) : EReal))
  (hV : ∀ i h d, argV m c (ix3 i h d) = ((v i h d : ℝ) : EReal))
  (hD : ∀ i (h : Fin 8) (l : Fin 64), argD m c (ix2 i (oc h l)) = ((g i h l : ℝ) : EReal))
  (t : Fin cfg0.N)

/-- The head of a point's local head. -/
def hdG (h : Fin 4) : Fin 8 := ⟨4 * (t.val / 64) + h.val, by have ht : t.val < 128 := Nat.lt_of_lt_of_eq t.isLt N_0; omega⟩
/-- The query row of a point's local row. -/
def rowG (r : Fin 512) : Fin 8192 := ⟨512 * (t.val % 16) + r.val, by omega⟩
/-- The key row of a point's local row. -/
def keyG (j : Fin 2048) : Fin 8192 := ⟨2048 * (t.val / 16 % 4) + j.val, by omega⟩

include hQ in
/-- A query of the block. -/
theorem x0_at (h : Fin 4) (r : Fin 512) (d : Fin 128) :
    iblk m c 0 t (ix2 r (col h d)) = (((if hd : d.val < 96 then q (rowG t r) (hdG t h) ⟨d.val, hd⟩ * cst / Real.log 2 else 0) : ℝ) : EReal) := by
  have ht : t.val < 128 := Nat.lt_of_lt_of_eq t.isLt N_0
  rw [blk0 m c t r (col h d) (rowG t r) ⟨512 * (t.val / 64) + (128 * h.val + d.val), by omega⟩ rfl rfl]
  exact qryA_at _ q hQ _ (hdG t h) d _ (by show 512 * (t.val / 64) + (128 * h.val + d.val) = 128 * (4 * (t.val / 64) + h.val) + d.val; omega)

include hK in
/-- A key of the block. -/
theorem x1_at (h : Fin 4) (j : Fin 2048) (d : Fin 128) :
    iblk m c 1 t (ix2 j (col h d)) = (((if hd : d.val < 96 then k (keyG t j) (hdG t h) ⟨d.val, hd⟩ else 0) : ℝ) : EReal) := by
  have ht : t.val < 128 := Nat.lt_of_lt_of_eq t.isLt N_0
  rw [blk1 m c t j (col h d) (keyG t j) ⟨512 * (t.val / 64) + (128 * h.val + d.val), by omega⟩ rfl rfl]
  exact keyA_at _ k hK _ (hdG t h) d _ (by show 512 * (t.val / 64) + (128 * h.val + d.val) = 128 * (4 * (t.val / 64) + h.val) + d.val; omega)

include hV in
/-- A value of the block. -/
theorem x2_at (h : Fin 4) (j : Fin 2048) (l : Fin 64) :
    iblk m c 2 t (ix2 j (vcol h (lane h l))) = ((v (keyG t j) (hdG t h) l : ℝ) : EReal) := by
  have ht : t.val < 128 := Nat.lt_of_lt_of_eq t.isLt N_0
  rw [blk2 m c t j (vcol h (lane h l)) (keyG t j) ⟨1024 + 256 * (t.val / 64) + (128 * (h.val / 2) + (64 * (h.val % 2) + l.val)), by omega⟩ rfl rfl]
  exact kvA_at _ _ v hV _ (hdG t h) l _ (by show 1024 + 256 * (t.val / 64) + (128 * (h.val / 2) + (64 * (h.val % 2) + l.val)) = 1024 + (64 * (4 * (t.val / 64) + h.val) + l.val); omega)

include hD in
/-- A cotangent of the block. -/
theorem x3_at (h : Fin 4) (r : Fin 512) (l : Fin 64) :
    iblk m c 3 t (ix2 r (vcol h (lane h l))) = ((g (rowG t r) (hdG t h) l : ℝ) : EReal) := by
  rw [← hD]
  exact blk3 m c t r _ _ _ rfl (by show 64 * (4 * (t.val / 64) + h.val) + l.val = 256 * (t.val / 64) + (128 * (h.val / 2) + (64 * (h.val % 2) + l.val)); omega)

include hQ hK in
/-- A log-sum of the block. -/
theorem x4_at (h : Fin 4) (r : Fin 512) :
    iblk m c 4 t (ix2 r (col h 0)) = (((M (argQ m c) (argK m c) (hdG t h) (rowG t r) + Real.log (Z (argQ m c) (argK m c) q k (hdG t h) (rowG t r))) / Real.log 2 : ℝ) : EReal) := by
  have ht : t.val < 128 := Nat.lt_of_lt_of_eq t.isLt N_0
  rw [blk4 m c t r (col h 0) (rowG t r) ⟨512 * (t.val / 64) + (128 * h.val + (0 : Fin 128).val), by show 512 * (t.val / 64) + (128 * h.val + 0) < 1024; omega⟩ rfl rfl]
  exact lseA_at _ _ q k hQ hK _ (hdG t h) 0 _ (by show 512 * (t.val / 64) + (128 * h.val + 0) = 128 * (4 * (t.val / 64) + h.val) + 0; omega)

include hQ hK hV in
/-- An output of the block. -/
theorem x5_at (h : Fin 4) (r : Fin 512) (l : Fin 64) :
    iblk m c 5 t (ix2 r (vcol h (lane h l))) = ((∑ j, soft (S q k (hdG t h) (rowG t r)) j * v j (hdG t h) l : ℝ) : EReal) := by
  have ht : t.val < 128 := Nat.lt_of_lt_of_eq t.isLt N_0
  rw [blk5 m c t r (vcol h (lane h l)) (rowG t r) ⟨256 * (t.val / 64) + (128 * (h.val / 2) + (64 * (h.val % 2) + l.val)), by omega⟩ rfl rfl]
  exact outA_at _ _ _ q k v hQ hK hV _ (hdG t h) l _ (by show 256 * (t.val / 64) + (128 * (h.val / 2) + (64 * (h.val % 2) + l.val)) = 64 * (4 * (t.val / 64) + h.val) + l.val; omega)

/-- The named constant is the logarithm of two. -/
theorem lg2_eq : lg2 = ((Real.log 2 : ℝ) : EReal) := IdealRules.named_const.ideal_named_scalar _ _ _ _ rfl

include hQ hK in
/-- The probability is the weight. -/
theorem prob_at (h : Fin 4) (r : Fin 512) (j : Fin 2048) :
    prob (iblk m c 0 t) (iblk m c 1 t) (iblk m c 4 t) h r j = ((soft (S q k (hdG t h) (rowG t r)) (keyG t j) : ℝ) : EReal) := by
  unfold prob
  simp only [x0_at m c q hQ t, x1_at m c k hK t, x4_at m c q k hQ hK t, ← EReal.coe_mul, coe_sum, ← EReal.coe_sub, Ideal.exp2_coe]
  congr 1
  rw [sum_padded (fun d => q (rowG t r) (hdG t h) d * cst / Real.log 2) (fun d => k (keyG t j) (hdG t h) d)]
  rw [← soft_of_exp2 (S q k (hdG t h) (rowG t r)) (M (argQ m c) (argK m c) (hdG t h) (rowG t r)) (keyG t j)]
  congr 2
  unfold S
  rw [Finset.sum_mul, Finset.sum_div]
  refine Finset.sum_congr rfl fun d _ => ?_
  ring

include hQ hK hV hD in
/-- The score's gradient. -/
theorem slope_at (h : Fin 4) (r : Fin 512) (j : Fin 2048) :
    slope (iblk m c 0 t) (iblk m c 1 t) (iblk m c 2 t) (iblk m c 3 t) (iblk m c 4 t) (iblk m c 5 t) h r j
      = ((slopeR (S q k (hdG t h) (rowG t r)) (DP v g (hdG t h) (rowG t r)) (keyG t j) * Real.log 2 : ℝ) : EReal) := by
  unfold slope
  rw [prob_at m c q k hQ hK t, sum_masked h, sum_masked h, lg2_eq]
  simp only [x2_at m c v hV t, x3_at m c g hD t, x5_at m c q k v hQ hK hV t, ← EReal.coe_mul, coe_sum, ← EReal.coe_sub]
  have e : ∑ l : Fin 64, g (rowG t r) (hdG t h) l * ∑ i, soft (S q k (hdG t h) (rowG t r)) i * v i (hdG t h) l
      = ∑ i, soft (S q k (hdG t h) (rowG t r)) i * DP v g (hdG t h) (rowG t r) i := by
    unfold DP
    simp only [Finset.mul_sum]
    rw [Finset.sum_comm]
    refine Finset.sum_congr rfl fun i _ => Finset.sum_congr rfl fun l _ => ?_
    ring
  rw [e]
  rfl

include hQ hK hV hD in
/-- What a block of keys adds to the gradient of the queries. -/
theorem dqTerm_at (h : Fin 4) (r : Fin 512) (d : Fin 128) (hd : d.val < 96) :
    dqTerm (iblk m c 0 t) (iblk m c 1 t) (iblk m c 2 t) (iblk m c 3 t) (iblk m c 4 t) (iblk m c 5 t) h r d
      = ((∑ j : Fin 2048, slopeR (S q k (hdG t h) (rowG t r)) (DP v g (hdG t h) (rowG t r)) (keyG t j) * Real.log 2 * k (keyG t j) (hdG t h) ⟨d.val, hd⟩ : ℝ) : EReal) := by
  unfold dqTerm
  simp only [slope_at m c q k v g hQ hK hV hD t, x1_at m c k hK t, dif_pos hd, ← EReal.coe_mul, coe_sum]

include hQ hK hV hD in
/-- What a block of queries adds to the gradient of the keys. -/
theorem dkTerm_at (h : Fin 4) (j : Fin 2048) (d : Fin 128) (hd : d.val < 96) :
    dkTerm (iblk m c 0 t) (iblk m c 1 t) (iblk m c 2 t) (iblk m c 3 t) (iblk m c 4 t) (iblk m c 5 t) h j d
      = ((∑ r : Fin 512, slopeR (S q k (hdG t h) (rowG t r)) (DP v g (hdG t h) (rowG t r)) (keyG t j) * cst * q (rowG t r) (hdG t h) ⟨d.val, hd⟩ : ℝ) : EReal) := by
  unfold dkTerm
  simp only [slope_at m c q k v g hQ hK hV hD t, x0_at m c q hQ t, dif_pos hd, ← EReal.coe_mul, coe_sum]
  congr 1
  refine Finset.sum_congr rfl fun r _ => ?_
  have := log2_ne
  field_simp

include hQ hK hD in
/-- What a block of queries adds to the gradient of a head's own values. -/
theorem dvTerm_own (h : Fin 4) (j : Fin 2048) (l : Fin 64) :
    dvTerm (iblk m c 0 t) (iblk m c 1 t) (iblk m c 3 t) (iblk m c 4 t) h j (lane h l)
      = ((∑ r : Fin 512, g (rowG t r) (hdG t h) l * soft (S q k (hdG t h) (rowG t r)) (keyG t j) : ℝ) : EReal) := by
  unfold dvTerm
  have e : (lane h l).val / 64 = h.val % 2 := by show (64 * (h.val % 2) + l.val) / 64 = h.val % 2; omega
  simp only [if_pos e, prob_at m c q k hQ hK t, x3_at m c g hD t, ← EReal.coe_mul, coe_sum]
  congr 1
  exact Finset.sum_congr rfl fun r _ => mul_comm _ _

/-- A head adds nothing to the values of the other head of its pair. -/
theorem dvTerm_other (h : Fin 4) (j : Fin 2048) (l : Fin 128) (hl : l.val / 64 ≠ h.val % 2) :
    dvTerm (iblk m c 0 t) (iblk m c 1 t) (iblk m c 3 t) (iblk m c 4 t) h j l = 0 := by
  unfold dvTerm
  simp only [if_neg hl, Finset.sum_const_zero]

end Values

end Cert.Kernel3Ideal.Mla

end
-- ==== Proof.MlaOff.lean ====
module

public import proofs.«01_k».proof.Proof.MlaPay

@[expose] public section

set_option maxRecDepth 16384

noncomputable section

namespace Cert.Kernel3Ideal.Mla

open Idealize.ShloMosaic Idealize.ShloMosaic.ValueKit
open Cert.Kernel3Ideal.Gen

/-- The rows and columns of the query gradient that head 0 of a grid point lies in. -/
theorem off1_eq (i : grid0.Coords) : k0_off1 i = ![512 * (i 2).val, 0] := by
  have h : ∀ n : Fin 16, (BitVec.ofNat 32 n.val * 512#32).toNat = 512 * n.val := by decide +kernel
  exact congrArg (fun x => ![x, 0]) (h (i 2))

/-- The rows and columns of the query gradient that head 1 of a grid point lies in. -/
theorem off2_eq (i : grid0.Coords) : k0_off2 i = ![512 * (i 2).val, 128] := by
  have h : ∀ n : Fin 16, (BitVec.ofNat 32 n.val * 512#32).toNat = 512 * n.val := by decide +kernel
  exact congrArg (fun x => ![x, 128]) (h (i 2))

/-- The rows and columns of the query gradient that head 2 of a grid point lies in. -/
theorem off3_eq (i : grid0.Coords) : k0_off3 i = ![512 * (i 2).val, 256] := by
  have h : ∀ n : Fin 16, (BitVec.ofNat 32 n.val * 512#32).toNat = 512 * n.val := by decide +kernel
  exact congrArg (fun x => ![x, 256]) (h (i 2))

/-- The rows and columns of the query gradient that head 3 of a grid point lies in. -/
theorem off4_eq (i : grid0.Coords) : k0_off4 i = ![512 * (i 2).val, 384] := by
  have h : ∀ n : Fin 16, (BitVec.ofNat 32 n.val * 512#32).toNat = 512 * n.val := by decide +kernel
  exact congrArg (fun x => ![x, 384]) (h (i 2))

end Cert.Kernel3Ideal.Mla

end
-- ==== Proof.MlaCond.lean ====
module

public import proofs.«01_k».proof.Proof.Gen.Kernel3Ideal.Frame
public import proofs.«01_k».proof.Proof.Gen.Kernel3Ideal.Skeleton

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

/-- The point is the first of its pair of heads: the query gradient's block is cleared. -/
abbrev zq (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- The point is the first of its block of keys: the two running sums over the queries are cleared. -/
abbrev zk (i : grid0.Coords) : Prop := (Scalar.cmpi .ne (Scalar.extui (Scalar.cmpi .eq (BitVec.ofNat 32 (i 2).val) 0#32)) 0#32) = 1#1
/-- The point is the last of its block of keys: the two running sums are written out. -/
abbrev wk (i : grid0.Coords) : Prop := k0_cond3 i = 1#1

end Cert.Kernel3Ideal.Mla

end
-- ==== Proof.MlaRunA.lean ====
module

public import proofs.«01_k».proof.Proof.MlaCond

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

set_option maxHeartbeats 1000000 in
/-- The body at the first point of a pair of heads. Every buffer is named; the lists are the stores the body makes into the buffers it writes, newest first. -/
noncomputable def runA (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole) (hc0 : zq i) (hc1 : zk i) (hc2 : ¬wk i)
    (x0 : Vec F S512x512 .bf16) (x1 : Vec F S2048x512 .bf16) (x2 : Vec F S2048x256 .bf16) (x3 : Vec F S512x256 .bf16) (x4 : Vec F S512x512 .f32) (x5 : Vec F S512x256 .bf16) (y7 : Vec F S2048x512 .bf16) (y8 : Vec F S2048x256 .bf16) :
    Σ' (L6 : List (View.Piece (Elt F) S8192x512 .f32)), Σ' (LS0 : List (View.Piece (Elt F) S2048x512 .f32)), { LS1 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare y7 ∗ owns (c : Thread nD τ) arg11 fullShare y8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, (arg9.view.loc (c : Thread nD τ) ↦[arg9.view.set]{fullShare} arg9.view.writes (Elt F) f L6)) ∗ owns (c : Thread nD τ) arg10 fullShare y7 ∗ owns (c : Thread nD τ) arg11 fullShare y8 ∗ (∃ f, (arg12.view.loc (c : Thread nD τ) ↦[arg12.view.set]{fullShare} arg12.view.writes (Elt F) f LS0)) ∗ (∃ f, (arg13.view.loc (c : Thread nD τ) ↦[arg13.view.set]{fullShare} arg13.view.writes (Elt F) f LS1))) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_bwd_eq_skeleton]; unfold cc0_mla_bwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.Kernel3Ideal.Mla

end
-- ==== Proof.MlaValA.lean ====
module

public import proofs.«01_k».proof.Proof.MlaOff
public import proofs.«01_k».proof.Proof.MlaRunA

@[expose] public section

set_option maxRecDepth 16384

noncomputable section

namespace Cert.Kernel3Ideal.Mla

open Idealize.ShloMosaic Idealize.ShloMosaic.ValueKit
open Cert.Kernel3Ideal.Gen

variable (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole)
  (x0 : Vec Ideal S512x512 .bf16) (x1 : Vec Ideal S2048x512 .bf16) (x2 : Vec Ideal S2048x256 .bf16) (x3 : Vec Ideal S512x256 .bf16) (x4 : Vec Ideal S512x512 .f32) (x5 : Vec Ideal S512x256 .bf16) (y6 : Vec Ideal S8192x512 .f32) (y7 : Vec Ideal S2048x512 .bf16) (y8 : Vec Ideal S2048x256 .bf16) (z0 : Vec Ideal S2048x512 .f32) (z1 : Vec Ideal S2048x256 .f32)

set_option maxHeartbeats 4000000 in
/-- What the query gradient holds after the body, in this case. -/
theorem runA_dq (hc0 : zq i) (hc1 : zk i) (hc2 : ¬wk i) (f : arg9.view.ty.Contents (Elt Ideal)):
    arg9.view.read (Elt Ideal) (arg9.view.writes (Elt Ideal) f (runA c i arg3 harg3 arg4 harg4 arg5 harg5 arg6 harg6 arg7 harg7 arg8 harg8 arg9 harg9 arg10 harg10 arg11 harg11 arg12 harg12 arg13 harg13 hc0 hc1 hc2 x0 x1 x2 x3 x4 x5 y7 y8).1)
      = addRows (512 * (i 2).val) zeros (dqTerm x0 x1 x2 x3 x4 x5) := by
  frame_open
  refine read_cols4 arg9.view f (512 * (i 2).val) _ _ _ _ _ (off1_eq i) (off2_eq i) (off3_eq i) (off4_eq i) _ (by have h16 : (i 2).val < 16 := (i 2).isLt; omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ (off1_eq i) r d ⟨512 * (i 2).val + r.val, by have := (i 2).isLt; have := r.isLt; have h16 : (i 2).val < 16 := (i 2).isLt; omega⟩ (col 0 d) rfl rfl).trans ?_
      exact rd_in _ _ _ _ _ _ rfl ⟨512 * (i 2).val + r.val, by have := (i 2).isLt; have := r.isLt; have h16 : (i 2).val < 16 := (i 2).isLt; omega⟩ (col 0 d) (Nat.zero_add _).symm (Nat.zero_add _).symm
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ (off2_eq i) r d ⟨512 * (i 2).val + r.val, by have := (i 2).isLt; have := r.isLt; have h16 : (i 2).val < 16 := (i 2).isLt; omega⟩ (col 1 d) rfl rfl).trans ?_
      refine (rd_out _ _ _ _ _ _ (off1_eq i) (.inr (.inr (by show 0 + 128 ≤ 128 * 1 + d.val; omega)))).trans ?_
      exact rd_in _ _ _ _ _ _ rfl ⟨512 * (i 2).val + r.val, by have := (i 2).isLt; have := r.isLt; have h16 : (i 2).val < 16 := (i 2).isLt; omega⟩ (col 1 d) (Nat.zero_add _).symm (Nat.zero_add _).symm
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ (off3_eq i) r d ⟨512 * (i 2).val + r.val, by have := (i 2).isLt; have := r.isLt; have h16 : (i 2).val < 16 := (i 2).isLt; omega⟩ (col 2 d) rfl rfl).trans ?_
      refine (rd_out _ _ _ _ _ _ (off2_eq i) (.inr (.inr (by show 128 + 128 ≤ 128 * 2 + d.val; omega)))).trans ?_
      refine (rd_out _ _ _ _ _ _ (off1_eq i) (.inr (.inr (by show 0 + 128 ≤ 128 * 2 + d.val; omega)))).trans ?_
      exact rd_in _ _ _ _ _ _ rfl ⟨512 * (i 2).val + r.val, by have := (i 2).isLt; have := r.isLt; have h16 : (i 2).val < 16 := (i 2).isLt; omega⟩ (col 2 d) (Nat.zero_add _).symm (Nat.zero_add _).symm
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ (off4_eq i) r d ⟨512 * (i 2).val + r.val, by have := (i 2).isLt; have := r.isLt; have h16 : (i 2).val < 16 := (i 2).isLt; omega⟩ (col 3 d) rfl rfl).trans ?_
      refine (rd_out _ _ _ _ _ _ (off3_eq i) (.inr (.inr (by show 256 + 128 ≤ 128 * 3 + d.val; omega)))).trans ?_
      refine (rd_out _ _ _ _ _ _ (off2_eq i) (.inr (.inr (by show 128 + 128 ≤ 128 * 3 + d.val; omega)))).trans ?_
      refine (rd_out _ _ _ _ _ _ (off1_eq i) (.inr (.inr (by show 0 + 128 ≤ 128 * 3 + d.val; omega)))).trans ?_
      exact rd_in _ _ _ _ _ _ rfl ⟨512 * (i 2).val + r.val, by have := (i 2).isLt; have := r.isLt; have h16 : (i 2).val < 16 := (i 2).isLt; omega⟩ (col 3 d) (Nat.zero_add _).symm (Nat.zero_add _).symm
    · unfold dqTerm slope prob lg2
      refine Finset.sum_congr rfl fun j _ => ?_
      simp only [ld4_0, ld4_1, ld4_2, ld4_3, ld2_0, ld2_1, mask_even, mask_odd]
      rfl
  · rw [addRows_out _ _ _ _ _ h]
    refine (rd_in _ _ _ _ _ _ rfl r d (Nat.zero_add _).symm (Nat.zero_add _).symm).trans ?_
    pointwise [zeros]

set_option maxHeartbeats 4000000 in
/-- What the running sum of the key gradient holds after the body, in this case. -/
theorem runA_dk (hc0 : zq i) (hc1 : zk i) (hc2 : ¬wk i) (f : arg12.view.ty.Contents (Elt Ideal)):
    arg12.view.read (Elt Ideal) (arg12.view.writes (Elt Ideal) f (runA c i arg3 harg3 arg4 harg4 arg5 harg5 arg6 harg6 arg7 harg7 arg8 harg8 arg9 harg9 arg10 harg10 arg11 harg11 arg12 harg12 arg13 harg13 hc0 hc1 hc2 x0 x1 x2 x3 x4 x5 y7 y8).2.1)
      = addRows 0 zeros (dkTerm x0 x1 x2 x3 x4 x5) := by
  frame_open
  refine read_cols4 arg12.view f 0 _ _ _ _ _ rfl rfl rfl rfl _ (by omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 0 d) (Nat.zero_add _).symm rfl).trans ?_
      exact rd_in _ _ _ _ _ _ rfl r (col 0 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 1 d) (Nat.zero_add _).symm rfl).trans ?_
      refine (rd_out _ _ _ _ _ _ rfl (.inr (.inr (by show 0 + 128 ≤ 128 * 1 + d.val; omega)))).trans ?_
      exact rd_in _ _ _ _ _ _ rfl r (col 1 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 2 d) (Nat.zero_add _).symm rfl).trans ?_
      refine (rd_out _ _ _ _ _ _ rfl (.inr (.inr (by show 128 + 128 ≤ 128 * 2 + d.val; omega)))).trans ?_
      refine (rd_out _ _ _ _ _ _ rfl (.inr (.inr (by show 0 + 128 ≤ 128 * 2 + d.val; omega)))).trans ?_
      exact rd_in _ _ _ _ _ _ rfl r (col 2 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 3 d) (Nat.zero_add _).symm rfl).trans ?_
      refine (rd_out _ _ _ _ _ _ rfl (.inr (.inr (by show 256 + 128 ≤ 128 * 3 + d.val; omega)))).trans ?_
      refine (rd_out _ _ _ _ _ _ rfl (.inr (.inr (by show 128 + 128 ≤ 128 * 3 + d.val; omega)))).trans ?_
      refine (rd_out _ _ _ _ _ _ rfl (.inr (.inr (by show 0 + 128 ≤ 128 * 3 + d.val; omega)))).trans ?_
      exact rd_in _ _ _ _ _ _ rfl r (col 3 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · exact absurd h (by have := r.isLt; omega)

set_option maxHeartbeats 4000000 in
/-- What the running sum of the value gradient holds after the body, in this case. -/
theorem runA_dv (hc0 : zq i) (hc1 : zk i) (hc2 : ¬wk i) (f : arg13.view.ty.Contents (Elt Ideal)):
    arg13.view.read (Elt Ideal) (arg13.view.writes (Elt Ideal) f (runA c i arg3 harg3 arg4 harg4 arg5 harg5 arg6 harg6 arg7 harg7 arg8 harg8 arg9 harg9 arg10 harg10 arg11 harg11 arg12 harg12 arg13 harg13 hc0 hc1 hc2 x0 x1 x2 x3 x4 x5 y7 y8).2.2.1)
      = addPair zeros (dvTerm x0 x1 x3 x4) := by
  frame_open
  refine read_cols2 arg13.view f _ _ _ _ _ (fun r d => ?_) (fun r d => ?_)
  · rw [addPair_lo]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 0 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · refine (cov_at _ _ rfl r d r (vcol 0 d) (Nat.zero_add _).symm rfl).trans ?_
        exact rd_in _ _ _ _ _ _ rfl r (vcol 0 d) (Nat.zero_add _).symm (Nat.zero_add _).symm
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl
  · rw [addPair_hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 2 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · refine (cov_at _ _ rfl r d r (vcol 2 d) (Nat.zero_add _).symm rfl).trans ?_
        refine (rd_out _ _ _ _ _ _ rfl (.inr (.inr (by show 0 + 128 ≤ 128 * (2 / 2) + d.val; omega)))).trans ?_
        refine (rd_out _ _ _ _ _ _ rfl (.inr (.inr (by show 0 + 128 ≤ 128 * (2 / 2) + d.val; omega)))).trans ?_
        exact rd_in _ _ _ _ _ _ rfl r (vcol 2 d) (Nat.zero_add _).symm (Nat.zero_add _).symm
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl

end Cert.Kernel3Ideal.Mla

end
-- ==== Proof.MlaRunB.lean ====
module

public import proofs.«01_k».proof.Proof.MlaCond

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

set_option maxHeartbeats 1000000 in
/-- The body at a point in the middle of a block of keys. Every buffer is named; the lists are the stores the body makes into the buffers it writes, newest first. -/
noncomputable def runB (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole) (hc0 : ¬zq i) (hc1 : ¬zk i) (hc2 : ¬wk i)
    (x0 : Vec F S512x512 .bf16) (x1 : Vec F S2048x512 .bf16) (x2 : Vec F S2048x256 .bf16) (x3 : Vec F S512x256 .bf16) (x4 : Vec F S512x512 .f32) (x5 : Vec F S512x256 .bf16) (y6 : Vec F S8192x512 .f32) (y7 : Vec F S2048x512 .bf16) (y8 : Vec F S2048x256 .bf16) (z0 : Vec F S2048x512 .f32) (z1 : Vec F S2048x256 .f32) :
    Σ' (L6 : List (View.Piece (Elt F) S8192x512 .f32)), Σ' (LS0 : List (View.Piece (Elt F) S2048x512 .f32)), { LS1 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ owns (c : Thread nD τ) arg12 fullShare z0 ∗ owns (c : Thread nD τ) arg13 fullShare z1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread y6) L6) ∗ owns (c : Thread nD τ) arg10 fullShare y7 ∗ owns (c : Thread nD τ) arg11 fullShare y8 ∗ (arg12.view.loc (c : Thread nD τ) ↦[arg12.view.set]{fullShare} arg12.view.writes (Elt F) (harg12.unread z0) LS0) ∗ (arg13.view.loc (c : Thread nD τ) ↦[arg13.view.set]{fullShare} arg13.view.writes (Elt F) (harg13.unread z1) LS1)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_bwd_eq_skeleton]; unfold cc0_mla_bwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]
    · iexists _; isplitr; · ipureintro; exact harg10.read_unread _
      iexact H7
    isplitl [H8]
    · iexists _; isplitr; · ipureintro; exact harg11.read_unread _
      iexact H8
    isplitl [H9]; · iexact H9
    iexact H10

end Cert.Kernel3Ideal.Mla

end
-- ==== Proof.MlaValB.lean ====
module

public import proofs.«01_k».proof.Proof.MlaOff
public import proofs.«01_k».proof.Proof.MlaRunB

@[expose] public section

set_option maxRecDepth 16384

noncomputable section

namespace Cert.Kernel3Ideal.Mla

open Idealize.ShloMosaic Idealize.ShloMosaic.ValueKit
open Cert.Kernel3Ideal.Gen

variable (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole)
  (x0 : Vec Ideal S512x512 .bf16) (x1 : Vec Ideal S2048x512 .bf16) (x2 : Vec Ideal S2048x256 .bf16) (x3 : Vec Ideal S512x256 .bf16) (x4 : Vec Ideal S512x512 .f32) (x5 : Vec Ideal S512x256 .bf16) (y6 : Vec Ideal S8192x512 .f32) (y7 : Vec Ideal S2048x512 .bf16) (y8 : Vec Ideal S2048x256 .bf16) (z0 : Vec Ideal S2048x512 .f32) (z1 : Vec Ideal S2048x256 .f32)

set_option maxHeartbeats 4000000 in
/-- What the query gradient holds after the body, in this case. -/
theorem runB_dq (hc0 : ¬zq i) (hc1 : ¬zk i) (hc2 : ¬wk i) :
    arg9.view.read (Elt Ideal) (arg9.view.writes (Elt Ideal) (harg9.unread y6) (runB c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8 z0 z1).1)
      = addRows (512 * (i 2).val) y6 (dqTerm x0 x1 x2 x3 x4 x5) := by
  frame_open
  refine read_cols4 arg9.view (harg9.unread y6) (512 * (i 2).val) _ _ _ _ _ (off1_eq i) (off2_eq i) (off3_eq i) (off4_eq i) _ (by have h16 : (i 2).val < 16 := (i 2).isLt; omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off1_eq i) _ r d ⟨512 * (i 2).val + r.val, by have := (i 2).isLt; have := r.isLt; have h16 : (i 2).val < 16 := (i 2).isLt; omega⟩ (col 0 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off2_eq i) _ r d ⟨512 * (i 2).val + r.val, by have := (i 2).isLt; have := r.isLt; have h16 : (i 2).val < 16 := (i 2).isLt; omega⟩ (col 1 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off3_eq i) _ r d ⟨512 * (i 2).val + r.val, by have := (i 2).isLt; have := r.isLt; have h16 : (i 2).val < 16 := (i 2).isLt; omega⟩ (col 2 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off4_eq i) _ r d ⟨512 * (i 2).val + r.val, by have := (i 2).isLt; have := r.isLt; have h16 : (i 2).val < 16 := (i 2).isLt; omega⟩ (col 3 d) rfl rfl
    · unfold dqTerm slope prob lg2
      refine Finset.sum_congr rfl fun j _ => ?_
      simp only [ld4_0, ld4_1, ld4_2, ld4_3, ld2_0, ld2_1, mask_even, mask_odd]
      rfl
  · rw [addRows_out _ _ _ _ _ h]
    exact congrFun (harg9.read_unread _) _

set_option maxHeartbeats 4000000 in
/-- What the running sum of the key gradient holds after the body, in this case. -/
theorem runB_dk (hc0 : ¬zq i) (hc1 : ¬zk i) (hc2 : ¬wk i) (f : arg12.view.ty.Contents (Elt Ideal)):
    arg12.view.read (Elt Ideal) (arg12.view.writes (Elt Ideal) f (runB c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8 z0 z1).2.1)
      = addRows 0 z0 (dkTerm x0 x1 x2 x3 x4 x5) := by
  frame_open
  refine read_cols4 arg12.view f 0 _ _ _ _ _ rfl rfl rfl rfl _ (by omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_0 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_1 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_2 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_3 harg12 z0 r d _
    · unfold dkTerm slope prob lg2
      refine Finset.sum_congr rfl fun j _ => ?_
      simp only [ld4_0, ld4_1, ld4_2, ld4_3, ld2_0, ld2_1, mask_even, mask_odd]
      rfl
  · exact absurd h (by have := r.isLt; omega)

set_option maxHeartbeats 4000000 in
/-- What the running sum of the value gradient holds after the body, in this case. -/
theorem runB_dv (hc0 : ¬zq i) (hc1 : ¬zk i) (hc2 : ¬wk i) (f : arg13.view.ty.Contents (Elt Ideal)):
    arg13.view.read (Elt Ideal) (arg13.view.writes (Elt Ideal) f (runB c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8 z0 z1).2.2.1)
      = addPair z1 (dvTerm x0 x1 x3 x4) := by
  frame_open
  refine read_cols2 arg13.view f _ _ _ _ _ (fun r d => ?_) (fun r d => ?_)
  · rw [addPair_lo]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 0 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_0 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl
  · rw [addPair_hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 2 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_1 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl

end Cert.Kernel3Ideal.Mla

end
-- ==== Proof.MlaRunC.lean ====
module

public import proofs.«01_k».proof.Proof.MlaCond

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

set_option maxHeartbeats 1000000 in
/-- The body at the last point of a block of keys. Every buffer is named; the lists are the stores the body makes into the buffers it writes, newest first. -/
noncomputable def runC (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole) (hc0 : ¬zq i) (hc1 : ¬zk i) (hc2 : wk i)
    (x0 : Vec F S512x512 .bf16) (x1 : Vec F S2048x512 .bf16) (x2 : Vec F S2048x256 .bf16) (x3 : Vec F S512x256 .bf16) (x4 : Vec F S512x512 .f32) (x5 : Vec F S512x256 .bf16) (y6 : Vec F S8192x512 .f32) (z0 : Vec F S2048x512 .f32) (z1 : Vec F S2048x256 .f32) :
    Σ' (L6 : List (View.Piece (Elt F) S8192x512 .f32)), Σ' (L7 : List (View.Piece (Elt F) S2048x512 .bf16)), Σ' (L8 : List (View.Piece (Elt F) S2048x256 .bf16)), Σ' (LS0 : List (View.Piece (Elt F) S2048x512 .f32)), { LS1 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ (∃ d, owns (c : Thread nD τ) arg10 fullShare d) ∗ (∃ d, owns (c : Thread nD τ) arg11 fullShare d) ∗ owns (c : Thread nD τ) arg12 fullShare z0 ∗ owns (c : Thread nD τ) arg13 fullShare z1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread y6) L6) ∗ (∃ f, (arg10.view.loc (c : Thread nD τ) ↦[arg10.view.set]{fullShare} arg10.view.writes (Elt F) f L7)) ∗ (∃ f, (arg11.view.loc (c : Thread nD τ) ↦[arg11.view.set]{fullShare} arg11.view.writes (Elt F) f L8)) ∗ (arg12.view.loc (c : Thread nD τ) ↦[arg12.view.set]{fullShare} arg12.view.writes (Elt F) (harg12.unread z0) LS0) ∗ (arg13.view.loc (c : Thread nD τ) ↦[arg13.view.set]{fullShare} arg13.view.writes (Elt F) (harg13.unread z1) LS1)) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_mla_bwd_eq_skeleton]; unfold cc0_mla_bwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hf9; obtain rfl := harg13.eq_unread hf10
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]; · iexists _; iexact H7
    isplitl [H8]; · iexists _; iexact H8
    isplitl [H9]; · iexact H9
    iexact H10

end Cert.Kernel3Ideal.Mla

end
-- ==== Proof.MlaValC.lean ====
module

public import proofs.«01_k».proof.Proof.MlaOff
public import proofs.«01_k».proof.Proof.MlaRunC

@[expose] public section

set_option maxRecDepth 16384

noncomputable section

namespace Cert.Kernel3Ideal.Mla

open Idealize.ShloMosaic Idealize.ShloMosaic.ValueKit
open Cert.Kernel3Ideal.Gen

variable (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole)
  (x0 : Vec Ideal S512x512 .bf16) (x1 : Vec Ideal S2048x512 .bf16) (x2 : Vec Ideal S2048x256 .bf16) (x3 : Vec Ideal S512x256 .bf16) (x4 : Vec Ideal S512x512 .f32) (x5 : Vec Ideal S512x256 .bf16) (y6 : Vec Ideal S8192x512 .f32) (y7 : Vec Ideal S2048x512 .bf16) (y8 : Vec Ideal S2048x256 .bf16) (z0 : Vec Ideal S2048x512 .f32) (z1 : Vec Ideal S2048x256 .f32)

set_option maxHeartbeats 4000000 in
/-- What the query gradient holds after the body, in this case. -/
theorem runC_dq (hc0 : ¬zq i) (hc1 : ¬zk i) (hc2 : wk i) :
    arg9.view.read (Elt Ideal) (arg9.view.writes (Elt Ideal) (harg9.unread y6) (runC c i arg3 harg3 arg4 harg4 arg5 harg5 arg6 harg6 arg7 harg7 arg8 harg8 arg9 harg9 arg10 harg10 arg11 harg11 arg12 harg12 arg13 harg13 hc0 hc1 hc2 x0 x1 x2 x3 x4 x5 y6 z0 z1).1)
      = addRows (512 * (i 2).val) y6 (dqTerm x0 x1 x2 x3 x4 x5) := by
  frame_open
  refine read_cols4 arg9.view (harg9.unread y6) (512 * (i 2).val) _ _ _ _ _ (off1_eq i) (off2_eq i) (off3_eq i) (off4_eq i) _ (by have h16 : (i 2).val < 16 := (i 2).isLt; omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off1_eq i) _ r d ⟨512 * (i 2).val + r.val, by have := (i 2).isLt; have := r.isLt; have h16 : (i 2).val < 16 := (i 2).isLt; omega⟩ (col 0 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off2_eq i) _ r d ⟨512 * (i 2).val + r.val, by have := (i 2).isLt; have := r.isLt; have h16 : (i 2).val < 16 := (i 2).isLt; omega⟩ (col 1 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off3_eq i) _ r d ⟨512 * (i 2).val + r.val, by have := (i 2).isLt; have := r.isLt; have h16 : (i 2).val < 16 := (i 2).isLt; omega⟩ (col 2 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off4_eq i) _ r d ⟨512 * (i 2).val + r.val, by have := (i 2).isLt; have := r.isLt; have h16 : (i 2).val < 16 := (i 2).isLt; omega⟩ (col 3 d) rfl rfl
    · unfold dqTerm slope prob lg2
      refine Finset.sum_congr rfl fun j _ => ?_
      simp only [ld4_0, ld4_1, ld4_2, ld4_3, ld2_0, ld2_1, mask_even, mask_odd]
      rfl
  · rw [addRows_out _ _ _ _ _ h]
    exact congrFun (harg9.read_unread _) _

set_option maxHeartbeats 4000000 in
/-- What the running sum of the key gradient holds after the body, in this case. -/
theorem runC_dk (hc0 : ¬zq i) (hc1 : ¬zk i) (hc2 : wk i) (f : arg12.view.ty.Contents (Elt Ideal)):
    arg12.view.read (Elt Ideal) (arg12.view.writes (Elt Ideal) f (runC c i arg3 harg3 arg4 harg4 arg5 harg5 arg6 harg6 arg7 harg7 arg8 harg8 arg9 harg9 arg10 harg10 arg11 harg11 arg12 harg12 arg13 harg13 hc0 hc1 hc2 x0 x1 x2 x3 x4 x5 y6 z0 z1).2.2.2.1)
      = addRows 0 z0 (dkTerm x0 x1 x2 x3 x4 x5) := by
  frame_open
  refine read_cols4 arg12.view f 0 _ _ _ _ _ rfl rfl rfl rfl _ (by omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_0 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_1 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_2 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_3 harg12 z0 r d _
    · unfold dkTerm slope prob lg2
      refine Finset.sum_congr rfl fun j _ => ?_
      simp only [ld4_0, ld4_1, ld4_2, ld4_3, ld2_0, ld2_1, mask_even, mask_odd]
      rfl
  · exact absurd h (by have := r.isLt; omega)

set_option maxHeartbeats 4000000 in
/-- What the running sum of the value gradient holds after the body, in this case. -/
theorem runC_dv (hc0 : ¬zq i) (hc1 : ¬zk i) (hc2 : wk i) (f : arg13.view.ty.Contents (Elt Ideal)):
    arg13.view.read (Elt Ideal) (arg13.view.writes (Elt Ideal) f (runC c i arg3 harg3 arg4 harg4 arg5 harg5 arg6 harg6 arg7 harg7 arg8 harg8 arg9 harg9 arg10 harg10 arg11 harg11 arg12 harg12 arg13 harg13 hc0 hc1 hc2 x0 x1 x2 x3 x4 x5 y6 z0 z1).2.2.2.2.1)
      = addPair z1 (dvTerm x0 x1 x3 x4) := by
  frame_open
  refine read_cols2 arg13.view f _ _ _ _ _ (fun r d => ?_) (fun r d => ?_)
  · rw [addPair_lo]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 0 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_0 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl
  · rw [addPair_hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 2 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_1 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl

set_option maxHeartbeats 4000000 in
/-- What the key gradient written out holds after the body, in this case. -/
theorem runC_ok (hc0 : ¬zq i) (hc1 : ¬zk i) (hc2 : wk i) (f : arg10.view.ty.Contents (Elt Ideal)):
    arg10.view.read (Elt Ideal) (arg10.view.writes (Elt Ideal) f (runC c i arg3 harg3 arg4 harg4 arg5 harg5 arg6 harg6 arg7 harg7 arg8 harg8 arg9 harg9 arg10 harg10 arg11 harg11 arg12 harg12 arg13 harg13 hc0 hc1 hc2 x0 x1 x2 x3 x4 x5 y6 z0 z1).2.1)
      = (addRows 0 z0 (dkTerm x0 x1 x2 x3 x4 x5) : Vec Ideal S2048x512 .f32) := by
  frame_open
  refine funext fun y => ?_
  obtain ⟨r, d, rfl⟩ : ∃ r d, y = ix2 r d := ⟨y 0, y 1, eq_ix2 y⟩
  refine (rd_in _ _ _ _ r d rfl r d (Nat.zero_add _).symm (Nat.zero_add _).symm).trans ?_
  pointwise [k0_pay1, k0_pay2]
  refine (cov_at _ _ rfl r d r d (Nat.zero_add _).symm (Nat.zero_add _).symm).trans ?_
  refine congrFun (read_cols4 arg12.view _ 0 _ _ _ _ _ rfl rfl rfl rfl _ (by omega) (fun r d => ?_) (fun r d => ?_) (fun r d => ?_) (fun r d => ?_) (fun r d h => ?_)) (ix2 r d)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_0 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_1 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_2 harg12 z0 r d _
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld4_3 harg12 z0 r d _
    · unfold dkTerm slope prob lg2
      refine Finset.sum_congr rfl fun j _ => ?_
      simp only [ld4_0, ld4_1, ld4_2, ld4_3, ld2_0, ld2_1, mask_even, mask_odd]
      rfl
  · exact absurd h (by have := r.isLt; omega)

set_option maxHeartbeats 4000000 in
/-- What the value gradient written out holds after the body, in this case. -/
theorem runC_ov (hc0 : ¬zq i) (hc1 : ¬zk i) (hc2 : wk i) (f : arg11.view.ty.Contents (Elt Ideal)):
    arg11.view.read (Elt Ideal) (arg11.view.writes (Elt Ideal) f (runC c i arg3 harg3 arg4 harg4 arg5 harg5 arg6 harg6 arg7 harg7 arg8 harg8 arg9 harg9 arg10 harg10 arg11 harg11 arg12 harg12 arg13 harg13 hc0 hc1 hc2 x0 x1 x2 x3 x4 x5 y6 z0 z1).2.2.1)
      = (addPair z1 (dvTerm x0 x1 x3 x4) : Vec Ideal S2048x256 .f32) := by
  frame_open
  refine funext fun y => ?_
  obtain ⟨r, d, rfl⟩ : ∃ r d, y = ix2 r d := ⟨y 0, y 1, eq_ix2 y⟩
  refine (rd_in _ _ _ _ r d rfl r d (Nat.zero_add _).symm (Nat.zero_add _).symm).trans ?_
  pointwise [k0_pay1, k0_pay2]
  refine (cov_at _ _ rfl r d r d (Nat.zero_add _).symm (Nat.zero_add _).symm).trans ?_
  refine congrFun (read_cols2 arg13.view _ _ _ _ _ _ (fun r d => ?_) (fun r d => ?_)) (ix2 r d)
  · rw [addPair_lo]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 0 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_0 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl
  · rw [addPair_hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 2 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · exact ld2_1 harg13 z1 r d _
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl

end Cert.Kernel3Ideal.Mla

end
-- ==== Proof.MlaRunD.lean ====
module

public import proofs.«01_k».proof.Proof.MlaCond

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F] [Named F]

local notation "𝕄" => MT nD τ sig Unit (Elt F) ℕ (UR sig nD τ) ℕ

set_option maxHeartbeats 1000000 in
/-- The body at the first point of a block of keys that is not the first. Every buffer is named; the lists are the stores the body makes into the buffers it writes, newest first. -/
noncomputable def runD (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole) (hc0 : ¬zq i) (hc1 : zk i) (hc2 : ¬wk i)
    (x0 : Vec F S512x512 .bf16) (x1 : Vec F S2048x512 .bf16) (x2 : Vec F S2048x256 .bf16) (x3 : Vec F S512x256 .bf16) (x4 : Vec F S512x512 .f32) (x5 : Vec F S512x256 .bf16) (y6 : Vec F S8192x512 .f32) (y7 : Vec F S2048x512 .bf16) (y8 : Vec F S2048x256 .bf16) :
    Σ' (L6 : List (View.Piece (Elt F) S8192x512 .f32)), Σ' (LS0 : List (View.Piece (Elt F) S2048x512 .f32)), { LS1 : List (View.Piece (Elt F) S2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y6 ∗ owns (c : Thread nD τ) arg10 fullShare y7 ∗ owns (c : Thread nD τ) arg11 fullShare y8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread y6) L6) ∗ owns (c : Thread nD τ) arg10 fullShare y7 ∗ owns (c : Thread nD τ) arg11 fullShare y8 ∗ (∃ f, (arg12.view.loc (c : Thread nD τ) ↦[arg12.view.set]{fullShare} arg12.view.writes (Elt F) f LS0)) ∗ (∃ f, (arg13.view.loc (c : Thread nD τ) ↦[arg13.view.set]{fullShare} arg13.view.writes (Elt F) f LS1))) -∗ K ⟨⟩))
          ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_mla_bwd_eq_skeleton]; unfold cc0_mla_bwd_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact H10

end Cert.Kernel3Ideal.Mla

end
-- ==== Proof.MlaValD.lean ====
module

public import proofs.«01_k».proof.Proof.MlaOff
public import proofs.«01_k».proof.Proof.MlaRunD

@[expose] public section

set_option maxRecDepth 16384

noncomputable section

namespace Cert.Kernel3Ideal.Mla

open Idealize.ShloMosaic Idealize.ShloMosaic.ValueKit
open Cert.Kernel3Ideal.Gen

variable (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S2048x256 .bf16) (harg5 : arg5.IsWhole) (arg6 : Memref sig .tc .vmem S512x256 .bf16) (harg6 : arg6.IsWhole) (arg7 : Memref sig .tc .vmem S512x512 .f32) (harg7 : arg7.IsWhole) (arg8 : Memref sig .tc .vmem S512x256 .bf16) (harg8 : arg8.IsWhole) (arg9 : Memref sig .tc .vmem S8192x512 .f32) (harg9 : arg9.IsWhole) (arg10 : Memref sig .tc .vmem S2048x512 .bf16) (harg10 : arg10.IsWhole) (arg11 : Memref sig .tc .vmem S2048x256 .bf16) (harg11 : arg11.IsWhole) (arg12 : Memref sig .tc .vmem S2048x512 .f32) (harg12 : arg12.IsWhole) (arg13 : Memref sig .tc .vmem S2048x256 .f32) (harg13 : arg13.IsWhole)
  (x0 : Vec Ideal S512x512 .bf16) (x1 : Vec Ideal S2048x512 .bf16) (x2 : Vec Ideal S2048x256 .bf16) (x3 : Vec Ideal S512x256 .bf16) (x4 : Vec Ideal S512x512 .f32) (x5 : Vec Ideal S512x256 .bf16) (y6 : Vec Ideal S8192x512 .f32) (y7 : Vec Ideal S2048x512 .bf16) (y8 : Vec Ideal S2048x256 .bf16) (z0 : Vec Ideal S2048x512 .f32) (z1 : Vec Ideal S2048x256 .f32)

set_option maxHeartbeats 4000000 in
/-- What the query gradient holds after the body, in this case. -/
theorem runD_dq (hc0 : ¬zq i) (hc1 : zk i) (hc2 : ¬wk i) :
    arg9.view.read (Elt Ideal) (arg9.view.writes (Elt Ideal) (harg9.unread y6) (runD c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8).1)
      = addRows (512 * (i 2).val) y6 (dqTerm x0 x1 x2 x3 x4 x5) := by
  frame_open
  refine read_cols4 arg9.view (harg9.unread y6) (512 * (i 2).val) _ _ _ _ _ (off1_eq i) (off2_eq i) (off3_eq i) (off4_eq i) _ (by have h16 : (i 2).val < 16 := (i 2).isLt; omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off1_eq i) _ r d ⟨512 * (i 2).val + r.val, by have := (i 2).isLt; have := r.isLt; have h16 : (i 2).val < 16 := (i 2).isLt; omega⟩ (col 0 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off2_eq i) _ r d ⟨512 * (i 2).val + r.val, by have := (i 2).isLt; have := r.isLt; have h16 : (i 2).val < 16 := (i 2).isLt; omega⟩ (col 1 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off3_eq i) _ r d ⟨512 * (i 2).val + r.val, by have := (i 2).isLt; have := r.isLt; have h16 : (i 2).val < 16 := (i 2).isLt; omega⟩ (col 2 d) rfl rfl
    · unfold dqTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · exact ld_at harg9 y6 _ (off4_eq i) _ r d ⟨512 * (i 2).val + r.val, by have := (i 2).isLt; have := r.isLt; have h16 : (i 2).val < 16 := (i 2).isLt; omega⟩ (col 3 d) rfl rfl
    · unfold dqTerm slope prob lg2
      refine Finset.sum_congr rfl fun j _ => ?_
      simp only [ld4_0, ld4_1, ld4_2, ld4_3, ld2_0, ld2_1, mask_even, mask_odd]
      rfl
  · rw [addRows_out _ _ _ _ _ h]
    exact congrFun (harg9.read_unread _) _

set_option maxHeartbeats 4000000 in
/-- What the running sum of the key gradient holds after the body, in this case. -/
theorem runD_dk (hc0 : ¬zq i) (hc1 : zk i) (hc2 : ¬wk i) (f : arg12.view.ty.Contents (Elt Ideal)):
    arg12.view.read (Elt Ideal) (arg12.view.writes (Elt Ideal) f (runD c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8).2.1)
      = addRows 0 zeros (dkTerm x0 x1 x2 x3 x4 x5) := by
  frame_open
  refine read_cols4 arg12.view f 0 _ _ _ _ _ rfl rfl rfl rfl _ (by omega) (fun r d => ?_) (fun r d => ?_) (fun r d => ?_) (fun r d => ?_) (fun r d h => ?_)
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 0 d) (Nat.zero_add _).symm rfl).trans ?_
      exact rd_in _ _ _ _ _ _ rfl r (col 0 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 1 d) (Nat.zero_add _).symm rfl).trans ?_
      refine (rd_out _ _ _ _ _ _ rfl (.inr (.inr (by show 0 + 128 ≤ 128 * 1 + d.val; omega)))).trans ?_
      exact rd_in _ _ _ _ _ _ rfl r (col 1 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 2 d) (Nat.zero_add _).symm rfl).trans ?_
      refine (rd_out _ _ _ _ _ _ rfl (.inr (.inr (by show 128 + 128 ≤ 128 * 2 + d.val; omega)))).trans ?_
      refine (rd_out _ _ _ _ _ _ rfl (.inr (.inr (by show 0 + 128 ≤ 128 * 2 + d.val; omega)))).trans ?_
      exact rd_in _ _ _ _ _ _ rfl r (col 2 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · rw [addRows_in]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (col 3 d) (Nat.zero_add _).symm rfl).trans ?_
      refine (rd_out _ _ _ _ _ _ rfl (.inr (.inr (by show 256 + 128 ≤ 128 * 3 + d.val; omega)))).trans ?_
      refine (rd_out _ _ _ _ _ _ rfl (.inr (.inr (by show 128 + 128 ≤ 128 * 3 + d.val; omega)))).trans ?_
      refine (rd_out _ _ _ _ _ _ rfl (.inr (.inr (by show 0 + 128 ≤ 128 * 3 + d.val; omega)))).trans ?_
      exact rd_in _ _ _ _ _ _ rfl r (col 3 d) (Nat.zero_add _).symm (Nat.zero_add _).symm
    · unfold dkTerm slope prob lg2
      refine Finset.sum_congr rfl fun j _ => ?_
      simp only [ld4_0, ld4_1, ld4_2, ld4_3, ld2_0, ld2_1, mask_even, mask_odd]
      rfl
  · exact absurd h (by have := r.isLt; omega)

set_option maxHeartbeats 4000000 in
/-- What the running sum of the value gradient holds after the body, in this case. -/
theorem runD_dv (hc0 : ¬zq i) (hc1 : zk i) (hc2 : ¬wk i) (f : arg13.view.ty.Contents (Elt Ideal)):
    arg13.view.read (Elt Ideal) (arg13.view.writes (Elt Ideal) f (runD c i arg3 harg3 arg4 harg4 arg5 harg5 arg6 harg6 arg7 harg7 arg8 harg8 arg9 harg9 arg10 harg10 arg11 harg11 arg12 harg12 arg13 harg13 hc0 hc1 hc2 x0 x1 x2 x3 x4 x5 y6 y7 y8).2.2.1)
      = addPair zeros (dvTerm x0 x1 x3 x4) := by
  frame_open
  refine read_cols2 arg13.view f _ _ _ _ _ (fun r d => ?_) (fun r d => ?_)
  · rw [addPair_lo]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 0 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · refine (cov_at _ _ rfl r d r (vcol 0 d) (Nat.zero_add _).symm rfl).trans ?_
        exact rd_in _ _ _ _ _ _ rfl r (vcol 0 d) (Nat.zero_add _).symm (Nat.zero_add _).symm
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl
  · rw [addPair_hi]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    refine congrArg₂ (· + ·) ?_ ?_
    · refine (cov_at _ _ rfl r d r (vcol 2 d) (Nat.zero_add _).symm rfl).trans ?_
      refine (rd_in _ _ _ _ _ _ rfl r d (Nat.zero_add _).symm rfl).trans ?_
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
      refine congrArg₂ (· + ·) ?_ ?_
      · refine (cov_at _ _ rfl r d r (vcol 2 d) (Nat.zero_add _).symm rfl).trans ?_
        refine (rd_out _ _ _ _ _ _ rfl (.inr (.inr (by show 0 + 128 ≤ 128 * (2 / 2) + d.val; omega)))).trans ?_
        refine (rd_out _ _ _ _ _ _ rfl (.inr (.inr (by show 0 + 128 ≤ 128 * (2 / 2) + d.val; omega)))).trans ?_
        exact rd_in _ _ _ _ _ _ rfl r (vcol 2 d) (Nat.zero_add _).symm (Nat.zero_add _).symm
      · unfold dvTerm prob
        refine Finset.sum_congr rfl fun j _ => ?_
        simp only [ld4_0, ld4_1, ld4_2, ld4_3, ld2_0, ld2_1, mask_even, mask_odd]
        rfl
    · unfold dvTerm prob
      refine Finset.sum_congr rfl fun j _ => ?_
      simp only [ld4_0, ld4_1, ld4_2, ld4_3, ld2_0, ld2_1, mask_even, mask_odd]
      rfl

end Cert.Kernel3Ideal.Mla

end
-- ==== Proof.MlaFrame.lean ====
module

public import proofs.«01_k».proof.Proof.MlaValA
public import proofs.«01_k».proof.Proof.MlaValB
public import proofs.«01_k».proof.Proof.MlaValC
public import proofs.«01_k».proof.Proof.MlaValD

@[expose] public section

set_option maxRecDepth 16384

noncomputable section

namespace Cert.Kernel3Ideal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

local notation "𝕄" => MT nD τ sig Unit (Elt Ideal) ℕ (UR sig nD τ) ℕ

variable (m : (ℓ : Loc nD τ sig) → Buf (Elt Ideal) ℓ) (ρ : Dev nD → PrngReg)

/-- The query gradient is cleared at the first point of a pair of heads. -/
theorem zq_iff : ∀ t : Fin cfg0.N, zq (grid0.coords t) ↔ t.val % 64 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [zq, k0_cond3, e0, e1, e2]
    word_cmp : ∀ t : Fin grid0.N, zq (grid0.coords t) ↔ t.val % 64 = 0)

/-- The key and value gradients are cleared at the first block of queries. -/
theorem zk_iff : ∀ t : Fin cfg0.N, zk (grid0.coords t) ↔ t.val % 16 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [zk, k0_cond3, e0, e1, e2]
    word_cmp : ∀ t : Fin grid0.N, zk (grid0.coords t) ↔ t.val % 16 = 0)

/-- They are handed over at the last block of queries. -/
theorem wk_iff : ∀ t : Fin cfg0.N, wk (grid0.coords t) ↔ t.val % 16 = 15 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 16 % 4 := Pipeline.Grid.coords_val t 1 (by decide) rfl
    have e2 : (grid0.coords t 2).val = t.val / 1 % 16 := Pipeline.Grid.coords_val t 2 (by decide) rfl
    simp only [wk, k0_cond3, e0, e1, e2]
    word_cmp : ∀ t : Fin grid0.N, wk (grid0.coords t) ↔ t.val % 16 = 15)

/-- The third grid coordinate is the block of queries. -/
theorem coord_q (t : Fin cfg0.N) : (grid0.coords t 2).val = t.val % 16 :=
  (Pipeline.Grid.coords_val t 2 (by decide) rfl : (grid0.coords t 2).val = t.val / 1 % 16).trans (by rw [Nat.div_one])

/-- Away from the last block of queries window 7 is left alone. -/
theorem idle7 : ∀ t : Fin cfg0.N, ¬t.val % 16 = 15 → cfg0.idle 7 (grid0.coords t) = true := by decide +kernel
/-- Away from the last block of queries window 7 is not written back. -/
theorem noFlush7 : ∀ t : Fin cfg0.N, ¬t.val % 16 = 15 → (cfg0.win 7).flush t = false := by decide +kernel
/-- At the last block of queries window 7 is stored. -/
theorem live7 : ∀ t : Fin cfg0.N, t.val % 16 = 15 → cfg0.idle 7 (grid0.coords t) = false := by decide +kernel

/-- Away from the last block of queries window 8 is left alone. -/
theorem idle8 : ∀ t : Fin cfg0.N, ¬t.val % 16 = 15 → cfg0.idle 8 (grid0.coords t) = true := by decide +kernel
/-- Away from the last block of queries window 8 is not written back. -/
theorem noFlush8 : ∀ t : Fin cfg0.N, ¬t.val % 16 = 15 → (cfg0.win 8).flush t = false := by decide +kernel
/-- At the last block of queries window 8 is stored. -/
theorem live8 : ∀ t : Fin cfg0.N, t.val % 16 = 15 → cfg0.idle 8 (grid0.coords t) = false := by decide +kernel

/-- Window 0's buffer at a point. -/
abbrev ms0 (t : Fin cfg0.N) := win0_0.stage (cfg0.slots t 0)
/-- It is a whole buffer. -/
theorem hs0 (t : Fin cfg0.N) : (ms0 t).IsWhole := hstage0_0 ((cfg0.slots t 0).cast nbuf0_0)

/-- Window 1's buffer at a point. -/
abbrev ms1 (t : Fin cfg0.N) := win0_1.stage (cfg0.slots t 1)
/-- It is a whole buffer. -/
theorem hs1 (t : Fin cfg0.N) : (ms1 t).IsWhole := hstage0_1 ((cfg0.slots t 1).cast nbuf0_1)

/-- Window 2's buffer at a point. -/
abbrev ms2 (t : Fin cfg0.N) := win0_2.stage (cfg0.slots t 2)
/-- It is a whole buffer. -/
theorem hs2 (t : Fin cfg0.N) : (ms2 t).IsWhole := hstage0_2 ((cfg0.slots t 2).cast nbuf0_2)

/-- Window 3's buffer at a point. -/
abbrev ms3 (t : Fin cfg0.N) := win0_3.stage (cfg0.slots t 3)
/-- It is a whole buffer. -/
theorem hs3 (t : Fin cfg0.N) : (ms3 t).IsWhole := hstage0_3 ((cfg0.slots t 3).cast nbuf0_3)

/-- Window 4's buffer at a point. -/
abbrev ms4 (t : Fin cfg0.N) := win0_4.stage (cfg0.slots t 4)
/-- It is a whole buffer. -/
theorem hs4 (t : Fin cfg0.N) : (ms4 t).IsWhole := hstage0_4 ((cfg0.slots t 4).cast nbuf0_4)

/-- Window 5's buffer at a point. -/
abbrev ms5 (t : Fin cfg0.N) := win0_5.stage (cfg0.slots t 5)
/-- It is a whole buffer. -/
theorem hs5 (t : Fin cfg0.N) : (ms5 t).IsWhole := hstage0_5 ((cfg0.slots t 5).cast nbuf0_5)

/-- Window 6's buffer at a point. -/
abbrev ms6 (t : Fin cfg0.N) := win0_6.stage (cfg0.slots t 6)
/-- It is a whole buffer. -/
theorem hs6 (t : Fin cfg0.N) : (ms6 t).IsWhole := hstage0_6 ((cfg0.slots t 6).cast nbuf0_6)

/-- Window 7's buffer at a point. -/
abbrev ms7 (t : Fin cfg0.N) := win0_7.stage (cfg0.slots t 7)
/-- It is a whole buffer. -/
theorem hs7 (t : Fin cfg0.N) : (ms7 t).IsWhole := hstage0_7 ((cfg0.slots t 7).cast nbuf0_7)

/-- Window 8's buffer at a point. -/
abbrev ms8 (t : Fin cfg0.N) := win0_8.stage (cfg0.slots t 8)
/-- It is a whole buffer. -/
theorem hs8 (t : Fin cfg0.N) : (ms8 t).IsWhole := hstage0_8 ((cfg0.slots t 8).cast nbuf0_8)

/-- The scratch that gathers the key gradient. -/
abbrev scK : Memref sig .tc .vmem S2048x512 .f32 := Memref.whole cc0_scratch0
/-- The scratch that gathers the value gradient. -/
abbrev scV : Memref sig .tc .vmem S2048x256 .f32 := Memref.whole cc0_scratch1

/-- What the launch hands over besides the windows: the two scratches and the generator register. -/
theorem PhiA0_eq (c : Dev nD) : Pipeline.ΦA spec0 c = iprop(iprop((∃ d : Vec Ideal S2048x512 .f32, owns (c : Thread nD τ) scK fullShare d) ∗ (∃ d : Vec Ideal S2048x256 .f32, owns (c : Thread nD τ) scV fullShare d)) ∗ (∃ r, prngReg c r) : sProp 𝕄) := by
  unfold Pipeline.ΦA; rw [scopedRest0_eq]; simp only [scK, scV, owns_whole]; try rfl

/-! ## What is gathered, point by point -/

/-- A quantity that is set to `z` at the points divisible by `k`, and changed by `f` at every point. -/
def gather {α : Type} (k : ℕ) (f : Fin cfg0.N → α → α) (z : α) : (n : ℕ) → n < cfg0.N → α
  | 0, h => f ⟨0, h⟩ z
  | n + 1, h => f ⟨n + 1, h⟩ (if (n + 1) % k = 0 then z else gather k f z n (Nat.lt_of_succ_lt h))

/-- At a point divisible by `k` the gathering starts afresh. -/
theorem gather_reset {α : Type} (k : ℕ) (f : Fin cfg0.N → α → α) (z : α) (t : Fin cfg0.N) (h : t.val % k = 0) :
    gather k f z t.val t.isLt = f t z := by
  obtain ⟨n, hn⟩ := t
  cases n with
  | zero => rfl
  | succ n => exact congrArg (f ⟨n + 1, hn⟩) (if_pos h)

/-- At any other point it goes on from the point before. -/
theorem gather_step {α : Type} (k : ℕ) (f : Fin cfg0.N → α → α) (z : α) (t : Fin cfg0.N) (h : ¬t.val % k = 0) :
    gather k f z t.val t.isLt = f t (gather k f z (t.val - 1) (Nat.lt_of_le_of_lt (Nat.sub_le _ _) t.isLt)) := by
  obtain ⟨n, hn⟩ := t
  cases n with
  | zero => exact absurd (Nat.zero_mod _) h
  | succ n => exact congrArg (f ⟨n + 1, hn⟩) (if_neg h)

/-- The query gradient after a point. -/
def dqS (c : Dev nD) : (n : ℕ) → n < cfg0.N → Vec Ideal S8192x512 .f32 :=
  gather 64 (fun t b => addRows (512 * (grid0.coords t 2).val) b (dqTerm (iblk m c 0 t) (iblk m c 1 t) (iblk m c 2 t) (iblk m c 3 t) (iblk m c 4 t) (iblk m c 5 t))) zeros
/-- The key gradient after a point. -/
def dkS (c : Dev nD) : (n : ℕ) → n < cfg0.N → Vec Ideal S2048x512 .f32 :=
  gather 16 (fun t b => addRows 0 b (dkTerm (iblk m c 0 t) (iblk m c 1 t) (iblk m c 2 t) (iblk m c 3 t) (iblk m c 4 t) (iblk m c 5 t))) zeros
/-- The value gradient after a point. -/
def dvS (c : Dev nD) : (n : ℕ) → n < cfg0.N → Vec Ideal S2048x256 .f32 :=
  gather 16 (fun t b => addPair b (dvTerm (iblk m c 0 t) (iblk m c 1 t) (iblk m c 3 t) (iblk m c 4 t))) zeros

/-- Between points: before the first, what the launch hands over; afterwards the scratches hold what has been gathered. -/
def PhiS (c : Dev nD) : (n : ℕ) → n ≤ cfg0.N → sProp 𝕄
  | 0, _ => Pipeline.ΦA spec0 c
  | n + 1, hn => iprop(iprop(owns (c : Thread nD τ) scK fullShare (dkS m c n hn) ∗ owns (c : Thread nD τ) scV fullShare (dvS m c n hn)) ∗ (∃ r, prngReg c r))

/-- `PhiS` before the first point. -/
theorem PhiS_zero (c : Dev nD) (n : ℕ) (h : n ≤ cfg0.N) (hz : n = 0) : PhiS m c n h = Pipeline.ΦA spec0 c := by
  subst hz; rfl

/-- `PhiS` after a point. -/
theorem PhiS_succ (c : Dev nD) (n : ℕ) (hn : n < cfg0.N) :
    PhiS m c (n + 1) hn = iprop(iprop(owns (c : Thread nD τ) scK fullShare (dkS m c n hn) ∗ owns (c : Thread nD τ) scV fullShare (dvS m c n hn)) ∗ (∃ r, prngReg c r)) := rfl

/-- `PhiS` before a point that is not the first. -/
theorem PhiS_pos (c : Dev nD) (n : ℕ) (h : n ≤ cfg0.N) (hz : n ≠ 0) :
    PhiS m c n h = iprop(iprop(owns (c : Thread nD τ) scK fullShare (dkS m c (n - 1) (by omega)) ∗ owns (c : Thread nD τ) scV fullShare (dvS m c (n - 1) (by omega))) ∗ (∃ r, prngReg c r)) := by
  cases n with
  | zero => exact absurd rfl hz
  | succ n => rfl

/-- The run's data: what each window's buffer holds after each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqS m c t.val t.isLt
    | ⟨7, _⟩ => dkS m c t.val t.isLt
    | ⟨8, _⟩ => dvS m c t.val t.isLt
  Φ t := PhiS m c t.val (Nat.le_of_lt_succ t.isLt)
  q _ := fullShare
  owed _ := 0

/-- The arrays the region starts from. -/
theorem A_eq (c : Dev nD) (w : Fin cfg0.W) : (dats m 0 c).A w = V m c (Pipeline.arrRef spec0 w) := by
  dsimp only [dats]

/-- The invariant before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Window 0's buffer after a point. -/
theorem after0_0 (c : Dev nD) (t : Fin cfg0.N) : (dats m 0 c).after 0 t = iblk m c 0 t := by dsimp only [dats]
/-- Window 1's buffer after a point. -/
theorem after0_1 (c : Dev nD) (t : Fin cfg0.N) : (dats m 0 c).after 1 t = iblk m c 1 t := by dsimp only [dats]
/-- Window 2's buffer after a point. -/
theorem after0_2 (c : Dev nD) (t : Fin cfg0.N) : (dats m 0 c).after 2 t = iblk m c 2 t := by dsimp only [dats]
/-- Window 3's buffer after a point. -/
theorem after0_3 (c : Dev nD) (t : Fin cfg0.N) : (dats m 0 c).after 3 t = iblk m c 3 t := by dsimp only [dats]
/-- Window 4's buffer after a point. -/
theorem after0_4 (c : Dev nD) (t : Fin cfg0.N) : (dats m 0 c).after 4 t = iblk m c 4 t := by dsimp only [dats]
/-- Window 5's buffer after a point. -/
theorem after0_5 (c : Dev nD) (t : Fin cfg0.N) : (dats m 0 c).after 5 t = iblk m c 5 t := by dsimp only [dats]
/-- Window 6's buffer after a point. -/
theorem after0_6 (c : Dev nD) (t : Fin cfg0.N) : (dats m 0 c).after 6 t = dqS m c t.val t.isLt := by dsimp only [dats]
/-- Window 7's buffer after a point. -/
theorem after0_7 (c : Dev nD) (t : Fin cfg0.N) : (dats m 0 c).after 7 t = dkS m c t.val t.isLt := by dsimp only [dats]
/-- Window 8's buffer after a point. -/
theorem after0_8 (c : Dev nD) (t : Fin cfg0.N) : (dats m 0 c).after 8 t = dvS m c t.val t.isLt := by dsimp only [dats]
/-- Window 0's buffer before a point. -/
theorem before0_0 (c : Dev nD) (t : Fin cfg0.N) (d) : (dats m 0 c).before 0 t d = iblk m c 0 t :=
  before0_0_of m (dats m 0 c) (A_eq m c 0) (after0_0 m c) t d
/-- Window 1's buffer before a point. -/
theorem before0_1 (c : Dev nD) (t : Fin cfg0.N) (d) : (dats m 0 c).before 1 t d = iblk m c 1 t :=
  before0_1_of m (dats m 0 c) (A_eq m c 1) (after0_1 m c) t d
/-- Window 2's buffer before a point. -/
theorem before0_2 (c : Dev nD) (t : Fin cfg0.N) (d) : (dats m 0 c).before 2 t d = iblk m c 2 t :=
  before0_2_of m (dats m 0 c) (A_eq m c 2) (after0_2 m c) t d
/-- Window 3's buffer before a point. -/
theorem before0_3 (c : Dev nD) (t : Fin cfg0.N) (d) : (dats m 0 c).before 3 t d = iblk m c 3 t :=
  before0_3_of m (dats m 0 c) (A_eq m c 3) (after0_3 m c) t d
/-- Window 4's buffer before a point. -/
theorem before0_4 (c : Dev nD) (t : Fin cfg0.N) (d) : (dats m 0 c).before 4 t d = iblk m c 4 t :=
  before0_4_of m (dats m 0 c) (A_eq m c 4) (after0_4 m c) t d
/-- Window 5's buffer before a point. -/
theorem before0_5 (c : Dev nD) (t : Fin cfg0.N) (d) : (dats m 0 c).before 5 t d = iblk m c 5 t :=
  before0_5_of m (dats m 0 c) (A_eq m c 5) (after0_5 m c) t d
/-- The query gradient's buffer before a point that does not clear it. -/
theorem before0_6 (c : Dev nD) (t : Fin cfg0.N) (h0 : ¬t.val % 64 = 0) (d) :
    (dats m 0 c).before 6 t d = dqS m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body must leave in window 0's buffer. -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0_0]
/-- What the body must leave in window 1's buffer. -/
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after0_1]
/-- What the body must leave in window 2's buffer. -/
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after0_2]
/-- What the body must leave in window 3's buffer. -/
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after0_3]
/-- What the body must leave in window 4's buffer. -/
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after0_4]
/-- What the body must leave in window 5's buffer. -/
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after0_5]
/-- What the body must leave in window 6's buffer. -/
theorem leaves6 (c : Dev nD) (t : Fin cfg0.N) : (dats m 0 c).leavesExact 6 t = owns (c : Thread nD τ) (ms6 t) fullShare (dqS m c t.val t.isLt) := by
  unfold Dat.leavesExact; rw [show cfg0.idle 6 (grid0.coords t) = false from rfl, after0_6]
/-- What the body must leave in window 7's buffer where it stores it. -/
theorem leaves7 (c : Dev nD) (t : Fin cfg0.N) (h : t.val % 16 = 15) : (dats m 0 c).leavesExact 7 t = owns (c : Thread nD τ) (ms7 t) fullShare (dkS m c t.val t.isLt) := by
  unfold Dat.leavesExact; rw [live7 t h, after0_7]

/-- What the body must leave in window 8's buffer where it stores it. -/
theorem leaves8 (c : Dev nD) (t : Fin cfg0.N) (h : t.val % 16 = 15) : (dats m 0 c).leavesExact 8 t = owns (c : Thread nD τ) (ms8 t) fullShare (dvS m c t.val t.isLt) := by
  unfold Dat.leavesExact; rw [live8 t h, after0_8]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What the body must give back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at the first point of a pair of heads (the very first). -/
theorem bodyA0 (c : Dev nD) (t : Fin cfg0.N) (h0 : t.val % 64 = 0) (h1 : t.val % 16 = 0) (h2 : ¬t.val % 16 = 15) (hz : t.val = 0) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  rw [Dat.leavesExact_idle (dats m 0 c) 7 t (idle7 t h2) (noFlush7 t h2), Dat.leavesExact_idle (dats m 0 c) 8 t (idle8 t h2) (noFlush8 t h2)]
  rw [PhiS_castSucc m c t, PhiS_zero m c _ _ hz, PhiA0_eq]
  simp only [before0_0, before0_1, before0_2, before0_3, before0_4, before0_5]
  rw [show dqS m c t.val t.isLt = _ from gather_reset 64 _ _ t h0]
  rw [show dkS m c t.val t.isLt = _ from gather_reset 16 _ _ t h1]
  rw [show dvS m c t.val t.isLt = _ from gather_reset 16 _ _ t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((zq_iff t).mpr h0) ((zk_iff t).mpr h1) (fun h => h2 ((wk_iff t).mp h)) (iblk m c 0 t) (iblk m c 1 t) (iblk m c 2 t) (iblk m c 3 t) (iblk m c 4 t) (iblk m c 5 t) ((dats m 0 c).before 7 t d7) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexact HS0
  isplitl [HS1]; · iexact HS1
  iintro ⟨H0, H1, H2, H3, H4, H5, ⟨%e6, H6⟩, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact runA_dk c (grid0.coords t) _ _ _ _ _ _ _ _ _ _ _ _ _ _ _ _ _ _ _ _ _ _ _ _ _ _ _ _ _ _ ((zq_iff t).mpr h0) ((zk_iff t).mpr h1) (fun h => h2 ((wk_iff t).mp h)) _
      · unfold owns; iexists _; isplitr
        swap; · iexact HS1
        ipureintro; exact runA_dv c (grid0.coords t) _ _ _ _ _ _ _ _ _ _ _ _ _ _ _ _ _ _ _ _ _ _ _ _ _ _ _ _ _ _ ((zq_iff t).mpr h0) ((zk_iff t).mpr h1) (fun h => h2 ((wk_iff t).mp h)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runA_dq c (grid0.coords t) _ _ _ _ _ _ _ _ _ _ _ _ _ _ _ _ _ _ _ _ _ _ _ _ _ _ _ _ _ _ ((zq_iff t).mpr h0) ((zk_iff t).mpr h1) (fun h => h2 ((wk_iff t).mp h)) _
  isplitl [H7]; · iexists _; iexact H7
  iexists _; iexact H8

set_option maxHeartbeats 4000000 in
/-- The body at the first point of a pair of heads. -/
theorem bodyA (c : Dev nD) (t : Fin cfg0.N) (h0 : t.val % 64 = 0) (h1 : t.val % 16 = 0) (h2 : ¬t.val % 16 = 15) (hz : ¬t.val = 0) :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  rw [Dat.leavesExact_idle (dats m 0 c) 7 t (idle7 t h2) (noFlush7 t h2), Dat.leavesExact_idle (dats m 0 c) 8 t (idle8 t h2) (noFlush8 t h2)]
  rw [PhiS_castSucc m c t, PhiS_pos m c _ _ hz]
  simp only [before0_0, before0_1, before0_2, before0_3, before0_4, before0_5]
  rw [show dqS m c t.val t.isLt = _ from gather_reset 64 _ _ t h0]
  rw [show dkS m c t.val t.isLt = _ from gather_reset 16 _ _ t h1]
  rw [show dvS m c t.val t.isLt = _ from gather_reset 16 _ _ t h1]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) ((zq_iff t).mpr h0) ((zk_iff t).mpr h1) (fun h => h2 ((wk_iff t).mp h)) (iblk m c 0 t) (iblk m c 1 t) (iblk m c 2 t) (iblk m c 3 t) (iblk m c 4 t) (iblk m c 5 t) ((dats m 0 c).before 7 t d7) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexists _; iexact HS0
  isplitl [HS1]; · iexists _; iexact HS1
  iintro ⟨H0, H1, H2, H3, H4, H5, ⟨%e6, H6⟩, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact runA_dk c (grid0.coords t) _ _ _ _ _ _ _ _ _ _ _ _ _ _ _ _ _ _ _ _ _ _ _ _ _ _ _ _ _ _ ((zq_iff t).mpr h0) ((zk_iff t).mpr h1) (fun h => h2 ((wk_iff t).mp h)) _
      · unfold owns; iexists _; isplitr
        swap; · iexact HS1
        ipureintro; exact runA_dv c (grid0.coords t) _ _ _ _ _ _ _ _ _ _ _ _ _ _ _ _ _ _ _ _ _ _ _ _ _ _ _ _ _ _ ((zq_iff t).mpr h0) ((zk_iff t).mpr h1) (fun h => h2 ((wk_iff t).mp h)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runA_dq c (grid0.coords t) _ _ _ _ _ _ _ _ _ _ _ _ _ _ _ _ _ _ _ _ _ _ _ _ _ _ _ _ _ _ ((zq_iff t).mpr h0) ((zk_iff t).mpr h1) (fun h => h2 ((wk_iff t).mp h)) _
  isplitl [H7]; · iexists _; iexact H7
  iexists _; iexact H8

set_option maxHeartbeats 4000000 in
/-- The body at the point in the middle of a block of keys. -/
theorem bodyB (c : Dev nD) (t : Fin cfg0.N) (h0 : ¬t.val % 64 = 0) (h1 : ¬t.val % 16 = 0) (h2 : ¬t.val % 16 = 15)  :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  rw [Dat.leavesExact_idle (dats m 0 c) 7 t (idle7 t h2) (noFlush7 t h2), Dat.leavesExact_idle (dats m 0 c) 8 t (idle8 t h2) (noFlush8 t h2)]
  rw [PhiS_castSucc m c t, PhiS_pos m c _ _ (fun h => h0 (by rw [h]))]
  simp only [before0_0, before0_1, before0_2, before0_3, before0_4, before0_5, before0_6 m c t h0]
  rw [show dqS m c t.val t.isLt = _ from gather_step 64 _ _ t h0]
  rw [show dkS m c t.val t.isLt = _ from gather_step 16 _ _ t h1]
  rw [show dvS m c t.val t.isLt = _ from gather_step 16 _ _ t h1]
  rw [show gather 64 _ zeros (t.val - 1) (Nat.lt_of_le_of_lt (Nat.sub_le _ _) t.isLt) = dqS m c (t.val - 1) (Nat.lt_of_le_of_lt (Nat.sub_le _ _) t.isLt) from rfl]
  rw [show gather 16 _ zeros (t.val - 1) (Nat.lt_of_le_of_lt (Nat.sub_le _ _) t.isLt) = dkS m c (t.val - 1) (Nat.lt_of_le_of_lt (Nat.sub_le _ _) t.isLt) from rfl]
  rw [show gather 16 _ zeros (t.val - 1) (Nat.lt_of_le_of_lt (Nat.sub_le _ _) t.isLt) = dvS m c (t.val - 1) (Nat.lt_of_le_of_lt (Nat.sub_le _ _) t.isLt) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((zq_iff t).mp h)) (fun h => h1 ((zk_iff t).mp h)) (fun h => h2 ((wk_iff t).mp h)) (iblk m c 0 t) (iblk m c 1 t) (iblk m c 2 t) (iblk m c 3 t) (iblk m c 4 t) (iblk m c 5 t) (dqS m c (t.val - 1) (Nat.lt_of_le_of_lt (Nat.sub_le _ _) t.isLt)) ((dats m 0 c).before 7 t d7) ((dats m 0 c).before 8 t d8) (dkS m c (t.val - 1) (Nat.lt_of_le_of_lt (Nat.sub_le _ _) t.isLt)) (dvS m c (t.val - 1) (Nat.lt_of_le_of_lt (Nat.sub_le _ _) t.isLt))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · unfold owns; iexists _; isplitr
        swap; · iexact HS0
        ipureintro; exact runB_dk c (grid0.coords t) _ _ _ _ _ _ _ _ _ _ _ _ _ _ _ _ _ _ _ _ _ _ _ _ _ _ _ _ _ _ _ _ _ (fun h => h0 ((zq_iff t).mp h)) (fun h => h1 ((zk_iff t).mp h)) (fun h => h2 ((wk_iff t).mp h)) _
      · unfold owns; iexists _; isplitr
        swap; · iexact HS1
        ipureintro; exact runB_dv c (grid0.coords t) _ _ _ _ _ _ _ _ _ _ _ _ _ _ _ _ _ _ _ _ _ _ _ _ _ _ _ _ _ _ _ _ _ (fun h => h0 ((zq_iff t).mp h)) (fun h => h1 ((zk_iff t).mp h)) (fun h => h2 ((wk_iff t).mp h)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runB_dq c (grid0.coords t) _ _ _ _ _ _ _ _ _ _ _ _ _ _ _ _ _ _ _ _ _ _ _ _ _ _ _ _ _ _ _ _ _ (fun h => h0 ((zq_iff t).mp h)) (fun h => h1 ((zk_iff t).mp h)) (fun h => h2 ((wk_iff t).mp h))
  isplitl [H7]; · iexists _; iexact H7
  iexists _; iexact H8

set_option maxHeartbeats 4000000 in
/-- The body at the last point of a block of keys. -/
theorem bodyC (c : Dev nD) (t : Fin cfg0.N) (h0 : ¬t.val % 64 = 0) (h1 : ¬t.val % 16 = 0) (h2 : t.val % 16 = 15)  :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  rw [leaves7 m c t h2, leaves8 m c t h2]
  rw [PhiS_castSucc m c t, PhiS_pos m c _ _ (fun h => h0 (by rw [h]))]
  simp only [before0_0, before0_1, before0_2, before0_3, before0_4, before0_5, before0_6 m c t h0]
  rw [show dqS m c t.val t.isLt = _ from gather_step 64 _ _ t h0]
  rw [show dkS m c t.val t.isLt = _ from gather_step 16 _ _ t h1]
  rw [show dvS m c t.val t.isLt = _ from gather_step 16 _ _ t h1]
  rw [show gather 64 _ zeros (t.val - 1) (Nat.lt_of_le_of_lt (Nat.sub_le _ _) t.isLt) = dqS m c (t.val - 1) (Nat.lt_of_le_of_lt (Nat.sub_le _ _) t.isLt) from rfl]
  rw [show gather 16 _ zeros (t.val - 1) (Nat.lt_of_le_of_lt (Nat.sub_le _ _) t.isLt) = dkS m c (t.val - 1) (Nat.lt_of_le_of_lt (Nat.sub_le _ _) t.isLt) from rfl]
  rw [show gather 16 _ zeros (t.val - 1) (Nat.lt_of_le_of_lt (Nat.sub_le _ _) t.isLt) = dvS m c (t.val - 1) (Nat.lt_of_le_of_lt (Nat.sub_le _ _) t.isLt) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((zq_iff t).mp h)) (fun h => h1 ((zk_iff t).mp h)) ((wk_iff t).mpr h2) (iblk m c 0 t) (iblk m c 1 t) (iblk m c 2 t) (iblk m c 3 t) (iblk m c 4 t) (iblk m c 5 t) (dqS m c (t.val - 1) (Nat.lt_of_le_of_lt (Nat.sub_le _ _) t.isLt)) (dkS m c (t.val - 1) (Nat.lt_of_le_of_lt (Nat.sub_le _ _) t.isLt)) (dvS m c (t.val - 1) (Nat.lt_of_le_of_lt (Nat.sub_le _ _) t.isLt))).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%e7, H7⟩, ⟨%e8, H8⟩, HS0, HS1⟩
  isplitl [HS0 HS1 Hg]
  · isplitl [HS0 HS1]
    · isplitl [HS0]
      · unfold owns; iexists _; isplitr
        swap; · iexact HS0
        ipureintro; exact runC_dk c (grid0.coords t) _ _ _ _ _ _ _ _ _ _ _ _ _ _ _ _ _ _ _ _ _ _ _ _ _ _ _ _ _ _ _ (fun h => h0 ((zq_iff t).mp h)) (fun h => h1 ((zk_iff t).mp h)) ((wk_iff t).mpr h2) _
      · unfold owns; iexists _; isplitr
        swap; · iexact HS1
        ipureintro; exact runC_dv c (grid0.coords t) _ _ _ _ _ _ _ _ _ _ _ _ _ _ _ _ _ _ _ _ _ _ _ _ _ _ _ _ _ _ _ (fun h => h0 ((zq_iff t).mp h)) (fun h => h1 ((zk_iff t).mp h)) ((wk_iff t).mpr h2) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runC_dq c (grid0.coords t) _ _ _ _ _ _ _ _ _ _ _ _ _ _ _ _ _ _ _ _ _ _ _ _ _ _ _ _ _ _ _ (fun h => h0 ((zq_iff t).mp h)) (fun h => h1 ((zk_iff t).mp h)) ((wk_iff t).mpr h2)
  isplitl [H7]
  · unfold owns; iexists _; isplitr
    swap; · iexact H7
    ipureintro; exact runC_ok c (grid0.coords t) _ _ _ _ _ _ _ _ _ _ _ _ _ _ _ _ _ _ _ _ _ _ _ _ _ _ _ _ _ _ _ (fun h => h0 ((zq_iff t).mp h)) (fun h => h1 ((zk_iff t).mp h)) ((wk_iff t).mpr h2) _
  · unfold owns; iexists _; isplitr
    swap; · iexact H8
    ipureintro; exact runC_ov c (grid0.coords t) _ _ _ _ _ _ _ _ _ _ _ _ _ _ _ _ _ _ _ _ _ _ _ _ _ _ _ _ _ _ _ (fun h => h0 ((zq_iff t).mp h)) (fun h => h1 ((zk_iff t).mp h)) ((wk_iff t).mpr h2) _

set_option maxHeartbeats 4000000 in
/-- The body at the first point of a later block of keys. -/
theorem bodyD (c : Dev nD) (t : Fin cfg0.N) (h0 : ¬t.val % 64 = 0) (h1 : t.val % 16 = 0) (h2 : ¬t.val % 16 = 15)  :
    bodyPre m c t ⊢ wp frame (wpE (defs₀ (F := Ideal)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6]
  rw [Dat.leavesExact_idle (dats m 0 c) 7 t (idle7 t h2) (noFlush7 t h2), Dat.leavesExact_idle (dats m 0 c) 8 t (idle8 t h2) (noFlush8 t h2)]
  rw [PhiS_castSucc m c t, PhiS_pos m c _ _ (fun h => h0 (by rw [h]))]
  simp only [before0_0, before0_1, before0_2, before0_3, before0_4, before0_5, before0_6 m c t h0]
  rw [show dqS m c t.val t.isLt = _ from gather_step 64 _ _ t h0]
  rw [show dkS m c t.val t.isLt = _ from gather_reset 16 _ _ t h1]
  rw [show dvS m c t.val t.isLt = _ from gather_reset 16 _ _ t h1]
  rw [show gather 64 _ zeros (t.val - 1) (Nat.lt_of_le_of_lt (Nat.sub_le _ _) t.isLt) = dqS m c (t.val - 1) (Nat.lt_of_le_of_lt (Nat.sub_le _ _) t.isLt) from rfl]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) (fun h => h0 ((zq_iff t).mp h)) ((zk_iff t).mpr h1) (fun h => h2 ((wk_iff t).mp h)) (iblk m c 0 t) (iblk m c 1 t) (iblk m c 2 t) (iblk m c 3 t) (iblk m c 4 t) (iblk m c 5 t) (dqS m c (t.val - 1) (Nat.lt_of_le_of_lt (Nat.sub_le _ _) t.isLt)) ((dats m 0 c).before 7 t d7) ((dats m 0 c).before 8 t d8)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  iintro ⟨H0, H1, H2, H3, H4, H5, H6, H7, H8, ⟨%es0, HS0⟩, ⟨%es1, HS1⟩⟩
  isplitl [HS0 HS1 Hg]
  · isplitl [HS0 HS1]
    · isplitl [HS0]
      · unfold owns; iexists _; isplitr
        swap; · iexact HS0
        ipureintro; exact runD_dk c (grid0.coords t) _ _ _ _ _ _ _ _ _ _ _ _ _ _ _ _ _ _ _ _ _ _ _ _ _ _ _ _ _ _ _ (fun h => h0 ((zq_iff t).mp h)) ((zk_iff t).mpr h1) (fun h => h2 ((wk_iff t).mp h)) _
      · unfold owns; iexists _; isplitr
        swap; · iexact HS1
        ipureintro; exact runD_dv c (grid0.coords t) _ _ _ _ _ _ _ _ _ _ _ _ _ _ _ _ _ _ _ _ _ _ _ _ _ _ _ _ _ _ _ (fun h => h0 ((zq_iff t).mp h)) ((zk_iff t).mpr h1) (fun h => h2 ((wk_iff t).mp h)) _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact runD_dq c (grid0.coords t) _ _ _ _ _ _ _ _ _ _ _ _ _ _ _ _ _ _ _ _ _ _ _ _ _ _ _ _ _ _ _ (fun h => h0 ((zq_iff t).mp h)) ((zk_iff t).mpr h1) (fun h => h2 ((wk_iff t).mp h))
  isplitl [H7]; · iexists _; iexact H7
  iexists _; iexact H8

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 64 = 0
  · by_cases hz : t.val = 0
    · exact bodyA0 m c t h0 (by omega) (by omega) hz
    · exact bodyA m c t h0 (by omega) (by omega) hz
  · by_cases h1 : t.val % 16 = 0
    · exact bodyD m c t h0 h1 (by omega)
    · by_cases h2 : t.val % 16 = 15
      · exact bodyC m c t h0 h1 h2
      · exact bodyB m c t h0 h1 h2

/-- The body table's row at a point's buffers is the body. -/
theorem defs₀_row (t : Fin cfg0.N) :
    defs₀ (F := Ideal) .tc cfg0.body (cfg0.bodyArgs t (cfg0.slots t)) = bodyAt0 t := by
  unfold defs₀; rw [Defs.onTc_tc]

/-- The body's obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch gives what the first point needs. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratches' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch: every array the pipeline writes ends as the data say, the lines after it have run, every counter is at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The launch, the counters left out. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- The program ends, its arguments as launched, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel3Ideal.Mla

end
-- ==== Proof.MlaSum.lean ====
module

public import proofs.«01_k».proof.Proof.MlaTerms
public import proofs.«01_k».proof.Proof.MlaFrame

@[expose] public section

set_option maxRecDepth 16384

noncomputable section

namespace Cert.Kernel3Ideal.Mla

open Idealize.ShloMosaic Idealize.ShloMosaic.ValueKit Idealize.ShloMosaic.TcCoe
open Cert.Kernel3Ideal Cert.Kernel3Ideal.Gen Cert.MlaMath
open Cert.Reference3Ideal.Mla (S DP M Z cst)

variable (m : (ℓ : Loc nD τ sig) → Buf (Elt Ideal) ℓ) (c : Dev nD)

/-- Adding rows is adding a term that is zero outside them. -/
theorem addRows_eq {N H : ℕ} (o : ℕ) (base : Vec Ideal ⟨2, ![N, 512]⟩ .f32) (T : Fin 4 → Fin H → Fin 128 → EReal) (i : Fin N) (h : Fin 4) (d : Fin 128) :
    addRows o base T (ix2 i (col h d)) = base (ix2 i (col h d)) + (if w : o ≤ i.val ∧ i.val < o + H then T h ⟨i.val - o, by omega⟩ d else 0) := by
  unfold addRows
  by_cases w : o ≤ i.val ∧ i.val < o + H
  · rw [dif_pos w, dif_pos (by exact w)]
    show _ + T (hd (col h d)) ⟨i.val - o, _⟩ (ln (col h d)) = _
    rw [hd_col, ln_col]
  · rw [dif_neg w, dif_neg (by exact w)]
    exact (add_zero _).symm

/-- Column `64 h + l` of the 256 columns of four heads. -/
def vc (h : Fin 4) (l : Fin 64) : Fin 256 := ⟨64 * h.val + l.val, by omega⟩

/-- Adding a pair's terms at a column. -/
theorem addPair_eq {N : ℕ} (base : Vec Ideal ⟨2, ![N, 256]⟩ .f32) (T : Fin 4 → Fin N → Fin 128 → EReal) (i : Fin N) (h : Fin 4) (l : Fin 64) :
    addPair base T (ix2 i (vc h l)) = base (ix2 i (vc h l)) + (T ⟨2 * (h.val / 2), by omega⟩ i (lane h l) + T ⟨2 * (h.val / 2) + 1, by omega⟩ i (lane h l)) := by
  have e : vln (vc h l) = lane h l := Fin.ext (by show (64 * h.val + l.val) % 128 = 64 * (h.val % 2) + l.val; omega)
  have e0 : (⟨2 * ((vc h l).val / 128), by have := (vc h l).isLt; omega⟩ : Fin 4) = ⟨2 * (h.val / 2), by omega⟩ := Fin.ext (by show 2 * ((64 * h.val + l.val) / 128) = 2 * (h.val / 2); omega)
  have e1 : (⟨2 * ((vc h l).val / 128) + 1, by have := (vc h l).isLt; omega⟩ : Fin 4) = ⟨2 * (h.val / 2) + 1, by omega⟩ := Fin.ext (by show 2 * ((64 * h.val + l.val) / 128) + 1 = 2 * (h.val / 2) + 1; omega)
  show base (ix2 i (vc h l)) + T ⟨2 * ((vc h l).val / 128), _⟩ i (vln (vc h l)) + T ⟨2 * ((vc h l).val / 128) + 1, _⟩ i (vln (vc h l)) = _
  rw [e, e0, e1, add_assoc]

section Values

variable (q k : Fin 8192 → Fin 8 → Fin 96 → ℝ) (v g : Fin 8192 → Fin 8 → Fin 64 → ℝ)
  (hQ : ∀ i h d, argQ m c (ix3 i h d) = ((q i h d : ℝ) : EReal)) (hK : ∀ i h d, argK m c (ix3 i h d) = ((k i h d : ℝ) : EReal))
  (hV : ∀ i h d, argV m c (ix3 i h d) = ((v i h d : ℝ) : EReal))
  (hD : ∀ i (h : Fin 8) (l : Fin 64), argD m c (ix2 i (oc h l)) = ((g i h l : ℝ) : EReal))

/-- A head of a group of four. -/
def hdN (a : ℕ) (ha : a < 2) (h : Fin 4) : Fin 8 := ⟨4 * a + h.val, by omega⟩

/-! ### The queries -/

/-- What a point adds to an entry of the gradient of the queries. -/
def qTerm (h : Fin 4) (i : Fin 8192) (d : Fin 128) (n : ℕ) : EReal :=
  if hn : n < cfg0.N then
    (if w : 512 * (n % 16) ≤ i.val ∧ i.val < 512 * (n % 16) + 512 then
      dqTerm (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) h ⟨i.val - 512 * (n % 16), by omega⟩ d
    else 0)
  else 0

/-- The gathered gradient of the queries, as a sum over a head group's points. -/
theorem dqS_sum (h : Fin 4) (i : Fin 8192) (d : Fin 128) (t : Fin cfg0.N) (ht : t.val % 64 = 63) :
    dqS m c t.val t.isLt (ix2 i (col h d)) = ∑ n ∈ Finset.range 64, qTerm m c h i d (64 * (t.val / 64) + n) := by
  have := Pipeline.eq_sum_of_reset_step_apply_of_mod (N := cfg0.N) (ι := Unit) (M := EReal) (fun n hn _ => dqS m c n hn (ix2 i (col h d))) 64 (fun _ => 0) (fun n _ => qTerm m c h i d n)
    (fun t h0 _ => by
      show dqS m c t.val t.isLt (ix2 i (col h d)) = 0 + qTerm m c h i d t.val
      rw [show dqS m c t.val t.isLt = _ from gather_reset 64 _ _ t h0, coord_q, addRows_eq]
      unfold qTerm
      rw [dif_pos t.isLt]
      rfl)
    (fun t h0 _ => by
      show dqS m c t.val t.isLt (ix2 i (col h d)) = dqS m c (t.val - 1) _ (ix2 i (col h d)) + qTerm m c h i d t.val
      rw [show dqS m c t.val t.isLt = _ from gather_step 64 _ _ t h0, coord_q, addRows_eq]
      unfold qTerm
      rw [dif_pos t.isLt]
      rfl)
    t ht ()
  exact this.trans (zero_add _)

include hQ hK hV hD in
/-- A point's addition to the gradient of the queries. -/
theorem qTerm_at (h : Fin 4) (i : Fin 8192) (d : Fin 128) (hd : d.val < 96) (a : ℕ) (ha : a < 2) (b : Fin 4) (e : Fin 16) :
    qTerm m c h i d (64 * a + (16 * b.val + e.val)) = ((if i.val / 512 = e.val then ∑ j : Fin 2048,
      slopeR (S q k (hdN a ha h) i) (DP v g (hdN a ha h) i) ⟨2048 * b.val + j.val, by omega⟩ * Real.log 2 * k ⟨2048 * b.val + j.val, by omega⟩ (hdN a ha h) ⟨d.val, hd⟩ else 0 : ℝ) : EReal) := by
  have hn : 64 * a + (16 * b.val + e.val) < cfg0.N := by rw [show cfg0.N = 128 from N_0]; omega
  unfold qTerm
  rw [dif_pos hn]
  by_cases w : i.val / 512 = e.val
  · rw [dif_pos (by omega), if_pos w, dqTerm_at m c q k v g hQ hK hV hD ⟨_, hn⟩ h _ d hd]
    have e1 : hdG ⟨64 * a + (16 * b.val + e.val), hn⟩ h = hdN a ha h := Fin.ext (by show 4 * ((64 * a + (16 * b.val + e.val)) / 64) + h.val = 4 * a + h.val; omega)
    have e2 : rowG ⟨64 * a + (16 * b.val + e.val), hn⟩ ⟨i.val - 512 * ((64 * a + (16 * b.val + e.val)) % 16), by omega⟩ = i :=
      Fin.ext (by show 512 * ((64 * a + (16 * b.val + e.val)) % 16) + (i.val - 512 * ((64 * a + (16 * b.val + e.val)) % 16)) = i.val; omega)
    have e3 (j : Fin 2048) : keyG ⟨64 * a + (16 * b.val + e.val), hn⟩ j = ⟨2048 * b.val + j.val, by omega⟩ :=
      Fin.ext (by show 2048 * ((64 * a + (16 * b.val + e.val)) / 16 % 4) + j.val = 2048 * b.val + j.val; omega)
    rw [e1, e2]
    simp only [e3]
  · rw [dif_neg (by omega), if_neg w]
    rfl

include hQ hK hV hD in
/-- The gathered gradient of the queries after a head group's last point. -/
theorem dqS_at (h : Fin 4) (i : Fin 8192) (d : Fin 128) (hd : d.val < 96) (t : Fin cfg0.N) (ht : t.val % 64 = 63) (a : ℕ) (ha : a < 2) (hta : t.val / 64 = a) :
    dqS m c t.val t.isLt (ix2 i (col h d))
      = ((∑ j, slopeR (S q k (hdN a ha h) i) (DP v g (hdN a ha h) i) j * Real.log 2 * k j (hdN a ha h) ⟨d.val, hd⟩ : ℝ) : EReal) := by
  rw [dqS_sum m c h i d t ht, hta, Finset.sum_range (fun n => qTerm m c h i d (64 * a + n)),
    ← sum_blocks (A := 4) (B := 16) (N := 64) rfl (fun n => qTerm m c h i d (64 * a + n.val))]
  simp only [qTerm_at m c q k v g hQ hK hV hD h i d hd a ha, coe_sum]
  congr 1
  rw [← sum_blocks (A := 4) (B := 2048) (N := 8192) rfl (fun j => slopeR (S q k (hdN a ha h) i) (DP v g (hdN a ha h) i) j * Real.log 2 * k j (hdN a ha h) ⟨d.val, hd⟩)]
  refine Finset.sum_congr rfl fun b _ => ?_
  rw [Finset.sum_eq_single (⟨i.val / 512, by omega⟩ : Fin 16) (fun e _ he => if_neg fun hh => he (Fin.ext hh.symm)) (fun hh => absurd (Finset.mem_univ _) hh)]
  exact if_pos rfl

/-! ### The keys -/

/-- What a point adds to an entry of the gradient of the keys. -/
def kTerm (h : Fin 4) (j : Fin 2048) (d : Fin 128) (n : ℕ) : EReal :=
  if hn : n < cfg0.N then
    dkTerm (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) h j d
  else 0

/-- A key block's rows are all added to. -/
theorem addRows_all (base : Vec Ideal ⟨2, ![2048, 512]⟩ .f32) (T : Fin 4 → Fin 2048 → Fin 128 → EReal) (j : Fin 2048) (h : Fin 4) (d : Fin 128) :
    addRows 0 base T (ix2 j (col h d)) = base (ix2 j (col h d)) + T h j d := by
  rw [addRows_eq, dif_pos (by omega)]
  rfl

/-- The gathered gradient of the keys, as a sum over the query blocks. -/
theorem dkS_sum (h : Fin 4) (j : Fin 2048) (d : Fin 128) (t : Fin cfg0.N) (ht : t.val % 16 = 15) :
    dkS m c t.val t.isLt (ix2 j (col h d)) = ∑ n ∈ Finset.range 16, kTerm m c h j d (16 * (t.val / 16) + n) := by
  have := Pipeline.eq_sum_of_reset_step_apply_of_mod (N := cfg0.N) (ι := Unit) (M := EReal) (fun n hn _ => dkS m c n hn (ix2 j (col h d))) 16 (fun _ => 0) (fun n _ => kTerm m c h j d n)
    (fun t h0 _ => by
      show dkS m c t.val t.isLt (ix2 j (col h d)) = 0 + kTerm m c h j d t.val
      rw [show dkS m c t.val t.isLt = _ from gather_reset 16 _ _ t h0, addRows_all]
      unfold kTerm
      rw [dif_pos t.isLt]
      rfl)
    (fun t h0 _ => by
      show dkS m c t.val t.isLt (ix2 j (col h d)) = dkS m c (t.val - 1) _ (ix2 j (col h d)) + kTerm m c h j d t.val
      rw [show dkS m c t.val t.isLt = _ from gather_step 16 _ _ t h0, addRows_all]
      unfold kTerm
      rw [dif_pos t.isLt]
      rfl)
    t ht ()
  exact this.trans (zero_add _)

/-- A point's place within its key block: the head group, the key block and the query rows. -/
theorem place (n : ℕ) (e : Fin 16) (hn : 16 * n + e.val < cfg0.N) (hn2 : n / 4 < 2) :
    (∀ h, hdG ⟨16 * n + e.val, hn⟩ h = hdN (n / 4) hn2 h)
    ∧ (∀ r : Fin 512, rowG ⟨16 * n + e.val, hn⟩ r = ⟨512 * e.val + r.val, by omega⟩)
    ∧ (∀ j : Fin 2048, keyG ⟨16 * n + e.val, hn⟩ j = ⟨2048 * (n % 4) + j.val, by omega⟩) := by
  refine ⟨fun h => Fin.ext ?_, fun r => Fin.ext ?_, fun j => Fin.ext ?_⟩
  · show 4 * ((16 * n + e.val) / 64) + h.val = 4 * (n / 4) + h.val; omega
  · show 512 * ((16 * n + e.val) % 16) + r.val = 512 * e.val + r.val; omega
  · show 2048 * ((16 * n + e.val) / 16 % 4) + j.val = 2048 * (n % 4) + j.val; omega

include hQ hK hV hD in
/-- The gathered gradient of the keys after a key block's last point. -/
theorem dkS_at (h : Fin 4) (j : Fin 2048) (d : Fin 128) (hd : d.val < 96) (t : Fin cfg0.N) (ht : t.val % 16 = 15) (n : ℕ) (hn8 : n / 4 < 2) (htn : t.val / 16 = n) (J : Fin 8192) (hJ : J.val = 2048 * (n % 4) + j.val) :
    dkS m c t.val t.isLt (ix2 j (col h d))
      = ((∑ i, slopeR (S q k (hdN (n / 4) hn8 h) i) (DP v g (hdN (n / 4) hn8 h) i) J * cst * q i (hdN (n / 4) hn8 h) ⟨d.val, hd⟩ : ℝ) : EReal) := by
  have hJ' : J = ⟨2048 * (n % 4) + j.val, by omega⟩ := Fin.ext hJ
  have key (e : Fin 16) : kTerm m c h j d (16 * n + e.val) = ((∑ r : Fin 512,
      slopeR (S q k (hdN (n / 4) hn8 h) ⟨512 * e.val + r.val, by omega⟩) (DP v g (hdN (n / 4) hn8 h) ⟨512 * e.val + r.val, by omega⟩) J * cst * q ⟨512 * e.val + r.val, by omega⟩ (hdN (n / 4) hn8 h) ⟨d.val, hd⟩ : ℝ) : EReal) := by
    have hn : 16 * n + e.val < cfg0.N := by rw [show cfg0.N = 128 from N_0]; omega
    unfold kTerm
    rw [dif_pos hn, dkTerm_at m c q k v g hQ hK hV hD ⟨_, hn⟩ h j d hd]
    obtain ⟨e1, e2, e3⟩ := place n e hn hn8
    simp only [e1, e2, e3, hJ']
  rw [dkS_sum m c h j d t ht, htn, Finset.sum_range (fun e => kTerm m c h j d (16 * n + e))]
  simp only [key, coe_sum]
  exact congrArg _ (sum_blocks (A := 16) (B := 512) (N := 8192) rfl
    (fun i => slopeR (S q k (hdN (n / 4) hn8 h) i) (DP v g (hdN (n / 4) hn8 h) i) J * cst * q i (hdN (n / 4) hn8 h) ⟨d.val, hd⟩))

/-! ### The values -/

/-- What a point adds to an entry of the gradient of the values. -/
def vTerm (h : Fin 4) (j : Fin 2048) (l : Fin 64) (n : ℕ) : EReal :=
  if hn : n < cfg0.N then
    dvTerm (iblk m c 0 ⟨n, hn⟩) (iblk m c 1 ⟨n, hn⟩) (iblk m c 3 ⟨n, hn⟩) (iblk m c 4 ⟨n, hn⟩) ⟨2 * (h.val / 2), by omega⟩ j (lane h l)
      + dvTerm (iblk m c 0 ⟨n, hn⟩) (iblk m c 1 ⟨n, hn⟩) (iblk m c 3 ⟨n, hn⟩) (iblk m c 4 ⟨n, hn⟩) ⟨2 * (h.val / 2) + 1, by omega⟩ j (lane h l)
  else 0

/-- The gathered gradient of the values, as a sum over the query blocks. -/
theorem dvS_sum (h : Fin 4) (j : Fin 2048) (l : Fin 64) (t : Fin cfg0.N) (ht : t.val % 16 = 15) :
    dvS m c t.val t.isLt (ix2 j (vc h l)) = ∑ n ∈ Finset.range 16, vTerm m c h j l (16 * (t.val / 16) + n) := by
  have := Pipeline.eq_sum_of_reset_step_apply_of_mod (N := cfg0.N) (ι := Unit) (M := EReal) (fun n hn _ => dvS m c n hn (ix2 j (vc h l))) 16 (fun _ => 0) (fun n _ => vTerm m c h j l n)
    (fun t h0 _ => by
      show dvS m c t.val t.isLt (ix2 j (vc h l)) = 0 + vTerm m c h j l t.val
      rw [show dvS m c t.val t.isLt = _ from gather_reset 16 _ _ t h0, addPair_eq]
      unfold vTerm
      rw [dif_pos t.isLt]
      rfl)
    (fun t h0 _ => by
      show dvS m c t.val t.isLt (ix2 j (vc h l)) = dvS m c (t.val - 1) _ (ix2 j (vc h l)) + vTerm m c h j l t.val
      rw [show dvS m c t.val t.isLt = _ from gather_step 16 _ _ t h0, addPair_eq]
      unfold vTerm
      rw [dif_pos t.isLt]
      rfl)
    t ht ()
  exact this.trans (zero_add _)

include hQ hK hD in
/-- The two heads of a pair together add the own head's term. -/
theorem pair_at (t : Fin cfg0.N) (h : Fin 4) (j : Fin 2048) (l : Fin 64) :
    dvTerm (iblk m c 0 t) (iblk m c 1 t) (iblk m c 3 t) (iblk m c 4 t) ⟨2 * (h.val / 2), by omega⟩ j (lane h l)
      + dvTerm (iblk m c 0 t) (iblk m c 1 t) (iblk m c 3 t) (iblk m c 4 t) ⟨2 * (h.val / 2) + 1, by omega⟩ j (lane h l)
      = ((∑ r : Fin 512, g (rowG t r) (hdG t h) l * soft (S q k (hdG t h) (rowG t r)) (keyG t j) : ℝ) : EReal) := by
  have e : (lane h l).val / 64 = h.val % 2 := by show (64 * (h.val % 2) + l.val) / 64 = h.val % 2; omega
  by_cases w : h.val % 2 = 0
  · rw [dvTerm_other m c t ⟨2 * (h.val / 2) + 1, by omega⟩ j (lane h l) (by rw [e]; dsimp only; omega), add_zero]
    rw [show (⟨2 * (h.val / 2), by omega⟩ : Fin 4) = h from Fin.ext (by dsimp only; omega)]
    exact dvTerm_own m c q k g hQ hK hD t h j l
  · rw [dvTerm_other m c t ⟨2 * (h.val / 2), by omega⟩ j (lane h l) (by rw [e]; dsimp only; omega), zero_add]
    rw [show (⟨2 * (h.val / 2) + 1, by omega⟩ : Fin 4) = h from Fin.ext (by dsimp only; omega)]
    exact dvTerm_own m c q k g hQ hK hD t h j l

include hQ hK hD in
/-- The gathered gradient of the values after a key block's last point. -/
theorem dvS_at (h : Fin 4) (j : Fin 2048) (l : Fin 64) (t : Fin cfg0.N) (ht : t.val % 16 = 15) (n : ℕ) (hn8 : n / 4 < 2) (htn : t.val / 16 = n) (J : Fin 8192) (hJ : J.val = 2048 * (n % 4) + j.val) :
    dvS m c t.val t.isLt (ix2 j (vc h l))
      = ((∑ i, g i (hdN (n / 4) hn8 h) l * soft (S q k (hdN (n / 4) hn8 h) i) J : ℝ) : EReal) := by
  have hJ' : J = ⟨2048 * (n % 4) + j.val, by omega⟩ := Fin.ext hJ
  have key (e : Fin 16) : vTerm m c h j l (16 * n + e.val) = ((∑ r : Fin 512,
      g ⟨512 * e.val + r.val, by omega⟩ (hdN (n / 4) hn8 h) l * soft (S q k (hdN (n / 4) hn8 h) ⟨512 * e.val + r.val, by omega⟩) J : ℝ) : EReal) := by
    have hn : 16 * n + e.val < cfg0.N := by rw [show cfg0.N = 128 from N_0]; omega
    unfold vTerm
    rw [dif_pos hn, pair_at m c q k g hQ hK hD ⟨_, hn⟩ h j l]
    obtain ⟨e1, e2, e3⟩ := place n e hn hn8
    simp only [e1, e2, e3, hJ']
  rw [dvS_sum m c h j l t ht, htn, Finset.sum_range (fun e => vTerm m c h j l (16 * n + e))]
  simp only [key, coe_sum]
  exact congrArg _ (sum_blocks (A := 16) (B := 512) (N := 8192) rfl
    (fun i => g i (hdN (n / 4) hn8 h) l * soft (S q k (hdN (n / 4) hn8 h) i) J))

end Values

end Cert.Kernel3Ideal.Mla

end
-- ==== Proof.MlaArr.lean ====
module

public import proofs.«01_k».proof.Proof.MlaSum

@[expose] public section

set_option maxRecDepth 16384

noncomputable section

namespace Cert.Kernel3Ideal.Mla

open Idealize.ShloMosaic Idealize.ShloMosaic.ValueKit Idealize.ShloMosaic.TcCoe
open Cert.Kernel3Ideal Cert.Kernel3Ideal.Gen Cert.MlaMath
open Cert.Reference3Ideal.Mla (S DP M Z cst)

variable (m : (ℓ : Loc nD τ sig) → Buf (Elt Ideal) ℓ) (c : Dev nD)
variable (q k : Fin 8192 → Fin 8 → Fin 96 → ℝ) (v g : Fin 8192 → Fin 8 → Fin 64 → ℝ)
  (hQ : ∀ i h d, argQ m c (ix3 i h d) = ((q i h d : ℝ) : EReal)) (hK : ∀ i h d, argK m c (ix3 i h d) = ((k i h d : ℝ) : EReal))
  (hV : ∀ i h d, argV m c (ix3 i h d) = ((v i h d : ℝ) : EReal))
  (hD : ∀ i (h : Fin 8) (l : Fin 64), argD m c (ix2 i (oc h l)) = ((g i h l : ℝ) : EReal))

/-- Column `d` of head `h` among the eight heads' padded columns. -/
def pc (h : Fin 8) (d : Fin 96) : Fin 1024 := ⟨128 * h.val + d.val, by omega⟩

include hQ hK hV hD in
/-- The first array after the region. -/
theorem arr6 (i : Fin 8192) (h : Fin 8) (d : Fin 96) :
    (show Vec Ideal S8192x1024 .f32 from (dats m 0 c).arrAt 6 cfg0.N) (ix2 i (pc h d))
      = ((∑ j, slopeR (S q k h i) (DP v g h i) j * Real.log 2 * k j h d : ℝ) : EReal) := by
  have key := (dats m 0 c).arrAt_forall_of_covers 6 (fun x w => ∀ (i : Fin 8192) (h : Fin 8) (d : Fin 96), (show S8192x1024.Idx from x) = ix2 i (pc h d) →
      (show EReal from w) = ((∑ j, slopeR (S q k h i) (DP v g h i) j * Real.log 2 * k j h d : ℝ) : EReal)) (by decide +kernel) (fun t hf y => ?_) (ix2 i (pc h d))
  · exact key i h d rfl
  · have ht : t.val < 128 := Nat.lt_of_lt_of_eq t.isLt N_0
    intro i h d hx
    have h0 := congrArg (fun x : S8192x1024.Idx => (x 0).val) hx
    have h1 := congrArg (fun x : S8192x1024.Idx => (x 1).val) hx
    blk_simp [idx t] at h0 h1
    blk_simp
    rw [after0_6]
    change t.val / 64 * 512 + (y 1).val = 128 * h.val + d.val at h1
    have y1 : (y 1).val < 512 := (y 1).isLt
    have e1 : h = hdN (t.val / 64) (by omega) ⟨h.val % 4, by omega⟩ := Fin.ext (by show h.val = 4 * (t.val / 64) + h.val % 4; omega)
    have e2 : y = ix2 i (col ⟨h.val % 4, by omega⟩ ⟨d.val, by omega⟩) := by
      funext a
      match a with
      | ⟨0, _⟩ => exact Fin.ext h0
      | ⟨1, _⟩ => exact Fin.ext (by show (y 1).val = 128 * (h.val % 4) + d.val; omega)
    have := dqS_at m c q k v g hQ hK hV hD ⟨h.val % 4, by omega⟩ i ⟨d.val, by omega⟩ d.isLt t ((flush0_6 t).mp hf) (t.val / 64) (by omega) rfl
    rw [← e1, ← e2] at this
    exact this

include hQ hK hV hD in
/-- The second array after the region. -/
theorem arr7 (J : Fin 8192) (h : Fin 8) (d : Fin 96) :
    (show Vec Ideal S8192x1024 .bf16 from (dats m 0 c).arrAt 7 cfg0.N) (ix2 J (pc h d))
      = ((∑ i, slopeR (S q k h i) (DP v g h i) J * cst * q i h d : ℝ) : EReal) := by
  have key := (dats m 0 c).arrAt_forall_of_covers 7 (fun x w => ∀ (J : Fin 8192) (h : Fin 8) (d : Fin 96), (show S8192x1024.Idx from x) = ix2 J (pc h d) →
      (show EReal from w) = ((∑ i, slopeR (S q k h i) (DP v g h i) J * cst * q i h d : ℝ) : EReal)) (by decide +kernel) (fun t hf y => ?_) (ix2 J (pc h d))
  · exact key J h d rfl
  · have ht : t.val < 128 := Nat.lt_of_lt_of_eq t.isLt N_0
    intro J h d hx
    have h0 := congrArg (fun x : S8192x1024.Idx => (x 0).val) hx
    have h1 := congrArg (fun x : S8192x1024.Idx => (x 1).val) hx
    blk_simp [idx t] at h0 h1
    blk_simp
    rw [after0_7]
    change t.val / 16 % 4 * 2048 + (y 0).val = J.val at h0
    change t.val / 64 * 512 + (y 1).val = 128 * h.val + d.val at h1
    have y0 : (y 0).val < 2048 := (y 0).isLt
    have y1 : (y 1).val < 512 := (y 1).isLt
    have e1 : h = hdN (t.val / 16 / 4) (by omega) ⟨h.val % 4, by omega⟩ := Fin.ext (by show h.val = 4 * (t.val / 16 / 4) + h.val % 4; omega)
    have e2 : y = ix2 ⟨(y 0).val, y0⟩ (col ⟨h.val % 4, by omega⟩ ⟨d.val, by omega⟩) := by
      funext a
      match a with
      | ⟨0, _⟩ => rfl
      | ⟨1, _⟩ => exact Fin.ext (by show (y 1).val = 128 * (h.val % 4) + d.val; omega)
    have := dkS_at m c q k v g hQ hK hV hD ⟨h.val % 4, by omega⟩ ⟨(y 0).val, y0⟩ ⟨d.val, by omega⟩ d.isLt t ((flush0_7 t).mp hf) (t.val / 16) (by omega) rfl J (by show J.val = 2048 * (t.val / 16 % 4) + (y 0).val; omega)
    rw [← e1, ← e2] at this
    exact this

include hQ hK hD in
/-- The third array after the region. -/
theorem arr8 (J : Fin 8192) (h : Fin 8) (l : Fin 64) :
    (show Vec Ideal S8192x512 .bf16 from (dats m 0 c).arrAt 8 cfg0.N) (ix2 J (oc h l))
      = ((∑ i, g i h l * soft (S q k h i) J : ℝ) : EReal) := by
  have key := (dats m 0 c).arrAt_forall_of_covers 8 (fun x w => ∀ (J : Fin 8192) (h : Fin 8) (l : Fin 64), (show S8192x512.Idx from x) = ix2 J (oc h l) →
      (show EReal from w) = ((∑ i, g i h l * soft (S q k h i) J : ℝ) : EReal)) (by decide +kernel) (fun t hf y => ?_) (ix2 J (oc h l))
  · exact key J h l rfl
  · have ht : t.val < 128 := Nat.lt_of_lt_of_eq t.isLt N_0
    intro J h l hx
    have h0 := congrArg (fun x : S8192x512.Idx => (x 0).val) hx
    have h1 := congrArg (fun x : S8192x512.Idx => (x 1).val) hx
    blk_simp [idx t] at h0 h1
    blk_simp
    rw [after0_8]
    change t.val / 16 % 4 * 2048 + (y 0).val = J.val at h0
    change t.val / 64 * 256 + (y 1).val = 64 * h.val + l.val at h1
    have y0 : (y 0).val < 2048 := (y 0).isLt
    have y1 : (y 1).val < 256 := (y 1).isLt
    have e1 : h = hdN (t.val / 16 / 4) (by omega) ⟨h.val % 4, by omega⟩ := Fin.ext (by show h.val = 4 * (t.val / 16 / 4) + h.val % 4; omega)
    have e2 : y = ix2 ⟨(y 0).val, y0⟩ (vc ⟨h.val % 4, by omega⟩ l) := by
      funext a
      match a with
      | ⟨0, _⟩ => rfl
      | ⟨1, _⟩ => exact Fin.ext (by show (y 1).val = 64 * (h.val % 4) + l.val; omega)
    have := dvS_at m c q k g hQ hK hD ⟨h.val % 4, by omega⟩ ⟨(y 0).val, y0⟩ l t ((flush0_8 t).mp hf) (t.val / 16) (by omega) rfl J (by show J.val = 2048 * (t.val / 16 % 4) + (y 0).val; omega)
    rw [← e1, ← e2] at this
    exact this

end Cert.Kernel3Ideal.Mla

end
-- ==== Proof.MlaTail.lean ====
module

public import proofs.«01_k».proof.Proof.MlaArr
public import proofs.«01_k».proof.Pre_finite3

@[expose] public section

set_option maxRecDepth 16384

noncomputable section

namespace Cert.Kernel3Ideal.Mla

open Idealize.ShloMosaic Idealize.ShloMosaic.ValueKit Idealize.ShloMosaic.TcCoe Idealize.ShloMosaic.StableHlo
open Cert.Kernel3Ideal Cert.Kernel3Ideal.Gen Cert.MlaMath Cert.Kernel3Ideal.Facts
open Cert.Reference3Ideal.Mla (S DP M Z cst)

/-! ### The host's last operations -/

/-- The first result of the first array. -/
def tq (A : FVec Ideal S8192x1024 .f32) : FVec Ideal S8192x8x96 .bf16 :=
  truncf .bf16 (Host.divf (mulf (extractStridedSlice S8192x8x96 ![0, 0, 0] (shapeCast S8192x8x128 A shapeCasts_S8192x1024_S8192x8x128) slices_S8192x8x128_S8192x8x96_0_0_0)
    (broadcastInDim S8192x8x96 ![] bcast_S_S8192x8x96 (constant S_ .f32 0x3DD105EC#32)))
    (broadcastInDim S8192x8x96 ![] bcast_S_S8192x8x96 log2)) bitsLt_bf16_f32

/-- The second result of the second array. -/
def tk (A : FVec Ideal S8192x1024 .bf16) : FVec Ideal S8192x8x96 .bf16 :=
  truncf .bf16 (extractStridedSlice S8192x8x96 ![0, 0, 0] (shapeCast S8192x8x128 (extf .f32 A bitsLt_bf16_f32) shapeCasts_S8192x1024_S8192x8x128) slices_S8192x8x128_S8192x8x96_0_0_0) bitsLt_bf16_f32

/-- The third result of the third array. -/
def tv (A : FVec Ideal S8192x512 .bf16) : FVec Ideal S8192x8x64 .bf16 := shapeCast S8192x8x64 A shapeCasts_S8192x512_S8192x8x64

/-- The first result's entry. -/
theorem tq_at (A : FVec Ideal S8192x1024 .f32) (i : Fin 8192) (h : Fin 8) (d : Fin 96) (x : ℝ) (hx : A (ix2 i (pc h d)) = (x : EReal)) :
    tq A (ix3 i h d) = ((x * cst / Real.log 2 : ℝ) : EReal) := by
  pointwise [tq]
  rw [log2_at, Cert.Reference3Ideal.Mla.cst_eq]
  rw [show (⟨h.val * 128 + d.val, by omega⟩ : Fin 1024) = pc h d from Fin.ext (by show h.val * 128 + d.val = 128 * h.val + d.val; omega), hx, ← EReal.coe_mul]
  exact coe_div _ _ log2_ne

/-- The second result's entry. -/
theorem tk_at (A : FVec Ideal S8192x1024 .bf16) (i : Fin 8192) (h : Fin 8) (d : Fin 96) : tk A (ix3 i h d) = A (ix2 i (pc h d)) := by
  pointwise [tk]
  rw [show (⟨h.val * 128 + d.val, by omega⟩ : Fin 1024) = pc h d from Fin.ext (by show h.val * 128 + d.val = 128 * h.val + d.val; omega)]

/-- The third result's entry. -/
theorem tv_at (A : FVec Ideal S8192x512 .bf16) (i : Fin 8192) (h : Fin 8) (l : Fin 64) : tv A (ix3 i h l) = A (ix2 i (oc h l)) := by
  pointwise [tv]
  rw [show (⟨h.val * 64 + l.val, by omega⟩ : Fin 512) = oc h l from Fin.ext (by show h.val * 64 + l.val = 64 * h.val + l.val; omega)]

variable (m : (ℓ : Loc nD τ sig) → Buf (Elt Ideal) ℓ) (c : Dev nD)

/-- Different windows have different arrays. -/
theorem arr_inj : Function.Injective (Pipeline.arrRef spec0) := by decide

/-- The first result after the tail. -/
theorem W_main_v48 : Pipeline.afterTail₀ cfgs (dats m) 0 (V0 m) [hostOps1] c main_v48 = tq ((dats m 0 c).arrAt 6 cfg0.N) := by
  unfold Pipeline.afterTail₀ tq
  simp only [List.flatten_cons, List.flatten_nil, List.append_nil]
  after_reads_simp
  rw [show ∀ V A, Pipeline.withArrays spec0 c V A (Proc.devRef .tc main_v41_0) = A 6 from fun V A => Pipeline.withArrays_arr spec0 arr_inj c V A 6,
    Pipeline.withArrays_of_ne spec0 c _ _ main_v19 (by exact (by decide : ∀ w, Pipeline.arrRef spec0 w ≠ main_v19)),
    show V0 m c (Proc.devRef .tc main_v19) = log2 from V_log m c]
  rfl

/-- The second result after the tail. -/
theorem W_main_v52 : Pipeline.afterTail₀ cfgs (dats m) 0 (V0 m) [hostOps1] c main_v52 = tk ((dats m 0 c).arrAt 7 cfg0.N) := by
  unfold Pipeline.afterTail₀ tk
  simp only [List.flatten_cons, List.flatten_nil, List.append_nil]
  after_reads_simp
  rw [show ∀ V A, Pipeline.withArrays spec0 c V A (Proc.devRef .tc main_v41_1) = A 7 from fun V A => Pipeline.withArrays_arr spec0 arr_inj c V A 7]
  rfl

/-- The third result after the tail. -/
theorem W_main_v53 : Pipeline.afterTail₀ cfgs (dats m) 0 (V0 m) [hostOps1] c main_v53 = tv ((dats m 0 c).arrAt 8 cfg0.N) := by
  unfold Pipeline.afterTail₀ tv
  simp only [List.flatten_cons, List.flatten_nil, List.append_nil]
  after_reads_simp
  rw [show ∀ V A, Pipeline.withArrays spec0 c V A (Proc.devRef .tc main_v41_2) = A 8 from fun V A => Pipeline.withArrays_arr spec0 arr_inj c V A 8]
  rfl

/-! ### The precondition -/

/-- An extended real whose magnitude is below infinity is a real. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have h' : max x (-x) < ⊤ := by
    by_contra hh
    change BitVec.ofBool (decide (max x (-x) < ⊤)) = 1#1 at h
    rw [decide_eq_false hh] at h
    exact absurd h (by decide)
  refine (EReal.coe_toReal (fun e => ?_) (fun e => ?_)).symm
  · rw [e] at h'; simp at h'
  · rw [e] at h'; simp at h'

/-- The precondition's predicate. -/
def fin4 (Q K : FVec Ideal S8192x8x96 .bf16) (V : FVec Ideal S8192x8x64 .bf16) (D : FVec Ideal S8192x512 .bf16) [Cert.Pre_finite3.Facts] : Prop :=
  Cert.Pre_finite3.fn (F := Ideal) Q K V D = fun _ => 1#1

variable {Q K : FVec Ideal S8192x8x96 .bf16} {V : FVec Ideal S8192x8x64 .bf16} {D : FVec Ideal S8192x512 .bf16} [Cert.Pre_finite3.Facts]

/-- A finite query. -/
theorem fin_q (h : fin4 Q K V D) (i : Fin 8192) (a : Fin 8) (d : Fin 96) : Q (ix3 i a d) = ((Q (ix3 i a d)).toReal : EReal) := by
  have := congrFun h (ix3 i a (⟨d.val, by omega⟩ : Fin 320))
  pointwise [Cert.Pre_finite3.fn] at this
  exact real_of_lt _ this

/-- A finite key. -/
theorem fin_k (h : fin4 Q K V D) (i : Fin 8192) (a : Fin 8) (d : Fin 96) : K (ix3 i a d) = ((K (ix3 i a d)).toReal : EReal) := by
  have := congrFun h (ix3 i a (⟨96 + d.val, by omega⟩ : Fin 320))
  pointwise [Cert.Pre_finite3.fn] at this
  exact real_of_lt _ this

/-- A finite value. -/
theorem fin_v (h : fin4 Q K V D) (i : Fin 8192) (a : Fin 8) (l : Fin 64) : V (ix3 i a l) = ((V (ix3 i a l)).toReal : EReal) := by
  have := congrFun h (ix3 i a (⟨192 + l.val, by omega⟩ : Fin 320))
  pointwise [Cert.Pre_finite3.fn] at this
  rw [dif_neg (by omega), dif_neg (by omega), dif_pos (by omega), show (⟨192 + l.val - 96 - 96, by omega⟩ : Fin 64) = l from Fin.ext (by show 192 + l.val - 96 - 96 = l.val; omega)] at this
  exact real_of_lt _ this

/-- A finite cotangent. -/
theorem fin_d (h : fin4 Q K V D) (i : Fin 8192) (a : Fin 8) (l : Fin 64) : D (ix2 i (oc a l)) = ((D (ix2 i (oc a l))).toReal : EReal) := by
  have := congrFun h (ix3 i a (⟨256 + l.val, by omega⟩ : Fin 320))
  pointwise [Cert.Pre_finite3.fn] at this
  rw [dif_neg (by omega), dif_neg (by omega), dif_neg (by omega), show (⟨a.val * 64 + (256 + l.val - 96 - 96 - 64), by omega⟩ : Fin 512) = oc a l from Fin.ext (by show a.val * 64 + (256 + l.val - 96 - 96 - 64) = 64 * a.val + l.val; omega)] at this
  exact real_of_lt _ this

end Cert.Kernel3Ideal.Mla

end
-- ==== Proof.MlaFinal.lean ====
module

public import proofs.«01_k».proof.Proof.MlaTail
public import proofs.«01_k».proof.Proof.Gen.Reference3Ideal.Run
public import proofs.«01_k».proof.Defs

@[expose] public section

set_option maxRecDepth 16384

noncomputable section

namespace Cert.Kernel3Ideal.Mla

open Idealize.ShloMosaic Idealize.ShloMosaic.ValueKit Idealize.ShloMosaic.TcCoe Idealize.SL.Sem
open Cert.Kernel3Ideal Cert.Kernel3Ideal.Gen Cert.MlaMath
open Cert.Reference3Ideal.Mla (S DP M Z cst gq gk gv gq_at gk_at gv_at)

variable (m : (ℓ : Loc nD τ sig) → Buf (Elt Ideal) ℓ) (ρ : Dev nD → PrngReg)

/-- The kernel's run: its three results are the tail of the three arrays. -/
theorem run_values : θ_run defs (onTc (τ := τ) (main (F := Ideal))) ⟨m, fun _ => 0, ρ⟩ (fun r => ∀ c : Dev nD,
      r.2.mem ((c.tc : Thread nD τ).loc main_v48) = tq ((dats m 0 c).arrAt 6 cfg0.N)
      ∧ r.2.mem ((c.tc : Thread nD τ).loc main_v52) = tk ((dats m 0 c).arrAt 7 cfg0.N)
      ∧ r.2.mem ((c.tc : Thread nD τ).loc main_v53) = tv ((dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v48 (Pipeline.mem_restRefs_of main_v48 (by decide) (by decide))).trans (W_main_v48 m c),
     ((h.1 c).2 main_v52 (Pipeline.mem_restRefs_of main_v52 (by decide) (by decide))).trans (W_main_v52 m c),
     ((h.1 c).2 main_v53 (Pipeline.mem_restRefs_of main_v53 (by decide) (by decide))).trans (W_main_v53 m c), h.2.1 c⟩)
    (θ_run_and (run_main m ρ) (frame m ρ))

section Values

variable (c : Dev nD) [Cert.Pre_finite3.Facts] (hf : fin4 (argQ m c) (argK m c) (argV m c) (argD m c))

include hf

/-- The first result is the reference's. -/
theorem value_q : tq ((dats m 0 c).arrAt 6 cfg0.N) = gq (argQ m c) (argK m c) (argV m c) (argD m c) := by
  funext x
  idx_vars x
  have hA := arr6 m c _ _ _ (fun i a l => (argD m c (ix2 i (oc a l))).toReal) (fin_q hf) (fin_k hf) (fin_v hf) (fin_d hf) x0 x1 x2
  refine (tq_at _ _ _ _ _ hA).trans (Eq.trans ?_ (gq_at _ _ _ _ _ _ _ _ (fin_q hf) (fin_k hf) (fin_v hf) (fin_d hf) x0 x1 x2).symm)
  congr 1
  rw [Finset.sum_mul, Finset.sum_div]
  refine Finset.sum_congr rfl fun j _ => ?_
  have := log2_ne
  field_simp

/-- The second result is the reference's. -/
theorem value_k : tk ((dats m 0 c).arrAt 7 cfg0.N) = gk (argQ m c) (argK m c) (argV m c) (argD m c) := by
  funext x
  idx_vars x
  have hA := arr7 m c _ _ _ (fun i a l => (argD m c (ix2 i (oc a l))).toReal) (fin_q hf) (fin_k hf) (fin_v hf) (fin_d hf) x0 x1 x2
  exact (tk_at _ _ _ _).trans (hA.trans (gk_at _ _ _ _ _ _ _ _ (fin_q hf) (fin_k hf) (fin_v hf) (fin_d hf) x0 x1 x2).symm)

/-- The third result is the reference's. -/
theorem value_v : tv ((dats m 0 c).arrAt 8 cfg0.N) = gv (argQ m c) (argK m c) (argD m c) := by
  funext x
  idx_vars x
  have hA := arr8 m c _ _ (fun i a l => (argD m c (ix2 i (oc a l))).toReal) (fin_q hf) (fin_k hf) (fin_d hf) x0 x1 x2
  exact (tv_at _ _ _ _).trans (hA.trans (gv_at _ _ _ _ _ _ (fin_q hf) (fin_k hf) (fin_d hf) x0 x1 x2).symm)

end Values

/-- Kernel and reference end with the same three gradients, from finite arguments. -/
theorem algebraic [Cert.Pre_finite3.Facts] : Cert.algebraic_Kernel3Ideal_Reference3Ideal_pre_finite3 := by
  pair_intro
  · run_from run_values m g
  · run_from Cert.Reference3Ideal.Value.run m' g'
    · exact (Cert.Reference3Ideal.Mla.res0 m' c).trans (by rw [(hagree c).1, (hagree c).2.1, (hagree c).2.2.1, (hagree c).2.2.2]; exact (value_q m c (hpre c)).symm)
    · exact (Cert.Reference3Ideal.Mla.res1 m' c).trans (by rw [(hagree c).1, (hagree c).2.1, (hagree c).2.2.1, (hagree c).2.2.2]; exact (value_k m c (hpre c)).symm)
    · rw [value_v m c (hpre c)]
      rfl

end Cert.Kernel3Ideal.Mla

end
-- ==== Proof.MlaSafe.lean ====
module

public import proofs.«01_k».proof.Proof.MlaFrame

@[expose] public section

set_option maxRecDepth 16384

noncomputable section

namespace Cert.Kernel3Ideal.MlaSafe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel3Ideal.Gen
open Cert.Kernel3Ideal.Mla (zq zk wk zq_iff zk_iff wk_iff runA runB runC runD scK scV ms0 ms1 ms2 ms3 ms4 ms5 ms6 ms7 ms8 hs0 hs1 hs2 hs3 hs4 hs5 hs6 hs7 hs8)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the launch hands over besides the windows, for any floats: the two scratches and the generator register. -/
theorem PhiA_eq (c : Dev nD) : Pipeline.ΦA spec0 c = iprop(iprop((∃ d : Vec F S2048x512 .f32, owns (c : Thread nD τ) scK fullShare d) ∗ (∃ d : Vec F S2048x256 .f32, owns (c : Thread nD τ) scV fullShare d)) ∗ (∃ r, prngReg c r) : sProp 𝕄) := by
  unfold Pipeline.ΦA; rw [scopedRest0_eq]; simp only [scK, scV, owns_whole]; try rfl

/-- Data for the frame alone: the read blocks are named, what the three results hold is not. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q _ := fullShare
  owed _ := 0

/-- The windows of which nothing is said: the three results. -/
def fgt (w : Fin cfg0.W) : Bool := decide (6 ≤ w.val)

/-- The arrays the region starts from. -/
theorem A_eq (c : Dev nD) (w : Fin cfg0.W) : (dats m 0 c).A w = V m c (Pipeline.arrRef spec0 w) := by
  dsimp only [dats]

/-- Window 0's buffer after a point. -/
theorem after0_0 (c : Dev nD) (t : Fin cfg0.N) : (dats m 0 c).after 0 t = iblk m c 0 t := by dsimp only [dats]
/-- Window 0's buffer before a point. -/
theorem before0_0 (c : Dev nD) (t : Fin cfg0.N) (d) : (dats m 0 c).before 0 t d = iblk m c 0 t :=
  before0_0_of m (dats m 0 c) (A_eq m c 0) (after0_0 m c) t d
/-- What the body must leave in window 0's buffer. -/
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0_0]
/-- Window 1's buffer after a point. -/
theorem after0_1 (c : Dev nD) (t : Fin cfg0.N) : (dats m 0 c).after 1 t = iblk m c 1 t := by dsimp only [dats]
/-- Window 1's buffer before a point. -/
theorem before0_1 (c : Dev nD) (t : Fin cfg0.N) (d) : (dats m 0 c).before 1 t d = iblk m c 1 t :=
  before0_1_of m (dats m 0 c) (A_eq m c 1) (after0_1 m c) t d
/-- What the body must leave in window 1's buffer. -/
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after0_1]
/-- Window 2's buffer after a point. -/
theorem after0_2 (c : Dev nD) (t : Fin cfg0.N) : (dats m 0 c).after 2 t = iblk m c 2 t := by dsimp only [dats]
/-- Window 2's buffer before a point. -/
theorem before0_2 (c : Dev nD) (t : Fin cfg0.N) (d) : (dats m 0 c).before 2 t d = iblk m c 2 t :=
  before0_2_of m (dats m 0 c) (A_eq m c 2) (after0_2 m c) t d
/-- What the body must leave in window 2's buffer. -/
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after0_2]
/-- Window 3's buffer after a point. -/
theorem after0_3 (c : Dev nD) (t : Fin cfg0.N) : (dats m 0 c).after 3 t = iblk m c 3 t := by dsimp only [dats]
/-- Window 3's buffer before a point. -/
theorem before0_3 (c : Dev nD) (t : Fin cfg0.N) (d) : (dats m 0 c).before 3 t d = iblk m c 3 t :=
  before0_3_of m (dats m 0 c) (A_eq m c 3) (after0_3 m c) t d
/-- What the body must leave in window 3's buffer. -/
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after0_3]
/-- Window 4's buffer after a point. -/
theorem after0_4 (c : Dev nD) (t : Fin cfg0.N) : (dats m 0 c).after 4 t = iblk m c 4 t := by dsimp only [dats]
/-- Window 4's buffer before a point. -/
theorem before0_4 (c : Dev nD) (t : Fin cfg0.N) (d) : (dats m 0 c).before 4 t d = iblk m c 4 t :=
  before0_4_of m (dats m 0 c) (A_eq m c 4) (after0_4 m c) t d
/-- What the body must leave in window 4's buffer. -/
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after0_4]
/-- Window 5's buffer after a point. -/
theorem after0_5 (c : Dev nD) (t : Fin cfg0.N) : (dats m 0 c).after 5 t = iblk m c 5 t := by dsimp only [dats]
/-- Window 5's buffer before a point. -/
theorem before0_5 (c : Dev nD) (t : Fin cfg0.N) (d) : (dats m 0 c).before 5 t d = iblk m c 5 t :=
  before0_5_of m (dats m 0 c) (A_eq m c 5) (after0_5 m c) t d
/-- What the body must leave in window 5's buffer. -/
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after0_5]

/-- What the body has at hand at a point, before and after: the read blocks, and every other buffer at some contents. -/
def held (c : Dev nD) (t : Fin cfg0.N) : sProp 𝕄 :=
  iprop(Pipeline.ΦA spec0 c ∗ (dats m 0 c).owesAt () t.castSucc
    ∗ owns (c : Thread nD τ) (ms0 t) fullShare (iblk m c 0 t)
    ∗ owns (c : Thread nD τ) (ms1 t) fullShare (iblk m c 1 t)
    ∗ owns (c : Thread nD τ) (ms2 t) fullShare (iblk m c 2 t)
    ∗ owns (c : Thread nD τ) (ms3 t) fullShare (iblk m c 3 t)
    ∗ owns (c : Thread nD τ) (ms4 t) fullShare (iblk m c 4 t)
    ∗ owns (c : Thread nD τ) (ms5 t) fullShare (iblk m c 5 t)
    ∗ (∃ X, owns (c : Thread nD τ) (ms6 t) fullShare X)
    ∗ (∃ X, owns (c : Thread nD τ) (ms7 t) fullShare X)
    ∗ (∃ X, owns (c : Thread nD τ) (ms8 t) fullShare X))

set_option maxHeartbeats 4000000 in
/-- The body at the first point of a pair of heads keeps to its buffers. -/
theorem bodyA (c : Dev nD) (t : Fin cfg0.N) (h0 : zq (grid0.coords t)) (h1 : zk (grid0.coords t)) (h2 : ¬wk (grid0.coords t)) :
    held m c t ⊢ wp frame (wpE (defs₀ (F := F)) Variants.none c none) Set.univ (bodyAt0 t) (fun _ => held m c t) := by
  unfold held bodyAt0
  rw [PhiA_eq]
  iintro ⟨⟨⟨⟨%dk, HS0⟩, ⟨%dv, HS1⟩⟩, Hg⟩, Ho, H0, H1, H2, H3, H4, H5, ⟨%d6, H6⟩, ⟨%d7, H7⟩, ⟨%d8, H8⟩⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) h0 h1 h2 (iblk m c 0 t) (iblk m c 1 t) (iblk m c 2 t) (iblk m c 3 t) (iblk m c 4 t) (iblk m c 5 t) d7 d8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexact H8
  isplitl [HS0]; · iexists _; iexact HS0
  isplitl [HS1]; · iexists _; iexact HS1
  iintro ⟨H0, H1, H2, H3, H4, H5, ⟨%e6, H6⟩, H7, H8, ⟨%es0, HS0⟩, ⟨%es1, HS1⟩⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]; · iexists _; iexact H7
  iexists _; iexact H8

set_option maxHeartbeats 4000000 in
/-- The body at the point in the middle of a block of keys keeps to its buffers. -/
theorem bodyB (c : Dev nD) (t : Fin cfg0.N) (h0 : ¬zq (grid0.coords t)) (h1 : ¬zk (grid0.coords t)) (h2 : ¬wk (grid0.coords t)) :
    held m c t ⊢ wp frame (wpE (defs₀ (F := F)) Variants.none c none) Set.univ (bodyAt0 t) (fun _ => held m c t) := by
  unfold held bodyAt0
  rw [PhiA_eq]
  iintro ⟨⟨⟨⟨%dk, HS0⟩, ⟨%dv, HS1⟩⟩, Hg⟩, Ho, H0, H1, H2, H3, H4, H5, ⟨%d6, H6⟩, ⟨%d7, H7⟩, ⟨%d8, H8⟩⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) h0 h1 h2 (iblk m c 0 t) (iblk m c 1 t) (iblk m c 2 t) (iblk m c 3 t) (iblk m c 4 t) (iblk m c 5 t) d6 d7 d8 dk dv).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]; · iexists _; iexact H7
  iexists _; iexact H8

set_option maxHeartbeats 4000000 in
/-- The body at the last point of a block of keys keeps to its buffers. -/
theorem bodyC (c : Dev nD) (t : Fin cfg0.N) (h0 : ¬zq (grid0.coords t)) (h1 : ¬zk (grid0.coords t)) (h2 : wk (grid0.coords t)) :
    held m c t ⊢ wp frame (wpE (defs₀ (F := F)) Variants.none c none) Set.univ (bodyAt0 t) (fun _ => held m c t) := by
  unfold held bodyAt0
  rw [PhiA_eq]
  iintro ⟨⟨⟨⟨%dk, HS0⟩, ⟨%dv, HS1⟩⟩, Hg⟩, Ho, H0, H1, H2, H3, H4, H5, ⟨%d6, H6⟩, ⟨%d7, H7⟩, ⟨%d8, H8⟩⟩
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) h0 h1 h2 (iblk m c 0 t) (iblk m c 1 t) (iblk m c 2 t) (iblk m c 3 t) (iblk m c 4 t) (iblk m c 5 t) d6 dk dv).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%e7, H7⟩, ⟨%e8, H8⟩, HS0, HS1⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]
  · iexists _; unfold owns; iexists _; isplitr
    swap; · iexact H7
    ipureintro; rfl
  · iexists _; unfold owns; iexists _; isplitr
    swap; · iexact H8
    ipureintro; rfl

set_option maxHeartbeats 4000000 in
/-- The body at the first point of a later block of keys keeps to its buffers. -/
theorem bodyD (c : Dev nD) (t : Fin cfg0.N) (h0 : ¬zq (grid0.coords t)) (h1 : zk (grid0.coords t)) (h2 : ¬wk (grid0.coords t)) :
    held m c t ⊢ wp frame (wpE (defs₀ (F := F)) Variants.none c none) Set.univ (bodyAt0 t) (fun _ => held m c t) := by
  unfold held bodyAt0
  rw [PhiA_eq]
  iintro ⟨⟨⟨⟨%dk, HS0⟩, ⟨%dv, HS1⟩⟩, Hg⟩, Ho, H0, H1, H2, H3, H4, H5, ⟨%d6, H6⟩, ⟨%d7, H7⟩, ⟨%d8, H8⟩⟩
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scK (Memref.isWhole_whole _) scV (Memref.isWhole_whole _) h0 h1 h2 (iblk m c 0 t) (iblk m c 1 t) (iblk m c 2 t) (iblk m c 3 t) (iblk m c 4 t) (iblk m c 5 t) d6 d7 d8).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexists _; iexact HS0
  isplitl [HS1]; · iexists _; iexact HS1
  iintro ⟨H0, H1, H2, H3, H4, H5, H6, H7, H8, ⟨%es0, HS0⟩, ⟨%es1, HS1⟩⟩
  isplitl [HS0 HS1 Hg]
  · isplitl [HS0 HS1]
    · isplitl [HS0]
      · iexists _; unfold owns; iexists _; isplitr
        swap; · iexact HS0
        ipureintro; rfl
      · iexists _; unfold owns; iexists _; isplitr
        swap; · iexact HS1
        ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; unfold owns; iexists _; isplitr
    swap; · iexact H6
    ipureintro; rfl
  isplitl [H7]; · iexists _; iexact H7
  iexists _; iexact H8

/-- The body at any point. -/
theorem sound_body (c : Dev nD) (t : Fin cfg0.N) :
    held m c t ⊢ wp frame (wpE (defs₀ (F := F)) Variants.none c none) Set.univ (bodyAt0 t) (fun _ => held m c t) := by
  by_cases h0 : t.val % 64 = 0
  · exact bodyA m c t ((zq_iff t).mpr h0) ((zk_iff t).mpr (by omega)) (fun h => by have := (wk_iff t).mp h; omega)
  · by_cases h1 : t.val % 16 = 0
    · exact bodyD m c t (fun h => h0 ((zq_iff t).mp h)) ((zk_iff t).mpr h1) (fun h => by have := (wk_iff t).mp h; omega)
    · by_cases h2 : t.val % 16 = 15
      · exact bodyC m c t (fun h => h0 ((zq_iff t).mp h)) (fun h => h1 ((zk_iff t).mp h)) ((wk_iff t).mpr h2)
      · exact bodyB m c t (fun h => h0 ((zq_iff t).mp h)) (fun h => h1 ((zk_iff t).mp h)) (fun h => h2 ((wk_iff t).mp h))

/-- The body table's row at a point's buffers is the body. -/
theorem defs₀_row (t : Fin cfg0.N) :
    defs₀ (F := F) .tc cfg0.body (cfg0.bodyArgs t (cfg0.slots t)) = bodyAt0 t := by
  unfold defs₀; rw [Defs.onTc_tc]

/-- What the pipeline hands the body is what it has at hand. -/
theorem held_in (c : Dev nD) (t : Fin cfg0.N) :
    iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ X, owns (c : Thread nD τ) (ms6 t) fullShare X)
    ∗ (∃ X, owns (c : Thread nD τ) (ms7 t) fullShare X)
    ∗ (∃ X, owns (c : Thread nD τ) (ms8 t) fullShare X) : sProp 𝕄) ⊢ held m c t := by
  unfold held
  simp only [before0_0, before0_1, before0_2, before0_3, before0_4, before0_5]
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- What the body has at hand afterwards is what it must give back. -/
theorem held_out (c : Dev nD) (t : Fin cfg0.N) :
    held m c t ⊢ iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (∃ X, owns (c : Thread nD τ) (ms6 t) fullShare X)
    ∗ (∃ X, owns (c : Thread nD τ) (ms7 t) fullShare X)
    ∗ (∃ X, owns (c : Thread nD τ) (ms8 t) fullShare X) : sProp 𝕄) := by
  rw [leaves0, leaves1, leaves2, leaves3, leaves4, leaves5]
  exact .rfl

/-- The body's obligation, the three results' contents left unsaid. -/
theorem body_obligation (c : Dev nD) : BodyObligation (dats m 0 c) (defs₀ (F := F)) Variants.none () Set.univ fgt := fun t => by
  rw [bigSep_W0, bigSep_W0, defs₀_row]
  exact triple_restated (sound_body m c t) rfl (held_in m c t) fun _ => held_out m c t

/-- The buffers the lines after the region write. -/
def T0 : Finset (Ref sig .tc) := {main_v42, main_v43, main_cst_5, main_v44, main_v45, main_v46, main_v47, main_v48, main_v49, main_v50, main_v51, main_v52, main_v53}

/-- Every line after the region writes into one of them. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl
  all_goals
    intro b hb
    simp only [StableHlo.nullary_writes, StableHlo.unary_writes, StableHlo.binary_writes, StableHlo.reshape_writes, Finset.mem_singleton] at hb
    cases Proc.devRef_injective _ hb
    decide

set_option backward.isDefEq.respectTransparency.types false in
set_option maxHeartbeats 800000 in
/-- The launch: the read arrays end as they began, so does every buffer no later line writes, every counter is at zero. -/
theorem run_main : θ_run defs (onTc (τ := τ) (main (F := F))) (s₀ m ρ) (fun r =>
    RDat.FramePostR cfg0 (fun c => (dats m 0 c).toRForget fgt) T0 (fun c b => V0 m c (Proc.devRef .tc b)) r ∧ r.2.sem = fun _ => 0) :=
  Pipeline.θ_run_frame_around_T_forget (Q' := _) cfgs (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The program ends, its arguments as launched, every counter at zero: for any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      (h.1.arr_in c 3 rfl).trans ((A_eq m c 3).trans (V_main_arg3 m c))⟩, h.2⟩) (run_main m ρ)

end Cert.Kernel3Ideal.MlaSafe

end
-- ==== Proof.RetPost.lean ====
module

public import proofs.«01_k».proof.Proof.Gen.Kernel6Ideal.Frame
public import proofs.«01_k».proof.Proof.Gen.Reference6Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel6Ideal.Post

open Cert.Kernel6Ideal Cert.Kernel6Ideal.Gen

/-- The logistic function as both programs spell it over the extended reals. -/
def sg (x : EReal) : EReal := Ideal.div 1 (1 + Ideal.exp (0 - x))

/-- A row's mean square with the norm's small constant. -/
def ms (r : Fin 128 → EReal) : EReal := Ideal.div (∑ l, r l * r l) (Ideal.ofBits .f32 0x43000000#32) + Ideal.ofBits .f32 0x358637BD#32

/-- What the norm's gradient adds along the row itself. -/
def back (r w : Fin 128 → EReal) : EReal :=
  Ideal.div ((∑ l, r l * w l) * (Ideal.ofBits .f32 0xBF000000#32 * Ideal.div (Ideal.rsqrt (ms r)) (ms r))) (Ideal.ofBits .f32 0x43000000#32)

/-- The gradient with respect to the summed retention, along a row. -/
def dR (r g d : Fin 128 → EReal) (l : Fin 128) : EReal :=
  g l * sg (g l) * d l * Ideal.rsqrt (ms r) + r l * back r (fun k => g k * sg (g k) * d k) + back r (fun k => g k * sg (g k) * d k) * r l

/-- The gradient with respect to the gate, along a row. -/
def dG (r g d : Fin 128 → EReal) (l : Fin 128) : EReal :=
  d l * (r l * Ideal.rsqrt (ms r)) * sg (g l) + g l * (d l * (r l * Ideal.rsqrt (ms r))) * sg (g l) * (1 - sg (g l))

/-- The payload stored into the first result's block is the row's gradient. -/
theorem pay_r (x0 x1 : Vec Ideal S2048x128 .f32) (x2 x3 : Vec Ideal S2048x128 .bf16) (a : Fin 2048) (l : Fin 128) :
    k0_pay1 (k0_pay3 x0 x1) (k0_pay6 x0 x1) (k0_pay7 x0 x1) (k0_pay10 x2 x3) (k0_pay12 x0 x1 x2 x3) (ix2 a l)
      = dR (fun k => (x0 (ix2 a k) : EReal) + x1 (ix2 a k)) (fun k => x2 (ix2 a k)) (fun k => x3 (ix2 a k)) l := by
  pointwise [k0_pay1, k0_pay3, k0_pay4, k0_pay5, k0_pay6, k0_pay7, k0_pay8, k0_pay9, k0_pay10, k0_pay12, dR, back, ms, sg]
  simp only [Fin.sum_univ_one]

/-- The payload stored into the second result's block is the row's gradient. -/
theorem pay_g (x0 x1 : Vec Ideal S2048x128 .f32) (x2 x3 : Vec Ideal S2048x128 .bf16) (a : Fin 2048) (l : Fin 128) :
    k0_pay2 (k0_pay11 x0 x1 x2 x3) (ix2 a l)
      = dG (fun k => (x0 (ix2 a k) : EReal) + x1 (ix2 a k)) (fun k => x2 (ix2 a k)) (fun k => x3 (ix2 a k)) l := by
  pointwise [k0_pay2, k0_pay3, k0_pay4, k0_pay5, k0_pay6, k0_pay7, k0_pay8, k0_pay9, k0_pay11, dG, ms, sg]

variable (m : (ℓ : Loc nD τ sig) → Buf (Elt Ideal) ℓ) (c : Dev nD)

/-- A head's lane among the columns. -/
def cc (h : Fin 8) (l : Fin 128) : Fin 1024 := ⟨128 * h + l, by omega⟩

/-- The two directions' retention, the gate and the cotangent: the arguments. -/
abbrev aF : FVec Ideal S8192x1024 .f32 := m ((c.tc : Thread nD τ).loc main_arg0)
abbrev aB : FVec Ideal S8192x1024 .f32 := m ((c.tc : Thread nD τ).loc main_arg1)
abbrev aG : FVec Ideal S8192x1024 .bf16 := m ((c.tc : Thread nD τ).loc main_arg2)
abbrev aD : FVec Ideal S8192x1024 .bf16 := m ((c.tc : Thread nD τ).loc main_arg3)

/-- The gate in its columns of the joint projection. -/
def padG (G : FVec Ideal S8192x1024 .bf16) : FVec Ideal S8192x5632 .bf16 :=
  truncf .bf16 (pad S8192x5632 ![0, 3072] ![0, 1536] ![0, 0] (extf .f32 G bitsLt_bf16_f32) (sitofp .f32 (constantI S_ 32 0#32)) pads_S8192x1024_S8192x5632_000_307215360 h_S_) bitsLt_bf16_f32

/-- The region finds the gate so. -/
theorem V_proj : Gen.V m c main_v2 = padG (aG m c) := by
  unfold_abbrev_sides
  after_reads_simp
  rfl

/-- An entry of the joint projection in the gate's columns. -/
theorem padG_at (G : FVec Ideal S8192x1024 .bf16) (i : Fin 8192) (k : Fin 5632) (j : Fin 1024) (hk : k.val = 3072 + j.val) : padG G (ix2 i k) = G (ix2 i j) := by
  rw [show k = ⟨3072 + j.val, by omega⟩ from Fin.ext hk]
  pointwise [padG]

/-- Every window's block index: rows of 2048 in turn, the heads within them. -/
theorem idx : ∀ t : Fin cfg0.N, win0_0.index t = ![t.val / 8, t.val % 8] ∧ win0_1.index t = ![t.val / 8, t.val % 8] ∧ win0_2.index t = ![t.val / 8, 24 + t.val % 8]
    ∧ win0_3.index t = ![t.val / 8, t.val % 8] ∧ win0_4.index t = ![t.val / 8, t.val % 8] ∧ win0_5.index t = ![t.val / 8, 24 + t.val % 8] :=
  (by decide +kernel : ∀ t : Fin grid0.N, _)

/-- The head of a grid point. -/
def hd (t : Fin cfg0.N) : Fin 8 := ⟨t.val % 8, by omega⟩
/-- The array's row of a block's row at a grid point. -/
def row (t : Fin cfg0.N) (a : Fin 2048) : Fin 8192 := ⟨t.val / 8 * 2048 + a, by have := t.isLt; have : cfg0.N = 32 := rfl; omega⟩

/-- The blocks, entry by entry. -/
theorem b0 (t : Fin cfg0.N) (a : Fin 2048) (l : Fin 128) : (iblk m c 0 t : Vec Ideal S2048x128 .f32) (ix2 a l) = aF m c (ix2 (row t a) (cc (hd t) l)) := by
  blk_ext [iblk, idx t] <;> simp only [row, cc, hd] <;> omega
theorem b1 (t : Fin cfg0.N) (a : Fin 2048) (l : Fin 128) : (iblk m c 1 t : Vec Ideal S2048x128 .f32) (ix2 a l) = aB m c (ix2 (row t a) (cc (hd t) l)) := by
  blk_ext [iblk, idx t] <;> simp only [row, cc, hd] <;> omega
theorem b2 (t : Fin cfg0.N) (a : Fin 2048) (l : Fin 128) : (iblk m c 2 t : Vec Ideal S2048x128 .bf16) (ix2 a l) = aG m c (ix2 (row t a) (cc (hd t) l)) := by
  rw [← padG_at (aG m c) (row t a) ⟨3072 + (cc (hd t) l).val, by omega⟩ _ rfl, ← V_proj]
  blk_ext [iblk, idx t] <;> simp only [row, cc, hd] <;> omega
theorem b3 (t : Fin cfg0.N) (a : Fin 2048) (l : Fin 128) : (iblk m c 3 t : Vec Ideal S2048x128 .bf16) (ix2 a l) = aD m c (ix2 (row t a) (cc (hd t) l)) := by
  blk_ext [iblk, idx t] <;> simp only [row, cc, hd] <;> omega

/-- The gradient with respect to the summed retention, at a row, a head and a lane. -/
def gR (F B : FVec Ideal S8192x1024 .f32) (G D : FVec Ideal S8192x1024 .bf16) (i : Fin 8192) (h : Fin 8) (l : Fin 128) : EReal :=
  dR (fun k => (F (ix2 i (cc h k)) : EReal) + B (ix2 i (cc h k))) (fun k => G (ix2 i (cc h k))) (fun k => D (ix2 i (cc h k))) l

/-- The gradient with respect to the gate, at a row, a head and a lane. -/
def gG (F B : FVec Ideal S8192x1024 .f32) (G D : FVec Ideal S8192x1024 .bf16) (i : Fin 8192) (h : Fin 8) (l : Fin 128) : EReal :=
  dG (fun k => (F (ix2 i (cc h k)) : EReal) + B (ix2 i (cc h k))) (fun k => G (ix2 i (cc h k))) (fun k => D (ix2 i (cc h k))) l

/-- The first result array after the run. -/
theorem arr4 (i : Fin 8192) (h : Fin 8) (l : Fin 128) :
    (show Vec Ideal S8192x1024 .bf16 from (dats m 0 c).arrAt 4 cfg0.N) (ix2 i (cc h l)) = gR (aF m c) (aB m c) (aG m c) (aD m c) i h l := by
  have key := (dats m 0 c).arrAt_forall_of_covers 4 (fun x w => ∀ (i : Fin 8192) (h : Fin 8) (l : Fin 128), (show S8192x1024.Idx from x) = ix2 i (cc h l) →
    (show EReal from w) = gR (aF m c) (aB m c) (aG m c) (aD m c) i h l) (by decide +kernel) (fun t hf y => ?_) (ix2 i (cc h l))
  · exact key i h l rfl
  intro i h l hx
  have h0 := congrArg (fun x : S8192x1024.Idx => (x 0).val) hx
  have h1 := congrArg (fun x : S8192x1024.Idx => (x 1).val) hx
  blk_simp [idx t] at h0 h1
  blk_simp
  rw [after0_4]; simp only [outsAt0]; frame_out
  idx_vars y
  have ei : i = row t y0 := Fin.ext (by simp only [row]; simp [cc] at h0; omega)
  have eh : h = hd t := Fin.ext (by simp only [hd]; simp [cc] at h1; omega)
  have el : l = y1 := Fin.ext (by simp [cc] at h1; omega)
  rw [ei, eh, el]
  refine (pay_r _ _ _ _ _ _).trans ?_
  simp only [gR, b0, b1, b2, b3]

/-- The second result array after the run, in the gate's columns. -/
theorem arr5 (i : Fin 8192) (h : Fin 8) (l : Fin 128) (k : Fin 5632) (hk : k.val = 3072 + (cc h l).val) :
    (show Vec Ideal S8192x5632 .bf16 from (dats m 0 c).arrAt 5 cfg0.N) (ix2 i k) = gG (aF m c) (aB m c) (aG m c) (aD m c) i h l := by
  have key := (dats m 0 c).arrAt_forall_of_coversWhere 5 (fun x w => ∀ (i : Fin 8192) (h : Fin 8) (l : Fin 128) (k : Fin 5632), k.val = 3072 + (cc h l).val →
    (show S8192x5632.Idx from x) = ix2 i k → (show EReal from w) = gG (aF m c) (aB m c) (aG m c) (aD m c) i h l) (fun β => 24 ≤ β (1 : Fin _) ∧ β (1 : Fin _) < 32) (by decide +kernel)
    (fun t hf y => ?_) (fun j hj => ?_) (ix2 i k)
  · exact key i h l k hk rfl
  · intro i h l k hk hx
    have h0 := congrArg (fun x : S8192x5632.Idx => (x 0).val) hx
    have h1 := congrArg (fun x : S8192x5632.Idx => (x 1).val) hx
    blk_simp [idx t] at h0 h1
    blk_simp
    rw [after0_5]; simp only [outsAt0]; frame_out
    idx_vars y
    simp only [cc] at hk
    have ei : i = row t y0 := Fin.ext (by simp only [row]; simp at h0; omega)
    have eh : h = hd t := Fin.ext (by simp only [hd]; simp at h1; omega)
    have el : l = y1 := Fin.ext (by simp at h1; omega)
    rw [ei, eh, el]
    refine (pay_g _ _ _ _ _ _).trans ?_
    simp only [gG, b0, b1, b2, b3]
  · intro i h l k hk hx
    have h1 := congrArg (fun x : S8192x5632.Idx => (x 1).val) hx
    blk_simp [Pipeline.Window.cell_apply] at hj
    blk_simp at h1
    simp only [cc] at hk
    exact absurd h1 (by omega)

/-- Different windows have different arrays. -/
theorem arr_inj : Function.Injective (Pipeline.arrRef spec0) := by decide

/-- The second result after the tail. -/
theorem W_gate : Pipeline.afterTail₀ cfgs (dats m) 0 (V0 m) [hostOps1] c main_v6
    = extractStridedSlice S8192x1024 ![0, 3072] ((dats m 0 c).arrAt 5 cfg0.N) slices_S8192x5632_S8192x1024_0_3072 := by
  unfold Pipeline.afterTail₀
  simp only [List.flatten_cons, List.flatten_nil, List.append_nil]
  after_reads_simp
  rw [show ∀ V A, Pipeline.withArrays spec0 c V A (Proc.devRef .tc main_v5_1) = A 5 from fun V A => Pipeline.withArrays_arr spec0 arr_inj c V A 5]

/-- The kernel's run: its two results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v5_0) = (dats m 0 c).arrAt 4 cfg0.N
      ∧ r.2.mem ((c.tc : Thread nD τ).loc main_v6) = extractStridedSlice S8192x1024 ![0, 3072] ((dats m 0 c).arrAt 5 cfg0.N) slices_S8192x5632_S8192x1024_0_3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, ((h.1 c).2 main_v6 (Pipeline.mem_restRefs_of main_v6 (by decide) (by decide))).trans (W_gate m c), h.2.1 c⟩)
    (θ_run_and (run_main m ρ) (frame m ρ))

/-- Every column is a head's lane. -/
theorem cc_cover (j : Fin 1024) : ∃ (h : Fin 8) (l : Fin 128), j = cc h l :=
  ⟨⟨j.val / 128, by omega⟩, ⟨j.val % 128, by omega⟩, Fin.ext (by show j.val = 128 * (j.val / 128) + j.val % 128; omega)⟩

/-- The second result, entry by entry. -/
theorem res1 (i : Fin 8192) (h : Fin 8) (l : Fin 128) :
    extractStridedSlice S8192x1024 ![0, 3072] ((dats m 0 c).arrAt 5 cfg0.N : FVec Ideal S8192x5632 .bf16) slices_S8192x5632_S8192x1024_0_3072 (ix2 i (cc h l))
      = gG (aF m c) (aB m c) (aG m c) (aD m c) i h l := by
  refine Eq.trans ?_ (arr5 m c i h l ⟨3072 + (cc h l).val, by omega⟩ rfl)
  pointwise []

/-- Kernel and reference end with the same two gradients. -/
theorem algebraic : Cert.algebraic_Kernel6Ideal_Reference6Ideal := by
  pair_intro
  · run_from run_values m g
  · run_from Cert.Reference6Ideal.Value.run m' g'
    · funext j
      idx_vars j
      obtain ⟨h, l, rfl⟩ := cc_cover j1
      refine Eq.trans ?_ (arr4 m c j0 h l).symm
      have e (x : Fin 128) : (⟨(cc h l).val / 128 * 128 + x.val, by omega⟩ : Fin 1024) = cc h x := Fin.ext (by simp only [cc]; omega)
      have hz (x : EReal) : -x = 0 - x := (zero_sub x).symm
      pointwise [gR, dR, back, ms, sg, hz, Cert.Reference6Ideal.Value.res_main_v39]
      simp only [e, Fin.sum_univ_one]
      rw [(hagree c).1, (hagree c).2.1, (hagree c).2.2.1, (hagree c).2.2.2]
    · funext j
      idx_vars j
      obtain ⟨h, l, rfl⟩ := cc_cover j1
      refine Eq.trans ?_ (res1 m c j0 h l).symm
      have e (x : Fin 128) : (⟨(cc h l).val / 128 * 128 + x.val, by omega⟩ : Fin 1024) = cc h x := Fin.ext (by simp only [cc]; omega)
      have hz (x : EReal) : -x = 0 - x := (zero_sub x).symm
      pointwise [gG, dG, ms, sg, hz]
      simp only [e, ← mul_assoc]

end Cert.Kernel6Ideal.Post

end
-- ==== Proof.Merge.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel5Ideal.Merge

open Cert.Kernel5Ideal Cert.Kernel5Ideal.Gen

/-- The logistic function as both programs spell it over the extended reals. -/
def sg (x : EReal) : EReal := Ideal.div 1 (1 + Ideal.exp (0 - x))

/-- The gradient with respect to a gate's argument, from the gated value and the cotangent. -/
def dL (g y d : EReal) : EReal := d * y * sg g * (1 - sg g)

/-- The payload stored into the second result's block. -/
theorem pay_a (x0 x4 : Vec Ideal S512x1024 .bf16) (a : Fin 512) (l : Fin 1024) :
    k0_pay2 (k0_pay9 x0 x4) (ix2 a l) = sg (x0 (ix2 a l)) * x4 (ix2 a l) := by
  pointwise [k0_pay2, k0_pay9, k0_pay4, k0_pay6, sg]

/-- The payload stored into the third result's block. -/
theorem pay_b (x1 x4 : Vec Ideal S512x1024 .bf16) (a : Fin 512) (l : Fin 1024) :
    k0_pay3 (k0_pay7 x1 x4) (ix2 a l) = sg (x1 (ix2 a l)) * x4 (ix2 a l) := by
  pointwise [k0_pay3, k0_pay7, k0_pay5, k0_pay6, sg]

/-- The first half of the payload stored into the first result's block. -/
theorem pay_la (x0 x1 x2 x3 x4 : Vec Ideal S512x1024 .bf16) (a : Fin 512) (l : Fin 1024) :
    k0_pay1 (k0_pay8 x1 x3 x4) (k0_pay10 x0 x2 x4) (k0_pay11 x0) (ix2 a ⟨l.val, by omega⟩) = dL (x0 (ix2 a l)) (x2 (ix2 a l)) (x4 (ix2 a l)) := by
  unfold k0_pay1
  refine (concatenate_pair_apply_left 1 _ _ concatenates_S512x1024_S512x1024_S512x2048_d1 (ix2 a ⟨l.val, by omega⟩) rfl (ix2 a l) (fun b => by fin_cases b <;> rfl)).trans ?_
  pointwise [k0_pay10, k0_pay11, k0_pay4, k0_pay6, dL, sg]

/-- The second half of the payload stored into the first result's block. -/
theorem pay_lb (x0 x1 x2 x3 x4 : Vec Ideal S512x1024 .bf16) (a : Fin 512) (l : Fin 1024) :
    k0_pay1 (k0_pay8 x1 x3 x4) (k0_pay10 x0 x2 x4) (k0_pay11 x0) (ix2 a ⟨1024 + l.val, by omega⟩) = dL (x1 (ix2 a l)) (x3 (ix2 a l)) (x4 (ix2 a l)) := by
  unfold k0_pay1
  refine (concatenate_pair_apply_right 1 _ _ concatenates_S512x1024_S512x1024_S512x2048_d1 (ix2 a ⟨1024 + l.val, by omega⟩) rfl rfl (ix2 a l)
    (fun b hb => by fin_cases b; · rfl
                    · exact absurd rfl hb) (by simp; omega)).trans ?_
  pointwise [k0_pay8, k0_pay5, k0_pay6, dL, sg]

variable (m : (ℓ : Loc nD τ sig) → Buf (Elt Ideal) ℓ) (c : Dev nD)

/-- The gates' arguments, the two gated values and the cotangent: the arguments. -/
abbrev aL : FVec Ideal S8192x2048 .bf16 := m ((c.tc : Thread nD τ).loc main_arg0)
abbrev aA : FVec Ideal S8192x1024 .bf16 := m ((c.tc : Thread nD τ).loc main_arg1)
abbrev aB : FVec Ideal S8192x1024 .bf16 := m ((c.tc : Thread nD τ).loc main_arg2)
abbrev aD : FVec Ideal S8192x1024 .bf16 := m ((c.tc : Thread nD τ).loc main_arg3)

/-- The gates' arguments in their columns of the joint projection. -/
def padL (L : FVec Ideal S8192x2048 .bf16) : FVec Ideal S8192x5632 .bf16 :=
  truncf .bf16 (pad S8192x5632 ![0, 0] ![0, 3584] ![0, 0] (extf .f32 L bitsLt_bf16_f32) (sitofp .f32 (constantI S_ 32 0#32)) pads_S8192x2048_S8192x5632_000_035840 h_S_) bitsLt_bf16_f32

/-- The region finds them so. -/
theorem V_proj : Gen.V m c main_v2 = padL (aL m c) := by
  unfold_abbrev_sides
  after_reads_simp
  rfl

/-- An entry of the joint projection in the gates' columns. -/
theorem padL_at (L : FVec Ideal S8192x2048 .bf16) (i : Fin 8192) (k : Fin 5632) (j : Fin 2048) (hk : k.val = j.val) : padL L (ix2 i k) = L (ix2 i j) := by
  rw [show k = ⟨j.val, by omega⟩ from Fin.ext hk]
  pointwise [padL]

/-- Every window's block index: rows of 512 in turn. -/
theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The two gates' columns. -/
def ca (l : Fin 1024) : Fin 2048 := ⟨l.val, by omega⟩
def cb (l : Fin 1024) : Fin 2048 := ⟨1024 + l.val, by omega⟩

/-- The blocks, entry by entry. -/
theorem b0 (t : Fin cfg0.N) (a : Fin 512) (l : Fin 1024) : (X0_0 m c t : Vec Ideal S512x1024 .bf16) (ix2 a l) = aL m c (ix2 (row t a) (ca l)) := by
  rw [← padL_at (aL m c) (row t a) ⟨(ca l).val, by omega⟩ _ rfl, ← V_proj]
  unfold X0_0 Pipeline.Window.fill
  rw [dif_pos (moved0_0 t _)]
  blk_ext [iblk, idx t] <;> simp only [row, ca] <;> omega
theorem b1 (t : Fin cfg0.N) (a : Fin 512) (l : Fin 1024) : (X0_1 m c t : Vec Ideal S512x1024 .bf16) (ix2 a l) = aL m c (ix2 (row t a) (cb l)) := by
  rw [← padL_at (aL m c) (row t a) ⟨(cb l).val, by omega⟩ _ rfl, ← V_proj]
  unfold X0_1 Pipeline.Window.fill
  rw [dif_pos (moved0_1 t _)]
  blk_ext [iblk, idx t] <;> simp only [row, cb] <;> omega
theorem b2 (t : Fin cfg0.N) (a : Fin 512) (l : Fin 1024) : (iblk m c 2 t : Vec Ideal S512x1024 .bf16) (ix2 a l) = aA m c (ix2 (row t a) l) := by
  blk_ext [iblk, idx t] <;> simp only [row] <;> omega
theorem b3 (t : Fin cfg0.N) (a : Fin 512) (l : Fin 1024) : (iblk m c 3 t : Vec Ideal S512x1024 .bf16) (ix2 a l) = aB m c (ix2 (row t a) l) := by
  blk_ext [iblk, idx t] <;> simp only [row] <;> omega
theorem b4 (t : Fin cfg0.N) (a : Fin 512) (l : Fin 1024) : (iblk m c 4 t : Vec Ideal S512x1024 .bf16) (ix2 a l) = aD m c (ix2 (row t a) l) := by
  blk_ext [iblk, idx t] <;> simp only [row] <;> omega

/-- The second result array after the run. -/
theorem arr6 (i : Fin 8192) (l : Fin 1024) :
    (show Vec Ideal S8192x1024 .bf16 from (dats m 0 c).arrAt 6 cfg0.N) (ix2 i l) = sg (aL m c (ix2 i (ca l))) * aD m c (ix2 i l) := by
  have key := (dats m 0 c).arrAt_forall_of_covers 6 (fun x w => ∀ (i : Fin 8192) (l : Fin 1024), (show S8192x1024.Idx from x) = ix2 i l →
    (show EReal from w) = sg (aL m c (ix2 i (ca l))) * aD m c (ix2 i l)) (by decide +kernel) (fun t hf y => ?_) (ix2 i l)
  · exact key i l rfl
  intro i l hx
  have h0 := congrArg (fun x : S8192x1024.Idx => (x 0).val) hx
  have h1 := congrArg (fun x : S8192x1024.Idx => (x 1).val) hx
  blk_simp [idx t] at h0 h1
  blk_simp
  rw [after0_6]; simp only [outsAt0]; frame_out
  idx_vars y
  have ei : i = row t y0 := Fin.ext (by simp only [row]; simp at h0; omega)
  have el : l = y1 := Fin.ext (by simp at h1; omega)
  rw [ei, el]
  refine (pay_a _ _ _ _).trans ?_
  simp only [b0, b4]

/-- The third result array after the run. -/
theorem arr7 (i : Fin 8192) (l : Fin 1024) :
    (show Vec Ideal S8192x1024 .bf16 from (dats m 0 c).arrAt 7 cfg0.N) (ix2 i l) = sg (aL m c (ix2 i (cb l))) * aD m c (ix2 i l) := by
  have key := (dats m 0 c).arrAt_forall_of_covers 7 (fun x w => ∀ (i : Fin 8192) (l : Fin 1024), (show S8192x1024.Idx from x) = ix2 i l →
    (show EReal from w) = sg (aL m c (ix2 i (cb l))) * aD m c (ix2 i l)) (by decide +kernel) (fun t hf y => ?_) (ix2 i l)
  · exact key i l rfl
  intro i l hx
  have h0 := congrArg (fun x : S8192x1024.Idx => (x 0).val) hx
  have h1 := congrArg (fun x : S8192x1024.Idx => (x 1).val) hx
  blk_simp [idx t] at h0 h1
  blk_simp
  rw [after0_7]; simp only [outsAt0]; frame_out
  idx_vars y
  have ei : i = row t y0 := Fin.ext (by simp only [row]; simp at h0; omega)
  have el : l = y1 := Fin.ext (by simp at h1; omega)
  rw [ei, el]
  refine (pay_b _ _ _ _).trans ?_
  simp only [b1, b4]

/-- The gradient with respect to the gates' arguments, at a row and a gate's column. -/
def gA (L : FVec Ideal S8192x2048 .bf16) (A D : FVec Ideal S8192x1024 .bf16) (i : Fin 8192) (l : Fin 1024) : EReal :=
  dL (L (ix2 i (ca l))) (A (ix2 i l)) (D (ix2 i l))
def gB (L : FVec Ideal S8192x2048 .bf16) (B D : FVec Ideal S8192x1024 .bf16) (i : Fin 8192) (l : Fin 1024) : EReal :=
  dL (L (ix2 i (cb l))) (B (ix2 i l)) (D (ix2 i l))

/-- The first result array after the run, in the gates' columns. -/
theorem arr5 (i : Fin 8192) (l : Fin 1024) :
    (show Vec Ideal S8192x5632 .bf16 from (dats m 0 c).arrAt 5 cfg0.N) (ix2 i ⟨l.val, by omega⟩) = gA (aL m c) (aA m c) (aD m c) i l
    ∧ (show Vec Ideal S8192x5632 .bf16 from (dats m 0 c).arrAt 5 cfg0.N) (ix2 i ⟨1024 + l.val, by omega⟩) = gB (aL m c) (aB m c) (aD m c) i l := by
  have key (k : Fin 5632) := (dats m 0 c).arrAt_forall_of_coversWhere 5 (fun x w => ∀ (i : Fin 8192) (l : Fin 1024) (k : Fin 5632), (show S8192x5632.Idx from x) = ix2 i k →
    (k.val = l.val → (show EReal from w) = gA (aL m c) (aA m c) (aD m c) i l) ∧ (k.val = 1024 + l.val → (show EReal from w) = gB (aL m c) (aB m c) (aD m c) i l))
    (fun β => β (1 : Fin _) = 0) (by decide +kernel)
    (fun t hf y => ?_) (fun j hj => ?_) (ix2 i k)
  · exact ⟨(key _ i l _ rfl).1 rfl, (key _ i l _ rfl).2 rfl⟩
  · intro i l k hx
    have h0 := congrArg (fun x : S8192x5632.Idx => (x 0).val) hx
    have h1 := congrArg (fun x : S8192x5632.Idx => (x 1).val) hx
    blk_simp [idx t] at h0 h1
    blk_simp
    rw [after0_5]; simp only [outsAt0]; frame_out
    have z0 : (((win0 5).xinj (grid0.coords t) y : S512x2048.Idx) 0).val = (y 0).val := rfl
    have z1 : (((win0 5).xinj (grid0.coords t) y : S512x2048.Idx) 1).val = (y 1).val := rfl
    generalize ((win0 5).xinj (grid0.coords t) y : S512x2048.Idx) = z at z0 z1 ⊢
    obtain ⟨z0', z1', rfl⟩ : ∃ (u : Fin 512) (v : Fin 2048), z = ix2 u v := ⟨z 0, z 1, by funext b; fin_cases b <;> rfl⟩
    change z0'.val = _ at z0
    change z1'.val = _ at z1
    have ei : i = row t z0' := Fin.ext (by simp only [row]; omega)
    refine ⟨fun hk => ?_, fun hk => ?_⟩
    · rw [ei, show z1' = ⟨l.val, by omega⟩ from Fin.ext (by show z1'.val = l.val; omega)]
      refine (pay_la _ _ _ _ _ _ _).trans ?_
      simp only [gA, b0, b2, b4]
    · rw [ei, show z1' = ⟨1024 + l.val, by omega⟩ from Fin.ext (by show z1'.val = 1024 + l.val; omega)]
      refine (pay_lb _ _ _ _ _ _ _).trans ?_
      simp only [gB, b1, b3, b4]
  · intro i l k hx
    have h1 := congrArg (fun x : S8192x5632.Idx => (x 1).val) hx
    blk_simp [Pipeline.Window.cell_apply] at hj
    blk_simp at h1
    exact ⟨fun hk => absurd h1 (by omega), fun hk => absurd h1 (by omega)⟩

/-- The tail reads the first result's array as the region leaves it. -/
theorem left5 : Pipeline.withArrays spec0 c (V0 m c) (fun w => (dats m 0 c).arrAt w cfg0.N) (Proc.devRef .tc main_v3_0) = (dats m 0 c).arrAt 5 cfg0.N := by
  refine Pipeline.withArrays_arr_shared spec0 c (V0 m c) (fun w => (dats m 0 c).arrAt w cfg0.N) (fun w w' hne he => ?_) 5
  have hin : (cfg0.win w).isOut = false := (by decide : ∀ w w' : Fin 8, w ≠ w' → Pipeline.arrRef spec0 w = Pipeline.arrRef spec0 w' → (cfg0.win w).isOut = false) w w' hne he
  rw [(dats m 0 c).arrAt_in w hin, A_eq m c w]

/-- The first result after the tail. -/
theorem W_gate : Pipeline.afterTail₀ cfgs (dats m) 0 (V0 m) [hostOps1] c main_v4
    = extractStridedSlice S8192x2048 ![0, 0] ((dats m 0 c).arrAt 5 cfg0.N) slices_S8192x5632_S8192x2048_0_0 := by
  unfold Pipeline.afterTail₀
  simp only [List.flatten_cons, List.flatten_nil, List.append_nil]
  after_reads_simp
  exact congrArg (fun x => extractStridedSlice S8192x2048 ![0, 0] x slices_S8192x5632_S8192x2048_0_0) (left5 m c)

/-- The kernel's run: its three results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v4) = extractStridedSlice S8192x2048 ![0, 0] ((dats m 0 c).arrAt 5 cfg0.N) slices_S8192x5632_S8192x2048_0_0
      ∧ r.2.mem ((c.tc : Thread nD τ).loc main_v3_1) = (dats m 0 c).arrAt 6 cfg0.N
      ∧ r.2.mem ((c.tc : Thread nD τ).loc main_v3_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (W_gate m c), (h.1 c).1 6, (h.1 c).1 7, h.2.1 c⟩)
    (θ_run_and (run_main m ρ) (frame m ρ))

/-- The first result, entry by entry. -/
theorem res0 (i : Fin 8192) (l : Fin 1024) :
    extractStridedSlice S8192x2048 ![0, 0] ((dats m 0 c).arrAt 5 cfg0.N : FVec Ideal S8192x5632 .bf16) slices_S8192x5632_S8192x2048_0_0 (ix2 i (ca l))
      = gA (aL m c) (aA m c) (aD m c) i l := by
  refine Eq.trans ?_ (arr5 m c i l).1
  pointwise [ca]
theorem res1 (i : Fin 8192) (l : Fin 1024) :
    extractStridedSlice S8192x2048 ![0, 0] ((dats m 0 c).arrAt 5 cfg0.N : FVec Ideal S8192x5632 .bf16) slices_S8192x5632_S8192x2048_0_0 (ix2 i (cb l))
      = gB (aL m c) (aB m c) (aD m c) i l := by
  refine Eq.trans ?_ (arr5 m c i l).2
  pointwise [cb]

/-- Kernel and reference end with the same three gradients. -/
theorem algebraic : Cert.algebraic_Kernel5Ideal_Reference5Ideal := by
  have hz (x : EReal) : -x = 0 - x := (zero_sub x).symm
  pair_intro
  · run_from run_values m g
  · run_from Cert.Reference5Ideal.Value.run m' g'
    · funext j
      idx_vars j
      rcases Nat.lt_or_ge j1.val 1024 with hj | hj
      · obtain ⟨l, rfl⟩ : ∃ l, j1 = ca l := ⟨⟨j1.val, hj⟩, rfl⟩
        refine Eq.trans ?_ (res0 m c j0 l).symm
        pointwise [gA, dL, sg, hz, ca]
        rw [dif_neg (fun h => by have h1 := (h 1).1; simp at h1; omega), dif_pos (fun a => by fin_cases a <;> simp <;> omega), zero_add, ← mul_assoc]
      · obtain ⟨l, rfl⟩ : ∃ l, j1 = cb l := ⟨⟨j1.val - 1024, by omega⟩, Fin.ext (by show j1.val = 1024 + (j1.val - 1024); omega)⟩
        refine Eq.trans ?_ (res1 m c j0 l).symm
        pointwise [gB, dL, sg, hz, cb]
        rw [dif_pos (fun a => by fin_cases a <;> simp <;> omega), dif_neg (fun h => by have h1 := (h 1).2.2; simp at h1), add_zero, ← mul_assoc]
    · funext j
      idx_vars j
      refine Eq.trans ?_ (arr6 m c j0 j1).symm
      pointwise [sg, hz, ca]
    · funext j
      idx_vars j
      refine Eq.trans ?_ (arr7 m c j0 j1).symm
      pointwise [sg, hz, cb]

end Cert.Kernel5Ideal.Merge

end
-- ==== Proof.RopeQ.lean ====
module

public import proofs.«01_k».proof.Proof.Gen.Kernel7Ideal.Frame
public import proofs.«01_k».proof.Proof.Gen.Reference7Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel7Ideal.RopeQ

open Cert.Kernel7Ideal Cert.Kernel7Ideal.Gen

/-- A lane of a tile: the quarter of 32 lanes and the lane within it. -/
def ln (q : Fin 4) (j : Fin 32) : Fin 128 := ⟨32 * q.val + j.val, by omega⟩

/-- The sum of the two directions' cotangents. -/
def sc (u v : EReal) : EReal := u + v

/-- The stored payload: a lane's own cosine, and the lanes a half before and behind. -/
theorem pay (A B C : Vec Ideal S2048x128 .f32) (u v : Vec Ideal S2048x128 .bf16) (a : Fin 2048) (q : Fin 4) (j : Fin 32) :
    k0_pay1 A B C u v (ix2 a (ln q j)) = sc (u (ix2 a (ln (q + 1) j))) (v (ix2 a (ln (q + 1) j))) * C (ix2 a (ln (q + 1) j))
      + sc (u (ix2 a (ln (q + 3) j))) (v (ix2 a (ln (q + 3) j))) * B (ix2 a (ln (q + 3) j)) + sc (u (ix2 a (ln q j))) (v (ix2 a (ln q j))) * A (ix2 a (ln q j)) := by
  have e1 : (⟨((ln q j).val + 128 - 96) % 128, by omega⟩ : Fin 128) = ln (q + 1) j := Fin.ext (by simp only [ln]; fin_cases q <;> simp <;> omega)
  have e3 : (⟨((ln q j).val + 128 - 32) % 128, by omega⟩ : Fin 128) = ln (q + 3) j := Fin.ext (by simp only [ln]; fin_cases q <;> simp <;> omega)
  pointwise [k0_pay1, sc]
  rw [e1, e3]

/-- The angles: a position times a half's frequency. -/
def ang (p : (⟨S8192, .i32⟩ : BufTy).Contents (Elt Ideal)) : FVec Ideal S8192x32 .f32 :=
  mulf (broadcastInDim S8192x32 ![0, 1] bcast_S8192x1_S8192x32_0_1 (broadcastInDim S8192x1 ![0] bcast_S8192_S8192x1_0 (sitofp .f32 p)))
    (broadcastInDim S8192x32 ![0, 1] bcast_S1x32_S8192x32_0_1 (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- No rotation. -/
def nul : FVec Ideal S8192x32 .f32 := broadcastInDim S8192x32 ![] bcast_S_S8192x32 (constant S_ .f32 0x00000000#32)

/-- Four pieces of 32 lanes side by side. -/
def four (x y z w : FVec Ideal S8192x32 .f32) : FVec Ideal S8192x128 .f32 :=
  concatenate S8192x128 1 [⟨S8192x32, x⟩, ⟨S8192x32, y⟩, ⟨S8192x32, z⟩, ⟨S8192x32, w⟩] concatenates_S8192x32_S8192x32_S8192x32_S8192x32_S8192x128_d1

/-- The four pieces, entry by entry. -/
theorem four_at (x y z w : FVec Ideal S8192x32 .f32) (i : Fin 8192) (q : Fin 4) (j : Fin 32) :
    four x y z w (ix2 i (ln q j)) = (![x, y, z, w] q) (ix2 i j) := by
  have off (k : Fin 4) (b : Fin S8192x32.rank) (hb : b.cast (rfl : S8192x32.rank = S8192x128.rank) ≠ (1 : Fin 2)) :
      ((ix2 i j : S8192x32.Idx) b).val = ((ix2 i (ln k j) : S8192x128.Idx) (b.cast rfl)).val := by
    fin_cases b
    · rfl
    · exact absurd rfl hb
  have on (k : Fin 4) (n : Nat) (hn : n = 32 * k.val) : n + ((ix2 i j : S8192x32.Idx) 1).val = ((ix2 i (ln k j) : S8192x128.Idx) 1).val := by
    subst hn; rfl
  let xs : List ((s : Shape) × (s.Idx → Ideal .f32)) := [⟨S8192x32, x⟩, ⟨S8192x32, y⟩, ⟨S8192x32, z⟩, ⟨S8192x32, w⟩]
  have pc (k : Fin 4) (v : FVec Ideal S8192x32 .f32) (hv : xs[k.val]'k.isLt = ⟨S8192x32, v⟩) (hs : (((xs.take k.val).map (·.1)).map fun s => if h : s.rank = S8192x128.rank then s.size ((1 : Fin S8192x128.rank).cast h.symm) else 0).sum = 32 * k.val) :
      four x y z w (ix2 i (ln k j)) = v (ix2 i j) :=
    concatenate_apply_piece 1 xs concatenates_S8192x32_S8192x32_S8192x32_S8192x32_S8192x128_d1 (ix2 i (ln k j)) k.val k.isLt S8192x32 v hv rfl (32 * k.val) hs (ix2 i j) (off k) (on k _ rfl)
  fin_cases q
  · exact pc 0 x rfl rfl
  · exact pc 1 y rfl rfl
  · exact pc 2 z rfl rfl
  · exact pc 3 w rfl rfl

variable (m : (ℓ : Loc nD τ sig) → Buf (Elt Ideal) ℓ) (c : Dev nD)

/-- The positions and the two directions' cotangents: the arguments the result depends on. -/
abbrev aP : (⟨S8192, .i32⟩ : BufTy).Contents (Elt Ideal) := m ((c.tc : Thread nD τ).loc main_arg0)
abbrev aF : FVec Ideal S8192x512 .bf16 := m ((c.tc : Thread nD τ).loc main_arg2)
abbrev aB : FVec Ideal S8192x512 .bf16 := m ((c.tc : Thread nD τ).loc main_arg3)

/-- The region finds the three tables so. -/
theorem V_cos : Gen.V m c main_v21 = four (Host.cos (ang (aP m c))) (Host.cos (ang (aP m c))) (Host.cos (ang (aP m c))) (Host.cos (ang (aP m c))) := by
  unfold_abbrev_sides
  after_reads_simp
  rfl
theorem V_neg : Gen.V m c main_v22 = four (Host.negf (Host.sin (ang (aP m c)))) nul (Host.negf (Host.sin (ang (aP m c)))) nul := by
  unfold_abbrev_sides
  after_reads_simp
  rfl
theorem V_pos : Gen.V m c main_v23 = four nul (Host.sin (ang (aP m c))) nul (Host.sin (ang (aP m c))) := by
  unfold_abbrev_sides
  after_reads_simp
  rfl

/-- The block column, quarter and lane of a column. -/
def cq (b : Fin 4) (q : Fin 4) (j : Fin 32) : Fin 512 := ⟨128 * b.val + 32 * q.val + j.val, by omega⟩

/-- Every window's block index: rows of 2048 in turn, the column blocks within them. -/
theorem idx : ∀ t : Fin cfg0.N, win0_1.index t = ![t.val / 4, 0] ∧ win0_2.index t = ![t.val / 4, 0] ∧ win0_3.index t = ![t.val / 4, 0]
    ∧ win0_4.index t = ![t.val / 4, t.val % 4] ∧ win0_5.index t = ![t.val / 4, t.val % 4] ∧ win0_6.index t = ![t.val / 4, 32 + t.val % 4] :=
  (by decide +kernel : ∀ t : Fin grid0.N, _)

/-- The column block of a grid point. -/
def bl (t : Fin cfg0.N) : Fin 4 := ⟨t.val % 4, by omega⟩
/-- The array's row of a block's row at a grid point. -/
def row (t : Fin cfg0.N) (a : Fin 2048) : Fin 8192 := ⟨t.val / 4 * 2048 + a, by have := t.isLt; have : cfg0.N = 16 := rfl; omega⟩

/-- The blocks, entry by entry. -/
theorem b1 (t : Fin cfg0.N) (a : Fin 2048) (q : Fin 4) (j : Fin 32) : (iblk m c 1 t : Vec Ideal S2048x128 .f32) (ix2 a (ln q j)) = Host.cos (ang (aP m c)) (ix2 (row t a) j) := by
  refine Eq.trans (b := Gen.V m c main_v21 (ix2 (row t a) (ln q j))) ?_ ?_
  · blk_ext [iblk, idx t] <;> simp only [row] <;> omega
  · rw [V_cos, four_at]; fin_cases q <;> rfl
theorem b2 (t : Fin cfg0.N) (a : Fin 2048) (q : Fin 4) (j : Fin 32) : (iblk m c 2 t : Vec Ideal S2048x128 .f32) (ix2 a (ln q j))
    = (![Host.negf (Host.sin (ang (aP m c))), nul, Host.negf (Host.sin (ang (aP m c))), nul] q) (ix2 (row t a) j) := by
  rw [← four_at, ← V_neg]
  blk_ext [iblk, idx t] <;> simp only [row] <;> omega
theorem b3 (t : Fin cfg0.N) (a : Fin 2048) (q : Fin 4) (j : Fin 32) : (iblk m c 3 t : Vec Ideal S2048x128 .f32) (ix2 a (ln q j))
    = (![nul, Host.sin (ang (aP m c)), nul, Host.sin (ang (aP m c))] q) (ix2 (row t a) j) := by
  rw [← four_at, ← V_pos]
  blk_ext [iblk, idx t] <;> simp only [row] <;> omega
theorem b4 (t : Fin cfg0.N) (a : Fin 2048) (q : Fin 4) (j : Fin 32) : (iblk m c 4 t : Vec Ideal S2048x128 .bf16) (ix2 a (ln q j)) = aF m c (ix2 (row t a) (cq (bl t) q j)) := by
  blk_ext [iblk, idx t] <;> simp only [row, cq, bl, ln] <;> omega
theorem b5 (t : Fin cfg0.N) (a : Fin 2048) (q : Fin 4) (j : Fin 32) : (iblk m c 5 t : Vec Ideal S2048x128 .bf16) (ix2 a (ln q j)) = aB m c (ix2 (row t a) (cq (bl t) q j)) := by
  blk_ext [iblk, idx t] <;> simp only [row, cq, bl, ln] <;> omega

/-- The gradient at a row, a column block, a quarter and a lane, as the kernel sums it. -/
def gK (p : (⟨S8192, .i32⟩ : BufTy).Contents (Elt Ideal)) (U V : FVec Ideal S8192x512 .bf16) (i : Fin 8192) (b q : Fin 4) (j : Fin 32) : EReal :=
  sc (U (ix2 i (cq b (q + 1) j))) (V (ix2 i (cq b (q + 1) j))) * (![nul, Host.sin (ang p), nul, Host.sin (ang p)] (q + 1)) (ix2 i j)
    + sc (U (ix2 i (cq b (q + 3) j))) (V (ix2 i (cq b (q + 3) j))) * (![Host.negf (Host.sin (ang p)), nul, Host.negf (Host.sin (ang p)), nul] (q + 3)) (ix2 i j)
    + sc (U (ix2 i (cq b q j))) (V (ix2 i (cq b q j))) * Host.cos (ang p) (ix2 i j)

/-- Every lane of a tile is a quarter's lane. -/
theorem ln_cover (l : Fin 128) : ∃ (q : Fin 4) (j : Fin 32), l = ln q j :=
  ⟨⟨l.val / 32, by omega⟩, ⟨l.val % 32, by omega⟩, Fin.ext (by show l.val = 32 * (l.val / 32) + l.val % 32; omega)⟩

/-- The result array after the run, in the call's columns. -/
theorem arr6 (i : Fin 8192) (b q : Fin 4) (j : Fin 32) (k : Fin 5632) (hk : k.val = 4096 + (cq b q j).val) :
    (show Vec Ideal S8192x5632 .bf16 from (dats m 0 c).arrAt 6 cfg0.N) (ix2 i k) = gK (aP m c) (aF m c) (aB m c) i b q j := by
  have key := (dats m 0 c).arrAt_forall_of_coversWhere 6 (fun x w => ∀ (i : Fin 8192) (b q : Fin 4) (j : Fin 32) (k : Fin 5632), k.val = 4096 + (cq b q j).val →
    (show S8192x5632.Idx from x) = ix2 i k → (show EReal from w) = gK (aP m c) (aF m c) (aB m c) i b q j) (fun β => 32 ≤ β (1 : Fin _) ∧ β (1 : Fin _) < 36) (by decide +kernel)
    (fun t hf y => ?_) (fun j hj => ?_) (ix2 i k)
  · exact key i b q j k hk rfl
  · intro i b q j k hk hx
    have h0 := congrArg (fun x : S8192x5632.Idx => (x 0).val) hx
    have h1 := congrArg (fun x : S8192x5632.Idx => (x 1).val) hx
    blk_simp [idx t] at h0 h1
    blk_simp
    rw [after0_6]; simp only [outsAt0]; frame_out
    idx_vars y
    obtain ⟨q', j', rfl⟩ := ln_cover y1
    simp only [cq] at hk
    simp [ln] at h0 h1
    have ei : i = row t y0 := Fin.ext (by simp only [row]; omega)
    have eb : b = bl t := Fin.ext (by simp only [bl]; omega)
    have eq : q = q' := Fin.ext (by omega)
    have ej : j = j' := Fin.ext (by omega)
    rw [ei, eb, eq, ej]
    refine (pay _ _ _ _ _ _ _ _).trans ?_
    simp only [gK, b1, b2, b3, b4, b5]
  · intro i b q j k hk hx
    have h1 := congrArg (fun x : S8192x5632.Idx => (x 1).val) hx
    blk_simp [Pipeline.Window.cell_apply] at hj
    blk_simp at h1
    simp only [cq] at hk
    exact absurd h1 (by omega)

/-- Different windows have different arrays. -/
theorem arr_inj : Function.Injective (Pipeline.arrRef spec0) := by decide

/-- The result after the tail. -/
theorem W_res : Pipeline.afterTail₀ cfgs (dats m) 0 (V0 m) [hostOps1] c main_v25
    = extractStridedSlice S8192x512 ![0, 4096] ((dats m 0 c).arrAt 6 cfg0.N) slices_S8192x5632_S8192x512_0_4096 := by
  unfold Pipeline.afterTail₀
  simp only [List.flatten_cons, List.flatten_nil, List.append_nil]
  after_reads_simp
  rw [show ∀ V A, Pipeline.withArrays spec0 c V A (Proc.devRef .tc main_v24) = A 6 from fun V A => Pipeline.withArrays_arr spec0 arr_inj c V A 6]

/-- The kernel's run: its result and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v25) = extractStridedSlice S8192x512 ![0, 4096] ((dats m 0 c).arrAt 6 cfg0.N) slices_S8192x5632_S8192x512_0_4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v25 (Pipeline.mem_restRefs_of main_v25 (by decide) (by decide))).trans (W_res m c), h.2.1 c⟩)
    (θ_run_and (run_main m ρ) (frame m ρ))

/-- The result, entry by entry. -/
theorem res0 (i : Fin 8192) (b q : Fin 4) (j : Fin 32) :
    extractStridedSlice S8192x512 ![0, 4096] ((dats m 0 c).arrAt 6 cfg0.N : FVec Ideal S8192x5632 .bf16) slices_S8192x5632_S8192x512_0_4096 (ix2 i (cq b q j))
      = gK (aP m c) (aF m c) (aB m c) i b q j := by
  refine Eq.trans ?_ (arr6 m c i b q j ⟨4096 + (cq b q j).val, by omega⟩ rfl)
  pointwise []

/-- Every column is a block's quarter's lane. -/
theorem cq_cover (k : Fin 512) : ∃ (b q : Fin 4) (j : Fin 32), k = cq b q j :=
  ⟨⟨k.val / 128, by omega⟩, ⟨k.val % 128 / 32, by omega⟩, ⟨k.val % 32, by omega⟩, Fin.ext (by show k.val = 128 * (k.val / 128) + 32 * (k.val % 128 / 32) + k.val % 32; omega)⟩

/-- The gradient in a head's first half: the other half turned back by the sine, the lane itself by the cosine. -/
def ev (p : (⟨S8192, .i32⟩ : BufTy).Contents (Elt Ideal)) (U V : FVec Ideal S8192x512 .bf16) (i : Fin 8192) (b q r : Fin 4) (j : Fin 32) : EReal :=
  sc (U (ix2 i (cq b r j))) (V (ix2 i (cq b r j))) * Host.sin (ang p) (ix2 i j) + sc (U (ix2 i (cq b q j))) (V (ix2 i (cq b q j))) * Host.cos (ang p) (ix2 i j)

/-- The gradient in a head's second half. -/
def od (p : (⟨S8192, .i32⟩ : BufTy).Contents (Elt Ideal)) (U V : FVec Ideal S8192x512 .bf16) (i : Fin 8192) (b q r : Fin 4) (j : Fin 32) : EReal :=
  sc (U (ix2 i (cq b q j))) (V (ix2 i (cq b q j))) * Host.cos (ang p) (ix2 i j) + -sc (U (ix2 i (cq b r j))) (V (ix2 i (cq b r j))) * Host.sin (ang p) (ix2 i j)

/-- No rotation is zero everywhere. -/
theorem nul_at (i : Fin 8192) (j : Fin 32) : nul (ix2 i j) = 0 := by pointwise [nul]

/-- The kernel's sums are these. -/
theorem gK0 (p) (U V : FVec Ideal S8192x512 .bf16) (i : Fin 8192) (b : Fin 4) (j : Fin 32) : gK p U V i b 0 j = ev p U V i b 0 1 j := by
  change sc _ _ * Host.sin (ang p) (ix2 i j) + sc _ _ * nul (ix2 i j) + sc _ _ * _ = _
  rw [nul_at, mul_zero, add_zero]; rfl
theorem gK2 (p) (U V : FVec Ideal S8192x512 .bf16) (i : Fin 8192) (b : Fin 4) (j : Fin 32) : gK p U V i b 2 j = ev p U V i b 2 3 j := by
  change sc _ _ * Host.sin (ang p) (ix2 i j) + sc _ _ * nul (ix2 i j) + sc _ _ * _ = _
  rw [nul_at, mul_zero, add_zero]; rfl
theorem gK1 (p) (U V : FVec Ideal S8192x512 .bf16) (i : Fin 8192) (b : Fin 4) (j : Fin 32) : gK p U V i b 1 j = od p U V i b 1 0 j := by
  change sc _ _ * nul (ix2 i j) + sc _ _ * -(Host.sin (ang p) (ix2 i j) : EReal) + sc _ _ * _ = _
  rw [nul_at, mul_zero, zero_add, mul_neg, ← neg_mul, add_comm]; rfl
theorem gK3 (p) (U V : FVec Ideal S8192x512 .bf16) (i : Fin 8192) (b : Fin 4) (j : Fin 32) : gK p U V i b 3 j = od p U V i b 3 2 j := by
  change sc _ _ * nul (ix2 i j) + sc _ _ * -(Host.sin (ang p) (ix2 i j) : EReal) + sc _ _ * _ = _
  rw [nul_at, mul_zero, zero_add, mul_neg, ← neg_mul, add_comm]; rfl

variable (m' : (ℓ : Loc Cert.Reference7Ideal.nD Cert.Reference7Ideal.τ Cert.Reference7Ideal.sig) → Buf (Elt Ideal) ℓ) (c' : Dev Cert.Reference7Ideal.nD)

set_option maxHeartbeats 2000000 in
/-- The reference in a head's first half. -/
theorem ref_ev (i : Fin 8192) (b q r : Fin 4) (j : Fin 32) (h : q.val % 2 = 0) (h' : r.val = q.val + 1) :
    (Cert.Reference7Ideal.Value.res_main_v53 m' c' : FVec Ideal S8192x512 .bf16) (ix2 i (cq b q j))
      = ev (m' ((c'.tc : Thread Cert.Reference7Ideal.nD Cert.Reference7Ideal.τ).loc Cert.Reference7Ideal.main_arg0)) (m' ((c'.tc : Thread Cert.Reference7Ideal.nD Cert.Reference7Ideal.τ).loc Cert.Reference7Ideal.main_arg2))
        (m' ((c'.tc : Thread Cert.Reference7Ideal.nD Cert.Reference7Ideal.τ).loc Cert.Reference7Ideal.main_arg3)) i b q r j := by
  have v : (cq b q j).val = 128 * b.val + 32 * q.val + j.val := rfl
  generalize hk : cq b q j = k at v
  have w : k.val % 64 = j.val := by omega
  have e : (⟨k.val / 64 * 64 + (32 + k.val % 64), by omega⟩ : Fin 512) = cq b r j := Fin.ext (by simp only [cq]; omega)
  have hn : ¬(k.val / 64 < 8 ∧ 32 ≤ k.val % 64 ∧ k.val % 64 - 32 < 32) := by omega
  have hp : k.val / 64 < 8 ∧ k.val % 64 < 32 := by omega
  pointwise [ev, sc, ang, Cert.Reference7Ideal.Value.res_main_v53]
  rw [dif_neg hn, dif_pos hp, zero_add, e]
  simp only [w, hk]

set_option maxHeartbeats 2000000 in
/-- The reference in a head's second half. -/
theorem ref_od (i : Fin 8192) (b q r : Fin 4) (j : Fin 32) (h : q.val % 2 = 1) (h' : q.val = r.val + 1) :
    (Cert.Reference7Ideal.Value.res_main_v53 m' c' : FVec Ideal S8192x512 .bf16) (ix2 i (cq b q j))
      = od (m' ((c'.tc : Thread Cert.Reference7Ideal.nD Cert.Reference7Ideal.τ).loc Cert.Reference7Ideal.main_arg0)) (m' ((c'.tc : Thread Cert.Reference7Ideal.nD Cert.Reference7Ideal.τ).loc Cert.Reference7Ideal.main_arg2))
        (m' ((c'.tc : Thread Cert.Reference7Ideal.nD Cert.Reference7Ideal.τ).loc Cert.Reference7Ideal.main_arg3)) i b q r j := by
  have v : (cq b q j).val = 128 * b.val + 32 * q.val + j.val := rfl
  generalize hk : cq b q j = k at v
  have w : k.val % 64 - 32 = j.val := by omega
  have e : (⟨k.val / 64 * 64 + (32 + (k.val % 64 - 32)), by omega⟩ : Fin 512) = k := Fin.ext (by show k.val / 64 * 64 + (32 + (k.val % 64 - 32)) = k.val; omega)
  have e' : (⟨k.val / 64 * 64 + (k.val % 64 - 32), by omega⟩ : Fin 512) = cq b r j := Fin.ext (by simp only [cq]; omega)
  have hp : k.val / 64 < 8 ∧ 32 ≤ k.val % 64 ∧ k.val % 64 - 32 < 32 := by omega
  have hn : ¬(k.val / 64 < 8 ∧ k.val % 64 < 32) := by omega
  pointwise [od, sc, ang, Cert.Reference7Ideal.Value.res_main_v53]
  rw [dif_pos hp, dif_neg hn, add_zero, e, e']
  simp only [w, hk]

/-- Kernel and reference end with the same gradient. -/
theorem algebraic : Cert.algebraic_Kernel7Ideal_Reference7Ideal := by
  pair_intro
  · run_from run_values m g
  · run_from Cert.Reference7Ideal.Value.run m' g'
    funext k
    idx_vars k
    obtain ⟨b, q, j, rfl⟩ := cq_cover k1
    refine Eq.trans ?_ (res0 m c k0 b q j).symm
    unfold aP aF aB
    rw [← (hagree c).1, ← (hagree c).2.2.1, ← (hagree c).2.2.2]
    rcases (by omega : q = 0 ∨ q = 1 ∨ q = 2 ∨ q = 3) with rfl | rfl | rfl | rfl
    · exact (ref_ev m' c k0 b 0 1 j rfl rfl).trans (gK0 _ _ _ _ _ _).symm
    · exact (ref_od m' c k0 b 1 0 j rfl rfl).trans (gK1 _ _ _ _ _ _).symm
    · exact (ref_ev m' c k0 b 2 3 j rfl rfl).trans (gK2 _ _ _ _ _ _).symm
    · exact (ref_od m' c k0 b 3 2 j rfl rfl).trans (gK3 _ _ _ _ _ _).symm

end Cert.Kernel7Ideal.RopeQ

end
-- ==== Proof.RopeK.lean ====
module

public import proofs.«01_k».proof.Proof.Gen.Kernel8Ideal.Frame
public import proofs.«01_k».proof.Proof.Gen.Reference8Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel8Ideal.RopeK

open Cert.Kernel8Ideal Cert.Kernel8Ideal.Gen

/-- A lane of a tile: the quarter of 32 lanes and the lane within it. -/
def ln (q : Fin 4) (j : Fin 32) : Fin 128 := ⟨32 * q.val + j.val, by omega⟩

/-- The scaled sum of the two directions' cotangents. -/
def sc (u v : EReal) : EReal := (u + v) * Ideal.ofBits .f32 0x3E000000#32

/-- The stored payload: a lane's own cosine, and the lanes a half before and behind. -/
theorem pay (A B C : Vec Ideal S2048x128 .f32) (u v : Vec Ideal S2048x128 .bf16) (a : Fin 2048) (q : Fin 4) (j : Fin 32) :
    k0_pay1 A B C u v (ix2 a (ln q j)) = sc (u (ix2 a (ln (q + 1) j))) (v (ix2 a (ln (q + 1) j))) * C (ix2 a (ln (q + 1) j))
      + sc (u (ix2 a (ln (q + 3) j))) (v (ix2 a (ln (q + 3) j))) * B (ix2 a (ln (q + 3) j)) + sc (u (ix2 a (ln q j))) (v (ix2 a (ln q j))) * A (ix2 a (ln q j)) := by
  have e1 : (⟨((ln q j).val + 128 - 96) % 128, by omega⟩ : Fin 128) = ln (q + 1) j := Fin.ext (by simp only [ln]; fin_cases q <;> simp <;> omega)
  have e3 : (⟨((ln q j).val + 128 - 32) % 128, by omega⟩ : Fin 128) = ln (q + 3) j := Fin.ext (by simp only [ln]; fin_cases q <;> simp <;> omega)
  pointwise [k0_pay1, sc]
  rw [e1, e3]

/-- The angles: a position times a half's frequency. -/
def ang (p : (⟨S8192, .i32⟩ : BufTy).Contents (Elt Ideal)) : FVec Ideal S8192x32 .f32 :=
  mulf (broadcastInDim S8192x32 ![0, 1] bcast_S8192x1_S8192x32_0_1 (broadcastInDim S8192x1 ![0] bcast_S8192_S8192x1_0 (sitofp .f32 p)))
    (broadcastInDim S8192x32 ![0, 1] bcast_S1x32_S8192x32_0_1 (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- No rotation. -/
def nul : FVec Ideal S8192x32 .f32 := broadcastInDim S8192x32 ![] bcast_S_S8192x32 (constant S_ .f32 0x00000000#32)

/-- Four pieces of 32 lanes side by side. -/
def four (x y z w : FVec Ideal S8192x32 .f32) : FVec Ideal S8192x128 .f32 :=
  concatenate S8192x128 1 [⟨S8192x32, x⟩, ⟨S8192x32, y⟩, ⟨S8192x32, z⟩, ⟨S8192x32, w⟩] concatenates_S8192x32_S8192x32_S8192x32_S8192x32_S8192x128_d1

/-- The four pieces, entry by entry. -/
theorem four_at (x y z w : FVec Ideal S8192x32 .f32) (i : Fin 8192) (q : Fin 4) (j : Fin 32) :
    four x y z w (ix2 i (ln q j)) = (![x, y, z, w] q) (ix2 i j) := by
  have off (k : Fin 4) (b : Fin S8192x32.rank) (hb : b.cast (rfl : S8192x32.rank = S8192x128.rank) ≠ (1 : Fin 2)) :
      ((ix2 i j : S8192x32.Idx) b).val = ((ix2 i (ln k j) : S8192x128.Idx) (b.cast rfl)).val := by
    fin_cases b
    · rfl
    · exact absurd rfl hb
  have on (k : Fin 4) (n : Nat) (hn : n = 32 * k.val) : n + ((ix2 i j : S8192x32.Idx) 1).val = ((ix2 i (ln k j) : S8192x128.Idx) 1).val := by
    subst hn; rfl
  let xs : List ((s : Shape) × (s.Idx → Ideal .f32)) := [⟨S8192x32, x⟩, ⟨S8192x32, y⟩, ⟨S8192x32, z⟩, ⟨S8192x32, w⟩]
  have pc (k : Fin 4) (v : FVec Ideal S8192x32 .f32) (hv : xs[k.val]'k.isLt = ⟨S8192x32, v⟩) (hs : (((xs.take k.val).map (·.1)).map fun s => if h : s.rank = S8192x128.rank then s.size ((1 : Fin S8192x128.rank).cast h.symm) else 0).sum = 32 * k.val) :
      four x y z w (ix2 i (ln k j)) = v (ix2 i j) :=
    concatenate_apply_piece 1 xs concatenates_S8192x32_S8192x32_S8192x32_S8192x32_S8192x128_d1 (ix2 i (ln k j)) k.val k.isLt S8192x32 v hv rfl (32 * k.val) hs (ix2 i j) (off k) (on k _ rfl)
  fin_cases q
  · exact pc 0 x rfl rfl
  · exact pc 1 y rfl rfl
  · exact pc 2 z rfl rfl
  · exact pc 3 w rfl rfl

variable (m : (ℓ : Loc nD τ sig) → Buf (Elt Ideal) ℓ) (c : Dev nD)

/-- The positions and the two directions' cotangents: the arguments the result depends on. -/
abbrev aP : (⟨S8192, .i32⟩ : BufTy).Contents (Elt Ideal) := m ((c.tc : Thread nD τ).loc main_arg0)
abbrev aF : FVec Ideal S8192x512 .bf16 := m ((c.tc : Thread nD τ).loc main_arg2)
abbrev aB : FVec Ideal S8192x512 .bf16 := m ((c.tc : Thread nD τ).loc main_arg3)

/-- The region finds the three tables so. -/
theorem V_cos : Gen.V m c main_v21 = four (Host.cos (ang (aP m c))) (Host.cos (ang (aP m c))) (Host.cos (ang (aP m c))) (Host.cos (ang (aP m c))) := by
  unfold_abbrev_sides
  after_reads_simp
  rfl
theorem V_neg : Gen.V m c main_v22 = four (Host.negf (Host.sin (ang (aP m c)))) nul (Host.negf (Host.sin (ang (aP m c)))) nul := by
  unfold_abbrev_sides
  after_reads_simp
  rfl
theorem V_pos : Gen.V m c main_v23 = four nul (Host.sin (ang (aP m c))) nul (Host.sin (ang (aP m c))) := by
  unfold_abbrev_sides
  after_reads_simp
  rfl

/-- The block column, quarter and lane of a column. -/
def cq (b : Fin 4) (q : Fin 4) (j : Fin 32) : Fin 512 := ⟨128 * b.val + 32 * q.val + j.val, by omega⟩

/-- Every window's block index: rows of 2048 in turn, the column blocks within them. -/
theorem idx : ∀ t : Fin cfg0.N, win0_1.index t = ![t.val / 4, 0] ∧ win0_2.index t = ![t.val / 4, 0] ∧ win0_3.index t = ![t.val / 4, 0]
    ∧ win0_4.index t = ![t.val / 4, t.val % 4] ∧ win0_5.index t = ![t.val / 4, t.val % 4] ∧ win0_6.index t = ![t.val / 4, 36 + t.val % 4] :=
  (by decide +kernel : ∀ t : Fin grid0.N, _)

/-- The column block of a grid point. -/
def bl (t : Fin cfg0.N) : Fin 4 := ⟨t.val % 4, by omega⟩
/-- The array's row of a block's row at a grid point. -/
def row (t : Fin cfg0.N) (a : Fin 2048) : Fin 8192 := ⟨t.val / 4 * 2048 + a, by have := t.isLt; have : cfg0.N = 16 := rfl; omega⟩

/-- The blocks, entry by entry. -/
theorem b1 (t : Fin cfg0.N) (a : Fin 2048) (q : Fin 4) (j : Fin 32) : (iblk m c 1 t : Vec Ideal S2048x128 .f32) (ix2 a (ln q j)) = Host.cos (ang (aP m c)) (ix2 (row t a) j) := by
  refine Eq.trans (b := Gen.V m c main_v21 (ix2 (row t a) (ln q j))) ?_ ?_
  · blk_ext [iblk, idx t] <;> simp only [row] <;> omega
  · rw [V_cos, four_at]; fin_cases q <;> rfl
theorem b2 (t : Fin cfg0.N) (a : Fin 2048) (q : Fin 4) (j : Fin 32) : (iblk m c 2 t : Vec Ideal S2048x128 .f32) (ix2 a (ln q j))
    = (![Host.negf (Host.sin (ang (aP m c))), nul, Host.negf (Host.sin (ang (aP m c))), nul] q) (ix2 (row t a) j) := by
  rw [← four_at, ← V_neg]
  blk_ext [iblk, idx t] <;> simp only [row] <;> omega
theorem b3 (t : Fin cfg0.N) (a : Fin 2048) (q : Fin 4) (j : Fin 32) : (iblk m c 3 t : Vec Ideal S2048x128 .f32) (ix2 a (ln q j))
    = (![nul, Host.sin (ang (aP m c)), nul, Host.sin (ang (aP m c))] q) (ix2 (row t a) j) := by
  rw [← four_at, ← V_pos]
  blk_ext [iblk, idx t] <;> simp only [row] <;> omega
theorem b4 (t : Fin cfg0.N) (a : Fin 2048) (q : Fin 4) (j : Fin 32) : (iblk m c 4 t : Vec Ideal S2048x128 .bf16) (ix2 a (ln q j)) = aF m c (ix2 (row t a) (cq (bl t) q j)) := by
  blk_ext [iblk, idx t] <;> simp only [row, cq, bl, ln] <;> omega
theorem b5 (t : Fin cfg0.N) (a : Fin 2048) (q : Fin 4) (j : Fin 32) : (iblk m c 5 t : Vec Ideal S2048x128 .bf16) (ix2 a (ln q j)) = aB m c (ix2 (row t a) (cq (bl t) q j)) := by
  blk_ext [iblk, idx t] <;> simp only [row, cq, bl, ln] <;> omega

/-- The gradient at a row, a column block, a quarter and a lane, as the kernel sums it. -/
def gK (p : (⟨S8192, .i32⟩ : BufTy).Contents (Elt Ideal)) (U V : FVec Ideal S8192x512 .bf16) (i : Fin 8192) (b q : Fin 4) (j : Fin 32) : EReal :=
  sc (U (ix2 i (cq b (q + 1) j))) (V (ix2 i (cq b (q + 1) j))) * (![nul, Host.sin (ang p), nul, Host.sin (ang p)] (q + 1)) (ix2 i j)
    + sc (U (ix2 i (cq b (q + 3) j))) (V (ix2 i (cq b (q + 3) j))) * (![Host.negf (Host.sin (ang p)), nul, Host.negf (Host.sin (ang p)), nul] (q + 3)) (ix2 i j)
    + sc (U (ix2 i (cq b q j))) (V (ix2 i (cq b q j))) * Host.cos (ang p) (ix2 i j)

/-- Every lane of a tile is a quarter's lane. -/
theorem ln_cover (l : Fin 128) : ∃ (q : Fin 4) (j : Fin 32), l = ln q j :=
  ⟨⟨l.val / 32, by omega⟩, ⟨l.val % 32, by omega⟩, Fin.ext (by show l.val = 32 * (l.val / 32) + l.val % 32; omega)⟩

/-- The result array after the run, in the call's columns. -/
theorem arr6 (i : Fin 8192) (b q : Fin 4) (j : Fin 32) (k : Fin 5632) (hk : k.val = 4608 + (cq b q j).val) :
    (show Vec Ideal S8192x5632 .bf16 from (dats m 0 c).arrAt 6 cfg0.N) (ix2 i k) = gK (aP m c) (aF m c) (aB m c) i b q j := by
  have key := (dats m 0 c).arrAt_forall_of_coversWhere 6 (fun x w => ∀ (i : Fin 8192) (b q : Fin 4) (j : Fin 32) (k : Fin 5632), k.val = 4608 + (cq b q j).val →
    (show S8192x5632.Idx from x) = ix2 i k → (show EReal from w) = gK (aP m c) (aF m c) (aB m c) i b q j) (fun β => 36 ≤ β (1 : Fin _) ∧ β (1 : Fin _) < 40) (by decide +kernel)
    (fun t hf y => ?_) (fun j hj => ?_) (ix2 i k)
  · exact key i b q j k hk rfl
  · intro i b q j k hk hx
    have h0 := congrArg (fun x : S8192x5632.Idx => (x 0).val) hx
    have h1 := congrArg (fun x : S8192x5632.Idx => (x 1).val) hx
    blk_simp [idx t] at h0 h1
    blk_simp
    rw [after0_6]; simp only [outsAt0]; frame_out
    idx_vars y
    obtain ⟨q', j', rfl⟩ := ln_cover y1
    simp only [cq] at hk
    simp [ln] at h0 h1
    have ei : i = row t y0 := Fin.ext (by simp only [row]; omega)
    have eb : b = bl t := Fin.ext (by simp only [bl]; omega)
    have eq : q = q' := Fin.ext (by omega)
    have ej : j = j' := Fin.ext (by omega)
    rw [ei, eb, eq, ej]
    refine (pay _ _ _ _ _ _ _ _).trans ?_
    simp only [gK, b1, b2, b3, b4, b5]
  · intro i b q j k hk hx
    have h1 := congrArg (fun x : S8192x5632.Idx => (x 1).val) hx
    blk_simp [Pipeline.Window.cell_apply] at hj
    blk_simp at h1
    simp only [cq] at hk
    exact absurd h1 (by omega)

/-- Different windows have different arrays. -/
theorem arr_inj : Function.Injective (Pipeline.arrRef spec0) := by decide

/-- The result after the tail. -/
theorem W_res : Pipeline.afterTail₀ cfgs (dats m) 0 (V0 m) [hostOps1] c main_v25
    = extractStridedSlice S8192x512 ![0, 4608] ((dats m 0 c).arrAt 6 cfg0.N) slices_S8192x5632_S8192x512_0_4608 := by
  unfold Pipeline.afterTail₀
  simp only [List.flatten_cons, List.flatten_nil, List.append_nil]
  after_reads_simp
  rw [show ∀ V A, Pipeline.withArrays spec0 c V A (Proc.devRef .tc main_v24) = A 6 from fun V A => Pipeline.withArrays_arr spec0 arr_inj c V A 6]

/-- The kernel's run: its result and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v25) = extractStridedSlice S8192x512 ![0, 4608] ((dats m 0 c).arrAt 6 cfg0.N) slices_S8192x5632_S8192x512_0_4608
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).2 main_v25 (Pipeline.mem_restRefs_of main_v25 (by decide) (by decide))).trans (W_res m c), h.2.1 c⟩)
    (θ_run_and (run_main m ρ) (frame m ρ))

/-- The result, entry by entry. -/
theorem res0 (i : Fin 8192) (b q : Fin 4) (j : Fin 32) :
    extractStridedSlice S8192x512 ![0, 4608] ((dats m 0 c).arrAt 6 cfg0.N : FVec Ideal S8192x5632 .bf16) slices_S8192x5632_S8192x512_0_4608 (ix2 i (cq b q j))
      = gK (aP m c) (aF m c) (aB m c) i b q j := by
  refine Eq.trans ?_ (arr6 m c i b q j ⟨4608 + (cq b q j).val, by omega⟩ rfl)
  pointwise []

/-- Every column is a block's quarter's lane. -/
theorem cq_cover (k : Fin 512) : ∃ (b q : Fin 4) (j : Fin 32), k = cq b q j :=
  ⟨⟨k.val / 128, by omega⟩, ⟨k.val % 128 / 32, by omega⟩, ⟨k.val % 32, by omega⟩, Fin.ext (by show k.val = 128 * (k.val / 128) + 32 * (k.val % 128 / 32) + k.val % 32; omega)⟩

/-- The gradient in a head's first half: the other half turned back by the sine, the lane itself by the cosine. -/
def ev (p : (⟨S8192, .i32⟩ : BufTy).Contents (Elt Ideal)) (U V : FVec Ideal S8192x512 .bf16) (i : Fin 8192) (b q r : Fin 4) (j : Fin 32) : EReal :=
  sc (U (ix2 i (cq b r j))) (V (ix2 i (cq b r j))) * Host.sin (ang p) (ix2 i j) + sc (U (ix2 i (cq b q j))) (V (ix2 i (cq b q j))) * Host.cos (ang p) (ix2 i j)

/-- The gradient in a head's second half. -/
def od (p : (⟨S8192, .i32⟩ : BufTy).Contents (Elt Ideal)) (U V : FVec Ideal S8192x512 .bf16) (i : Fin 8192) (b q r : Fin 4) (j : Fin 32) : EReal :=
  sc (U (ix2 i (cq b q j))) (V (ix2 i (cq b q j))) * Host.cos (ang p) (ix2 i j) + -sc (U (ix2 i (cq b r j))) (V (ix2 i (cq b r j))) * Host.sin (ang p) (ix2 i j)

/-- No rotation is zero everywhere. -/
theorem nul_at (i : Fin 8192) (j : Fin 32) : nul (ix2 i j) = 0 := by pointwise [nul]

/-- The kernel's sums are these. -/
theorem gK0 (p) (U V : FVec Ideal S8192x512 .bf16) (i : Fin 8192) (b : Fin 4) (j : Fin 32) : gK p U V i b 0 j = ev p U V i b 0 1 j := by
  change sc _ _ * Host.sin (ang p) (ix2 i j) + sc _ _ * nul (ix2 i j) + sc _ _ * _ = _
  rw [nul_at, mul_zero, add_zero]; rfl
theorem gK2 (p) (U V : FVec Ideal S8192x512 .bf16) (i : Fin 8192) (b : Fin 4) (j : Fin 32) : gK p U V i b 2 j = ev p U V i b 2 3 j := by
  change sc _ _ * Host.sin (ang p) (ix2 i j) + sc _ _ * nul (ix2 i j) + sc _ _ * _ = _
  rw [nul_at, mul_zero, add_zero]; rfl
theorem gK1 (p) (U V : FVec Ideal S8192x512 .bf16) (i : Fin 8192) (b : Fin 4) (j : Fin 32) : gK p U V i b 1 j = od p U V i b 1 0 j := by
  change sc _ _ * nul (ix2 i j) + sc _ _ * -(Host.sin (ang p) (ix2 i j) : EReal) + sc _ _ * _ = _
  rw [nul_at, mul_zero, zero_add, mul_neg, ← neg_mul, add_comm]; rfl
theorem gK3 (p) (U V : FVec Ideal S8192x512 .bf16) (i : Fin 8192) (b : Fin 4) (j : Fin 32) : gK p U V i b 3 j = od p U V i b 3 2 j := by
  change sc _ _ * nul (ix2 i j) + sc _ _ * -(Host.sin (ang p) (ix2 i j) : EReal) + sc _ _ * _ = _
  rw [nul_at, mul_zero, zero_add, mul_neg, ← neg_mul, add_comm]; rfl

variable (m' : (ℓ : Loc Cert.Reference8Ideal.nD Cert.Reference8Ideal.τ Cert.Reference8Ideal.sig) → Buf (Elt Ideal) ℓ) (c' : Dev Cert.Reference8Ideal.nD)

set_option maxHeartbeats 2000000 in
/-- The reference in a head's first half. -/
theorem ref_ev (i : Fin 8192) (b q r : Fin 4) (j : Fin 32) (h : q.val % 2 = 0) (h' : r.val = q.val + 1) :
    (Cert.Reference8Ideal.Value.res_main_v57 m' c' : FVec Ideal S8192x512 .bf16) (ix2 i (cq b q j))
      = ev (m' ((c'.tc : Thread Cert.Reference8Ideal.nD Cert.Reference8Ideal.τ).loc Cert.Reference8Ideal.main_arg0)) (m' ((c'.tc : Thread Cert.Reference8Ideal.nD Cert.Reference8Ideal.τ).loc Cert.Reference8Ideal.main_arg2))
        (m' ((c'.tc : Thread Cert.Reference8Ideal.nD Cert.Reference8Ideal.τ).loc Cert.Reference8Ideal.main_arg3)) i b q r j := by
  have v : (cq b q j).val = 128 * b.val + 32 * q.val + j.val := rfl
  generalize hk : cq b q j = k at v
  have w : k.val % 64 = j.val := by omega
  have e : (⟨k.val / 64 * 64 + (32 + k.val % 64), by omega⟩ : Fin 512) = cq b r j := Fin.ext (by simp only [cq]; omega)
  have hn : ¬(k.val / 64 < 8 ∧ 32 ≤ k.val % 64 ∧ k.val % 64 - 32 < 32) := by omega
  have hp : k.val / 64 < 8 ∧ k.val % 64 < 32 := by omega
  pointwise [ev, sc, ang, Cert.Reference8Ideal.Value.res_main_v57]
  rw [dif_neg hn, dif_pos hp, zero_add, e]
  simp only [w, hk]

set_option maxHeartbeats 2000000 in
/-- The reference in a head's second half. -/
theorem ref_od (i : Fin 8192) (b q r : Fin 4) (j : Fin 32) (h : q.val % 2 = 1) (h' : q.val = r.val + 1) :
    (Cert.Reference8Ideal.Value.res_main_v57 m' c' : FVec Ideal S8192x512 .bf16) (ix2 i (cq b q j))
      = od (m' ((c'.tc : Thread Cert.Reference8Ideal.nD Cert.Reference8Ideal.τ).loc Cert.Reference8Ideal.main_arg0)) (m' ((c'.tc : Thread Cert.Reference8Ideal.nD Cert.Reference8Ideal.τ).loc Cert.Reference8Ideal.main_arg2))
        (m' ((c'.tc : Thread Cert.Reference8Ideal.nD Cert.Reference8Ideal.τ).loc Cert.Reference8Ideal.main_arg3)) i b q r j := by
  have v : (cq b q j).val = 128 * b.val + 32 * q.val + j.val := rfl
  generalize hk : cq b q j = k at v
  have w : k.val % 64 - 32 = j.val := by omega
  have e : (⟨k.val / 64 * 64 + (32 + (k.val % 64 - 32)), by omega⟩ : Fin 512) = k := Fin.ext (by show k.val / 64 * 64 + (32 + (k.val % 64 - 32)) = k.val; omega)
  have e' : (⟨k.val / 64 * 64 + (k.val % 64 - 32), by omega⟩ : Fin 512) = cq b r j := Fin.ext (by simp only [cq]; omega)
  have hp : k.val / 64 < 8 ∧ 32 ≤ k.val % 64 ∧ k.val % 64 - 32 < 32 := by omega
  have hn : ¬(k.val / 64 < 8 ∧ k.val % 64 < 32) := by omega
  pointwise [od, sc, ang, Cert.Reference8Ideal.Value.res_main_v57]
  rw [dif_pos hp, dif_neg hn, add_zero, e, e']
  simp only [w, hk]

/-- Kernel and reference end with the same gradient. -/
theorem algebraic : Cert.algebraic_Kernel8Ideal_Reference8Ideal := by
  pair_intro
  · run_from run_values m g
  · run_from Cert.Reference8Ideal.Value.run m' g'
    funext k
    idx_vars k
    obtain ⟨b, q, j, rfl⟩ := cq_cover k1
    refine Eq.trans ?_ (res0 m c k0 b q j).symm
    unfold aP aF aB
    rw [← (hagree c).1, ← (hagree c).2.2.1, ← (hagree c).2.2.2]
    rcases (by omega : q = 0 ∨ q = 1 ∨ q = 2 ∨ q = 3) with rfl | rfl | rfl | rfl
    · exact (ref_ev m' c k0 b 0 1 j rfl rfl).trans (gK0 _ _ _ _ _ _).symm
    · exact (ref_od m' c k0 b 1 0 j rfl rfl).trans (gK1 _ _ _ _ _ _).symm
    · exact (ref_ev m' c k0 b 2 3 j rfl rfl).trans (gK2 _ _ _ _ _ _).symm
    · exact (ref_od m' c k0 b 3 2 j rfl rfl).trans (gK3 _ _ _ _ _ _).symm

end Cert.Kernel8Ideal.RopeK

end
-- ==== Proof.FwdPay.lean ====
module

public import proofs.«01_k».proof.Proof.MlaMath
public import proofs.«01_k».proof.Proof.Gen.Kernel13Ideal.Skeleton
public import Idealize.ShloMosaic.Lib.Pipeline.ValueKit
public import Idealize.ShloMosaic.Lib.Claim
public import Idealize.ShloMosaic.Lib.WholeRead
public import Idealize.ShloMosaic.Lib.WritesUnit

@[expose] public section

set_option maxRecDepth 16384

noncomputable section

namespace Cert.Kernel13Ideal.Fwd

open Idealize.ShloMosaic Idealize.ShloMosaic.ValueKit
open Cert.Kernel13Ideal.Gen Cert.MlaMath

/-- The reciprocal of the natural logarithm of two, as the kernel's named constant. -/
def unit2 : EReal := Named.named (F := Ideal) Cert.Kernel13Ideal.κ (φ := .f32) "inv_ln2" 0x3FB8AA3B#32

/-! ### One head of a block of queries -/

section Head

variable (x : Vec Ideal S256x128 .bf16) (y z : Vec Ideal S8192x128 .bf16) (w : Vec Ideal S256x128 .bf16)

/-- The score of key `j` for query `r`. -/
def score (r : Fin 256) (j : Fin 8192) : EReal := ∑ d : Fin 128, x (ix2 r d) * y (ix2 j d)
/-- The row's greatest score. -/
def top (r : Fin 256) : EReal := k0_pay4 x y (ix2 r 0)
/-- The power of two of a score less the greatest. -/
def wt (r : Fin 256) (j : Fin 8192) : EReal := Ideal.exp2 (score x y r j - top x y r)
/-- The row's sum of these. -/
def tot (r : Fin 256) : EReal := ∑ j, wt x y r j
/-- The row's weighted sum of values over that sum. -/
def mean (r : Fin 256) (d : Fin 128) : EReal := Ideal.div (∑ j, wt x y r j * z (ix2 j d)) (tot x y r)

/-- The scores. -/
theorem score_at (r : Fin 256) (j : Fin 8192) : k0_pay3 x y (ix2 r j) = score x y r j := by
  pointwise [k0_pay3]; rfl

/-- The greatest score is a real number where the scores are. -/
theorem top_at (r : Fin 256) (h : ∀ j, ∃ q : ℝ, score x y r j = (q : EReal)) : ∃ M : ℝ, top x y r = (M : EReal) := by
  unfold top
  pointwise [k0_pay4]
  have e : (Ideal.ofBits .f32 0xFF800000#32 : EReal) = ⊥ := by simp [Ideal.ofBits, Ideal.ieee]
  rw [e]
  refine fold_max_coe _ ⟨0, Finset.mem_univ _⟩ _ fun j _ => ?_
  obtain ⟨q, hq⟩ := h j
  exact ⟨q, (score_at x y r j).trans hq⟩

/-- The powers of two. -/
theorem wt_at (r : Fin 256) (j : Fin 8192) : k0_pay5 x y (ix2 r j) = wt x y r j := by
  pointwise [k0_pay5]
  rw [score_at]; rfl

/-- Their sum. -/
theorem tot_at (r : Fin 256) (a : Fin 1) : k0_pay6 x y (ix2 r a) = tot x y r := by
  pointwise [k0_pay6]
  exact Finset.sum_congr rfl fun j _ => wt_at x y r j

/-- The even head's mask: one on the lower half of the lanes. -/
theorem mask_even (l : Fin 128) (a b : EReal) :
    Scalar.select (IntOp.xori (IntOp.xori (IntOp.cmpi CmpIPredicate.sge (BitVec.ofNat 32 l.val) 64#32) 0#1) 1#1) a b
      = if l.val / 64 = 0 then a else b := by
  have h : IntOp.xori (IntOp.xori (IntOp.cmpi CmpIPredicate.sge (BitVec.ofNat 32 l.val) 64#32) 0#1) 1#1
      = if l.val / 64 = 0 then 1#1 else 0#1 := by
    revert l; decide +kernel
  rw [h]; split <;> rfl

/-- The odd head's mask: one on the upper half of the lanes. -/
theorem mask_odd (l : Fin 128) (a b : EReal) :
    Scalar.select (IntOp.xori (IntOp.xori (IntOp.cmpi CmpIPredicate.sge (BitVec.ofNat 32 l.val) 64#32) 1#1) 1#1) a b
      = if l.val / 64 = 1 then a else b := by
  have h : IntOp.xori (IntOp.xori (IntOp.cmpi CmpIPredicate.sge (BitVec.ofNat 32 l.val) 64#32) 1#1) 1#1
      = if l.val / 64 = 1 then 1#1 else 0#1 := by
    revert l; decide +kernel
  rw [h]; split <;> rfl

/-- What an even head stores. -/
theorem even_at (r : Fin 256) (d : Fin 128) : k0_pay7 x y z (ix2 r d) = if d.val / 64 = 0 then mean x y z r d else 0 := by
  pointwise [k0_pay7]
  simp only [wt_at, tot_at, mask_even, mul_ite, mul_one, mul_zero]
  rfl

/-- What an odd head stores on what is there. -/
theorem odd_at (r : Fin 256) (d : Fin 128) : k0_pay13 x y z w (ix2 r d) = w (ix2 r d) + if d.val / 64 = 1 then mean x y z r d else 0 := by
  pointwise [k0_pay13]
  have e5 : k0_pay11 x y = k0_pay5 x y := rfl
  have e6 : k0_pay12 x y = k0_pay6 x y := rfl
  simp only [e5, e6, wt_at, tot_at, mask_odd, mul_ite, mul_one, mul_zero]
  rfl

/-- A sum of one column and a logarithm of another in the unit, on every lane. -/
theorem col_at (a b : FVec Ideal S256x1 .f32) (r : Fin 256) (d : Fin 128) :
    k0_pay2 a b (ix2 r d) = a (ix2 r 0) + Ideal.log (b (ix2 r 0)) * unit2 := by
  pointwise [k0_pay2]
  rfl

/-- The row log-sum to base two, on every lane. -/
theorem lse_at (r : Fin 256) (d : Fin 128) : k0_pay2 (k0_pay4 x y) (k0_pay6 x y) (ix2 r d) = top x y r + Ideal.log (tot x y r) * unit2 := by
  rw [col_at, tot_at, top]

end Head
end Cert.Kernel13Ideal.Fwd

end
-- ==== Proof.FwdVal.lean ====
module

public import proofs.«01_k».proof.Proof.FwdPay
public import proofs.«01_k».proof.Proof.Gen.Kernel13Ideal.Frame

@[expose] public section

set_option maxRecDepth 16384

noncomputable section

namespace Cert.Kernel13Ideal.Fwd

open Idealize.ShloMosaic Idealize.ShloMosaic.ValueKit
open Cert.Kernel13Ideal.Gen Cert.MlaMath

/-! ### Loads and stores of 128 columns -/

section Cols
variable {kd : Kind} {sp : Space} {e : EltTy} {N W c : ℕ}

/-- 128 columns of an array from column `c`. -/
def cut (c : ℕ) (hc : c + 128 ≤ W) (X : Vec Ideal ⟨2, ![N, W]⟩ e) : Vec Ideal ⟨2, ![N, 128]⟩ e :=
  fun y => X (ix2 (y 0) ⟨c + (y 1).val, by have : (y 1).val < 128 := (y 1).isLt; omega⟩)

/-- A load of 128 columns of a named buffer. -/
theorem ld_cut (hc : c + 128 ≤ W) {m : Memref sig kd sp ⟨2, ![N, W]⟩ e} (h : m.IsWhole) (X : Vec Ideal ⟨2, ![N, W]⟩ e)
    (inb : ∀ a : Fin 2, (![0, c] : Fin 2 → ℕ) a + (![N, 128] : Fin 2 → ℕ) a ≤ (![N, W] : Fin 2 → ℕ) a) :
    View.readAt (Elt Ideal) m.view (Rect.unit (s := ⟨2, ![N, W]⟩) ![0, c] ![N, 128] inb).toLoadRect (h.unread X)
      = cut c hc X := by
  funext y
  refine (h.readAt_unread X _ y).trans ?_
  unfold cut
  show X _ = X _
  congr 1
  funext a
  match a with
  | ⟨0, _⟩ => exact Fin.ext (by show 0 + 1 * (y 0).val = (y 0).val; omega)
  | ⟨1, _⟩ => exact Fin.ext (by show c + 1 * (y 1).val = c + (y 1).val; omega)

variable (v : View sig kd sp ⟨2, ![N, W]⟩ e) (f : v.ty.Contents (Elt Ideal))
  {inb : ∀ a : Fin 2, (![0, c] : Fin 2 → ℕ) a + (![N, 128] : Fin 2 → ℕ) a ≤ (![N, W] : Fin 2 → ℕ) a}
  (w : (⟨2, ![N, 128]⟩ : Shape).Idx → Elt Ideal e) (L : List (View.Piece (Elt Ideal) ⟨2, ![N, W]⟩ e)) (r : Fin N) (d : Fin W)

/-- A load of columns of a buffer whose contents are stores reads those contents at the shifted column. -/
theorem cov_at (g : v.ty.Contents (Elt Ideal)) (d : Fin 128) (d' : Fin W) (hd : d'.val = c + d.val) :
    View.readAt (Elt Ideal) v (Rect.unit (s := ⟨2, ![N, W]⟩) ![0, c] ![N, 128] inb).toLoadRect g (ix2 r d)
      = v.read (Elt Ideal) g (ix2 r d') := by
  show v.read (Elt Ideal) g _ = _
  congr 1
  funext a
  match a with
  | ⟨0, _⟩ => exact Fin.ext (by show 0 + 1 * r.val = r.val; omega)
  | ⟨1, _⟩ => exact Fin.ext (by show c + 1 * d.val = d'.val; omega)

/-- An entry under the newest store reads its payload. -/
theorem rd_in (d' : Fin 128) (hd : d.val = c + d'.val) :
    v.read (Elt Ideal) (v.writes (Elt Ideal) f
      ((⟨Rect.unit (s := ⟨2, ![N, W]⟩) ![0, c] ![N, 128] inb, w⟩ : View.Piece (Elt Ideal) ⟨2, ![N, W]⟩ e) :: L)) (ix2 r d) = w (ix2 r d') :=
  View.read_writes_cons_unit_of_mem (s := ⟨2, ![N, W]⟩) v f (off' := ![0, c]) inb w L (ix2 r d) (ix2 r d') rfl
    (fun a => match a with | ⟨0, _⟩ => (Nat.zero_add _).symm | ⟨1, _⟩ => hd)

/-- An entry beside the newest store reads what the older ones left. -/
theorem rd_out (h : d.val < c ∨ c + 128 ≤ d.val) :
    v.read (Elt Ideal) (v.writes (Elt Ideal) f
      ((⟨Rect.unit (s := ⟨2, ![N, W]⟩) ![0, c] ![N, 128] inb, w⟩ : View.Piece (Elt Ideal) ⟨2, ![N, W]⟩ e) :: L)) (ix2 r d)
      = v.read (Elt Ideal) (v.writes (Elt Ideal) f L) (ix2 r d) :=
  View.read_writes_cons_unit_of_not_mem (s := ⟨2, ![N, W]⟩) v f (off' := ![0, c]) inb w L (ix2 r d) rfl (1 : Fin 2) h
end Cols

section Outs
variable (c : Dev nD) (i : grid0.Coords) (arg2 : Memref sig .tc .vmem S256x1024 .bf16) (harg2 : arg2.IsWhole) (arg3 : Memref sig .tc .vmem S8192x1024 .bf16) (harg3 : arg3.IsWhole) (arg4 : Memref sig .tc .vmem S8192x512 .bf16) (harg4 : arg4.IsWhole) (arg5 : Memref sig .tc .vmem S256x512 .bf16) (harg5 : arg5.IsWhole) (arg6 : Memref sig .tc .vmem S256x1024 .f32) (harg6 : arg6.IsWhole)
    (x0 : Vec Ideal S256x1024 .bf16) (x1 : Vec Ideal S8192x1024 .bf16) (x2 : Vec Ideal S8192x512 .bf16)

/-- The log-sums' block, head 0. -/
theorem lse0 (r : Fin 256) (d : Fin 128) (D : Fin 1024) (hD : D.val = 0 + d.val) :
    out0_A_4 c i arg2 harg2 arg3 harg3 arg4 harg4 arg5 harg5 arg6 harg6 x0 x1 x2 (ix2 r D) = top (cut 0 (by decide) x0) (cut 0 (by decide) x1) r + Ideal.log (tot (cut 0 (by decide) x0) (cut 0 (by decide) x1) r) * unit2 := by
  unfold out0_A_4
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 0 (by decide) x0) (cut 0 (by decide) x1) r d

/-- The log-sums' block, head 1. -/
theorem lse1 (r : Fin 256) (d : Fin 128) (D : Fin 1024) (hD : D.val = 128 + d.val) :
    out0_A_4 c i arg2 harg2 arg3 harg3 arg4 harg4 arg5 harg5 arg6 harg6 x0 x1 x2 (ix2 r D) = top (cut 128 (by decide) x0) (cut 128 (by decide) x1) r + Ideal.log (tot (cut 128 (by decide) x0) (cut 128 (by decide) x1) r) * unit2 := by
  unfold out0_A_4
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 128 (by decide) x0) (cut 128 (by decide) x1) r d

/-- The log-sums' block, head 2. -/
theorem lse2 (r : Fin 256) (d : Fin 128) (D : Fin 1024) (hD : D.val = 256 + d.val) :
    out0_A_4 c i arg2 harg2 arg3 harg3 arg4 harg4 arg5 harg5 arg6 harg6 x0 x1 x2 (ix2 r D) = top (cut 256 (by decide) x0) (cut 256 (by decide) x1) r + Ideal.log (tot (cut 256 (by decide) x0) (cut 256 (by decide) x1) r) * unit2 := by
  unfold out0_A_4
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 256 (by decide) x0) (cut 256 (by decide) x1) r d

/-- The log-sums' block, head 3. -/
theorem lse3 (r : Fin 256) (d : Fin 128) (D : Fin 1024) (hD : D.val = 384 + d.val) :
    out0_A_4 c i arg2 harg2 arg3 harg3 arg4 harg4 arg5 harg5 arg6 harg6 x0 x1 x2 (ix2 r D) = top (cut 384 (by decide) x0) (cut 384 (by decide) x1) r + Ideal.log (tot (cut 384 (by decide) x0) (cut 384 (by decide) x1) r) * unit2 := by
  unfold out0_A_4
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 384 (by decide) x0) (cut 384 (by decide) x1) r d

/-- The log-sums' block, head 4. -/
theorem lse4 (r : Fin 256) (d : Fin 128) (D : Fin 1024) (hD : D.val = 512 + d.val) :
    out0_A_4 c i arg2 harg2 arg3 harg3 arg4 harg4 arg5 harg5 arg6 harg6 x0 x1 x2 (ix2 r D) = top (cut 512 (by decide) x0) (cut 512 (by decide) x1) r + Ideal.log (tot (cut 512 (by decide) x0) (cut 512 (by decide) x1) r) * unit2 := by
  unfold out0_A_4
  frame_open
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 512 (by decide) x0) (cut 512 (by decide) x1) r d

/-- The log-sums' block, head 5. -/
theorem lse5 (r : Fin 256) (d : Fin 128) (D : Fin 1024) (hD : D.val = 640 + d.val) :
    out0_A_4 c i arg2 harg2 arg3 harg3 arg4 harg4 arg5 harg5 arg6 harg6 x0 x1 x2 (ix2 r D) = top (cut 640 (by decide) x0) (cut 640 (by decide) x1) r + Ideal.log (tot (cut 640 (by decide) x0) (cut 640 (by decide) x1) r) * unit2 := by
  unfold out0_A_4
  frame_open
  refine (rd_out _ _ _ _ _ _ (by omega)).trans ?_
  refine (rd_out _ _ _ _ _ _ (by omega)).trans ?_
  refine (rd_in _ _ _ _ _ _ d hD).trans ?_
  repeat rw [ld_cut (by decide)]
  exact lse_at (cut 640 (by decide) x0) (cut 640 (by decide) x1) r d

/-- The log-sums' block, head 6. -/
theorem lse6 (r : Fin 256) (d : Fin 128) (D : Fin 1024) (hD : D.val = 768 + d.val) :
    out0_A_4 c i arg2 harg2 arg3 harg3 arg4 harg4 arg5 harg5 arg6 harg6 x0 x1 x2 (ix2 r D) = top (cut 768 (by decide) x0) (cut 768 (by decide) x1) r + Ideal.log (tot (cut 768 (by decide) x0) (cut 768 (by decide) x1) r) * unit2 := by
  unfold out0_A_4
  frame_open
  refine (rd_out _ _ _ _ _ _ (by omega)).trans ?_
  refine (rd_in _ _ _ _ _ _ d hD).trans ?_
  repeat rw [ld_cut (by decide)]
  exact lse_at (cut 768 (by decide) x0) (cut 768 (by decide) x1) r d

/-- The log-sums' block, head 7. -/
theorem lse7 (r : Fin 256) (d : Fin 128) (D : Fin 1024) (hD : D.val = 896 + d.val) :
    out0_A_4 c i arg2 harg2 arg3 harg3 arg4 harg4 arg5 harg5 arg6 harg6 x0 x1 x2 (ix2 r D) = top (cut 896 (by decide) x0) (cut 896 (by decide) x1) r + Ideal.log (tot (cut 896 (by decide) x0) (cut 896 (by decide) x1) r) * unit2 := by
  unfold out0_A_4
  frame_open
  refine (rd_in _ _ _ _ _ _ d hD).trans ?_
  repeat rw [ld_cut (by decide)]
  exact lse_at (cut 896 (by decide) x0) (cut 896 (by decide) x1) r d

/-- The output's block, heads 0 and 1. -/
theorem mean0 (r : Fin 256) (d : Fin 128) (D : Fin 512) (hD : D.val = 0 + d.val) :
    out0_A_3 c i arg2 harg2 arg3 harg3 arg4 harg4 arg5 harg5 arg6 harg6 x0 x1 x2 (ix2 r D)
      = (if d.val / 64 = 0 then mean (cut 0 (by decide) x0) (cut 0 (by decide) x1) (cut 0 (by decide) x2) r d else 0) + if d.val / 64 = 1 then mean (cut 128 (by decide) x0) (cut 128 (by decide) x1) (cut 0 (by decide) x2) r d else 0 := by
  unfold out0_A_3
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  refine (odd_at (cut 128 (by decide) x0) (cut 128 (by decide) x1) (cut 0 (by decide) x2) _ r d).trans (congrArg (· + _) ?_)
  refine (cov_at _ _ _ d D hD).trans ?_
  refine (rd_in _ _ _ _ _ _ d hD).trans ?_
  repeat rw [ld_cut (by decide)]
  exact even_at (cut 0 (by decide) x0) (cut 0 (by decide) x1) (cut 0 (by decide) x2) r d

/-- The output's block, heads 2 and 3. -/
theorem mean1 (r : Fin 256) (d : Fin 128) (D : Fin 512) (hD : D.val = 128 + d.val) :
    out0_A_3 c i arg2 harg2 arg3 harg3 arg4 harg4 arg5 harg5 arg6 harg6 x0 x1 x2 (ix2 r D)
      = (if d.val / 64 = 0 then mean (cut 256 (by decide) x0) (cut 256 (by decide) x1) (cut 128 (by decide) x2) r d else 0) + if d.val / 64 = 1 then mean (cut 384 (by decide) x0) (cut 384 (by decide) x1) (cut 128 (by decide) x2) r d else 0 := by
  unfold out0_A_3
  frame_open
  refine (rd_out _ _ _ _ _ _ (by omega)).trans ?_
  refine (rd_out _ _ _ _ _ _ (by omega)).trans ?_
  refine (rd_out _ _ _ _ _ _ (by omega)).trans ?_
  refine (rd_out _ _ _ _ _ _ (by omega)).trans ?_
  refine (rd_in _ _ _ _ _ _ d hD).trans ?_
  repeat rw [ld_cut (by decide)]
  refine (odd_at (cut 384 (by decide) x0) (cut 384 (by decide) x1) (cut 128 (by decide) x2) _ r d).trans (congrArg (· + _) ?_)
  refine (cov_at _ _ _ d D hD).trans ?_
  refine (rd_in _ _ _ _ _ _ d hD).trans ?_
  repeat rw [ld_cut (by decide)]
  exact even_at (cut 256 (by decide) x0) (cut 256 (by decide) x1) (cut 128 (by decide) x2) r d

/-- The output's block, heads 4 and 5. -/
theorem mean2 (r : Fin 256) (d : Fin 128) (D : Fin 512) (hD : D.val = 256 + d.val) :
    out0_A_3 c i arg2 harg2 arg3 harg3 arg4 harg4 arg5 harg5 arg6 harg6 x0 x1 x2 (ix2 r D)
      = (if d.val / 64 = 0 then mean (cut 512 (by decide) x0) (cut 512 (by decide) x1) (cut 256 (by decide) x2) r d else 0) + if d.val / 64 = 1 then mean (cut 640 (by decide) x0) (cut 640 (by decide) x1) (cut 256 (by decide) x2) r d else 0 := by
  unfold out0_A_3
  frame_open
  refine (rd_out _ _ _ _ _ _ (by omega)).trans ?_
  refine (rd_out _ _ _ _ _ _ (by omega)).trans ?_
  refine (rd_in _ _ _ _ _ _ d hD).trans ?_
  repeat rw [ld_cut (by decide)]
  refine (odd_at (cut 640 (by decide) x0) (cut 640 (by decide) x1) (cut 256 (by decide) x2) _ r d).trans (congrArg (· + _) ?_)
  refine (cov_at _ _ _ d D hD).trans ?_
  refine (rd_in _ _ _ _ _ _ d hD).trans ?_
  repeat rw [ld_cut (by decide)]
  exact even_at (cut 512 (by decide) x0) (cut 512 (by decide) x1) (cut 256 (by decide) x2) r d

/-- The output's block, heads 6 and 7. -/
theorem mean3 (r : Fin 256) (d : Fin 128) (D : Fin 512) (hD : D.val = 384 + d.val) :
    out0_A_3 c i arg2 harg2 arg3 harg3 arg4 harg4 arg5 harg5 arg6 harg6 x0 x1 x2 (ix2 r D)
      = (if d.val / 64 = 0 then mean (cut 768 (by decide) x0) (cut 768 (by decide) x1) (cut 384 (by decide) x2) r d else 0) + if d.val / 64 = 1 then mean (cut 896 (by decide) x0) (cut 896 (by decide) x1) (cut 384 (by decide) x2) r d else 0 := by
  unfold out0_A_3
  frame_open
  refine (rd_in _ _ _ _ _ _ d hD).trans ?_
  repeat rw [ld_cut (by decide)]
  refine (odd_at (cut 896 (by decide) x0) (cut 896 (by decide) x1) (cut 384 (by decide) x2) _ r d).trans (congrArg (· + _) ?_)
  refine (cov_at _ _ _ d D hD).trans ?_
  refine (rd_in _ _ _ _ _ _ d hD).trans ?_
  repeat rw [ld_cut (by decide)]
  exact even_at (cut 768 (by decide) x0) (cut 768 (by decide) x1) (cut 384 (by decide) x2) r d

end Outs
end Cert.Kernel13Ideal.Fwd

end
-- ==== Proof.FwdMath.lean ====
module

public import proofs.«01_k».proof.Proof.MlaMath

@[expose] public section

noncomputable section

namespace Cert.MlaMath

open Idealize.ShloMosaic

variable {J : Type} [Fintype J]

/-- The logarithm of a row's sum of exponentials. -/
def lsum (s : J → ℝ) : ℝ := Real.log (∑ j, Real.exp (s j))

/-- It is the same whichever number is taken off every score and added back. -/
theorem lsum_shift [Nonempty J] (s : J → ℝ) (M : ℝ) : M + Real.log (∑ j, Real.exp (s j - M)) = lsum s := by
  unfold lsum
  have h : 0 < ∑ j, Real.exp (s j) := Finset.sum_pos (fun i _ => Real.exp_pos _) Finset.univ_nonempty
  simp only [Real.exp_sub, ← Finset.sum_div]
  rw [Real.log_div h.ne' (Real.exp_pos M).ne', Real.log_exp]
  ring

/-- A sum of extended reals times a nonnegative real number is the sum of the products. -/
theorem sum_mul_coe {α : Type*} (s : Finset α) (f : α → EReal) (c : ℝ) (hc : 0 ≤ c) : (∑ a ∈ s, f a) * (c : EReal) = ∑ a ∈ s, f a * (c : EReal) := by
  classical
  refine Finset.induction_on s (by simp) fun a s ha ih => ?_
  rw [Finset.sum_insert ha, Finset.sum_insert ha, EReal.right_distrib_of_nonneg_of_ne_top (EReal.coe_nonneg.mpr hc) (EReal.coe_ne_top c), ih]

/-- A weighted sum of extended reals over the sum of the weights, which are positive, is the sum by the weights' shares. -/
theorem mean_eq [Nonempty J] (w : J → ℝ) (hw : ∀ j, 0 < w j) (z : J → EReal) :
    Ideal.div (∑ j, (w j : EReal) * z j) ((∑ j, w j : ℝ) : EReal) = ∑ j, ((w j / ∑ i, w i : ℝ) : EReal) * z j := by
  have h : 0 < ∑ j, w j := Finset.sum_pos (fun i _ => hw i) Finset.univ_nonempty
  rw [Ideal.div_coe h.ne', sum_mul_coe _ _ _ (by positivity)]
  refine Finset.sum_congr rfl fun j _ => ?_
  rw [mul_right_comm, ← EReal.coe_mul, mul_one_div]

end Cert.MlaMath

end
-- ==== Proof.FwdHead.lean ====
module

public import proofs.«01_k».proof.Proof.FwdVal
public import proofs.«01_k».proof.Proof.FwdMath

@[expose] public section

set_option maxRecDepth 16384

noncomputable section

namespace Cert.Kernel13Ideal.Fwd

open Idealize.ShloMosaic Idealize.ShloMosaic.ValueKit
open Cert.Kernel13Ideal.Gen Cert.MlaMath

/-- The constant is the reciprocal of the logarithm of two. -/
theorem unit2_eq : unit2 = (((Real.log 2)⁻¹ : ℝ) : EReal) := IdealRules.named_const.ideal_named_scalar _ _ _ _ rfl

/-- The logarithm of two is not zero. -/
theorem ln2_ne : Real.log 2 ≠ 0 := (Real.log_pos one_lt_two).ne'

/-! ### One head at real scores -/

section Head
variable (x : Vec Ideal S256x128 .bf16) (y z : Vec Ideal S8192x128 .bf16) (r : Fin 256) (s : Fin 8192 → ℝ)
  (hs : ∀ j, score x y r j = ((s j / Real.log 2 : ℝ) : EReal))

include hs in
/-- A weight is the exponential of a score less one number. -/
theorem wt_real : ∃ M : ℝ, top x y r = ((M / Real.log 2 : ℝ) : EReal) ∧ ∀ j, wt x y r j = ((Real.exp (s j - M) : ℝ) : EReal) := by
  obtain ⟨M, hM⟩ := top_at x y r fun j => ⟨_, hs j⟩
  refine ⟨M * Real.log 2, by rw [hM, mul_div_cancel_right₀ _ ln2_ne], fun j => ?_⟩
  have key : Real.rpow 2 (s j / Real.log 2 - M) = Real.exp (s j - M * Real.log 2) := by
    rw [Real.rpow_eq_pow, Real.rpow_def_of_pos two_pos, mul_sub, mul_div_cancel₀ _ ln2_ne, mul_comm M]
  unfold wt
  rw [hs, hM, ← EReal.coe_sub, Ideal.exp2_coe, ← key]

include hs in
/-- The row's mean of the values by the softmax of its scores. -/
theorem mean_at (d : Fin 128) : mean x y z r d = ∑ j, ((soft s j : ℝ) : EReal) * z (ix2 j d) := by
  obtain ⟨M, -, hw⟩ := wt_real x y r s hs
  unfold mean tot
  simp only [hw, coe_sum]
  rw [mean_eq _ (fun j => Real.exp_pos _)]
  exact Finset.sum_congr rfl fun j _ => by rw [soft_shift]

include hs in
/-- The row's log-sum to base two. -/
theorem lsum_at : top x y r + Ideal.log (tot x y r) * unit2 = ((lsum s / Real.log 2 : ℝ) : EReal) := by
  obtain ⟨M, hM, hw⟩ := wt_real x y r s hs
  unfold tot
  simp only [hw, coe_sum]
  rw [hM, coe_log _ (sum_exp_pos s M), unit2_eq, ← EReal.coe_mul, ← EReal.coe_add, ← lsum_shift s M, add_div]
  rfl

end Head

/-! ### The blocks, by head -/

section Blocks
variable (c : Dev nD) (i : grid0.Coords) (arg2 : Memref sig .tc .vmem S256x1024 .bf16) (harg2 : arg2.IsWhole) (arg3 : Memref sig .tc .vmem S8192x1024 .bf16) (harg3 : arg3.IsWhole) (arg4 : Memref sig .tc .vmem S8192x512 .bf16) (harg4 : arg4.IsWhole) (arg5 : Memref sig .tc .vmem S256x512 .bf16) (harg5 : arg5.IsWhole) (arg6 : Memref sig .tc .vmem S256x1024 .f32) (harg6 : arg6.IsWhole)
    (x0 : Vec Ideal S256x1024 .bf16) (x1 : Vec Ideal S8192x1024 .bf16) (x2 : Vec Ideal S8192x512 .bf16)

/-- A head's queries. -/
def hq (h : Fin 8) : Vec Ideal S256x128 .bf16 := cut (128 * h.val) (by omega) x0
/-- A head's keys. -/
def hk (h : Fin 8) : Vec Ideal S8192x128 .bf16 := cut (128 * h.val) (by omega) x1
/-- A head's values, and those of the head it is paired with. -/
def hv (h : Fin 8) : Vec Ideal S8192x128 .bf16 := cut (128 * (h.val / 2)) (by omega) x2

/-- The log-sums' block. -/
theorem out4_at (h : Fin 8) (r : Fin 256) (d : Fin 128) (D : Fin 1024) (hD : D.val = 128 * h.val + d.val) :
    out0_A_4 c i arg2 harg2 arg3 harg3 arg4 harg4 arg5 harg5 arg6 harg6 x0 x1 x2 (ix2 r D)
      = top (hq x0 h) (hk x1 h) r + Ideal.log (tot (hq x0 h) (hk x1 h) r) * unit2 := by
  match h, hD with
  | 0, hD => exact lse0 c i arg2 harg2 arg3 harg3 arg4 harg4 arg5 harg5 arg6 harg6 x0 x1 x2 r d D hD
  | 1, hD => exact lse1 c i arg2 harg2 arg3 harg3 arg4 harg4 arg5 harg5 arg6 harg6 x0 x1 x2 r d D hD
  | 2, hD => exact lse2 c i arg2 harg2 arg3 harg3 arg4 harg4 arg5 harg5 arg6 harg6 x0 x1 x2 r d D hD
  | 3, hD => exact lse3 c i arg2 harg2 arg3 harg3 arg4 harg4 arg5 harg5 arg6 harg6 x0 x1 x2 r d D hD
  | 4, hD => exact lse4 c i arg2 harg2 arg3 harg3 arg4 harg4 arg5 harg5 arg6 harg6 x0 x1 x2 r d D hD
  | 5, hD => exact lse5 c i arg2 harg2 arg3 harg3 arg4 harg4 arg5 harg5 arg6 harg6 x0 x1 x2 r d D hD
  | 6, hD => exact lse6 c i arg2 harg2 arg3 harg3 arg4 harg4 arg5 harg5 arg6 harg6 x0 x1 x2 r d D hD
  | 7, hD => exact lse7 c i arg2 harg2 arg3 harg3 arg4 harg4 arg5 harg5 arg6 harg6 x0 x1 x2 r d D hD

/-- Lane `l` of a head among its pair's lanes. -/
def half (h : Fin 8) (l : Fin 64) : Fin 128 := ⟨64 * (h.val % 2) + l.val, by omega⟩

/-- On a lower lane the lower head's value remains. -/
theorem keep_even (l : Fin 64) (a b : EReal) : ((if (64 * 0 + l.val) / 64 = 0 then a else 0) + if (64 * 0 + l.val) / 64 = 1 then b else 0) = a := by
  rw [if_pos (by omega), if_neg (by omega), add_zero]

/-- On an upper lane the upper head's value remains. -/
theorem keep_odd (l : Fin 64) (a b : EReal) : ((if (64 * 1 + l.val) / 64 = 0 then a else 0) + if (64 * 1 + l.val) / 64 = 1 then b else 0) = b := by
  rw [if_neg (by omega), if_pos (by omega), zero_add]

/-- The output's block. -/
theorem out3_at (h : Fin 8) (r : Fin 256) (l : Fin 64) (D : Fin 512) (hD : D.val = 64 * h.val + l.val) :
    out0_A_3 c i arg2 harg2 arg3 harg3 arg4 harg4 arg5 harg5 arg6 harg6 x0 x1 x2 (ix2 r D)
      = mean (hq x0 h) (hk x1 h) (hv x2 h) r (half h l) := by
  match h, hD with
  | 0, hD => exact (mean0 c i arg2 harg2 arg3 harg3 arg4 harg4 arg5 harg5 arg6 harg6 x0 x1 x2 r (half 0 l) D (by rw [hD]; show 64 * 0 + l.val = 0 + (64 * 0 + l.val); omega)).trans (keep_even l _ _)
  | 1, hD => exact (mean0 c i arg2 harg2 arg3 harg3 arg4 harg4 arg5 harg5 arg6 harg6 x0 x1 x2 r (half 1 l) D (by rw [hD]; show 64 * 1 + l.val = 0 + (64 * 1 + l.val); omega)).trans (keep_odd l _ _)
  | 2, hD => exact (mean1 c i arg2 harg2 arg3 harg3 arg4 harg4 arg5 harg5 arg6 harg6 x0 x1 x2 r (half 2 l) D (by rw [hD]; show 64 * 2 + l.val = 128 + (64 * 0 + l.val); omega)).trans (keep_even l _ _)
  | 3, hD => exact (mean1 c i arg2 harg2 arg3 harg3 arg4 harg4 arg5 harg5 arg6 harg6 x0 x1 x2 r (half 3 l) D (by rw [hD]; show 64 * 3 + l.val = 128 + (64 * 1 + l.val); omega)).trans (keep_odd l _ _)
  | 4, hD => exact (mean2 c i arg2 harg2 arg3 harg3 arg4 harg4 arg5 harg5 arg6 harg6 x0 x1 x2 r (half 4 l) D (by rw [hD]; show 64 * 4 + l.val = 256 + (64 * 0 + l.val); omega)).trans (keep_even l _ _)
  | 5, hD => exact (mean2 c i arg2 harg2 arg3 harg3 arg4 harg4 arg5 harg5 arg6 harg6 x0 x1 x2 r (half 5 l) D (by rw [hD]; show 64 * 5 + l.val = 256 + (64 * 1 + l.val); omega)).trans (keep_odd l _ _)
  | 6, hD => exact (mean3 c i arg2 harg2 arg3 harg3 arg4 harg4 arg5 harg5 arg6 harg6 x0 x1 x2 r (half 6 l) D (by rw [hD]; show 64 * 6 + l.val = 384 + (64 * 0 + l.val); omega)).trans (keep_even l _ _)
  | 7, hD => exact (mean3 c i arg2 harg2 arg3 harg3 arg4 harg4 arg5 harg5 arg6 harg6 x0 x1 x2 r (half 7 l) D (by rw [hD]; show 64 * 7 + l.val = 384 + (64 * 1 + l.val); omega)).trans (keep_odd l _ _)

end Blocks
end Cert.Kernel13Ideal.Fwd

end
-- ==== Proof.FwdRef.lean ====
module

public import proofs.«01_k».proof.Proof.FwdMath
public import proofs.«01_k».proof.Proof.Gen.Reference13Ideal.Run

@[expose] public section

set_option maxRecDepth 16384

noncomputable section

namespace Cert.Reference13Ideal.Fwd

open Idealize.ShloMosaic Idealize.ShloMosaic.ValueKit
open Cert.Reference13Ideal Cert.Reference13Ideal.Gen Cert.MlaMath

variable (Q K : FVec Ideal S8192x8x96 .bf16) (V : FVec Ideal S8192x8x64 .bf16)

/-! ## The reference's lines, named -/

/-- The scores. -/
def sc : FVec Ideal S8x8192x8192 .f32 :=
  mulf (Host.dotGeneral dot_S8192x8x96_S8192x8x96_S8x8192x8192_2_2_0_0_1_1 none (extf .f32 Q bitsLt_bf16_f32) (extf .f32 K bitsLt_bf16_f32)) (broadcastInDim S8x8192x8192 ![] bcast_S_S8x8192x8192 (constant S_ .f32 0x3DD105EC#32))

/-- The rows' greatest scores. -/
def mx : FVec Ideal S8x8192 .f32 :=
  Host.reduce FloatOps.maximumf (sc Q K) (constant S_ .f32 0xFF800000#32) reducesTo_S8x8192x8192_S8x8192_d2 h_S_

/-- The same, not less than minus infinity. -/
def mxc : FVec Ideal S8x8192 .f32 := maximumf (broadcastInDim S8x8192 ![] bcast_S_S8x8192 (constant S_ .f32 0xFF800000#32)) (mx Q K)

/-- The exponentials of the scores less numbers of the rows. -/
def exOf (X : FVec Ideal S8x8192 .f32) : FVec Ideal S8x8192x8192 .f32 :=
  Host.exp (subf (sc Q K) (broadcastInDim S8x8192x8192 ![0, 1, 2] bcast_S8x8192x1_S8x8192x8192_0_1_2 (broadcastInDim S8x8192x1 ![0, 1] bcast_S8x8192_S8x8192x1_0_1 X)))

/-- Rows' sums. -/
def smOf (E : FVec Ideal S8x8192x8192 .f32) : FVec Ideal S8x8192 .f32 :=
  Host.reduceAdd E (constant S_ .f32 0x00000000#32) reducesTo_S8x8192x8192_S8x8192_d2 h_S_

/-- The output of exponentials. -/
def outOf (E : FVec Ideal S8x8192x8192 .f32) : FVec Ideal S8192x512 .bf16 :=
  truncf .bf16 (shapeCast _ (transpose S8192x8x64 [2, 0, 1] (Host.dotGeneral dot_S8192x8x64_S8x8192x8192_S8x64x8192_0_2_2_1_1_0 none (extf .f32 V bitsLt_bf16_f32)
    (Host.divf E (broadcastInDim S8x8192x8192 ![0, 1, 2] bcast_S8x8192x1_S8x8192x8192_0_1_2 (broadcastInDim S8x8192x1 ![0, 1] bcast_S8x8192_S8x8192x1_0_1 (smOf E))))) transposes_S8x64x8192_S8192x8x64_2_0_1) shapeCasts_S8192x8x64_S8192x512) bitsLt_bf16_f32

/-- The log-sums of greatest scores and sums. -/
def lseOf (X Y : FVec Ideal S8x8192 .f32) : FVec Ideal S8192x8 .f32 :=
  transpose S8192x8 [1, 0] (addf X (Host.log Y)) transposes_S8x8192_S8192x8_1_0

/-- The first result. -/
def go : FVec Ideal S8192x512 .bf16 := outOf V (exOf Q K (mxc Q K))
/-- The second result. -/
def gl : FVec Ideal S8192x8 .f32 := lseOf (mx Q K) (smOf (exOf Q K (mx Q K)))

/-! ## Their values at real queries and keys -/

/-- The scores' constant. -/
def cst : ℝ := (Ideal.ofBits .f32 0x3DD105EC#32).toReal

/-- It is a real number. -/
theorem cst_eq : (Ideal.ofBits .f32 0x3DD105EC#32 : EReal) = (cst : EReal) := by
  have h : ∃ r : ℝ, (Ideal.ofBits .f32 0x3DD105EC#32 : EReal) = (r : EReal) := by
    simp only [Ideal.ofBits, Ideal.ieee]
    norm_num
    exact ⟨_, rfl⟩
  obtain ⟨r, hr⟩ := h
  unfold cst; rw [hr]; rfl

variable (q k : Fin 8192 → Fin 8 → Fin 96 → ℝ)

/-- The real scores. -/
def S (h : Fin 8) (i j : Fin 8192) : ℝ := (∑ d, q i h d * k j h d) * cst

variable (hQ : ∀ i h d, Q (ix3 i h d) = ((q i h d : ℝ) : EReal)) (hK : ∀ i h d, K (ix3 i h d) = ((k i h d : ℝ) : EReal))

include hQ hK in
/-- The scores. -/
theorem sc_at (h : Fin 8) (i j : Fin 8192) : sc Q K (ix3 h i j) = ((S q k h i j : ℝ) : EReal) := by
  pointwise [sc]
  simp only [hQ, hK, cst_eq, ← EReal.coe_mul, coe_sum]
  rfl

/-- Minus infinity's bits. -/
theorem low_eq : (Ideal.ofBits .f32 0xFF800000#32 : EReal) = ⊥ := by
  simp [Ideal.ofBits, Ideal.ieee]

/-- The row an entry of the scores is reduced into. -/
theorem drop_at (h : Fin 8) (i j : Fin 8192) : reducesTo_S8x8192x8192_S8x8192_d2.drop (ix3 h i j) = ix2 h i := by
  funext b
  match b with
  | 0 => exact Fin.ext (Shape.ReducesTo.drop_apply_val reducesTo_S8x8192x8192_S8x8192_d2 (ix3 h i j) 0)
  | 1 => exact Fin.ext (Shape.ReducesTo.drop_apply_val reducesTo_S8x8192x8192_S8x8192_d2 (ix3 h i j) 1)

/-- An index of three coordinates. -/
theorem ix3_eta (a : S8x8192x8192.Idx) : ∃ x y z, a = ix3 x y z :=
  ⟨a 0, a 1, a 2, by funext b; match b with | 0 => rfl | 1 => rfl | 2 => rfl⟩

/-- The greater of minus infinity and the greatest scores is the greatest scores. -/
theorem mxc_eq : mxc Q K = mx Q K := by
  funext j
  unfold mxc
  rw [max_at]
  have e : (broadcastInDim S8x8192 ![] bcast_S_S8x8192 (constant (F := Ideal) S_ .f32 0xFF800000#32) j : EReal) = ⊥ := low_eq
  rw [e, max_bot_left]

include hQ hK in
/-- The greatest scores are real numbers. -/
theorem mx_at (h : Fin 8) (i : Fin 8192) : ∃ M : ℝ, mx Q K (ix2 h i) = (M : EReal) := by
  unfold mx
  refine top_real _ _ _ _ _ (ix3 h i 0) (drop_at h i 0) (fun a => ?_) low_eq
  obtain ⟨x, y, z, rfl⟩ := ix3_eta a
  exact ⟨_, sc_at Q K q k hQ hK x y z⟩

include hQ hK in
/-- The exponentials. -/
theorem exOf_at (X : FVec Ideal S8x8192 .f32) (h : Fin 8) (i j : Fin 8192) (M : ℝ) (hM : X (ix2 h i) = (M : EReal)) :
    exOf Q K X (ix3 h i j) = ((Real.exp (S q k h i j - M) : ℝ) : EReal) := by
  pointwise [exOf]
  rw [sc_at Q K q k hQ hK, hM, ← EReal.coe_sub, Ideal.exp_coe]

/-- Rows' sums. -/
theorem smOf_at (E : FVec Ideal S8x8192x8192 .f32) (h : Fin 8) (i : Fin 8192) : smOf E (ix2 h i) = ∑ j, E (ix3 h i j) := by
  pointwise [smOf]

/-- The output of exponentials. -/
theorem outOf_at (E : FVec Ideal S8x8192x8192 .f32) (i : Fin 8192) (h : Fin 8) (l : Fin 64) :
    outOf V E (ix2 i (oc h l)) = ∑ j, V (ix3 j h l) * Ideal.div (E (ix3 h i j)) (∑ j, E (ix3 h i j)) := by
  rw [show oc h l = ⟨h.val * 64 + l.val, by omega⟩ from Fin.ext (by show 64 * h.val + l.val = h.val * 64 + l.val; omega)]
  pointwise [outOf]
  exact Finset.sum_congr rfl fun j _ => by rw [smOf_at]

/-- The log-sums. -/
theorem lseOf_at (X Y : FVec Ideal S8x8192 .f32) (i : Fin 8192) (h : Fin 8) : lseOf X Y (ix2 i h) = X (ix2 h i) + Ideal.log (Y (ix2 h i)) := by
  pointwise [lseOf]

include hQ hK in
/-- The first result. -/
theorem go_at (i : Fin 8192) (h : Fin 8) (l : Fin 64) : go Q K V (ix2 i (oc h l)) = ∑ j, ((soft (S q k h i) j : ℝ) : EReal) * V (ix3 j h l) := by
  unfold go
  obtain ⟨M, hM⟩ := mx_at Q K q k hQ hK h i
  rw [mxc_eq, outOf_at]
  simp only [exOf_at Q K q k hQ hK _ h i _ M hM, coe_sum, coe_div _ _ (sum_exp_pos (S q k h i) M).ne', soft_shift]
  exact Finset.sum_congr rfl fun j _ => mul_comm _ _

include hQ hK in
/-- The second result. -/
theorem gl_at (i : Fin 8192) (h : Fin 8) : gl Q K (ix2 i h) = ((lsum (S q k h i) : ℝ) : EReal) := by
  unfold gl
  obtain ⟨M, hM⟩ := mx_at Q K q k hQ hK h i
  rw [lseOf_at, smOf_at]
  simp only [exOf_at Q K q k hQ hK _ h i _ M hM, coe_sum, hM]
  rw [coe_log _ (sum_exp_pos (S q k h i) M), ← EReal.coe_add, lsum_shift]

/-- The reference's run: its two results are these lines of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = go (m ((c.tc : Thread nD τ).loc main_arg0)) (m ((c.tc : Thread nD τ).loc main_arg1)) (m ((c.tc : Thread nD τ).loc main_arg2))
      ∧ r.2.mem ((c.tc : Thread nD τ).loc main_v29) = gl (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference13Ideal.Value.run m ρ

end Cert.Reference13Ideal.Fwd

end
-- ==== Proof.FwdHost.lean ====
module

public import proofs.«01_k».proof.Proof.FwdRef
public import proofs.«01_k».proof.Proof.Gen.Kernel13Ideal.Frame
public import Idealize.ShloMosaic.Lib.Claim
public import Idealize.ShloMosaic.Lib.StableHlo.RunRead

@[expose] public section

set_option maxRecDepth 16384

noncomputable section

namespace Cert.Kernel13Ideal.Fwd

open Idealize.ShloMosaic Idealize.ShloMosaic.ValueKit Idealize.ShloMosaic.TcCoe
open Cert.Kernel13Ideal Cert.Kernel13Ideal.Gen Cert.MlaMath
open Cert.Reference13Ideal.Fwd (S cst cst_eq)

/-! ## The lines of the call's arguments, named -/

section Lines
variable (Q K : FVec Ideal S8192x8x96 .bf16) (V : FVec Ideal S8192x8x64 .bf16)

/-- The logarithm of two, as the host computes it. -/
def log2 : FVec Ideal S_ .f32 := Host.log (constant S_ .f32 0x40000000#32)

/-- An array's last axis padded with zeros to the lanes. -/
def padA (x : FVec Ideal S8192x8x96 .f32) : FVec Ideal S8192x1024 .bf16 :=
  truncf .bf16 (shapeCast S8192x1024 (pad S8192x8x128 ![0, 0, 0] ![0, 0, 32] ![0, 0, 0] x (sitofp .f32 (constantI S_ 32 0#32)) pads_S8192x8x96_S8192x8x128_000_000_0320 h_S_) shapeCasts_S8192x8x128_S8192x1024) bitsLt_bf16_f32

/-- The keys, padded. -/
def keyA : FVec Ideal S8192x1024 .bf16 := padA (extf .f32 K bitsLt_bf16_f32)

/-- The queries, scaled and padded. -/
def qryA : FVec Ideal S8192x1024 .bf16 :=
  padA (Host.divf (mulf (extf .f32 Q bitsLt_bf16_f32) (broadcastInDim S8192x8x96 ![] bcast_S_S8192x8x96 (constant S_ .f32 0x3DD105EC#32))) (broadcastInDim S8192x8x96 ![] bcast_S_S8192x8x96 log2))

/-- The keys and the values side by side. -/
def kvA : FVec Ideal S8192x1536 .bf16 :=
  truncf .bf16 (concatenate S8192x1536 1 [⟨S8192x1024, extf .f32 (keyA K) bitsLt_bf16_f32⟩, ⟨S8192x512, shapeCast S8192x512 (extf .f32 V bitsLt_bf16_f32) shapeCasts_S8192x8x64_S8192x512⟩] concatenates_S8192x1024_S8192x512_S8192x1536_d1) bitsLt_bf16_f32

end Lines

variable (m : (ℓ : Loc nD τ sig) → Buf (Elt Ideal) ℓ) (c : Dev nD)

/-- The query argument. -/
abbrev argQ : FVec Ideal S8192x8x96 .bf16 := m ((c.tc : Thread nD τ).loc main_arg0)
/-- The key argument. -/
abbrev argK : FVec Ideal S8192x8x96 .bf16 := m ((c.tc : Thread nD τ).loc main_arg1)
/-- The value argument. -/
abbrev argV : FVec Ideal S8192x8x64 .bf16 := m ((c.tc : Thread nD τ).loc main_arg2)

/-- The padded keys are found. -/
theorem V_key : Gen.V m c main_v6 = keyA (argK m c) := by
  unfold_abbrev_sides
  after_reads_simp
  rfl

/-- The padded queries are found. -/
theorem V_qry : Gen.V m c main_v17 = qryA (argQ m c) := by
  unfold_abbrev_sides
  after_reads_simp
  rfl

/-- The keys and values are found. -/
theorem V_kv : Gen.V m c main_v10 = kvA (argK m c) (argV m c) := by
  unfold_abbrev_sides
  after_reads_simp
  rfl

/-- The logarithm of two is found. -/
theorem V_log : Gen.V m c main_v3 = log2 := by
  unfold_abbrev_sides
  after_reads_simp
  rfl

/-! ## Their values at real queries and keys -/

section Values
variable (Q K : FVec Ideal S8192x8x96 .bf16) (V : FVec Ideal S8192x8x64 .bf16) (q k : Fin 8192 → Fin 8 → Fin 96 → ℝ)
  (hQ : ∀ i h d, Q (ix3 i h d) = ((q i h d : ℝ) : EReal)) (hK : ∀ i h d, K (ix3 i h d) = ((k i h d : ℝ) : EReal))

/-- The bits of two. -/
theorem two_eq : (Ideal.ofBits .f32 0x40000000#32 : EReal) = ((2 : ℝ) : EReal) := by
  simp [Ideal.ofBits, Ideal.ieee, -EReal.coe_mul]; norm_num

/-- The logarithm of two is that. -/
theorem log2_at (j : S_.Idx) : log2 j = ((Real.log 2 : ℝ) : EReal) := by
  show Ideal.log (Ideal.ofBits .f32 0x40000000#32) = _
  rw [two_eq, coe_log _ two_pos]

/-- A padded array. -/
theorem padA_at (x : FVec Ideal S8192x8x96 .f32) (r : Fin 8192 → Fin 8 → Fin 96 → ℝ) (hr : ∀ i h d, x (ix3 i h d) = ((r i h d : ℝ) : EReal))
    (i : Fin 8192) (h : Fin 8) (d : Fin 128) (y : Fin 1024) (hy : y.val = 128 * h.val + d.val) :
    padA x (ix2 i y) = (((if hd : d.val < 96 then r i h ⟨d.val, hd⟩ else 0) : ℝ) : EReal) := by
  rw [show y = ⟨h.val * 128 + d.val, by omega⟩ from Fin.ext (by rw [hy]; show _ = h.val * 128 + d.val; omega)]
  pointwise [padA]
  have h0 : (FloatOps.sitofp .f32 0#32 : Ideal .f32) = ((0 : ℝ) : EReal) := by
    show (((0#32 : BitVec 32).toInt : ℝ) : EReal) = _
    simp
  split
  · exact hr _ _ _
  · exact h0

/-- The values among the keys and values. -/
theorem kvA_at (i : Fin 8192) (h : Fin 8) (l : Fin 64) (y : Fin 1536) (hy : y.val = 1024 + (64 * h.val + l.val)) :
    kvA K V (ix2 i y) = V (ix3 i h l) := by
  rw [show y = ⟨1024 + (h.val * 64 + l.val), by omega⟩ from Fin.ext (by rw [hy]; show _ = 1024 + (h.val * 64 + l.val); omega)]
  pointwise [kvA]

include hQ in
/-- The scaled queries. -/
theorem qryA_at (i : Fin 8192) (h : Fin 8) (d : Fin 128) (y : Fin 1024) (hy : y.val = 128 * h.val + d.val) :
    qryA Q (ix2 i y) = (((if hd : d.val < 96 then q i h ⟨d.val, hd⟩ * cst / Real.log 2 else 0) : ℝ) : EReal) := by
  refine padA_at _ (fun i h d => q i h d * cst / Real.log 2) (fun i h d => ?_) i h d y hy
  pointwise []
  rw [hQ, cst_eq, ← EReal.coe_mul, log2_at, coe_div _ _ (Real.log_pos one_lt_two).ne']

include hK in
/-- The padded keys. -/
theorem keyA_at (i : Fin 8192) (h : Fin 8) (d : Fin 128) (y : Fin 1024) (hy : y.val = 128 * h.val + d.val) :
    keyA K (ix2 i y) = (((if hd : d.val < 96 then k i h ⟨d.val, hd⟩ else 0) : ℝ) : EReal) := by
  refine padA_at _ k (fun i h d => ?_) i h d y hy
  pointwise []
  exact hK i h d

end Values
end Cert.Kernel13Ideal.Fwd

end
-- ==== Proof.FwdFinal.lean ====
module

public import proofs.«01_k».proof.Proof.FwdHead
public import proofs.«01_k».proof.Proof.FwdHost
public import proofs.«01_k».proof.Pre_finite13
public import proofs.«01_k».proof.Defs

@[expose] public section

set_option maxRecDepth 16384

noncomputable section

namespace Cert.Kernel13Ideal.Fwd

open Idealize.ShloMosaic Idealize.ShloMosaic.ValueKit Idealize.ShloMosaic.TcCoe Idealize.ShloMosaic.StableHlo Idealize.SL.Sem
open Cert.Kernel13Ideal Cert.Kernel13Ideal.Gen Cert.MlaMath Cert.Kernel13Ideal.Facts
open Cert.Reference13Ideal.Fwd (S cst go gl go_at gl_at)

variable (m : (ℓ : Loc nD τ sig) → Buf (Elt Ideal) ℓ) (ρ : Dev nD → PrngReg) (c : Dev nD)

/-- The blocks' places at a grid point. -/
theorem idx : ∀ t : Fin cfg0.N, win0_0.index t = ![t.val, 0] ∧ win0_1.index t = ![0, 0] ∧ win0_2.index t = ![0, 2]
    ∧ win0_3.index t = ![t.val, 0] ∧ win0_4.index t = ![t.val, 0] :=
  (by decide +kernel : ∀ t : Fin grid0.N, _)

/-- The queries' block. -/
theorem blk0 (t : Fin cfg0.N) (r : Fin 256) (x : Fin 1024) (R : Fin 8192) (hR : R.val = 256 * t.val + r.val) :
    iblk m c 0 t (ix2 r x) = qryA (argQ m c) (ix2 R x) := by
  rw [← V_qry]
  blk_ext [iblk, idx t]

/-- The keys' block. -/
theorem blk1 (t : Fin cfg0.N) (r : Fin 8192) (x : Fin 1024) : iblk m c 1 t (ix2 r x) = keyA (argK m c) (ix2 r x) := by
  rw [← V_key]
  blk_ext [iblk, idx t]

/-- The values' block. -/
theorem blk2 (t : Fin cfg0.N) (r : Fin 8192) (x : Fin 512) (X : Fin 1536) (hX : X.val = 1024 + x.val) :
    iblk m c 2 t (ix2 r x) = kvA (argK m c) (argV m c) (ix2 r X) := by
  rw [← V_kv]
  blk_ext [iblk, idx t]

section Real
variable (q k : Fin 8192 → Fin 8 → Fin 96 → ℝ)
  (hQ : ∀ i h d, argQ m c (ix3 i h d) = ((q i h d : ℝ) : EReal)) (hK : ∀ i h d, argK m c (ix3 i h d) = ((k i h d : ℝ) : EReal))

include hQ hK in
/-- A head's scores in units of the logarithm of two. -/
theorem score_real (t : Fin cfg0.N) (h : Fin 8) (r : Fin 256) (i j : Fin 8192) (hi : i.val = 256 * t.val + r.val) :
    score (hq (iblk m c 0 t) h) (hk (iblk m c 1 t) h) r j = ((S q k h i j / Real.log 2 : ℝ) : EReal) := by
  have e : ∀ d : Fin 128, hq (iblk m c 0 t) h (ix2 r d) * hk (iblk m c 1 t) h (ix2 j d)
      = (((if hd : d.val < 96 then q i h ⟨d.val, hd⟩ * cst / Real.log 2 else 0) * (if hd : d.val < 96 then k j h ⟨d.val, hd⟩ else 0) : ℝ) : EReal) := by
    intro d
    rw [EReal.coe_mul]
    congr 1
    · exact (blk0 m c t r _ i hi).trans (qryA_at _ q hQ i h d _ rfl)
    · exact (blk1 m c t j _).trans (keyA_at _ k hK j h d _ rfl)
  unfold score
  simp only [e, coe_sum]
  rw [sum_padded (fun d => q i h d * cst / Real.log 2) (fun d => k j h d)]
  unfold S
  rw [Finset.sum_mul, Finset.sum_div]
  congr 1
  exact Finset.sum_congr rfl fun d _ => by ring

/-- A head's values. -/
theorem val_at (t : Fin cfg0.N) (h : Fin 8) (l : Fin 64) (j : Fin 8192) : hv (iblk m c 2 t) h (ix2 j (half h l)) = argV m c (ix3 j h l) := by
  have e : ∀ X : Fin 512, X.val = 64 * h.val + l.val → iblk m c 2 t (ix2 j X) = argV m c (ix3 j h l) := fun X hX =>
    (blk2 m c t j X ⟨1024 + X.val, by omega⟩ rfl).trans (kvA_at _ _ j h l _ (by show 1024 + X.val = _; omega))
  exact e ⟨128 * (h.val / 2) + (64 * (h.val % 2) + l.val), by omega⟩ (by show 128 * (h.val / 2) + (64 * (h.val % 2) + l.val) = _; omega)

include hQ hK in
/-- The first array after the region. -/
theorem arr3 (i : Fin 8192) (h : Fin 8) (l : Fin 64) :
    (show Vec Ideal S8192x512 .bf16 from (dats m 0 c).arrAt 3 cfg0.N) (ix2 i (oc h l)) = ∑ j, ((soft (S q k h i) j : ℝ) : EReal) * argV m c (ix3 j h l) := by
  have key := (dats m 0 c).arrAt_forall_of_covers 3 (fun x w => ∀ (i : Fin 8192) (h : Fin 8) (l : Fin 64), (show S8192x512.Idx from x) = ix2 i (oc h l) →
      (show EReal from w) = ∑ j, ((soft (S q k h i) j : ℝ) : EReal) * argV m c (ix3 j h l)) (by decide +kernel) (fun t hf y => ?_) (ix2 i (oc h l))
  · exact key i h l rfl
  · have ht : t.val < 32 := Nat.lt_of_lt_of_eq t.isLt N_0
    intro i h l hx
    have h0 := congrArg (fun x : S8192x512.Idx => (x 0).val) hx
    have h1 := congrArg (fun x : S8192x512.Idx => (x 1).val) hx
    blk_simp [idx t] at h0 h1
    blk_simp
    rw [after0_3]
    change t.val * 256 + (y 0).val = i.val at h0
    have y0 : (y 0).val < 256 := (y 0).isLt
    have y1 : (y 1).val < 512 := (y 1).isLt
    have e1 : (y 1).val = 64 * h.val + l.val := h1
    have e2 : y = ix2 ⟨(y 0).val, y0⟩ ⟨(y 1).val, y1⟩ := by
      funext a
      match a with
      | ⟨0, _⟩ => rfl
      | ⟨1, _⟩ => rfl
    rw [e2]
    refine (out3_at c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) h ⟨(y 0).val, y0⟩ l ⟨(y 1).val, y1⟩ e1).trans ?_
    refine (mean_at _ _ _ _ (S q k h i) (fun j => score_real m c q k hQ hK t h _ i j (by show i.val = 256 * t.val + (y 0).val; omega)) _).trans ?_
    exact Finset.sum_congr rfl fun j _ => by rw [val_at]

/-- Column `d` of head `h` among the eight heads' lanes. -/
def hl (h : Fin 8) (d : Fin 128) : Fin 1024 := ⟨128 * h.val + d.val, by omega⟩

include hQ hK in
/-- The second array after the region. -/
theorem arr4 (i : Fin 8192) (h : Fin 8) (d : Fin 128) :
    (show Vec Ideal S8192x1024 .f32 from (dats m 0 c).arrAt 4 cfg0.N) (ix2 i (hl h d)) = ((lsum (S q k h i) / Real.log 2 : ℝ) : EReal) := by
  have key := (dats m 0 c).arrAt_forall_of_covers 4 (fun x w => ∀ (i : Fin 8192) (h : Fin 8) (d : Fin 128), (show S8192x1024.Idx from x) = ix2 i (hl h d) →
      (show EReal from w) = ((lsum (S q k h i) / Real.log 2 : ℝ) : EReal)) (by decide +kernel) (fun t hf y => ?_) (ix2 i (hl h d))
  · exact key i h d rfl
  · have ht : t.val < 32 := Nat.lt_of_lt_of_eq t.isLt N_0
    intro i h d hx
    have h0 := congrArg (fun x : S8192x1024.Idx => (x 0).val) hx
    have h1 := congrArg (fun x : S8192x1024.Idx => (x 1).val) hx
    blk_simp [idx t] at h0 h1
    blk_simp
    rw [after0_4]
    change t.val * 256 + (y 0).val = i.val at h0
    have y0 : (y 0).val < 256 := (y 0).isLt
    have y1 : (y 1).val < 1024 := (y 1).isLt
    have e1 : (y 1).val = 128 * h.val + d.val := h1
    have e2 : y = ix2 ⟨(y 0).val, y0⟩ ⟨(y 1).val, y1⟩ := by
      funext a
      match a with
      | ⟨0, _⟩ => rfl
      | ⟨1, _⟩ => rfl
    rw [e2]
    refine (out4_at c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) h ⟨(y 0).val, y0⟩ d ⟨(y 1).val, y1⟩ e1).trans ?_
    exact lsum_at _ _ _ (S q k h i) (fun j => score_real m c q k hQ hK t h _ i j (by show i.val = 256 * t.val + (y 0).val; omega))

end Real

/-! ### The host's last operations -/

/-- The second result of the second array. -/
def tl (A : FVec Ideal S8192x1024 .f32) : FVec Ideal S8192x8 .f32 :=
  mulf (shapeCast S8192x8 (extractStridedSlice S8192x8x1 ![0, 0, 0] (shapeCast S8192x8x128 A shapeCasts_S8192x1024_S8192x8x128) slices_S8192x8x128_S8192x8x1_0_0_0) shapeCasts_S8192x8x1_S8192x8)
    (broadcastInDim S8192x8 ![] bcast_S_S8192x8 log2)

/-- The second result's entry. -/
theorem tl_at (A : FVec Ideal S8192x1024 .f32) (i : Fin 8192) (h : Fin 8) : tl A (ix2 i h) = A (ix2 i (hl h 0)) * ((Real.log 2 : ℝ) : EReal) := by
  pointwise [tl]
  rw [log2_at]
  congr 2
  exact congrArg (ix2 i) (Fin.ext (by show h.val * 128 + 0 = 128 * h.val + 0; omega))

/-- Different windows have different arrays. -/
theorem arr_inj : Function.Injective (Pipeline.arrRef spec0) := by decide

/-- The second result after the tail. -/
theorem W_main_v23 : Pipeline.afterTail₀ cfgs (dats m) 0 (V0 m) [hostOps1] c main_v23 = tl ((dats m 0 c).arrAt 4 cfg0.N) := by
  unfold Pipeline.afterTail₀ tl
  simp only [List.flatten_cons, List.flatten_nil, List.append_nil]
  after_reads_simp
  rw [show ∀ V A, Pipeline.withArrays spec0 c V A (Proc.devRef .tc main_v18_1) = A 4 from fun V A => Pipeline.withArrays_arr spec0 arr_inj c V A 4,
    Pipeline.withArrays_of_ne spec0 c _ _ main_v3 (by exact (by decide : ∀ w, Pipeline.arrRef spec0 w ≠ main_v3)),
    show V0 m c (Proc.devRef .tc main_v3) = log2 from V_log m c]
  rfl

/-- The kernel's run: its first result is the first array, its second the tail of the second. -/
theorem run_values : θ_run defs (onTc (τ := τ) (main (F := Ideal))) ⟨m, fun _ => 0, ρ⟩ (fun r => ∀ c : Dev nD,
      r.2.mem ((c.tc : Thread nD τ).loc main_v18_0) = (dats m 0 c).arrAt 3 cfg0.N
      ∧ r.2.mem ((c.tc : Thread nD τ).loc main_v23) = tl ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h.1 c).1 3,
     ((h.1 c).2 main_v23 (Pipeline.mem_restRefs_of main_v23 (by decide) (by decide))).trans (W_main_v23 m c), h.2.1 c⟩)
    (θ_run_and (run_main m ρ) (frame m ρ))

/-! ### The precondition -/

/-- An extended real whose magnitude is below infinity is a real. -/
theorem real_of_lt (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  have h' : max x (-x) < ⊤ := by
    by_contra hh
    change BitVec.ofBool (decide (max x (-x) < ⊤)) = 1#1 at h
    rw [decide_eq_false hh] at h
    exact absurd h (by decide)
  refine (EReal.coe_toReal (fun e => ?_) (fun e => ?_)).symm
  · rw [e] at h'; simp at h'
  · rw [e] at h'; simp at h'

section Values
variable {Q K : FVec Ideal S8192x8x96 .bf16} {V : FVec Ideal S8192x8x64 .bf16} [Cert.Pre_finite13.Facts]

/-- The precondition's predicate. -/
def fin2 (Q K : FVec Ideal S8192x8x96 .bf16) (V : FVec Ideal S8192x8x64 .bf16) : Prop :=
  Cert.Pre_finite13.fn (F := Ideal) Q K V = fun _ => 1#1

/-- A finite query. -/
theorem fin_q (h : fin2 Q K V) (i : Fin 8192) (a : Fin 8) (d : Fin 96) : Q (ix3 i a d) = ((Q (ix3 i a d)).toReal : EReal) := by
  have := congrFun h (ix3 i a (⟨d.val, by omega⟩ : Fin 192))
  pointwise [Cert.Pre_finite13.fn] at this
  exact real_of_lt _ this

/-- A finite key. -/
theorem fin_k (h : fin2 Q K V) (i : Fin 8192) (a : Fin 8) (d : Fin 96) : K (ix3 i a d) = ((K (ix3 i a d)).toReal : EReal) := by
  have := congrFun h (ix3 i a (⟨96 + d.val, by omega⟩ : Fin 192))
  pointwise [Cert.Pre_finite13.fn] at this
  exact real_of_lt _ this

variable (hf : fin2 (argQ m c) (argK m c) (argV m c))

include hf in
/-- The first result is the reference's. -/
theorem value_o : (show Vec Ideal S8192x512 .bf16 from (dats m 0 c).arrAt 3 cfg0.N) = go (argQ m c) (argK m c) (argV m c) := by
  funext x
  idx_vars x
  have e : x1 = oc ⟨x1.val / 64, by omega⟩ ⟨x1.val % 64, by omega⟩ := Fin.ext (by show x1.val = 64 * (x1.val / 64) + x1.val % 64; omega)
  rw [e]
  exact (arr3 m c _ _ (fin_q hf) (fin_k hf) x0 _ _).trans (go_at _ _ _ _ _ (fin_q hf) (fin_k hf) x0 _ _).symm

include hf in
/-- The second result is the reference's. -/
theorem value_l : tl ((dats m 0 c).arrAt 4 cfg0.N) = gl (argQ m c) (argK m c) := by
  funext x
  idx_vars x
  refine (tl_at _ _ _).trans (Eq.trans ?_ (gl_at _ _ _ _ (fin_q hf) (fin_k hf) x0 x1).symm)
  rw [show ((dats m 0 c).arrAt 4 cfg0.N : FVec Ideal S8192x1024 .f32) (ix2 x0 (hl x1 0)) = _ from arr4 m c _ _ (fin_q hf) (fin_k hf) x0 x1 0, ← EReal.coe_mul, div_mul_cancel₀ _ ln2_ne]

end Values

/-- Equal arguments, equal first results. -/
theorem go_congr {Q Q' K K' : FVec Ideal S8192x8x96 .bf16} {V V' : FVec Ideal S8192x8x64 .bf16} (h : Q' = Q) (h1 : K' = K) (h2 : V' = V) : go Q' K' V' = go Q K V := by
  rw [h, h1, h2]

/-- Equal arguments, equal second results. -/
theorem gl_congr {Q Q' K K' : FVec Ideal S8192x8x96 .bf16} (h : Q' = Q) (h1 : K' = K) : gl Q' K' = gl Q K := by
  rw [h, h1]

end Cert.Kernel13Ideal.Fwd

end
-- ==== Proof.FwdClaim.lean ====
module

public import proofs.«01_k».proof.Proof.FwdFinal

@[expose] public section

set_option maxRecDepth 16384

noncomputable section

namespace Cert.Kernel13Ideal.Fwd

open Idealize.ShloMosaic Idealize.ShloMosaic.ValueKit Idealize.ShloMosaic.TcCoe Idealize.SL.Sem
open Cert.Kernel13Ideal Cert.Kernel13Ideal.Gen

/-- Kernel and reference end with the same output and log-sums, from finite queries and keys. -/
theorem algebraic [Cert.Pre_finite13.Facts] : Cert.algebraic_Kernel13Ideal_Reference13Ideal_pre_finite13 := by
  pair_intro
  · run_from run_values m g
  · refine Idealize.ShloMosaic.θ_run_mono (Cert.Reference13Ideal.Fwd.run m' g') fun r hr c => ?_
    exact ⟨(hr c).1.trans ((go_congr (hagree c).1 (hagree c).2.1 (hagree c).2.2).trans (value_o m c (hpre c)).symm),
      (hr c).2.1.trans ((gl_congr (hagree c).1 (hagree c).2.1).trans (value_l m c (hpre c)).symm), (hr c).2.2⟩

end Cert.Kernel13Ideal.Fwd

end
-- ==== Proof.LossK.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel4Ideal.Loss

open Cert.Kernel4Ideal Cert.Kernel4Ideal.Gen

/-- An entry's distance from its target: the residual plus the product's sum, less the target. -/
def er (x : Fin 2816 → EReal) (w : Fin 2816 → EReal) (r t : EReal) : EReal := (∑ k, x k * w k) + r - t

/-- A row's loss: its mean square. -/
def rowLoss (e : Fin 1024 → EReal) : EReal := Ideal.div (∑ l, e l * e l) (Ideal.ofBits .f32 0x44800000#32)

section Pay
variable (x0 : Vec Ideal S512x2816 .bf16) (x1 : Vec Ideal S2816x1024 .bf16) (x2 x3 : Vec Ideal S512x1024 .f32)

/-- The block's distances from its targets. -/
theorem pay_e (a : Fin 512) (l : Fin 1024) :
    k0_pay3 (k0_pay2 x0 (k0_pay1 (F := Ideal)) x1) x2 x3 (ix2 a l) = er (fun k => x0 (ix2 a k)) (fun k => x1 (ix2 k l)) (x2 (ix2 a l)) (x3 (ix2 a l)) := by
  pointwise [k0_pay1, k0_pay2, k0_pay3, er]

/-- The payload stored into the first result's block. -/
theorem pay_d (a : Fin 512) (l : Fin 1024) :
    k0_pay4 (k0_pay2 x0 (k0_pay1 (F := Ideal)) x1) x2 x3 (ix2 a l) = er (fun k => x0 (ix2 a k)) (fun k => x1 (ix2 k l)) (x2 (ix2 a l)) (x3 (ix2 a l)) * Ideal.ofBits .f32 0x3A800000#32 := by
  pointwise [k0_pay4]
  rw [pay_e]

/-- The payload stored into the second result's block. -/
theorem pay_h (a : Fin 512) (l : Fin 1024) :
    k0_pay5 (k0_pay2 x0 (k0_pay1 (F := Ideal)) x1) x2 x3 (ix2 a l) = er (fun k => x0 (ix2 a k)) (fun k => x1 (ix2 k l)) (x2 (ix2 a l)) (x3 (ix2 a l)) * Ideal.ofBits .f32 0x3A800000#32 := by
  unfold k0_pay5
  exact pay_d x0 x1 x2 x3 a l

/-- The payload stored into the third result's block. -/
theorem pay_l (y : Vec Ideal S1x128 .f32) (l : Fin 128) :
    k0_pay7 (k0_pay2 x0 (k0_pay1 (F := Ideal)) x1) x2 x3 y (ix2 0 l) = y (ix2 0 l) + Ideal.ofBits .f32 0x3F000000#32 * ∑ a : Fin 512,
      rowLoss (fun l => er (fun k => x0 (ix2 a k)) (fun k => x1 (ix2 k l)) (x2 (ix2 a l)) (x3 (ix2 a l))) := by
  pointwise [k0_pay7, rowLoss]
  simp only [pay_e]
end Pay

variable (m : (ℓ : Loc nD τ sig) → Buf (Elt Ideal) ℓ) (c : Dev nD)

/-- The activations, the weights, the residual and the targets: the arguments. -/
abbrev aA : FVec Ideal S8192x2816 .bf16 := m ((c.tc : Thread nD τ).loc main_arg0)
abbrev aW : FVec Ideal S2816x1024 .bf16 := m ((c.tc : Thread nD τ).loc main_arg1)
abbrev aX : FVec Ideal S8192x1024 .f32 := m ((c.tc : Thread nD τ).loc main_arg2)
abbrev aT : FVec Ideal S8192x1024 .f32 := m ((c.tc : Thread nD τ).loc main_arg3)

/-- Every window's block index: rows of 512 in turn. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The blocks, entry by entry. -/
theorem b0 (t : Fin cfg0.N) (a : Fin 512) (l : Fin 2816) : (iblk m c 0 t : Vec Ideal S512x2816 .bf16) (ix2 a l) = aA m c (ix2 (row t a) l) := by
  blk_ext [iblk, idx t] <;> simp only [row] <;> omega
theorem b1 (t : Fin cfg0.N) (a : Fin 2816) (l : Fin 1024) : (iblk m c 1 t : Vec Ideal S2816x1024 .bf16) (ix2 a l) = aW m c (ix2 a l) := by
  blk_ext [iblk, idx t]
theorem b2 (t : Fin cfg0.N) (a : Fin 512) (l : Fin 1024) : (iblk m c 2 t : Vec Ideal S512x1024 .f32) (ix2 a l) = aX m c (ix2 (row t a) l) := by
  blk_ext [iblk, idx t] <;> simp only [row] <;> omega
theorem b3 (t : Fin cfg0.N) (a : Fin 512) (l : Fin 1024) : (iblk m c 3 t : Vec Ideal S512x1024 .f32) (ix2 a l) = aT m c (ix2 (row t a) l) := by
  blk_ext [iblk, idx t] <;> simp only [row] <;> omega

/-- An entry's distance from its target, of the whole arrays. -/
def gE (A : FVec Ideal S8192x2816 .bf16) (W : FVec Ideal S2816x1024 .bf16) (X T : FVec Ideal S8192x1024 .f32) (i : Fin 8192) (l : Fin 1024) : EReal :=
  er (fun k => A (ix2 i k)) (fun k => W (ix2 k l)) (X (ix2 i l)) (T (ix2 i l))

/-- What every point leaves in the first two results' blocks. -/
theorem outs4 (t : Fin cfg0.N) : (outsAt0 m c t.val t.isLt).1 = k0_pay4 (k0_pay2 (iblk m c 0 t) (k0_pay1 (F := Ideal)) (iblk m c 1 t)) (iblk m c 2 t) (iblk m c 3 t) := by
  by_cases h : t.val % 16 = 0
  · rw [outsAt0_A m c t h]
    frame_out
  · rw [outsAt0_B m c t h]
    frame_out
theorem outs5 (t : Fin cfg0.N) : (outsAt0 m c t.val t.isLt).2.1 = k0_pay5 (k0_pay2 (iblk m c 0 t) (k0_pay1 (F := Ideal)) (iblk m c 1 t)) (iblk m c 2 t) (iblk m c 3 t) := by
  by_cases h : t.val % 16 = 0
  · rw [outsAt0_A m c t h]
    frame_out
  · rw [outsAt0_B m c t h]
    frame_out
/-- What the first point leaves in the third result's block, and what a later one makes of it. -/
theorem outs6_A (t : Fin cfg0.N) (h : t.val % 16 = 0) : (outsAt0 m c t.val t.isLt).2.2 = k0_pay7 (k0_pay2 (iblk m c 0 t) (k0_pay1 (F := Ideal)) (iblk m c 1 t)) (iblk m c 2 t) (iblk m c 3 t) (k0_pay6 (F := Ideal)) := by
  rw [outsAt0_A m c t h]
  frame_out
theorem outs6_B (t : Fin cfg0.N) (h : ¬t.val % 16 = 0) : (outsAt0 m c t.val t.isLt).2.2 = k0_pay7 (k0_pay2 (iblk m c 0 t) (k0_pay1 (F := Ideal)) (iblk m c 1 t)) (iblk m c 2 t) (iblk m c 3 t)
    (outsAt0 m c (t.val - 1) (by omega)).2.2 := by
  rw [outsAt0_B m c t h]
  frame_out

/-- The result arrays of the gradient after the run. -/
theorem arr4 (i : Fin 8192) (l : Fin 1024) :
    (show Vec Ideal S8192x1024 .f32 from (dats m 0 c).arrAt 4 cfg0.N) (ix2 i l) = gE (aA m c) (aW m c) (aX m c) (aT m c) i l * Ideal.ofBits .f32 0x3A800000#32 := by
  have key := (dats m 0 c).arrAt_forall_of_covers 4 (fun x w => ∀ (i : Fin 8192) (l : Fin 1024), (show S8192x1024.Idx from x) = ix2 i l →
    (show EReal from w) = gE (aA m c) (aW m c) (aX m c) (aT m c) i l * Ideal.ofBits .f32 0x3A800000#32) (by decide +kernel) (fun t hf y => ?_) (ix2 i l)
  · exact key i l rfl
  intro i l hx
  have h0 := congrArg (fun x : S8192x1024.Idx => (x 0).val) hx
  have h1 := congrArg (fun x : S8192x1024.Idx => (x 1).val) hx
  blk_simp [idx t] at h0 h1
  blk_simp
  rw [after0_4, outs4]
  idx_vars y
  have ei : i = row t y0 := Fin.ext (by simp only [row]; simp at h0; omega)
  have el : l = y1 := Fin.ext (by simp at h1; omega)
  rw [ei, el]
  refine (pay_d _ _ _ _ _ _).trans ?_
  simp only [gE, b0, b1, b2, b3]
theorem arr5 (i : Fin 8192) (l : Fin 1024) :
    (show Vec Ideal S8192x1024 .bf16 from (dats m 0 c).arrAt 5 cfg0.N) (ix2 i l) = gE (aA m c) (aW m c) (aX m c) (aT m c) i l * Ideal.ofBits .f32 0x3A800000#32 := by
  have key := (dats m 0 c).arrAt_forall_of_covers 5 (fun x w => ∀ (i : Fin 8192) (l : Fin 1024), (show S8192x1024.Idx from x) = ix2 i l →
    (show EReal from w) = gE (aA m c) (aW m c) (aX m c) (aT m c) i l * Ideal.ofBits .f32 0x3A800000#32) (by decide +kernel) (fun t hf y => ?_) (ix2 i l)
  · exact key i l rfl
  intro i l hx
  have h0 := congrArg (fun x : S8192x1024.Idx => (x 0).val) hx
  have h1 := congrArg (fun x : S8192x1024.Idx => (x 1).val) hx
  blk_simp [idx t] at h0 h1
  blk_simp
  rw [after0_5, outs5]
  idx_vars y
  have ei : i = row t y0 := Fin.ext (by simp only [row]; simp at h0; omega)
  have el : l = y1 := Fin.ext (by simp at h1; omega)
  rw [ei, el]
  refine (pay_h _ _ _ _ _ _).trans ?_
  simp only [gE, b0, b1, b2, b3]

/-- What a point adds to the loss. -/
def term (n : ℕ) : EReal := if hn : n < cfg0.N then
  Ideal.ofBits .f32 0x3F000000#32 * ∑ a : Fin 512, rowLoss (gE (aA m c) (aW m c) (aX m c) (aT m c) (row ⟨n, hn⟩ a)) else 0

/-- The loss the last point leaves, as the sum of the points' terms. -/
theorem loss_sum (l : Fin 128) (t : Fin cfg0.N) (ht : t.val % 16 = 15) :
    (outsAt0 m c t.val t.isLt).2.2 (ix2 0 l) = ∑ n ∈ Finset.range 16, term m c (16 * (t.val / 16) + n) := by
  have := Pipeline.eq_sum_of_reset_step_apply_of_mod (N := cfg0.N) (ι := Unit) (M := EReal) (fun n hn _ => (outsAt0 m c n hn).2.2 (ix2 0 l)) 16 (fun _ => 0) (fun n _ => term m c n)
    (fun t h0 _ => by
      show (outsAt0 m c t.val t.isLt).2.2 (ix2 0 l) = 0 + term m c t.val
      rw [outs6_A m c t h0, pay_l]
      unfold term
      rw [dif_pos t.isLt]
      refine congrArg₂ (· + ·) (by pointwise [k0_pay6]) ?_
      simp only [b0, b1, b2, b3]
      rfl)
    (fun t h0 _ => by
      show (outsAt0 m c t.val t.isLt).2.2 (ix2 0 l) = (outsAt0 m c (t.val - 1) _).2.2 (ix2 0 l) + term m c t.val
      rw [outs6_B m c t h0, pay_l]
      unfold term
      rw [dif_pos t.isLt]
      simp only [b0, b1, b2, b3]
      rfl)
    t ht ()
  exact this.trans (zero_add _)

/-- A non-negative real factor goes into a sum. -/
theorem mul_sum_real {ι : Type} (s : Finset ι) (f : ι → EReal) (r : ℝ) (hr : 0 ≤ r) : ∑ i ∈ s, (r : EReal) * f i = (r : EReal) * ∑ i ∈ s, f i := by
  classical
  induction s using Finset.induction_on with
  | empty => simp
  | insert a s ha ih =>
    rw [Finset.sum_insert ha, Finset.sum_insert ha, ih, EReal.left_distrib_of_nonneg_of_ne_top (by exact_mod_cast hr) (EReal.coe_ne_top r)]

/-- The rows of the array, block by block. -/
theorem rows_sum (f : Fin 8192 → EReal) : ∑ n : Fin 16, ∑ a : Fin 512, f (row n a) = ∑ i, f i := by
  rw [← Finset.sum_product']
  refine (Equiv.sum_comp (finProdFinEquiv (m := 16) (n := 512)) f).symm.trans ?_ |>.symm
  refine Finset.sum_congr rfl fun x _ => congrArg f (Fin.ext ?_)
  show x.2.val + 512 * x.1.val = x.1.val * 512 + x.2.val
  omega

/-- The half. -/
theorem half_bits : (Ideal.ofBits .f32 0x3F000000#32 : EReal) = ((1 / 2 : ℝ) : EReal) := by
  simp only [Ideal.ofBits, Ideal.ieee]
  simp
  rw [← EReal.coe_mul]
  norm_num

/-- The result array of the loss after the run. -/
theorem arr6 (l : Fin 128) :
    (show Vec Ideal S1x128 .f32 from (dats m 0 c).arrAt 6 cfg0.N) (ix2 0 l) = Ideal.ofBits .f32 0x3F000000#32 * ∑ i, rowLoss (gE (aA m c) (aW m c) (aX m c) (aT m c) i) := by
  have key := (dats m 0 c).arrAt_forall_of_covers 6 (fun x w => ∀ (l : Fin 128), (show S1x128.Idx from x) = ix2 0 l →
    (show EReal from w) = Ideal.ofBits .f32 0x3F000000#32 * ∑ i, rowLoss (gE (aA m c) (aW m c) (aX m c) (aT m c) i)) (by decide +kernel) (fun t hf y => ?_) (ix2 0 l)
  · exact key l rfl
  intro l hx
  have h1 := congrArg (fun x : S1x128.Idx => (x 1).val) hx
  blk_simp [idx t] at h1
  blk_simp
  rw [after0_6]
  idx_vars y
  have hy : y0 = 0 := Fin.ext (by omega)
  have ht := (flush0_6 t).mp hf
  have ht' : t.val = 15 := by have := t.isLt; have : cfg0.N = 16 := rfl; omega
  rw [hy]
  refine (loss_sum m c _ t (by omega)).trans ?_
  rw [ht', Finset.sum_range, ← rows_sum, half_bits, ← mul_sum_real _ _ _ (by norm_num)]
  refine Finset.sum_congr rfl fun n _ => ?_
  unfold term
  have hn : 16 * (15 / 16) + n.val < cfg0.N := by rw [show cfg0.N = 16 from rfl]; omega
  rw [dif_pos hn, half_bits]
  refine congrArg (((1 / 2 : ℝ) : EReal) * ·) (Finset.sum_congr rfl fun a _ => ?_)
  exact congrArg (fun t => rowLoss (gE (aA m c) (aW m c) (aX m c) (aT m c) (row t a))) (Fin.ext (by show 16 * (15 / 16) + n.val = n.val; omega))

/-- The kernel's run: its three results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, h.2.1 c⟩)
    (θ_run_and (run_main m ρ) (frame m ρ))

/-- A half over 1024, times twice a distance, is the distance over 1024. -/
theorem scale (e : EReal) : Ideal.div (Ideal.ofBits .f32 0x3F000000#32 * 1) (Ideal.ofBits .f32 0x44800000#32) * (Ideal.ofBits .f32 0x40000000#32 * e)
    = e * Ideal.ofBits .f32 0x3A800000#32 := by
  have h2 : (Ideal.ofBits .f32 0x40000000#32 : EReal) = ((2 : ℝ) : EReal) := by simp [Ideal.ofBits, Ideal.ieee]; rw [← EReal.coe_mul]; norm_num
  have hk : (Ideal.ofBits .f32 0x44800000#32 : EReal) = ((1024 : ℝ) : EReal) := by simp [Ideal.ofBits, Ideal.ieee]; rw [← EReal.coe_mul]; norm_num
  have hi : (Ideal.ofBits .f32 0x3A800000#32 : EReal) = ((1 / 1024 : ℝ) : EReal) := by simp [Ideal.ofBits, Ideal.ieee]; rw [← EReal.coe_mul]; norm_num
  rw [half_bits, h2, hk, hi, mul_one, Ideal.div_coe (by norm_num), ← mul_assoc, ← EReal.coe_mul, ← EReal.coe_mul, mul_comm]
  norm_num

/-- The distance with the residual first. -/
theorem gE_eq (A : FVec Ideal S8192x2816 .bf16) (W : FVec Ideal S2816x1024 .bf16) (X T : FVec Ideal S8192x1024 .f32) (i : Fin 8192) (l : Fin 1024) :
    gE A W X T i l = (X (ix2 i l) : EReal) + ∑ k, (A (ix2 i k) : EReal) * W (ix2 k l) - T (ix2 i l) := by
  unfold gE er
  rw [add_comm]

/-- Kernel and reference end with the same gradient, twice, and the same loss. -/
theorem algebraic : Cert.algebraic_Kernel4Ideal_Reference4Ideal := by
  pair_intro
  · run_from run_values m g
  · run_from Cert.Reference4Ideal.Value.run m' g'
    · funext j
      idx_vars j
      refine Eq.trans ?_ (arr4 m c j0 j1).symm
      rw [← scale, gE_eq]
      pointwise []
    · funext j
      idx_vars j
      refine Eq.trans ?_ (arr5 m c j0 j1).symm
      rw [← scale, gE_eq]
      pointwise []
    · funext j
      idx_vars j
      obtain rfl : j0 = 0 := Fin.ext (by omega)
      refine Eq.trans ?_ (arr6 m c j1).symm
      simp only [rowLoss, gE_eq]
      pointwise []

end Cert.Kernel4Ideal.Loss

end
-- ==== Proof.LatNorm.lean ====
module

public import proofs.«01_k».proof.Proof.Gen.Kernel10Ideal.Frame
public import proofs.«01_k».proof.Proof.Gen.Reference10Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel10Ideal.Lat

open Cert.Kernel10Ideal Cert.Kernel10Ideal.Gen

section Rows
variable {n : ℕ} (K : BitVec 32) (r g d : Fin n → EReal) (l : Fin n)

/-- A row's mean square, over a width given by its bits, with the norm's small constant. -/
def ms : EReal := Ideal.div (∑ l, r l * r l) (Ideal.ofBits .f32 K) + Ideal.ofBits .f32 0x358637BD#32

/-- What the norm's gradient adds along the row itself. -/
def back (w : Fin n → EReal) : EReal :=
  Ideal.div ((∑ l, r l * w l) * (Ideal.ofBits .f32 0xBF000000#32 * Ideal.div (Ideal.rsqrt (ms K r)) (ms K r))) (Ideal.ofBits .f32 K)

/-- The gradient with respect to the row. -/
def dX : EReal := d l * g l * Ideal.rsqrt (ms K r) + r l * back K r (fun k => d k * g k) + back K r (fun k => d k * g k) * r l

/-- What the row adds to the gradient with respect to the gain. -/
def dW : EReal := r l * Ideal.rsqrt (ms K r) * d l
end Rows

/-- The payload stored into the first result's block. -/
theorem pay_q (g : Vec Ideal S1x256 .f32) (x d : Vec Ideal S512x256 .bf16) (a : Fin 512) (l : Fin 256) :
    k0_pay21 (k0_pay5 g) (k0_pay7 x) (k0_pay9 x) (k0_pay10 x) (k0_pay17 d) (ix2 a l)
      = dX 0x43800000#32 (fun k => x (ix2 a k)) (fun k => g (ix2 0 k)) (fun k => d (ix2 a k)) l := by
  pointwise [k0_pay21, k0_pay5, k0_pay7, k0_pay8, k0_pay9, k0_pay10, k0_pay17, dX, back, ms]
  simp only [Fin.sum_univ_one]

/-- The payload stored into the second result's block. -/
theorem pay_k (g : Vec Ideal S1x128 .f32) (x d : Vec Ideal S512x128 .bf16) (a : Fin 512) (l : Fin 128) :
    k0_pay22 (k0_pay6 g) (k0_pay12 x) (k0_pay14 x) (k0_pay15 x) d (ix2 a l)
      = dX 0x43000000#32 (fun k => x (ix2 a k)) (fun k => g (ix2 0 k)) (fun k => d (ix2 a k)) l := by
  pointwise [k0_pay22, k0_pay6, k0_pay12, k0_pay13, k0_pay14, k0_pay15, k0_pay18, dX, back, ms]
  simp only [Fin.sum_univ_one]

/-- The payload added into the third result's block. -/
theorem pay_gq (x d : Vec Ideal S512x256 .bf16) (y : Vec Ideal S1x256 .f32) (l : Fin 256) :
    k0_pay2 (k0_pay20 (k0_pay11 x) (k0_pay17 d)) y (ix2 0 l) = y (ix2 0 l) + ∑ a : Fin 512, dW 0x43800000#32 (fun k => x (ix2 a k)) (fun k => d (ix2 a k)) l := by
  pointwise [k0_pay2, k0_pay20, k0_pay11, k0_pay7, k0_pay8, k0_pay9, k0_pay17, dW, ms]

/-- The payload added into the fourth result's block. -/
theorem pay_gk (x d : Vec Ideal S512x128 .bf16) (y : Vec Ideal S1x128 .f32) (l : Fin 128) :
    k0_pay4 (k0_pay19 (k0_pay16 x) d) y (ix2 0 l) = y (ix2 0 l) + ∑ a : Fin 512, dW 0x43000000#32 (fun k => x (ix2 a k)) (fun k => d (ix2 a k)) l := by
  pointwise [k0_pay4, k0_pay19, k0_pay16, k0_pay12, k0_pay13, k0_pay14, k0_pay18, dW, ms]

variable (m : (ℓ : Loc nD τ sig) → Buf (Elt Ideal) ℓ) (c : Dev nD)

/-- The compressed queries, keys and values, the two gains and the two cotangents: the arguments. -/
abbrev aQ : FVec Ideal S8192x256 .bf16 := m ((c.tc : Thread nD τ).loc main_arg0)
abbrev aK : FVec Ideal S8192x128 .bf16 := m ((c.tc : Thread nD τ).loc main_arg1)
abbrev gQ : FVec Ideal S256 .f32 := m ((c.tc : Thread nD τ).loc main_arg2)
abbrev gK : FVec Ideal S128 .f32 := m ((c.tc : Thread nD τ).loc main_arg3)
abbrev dQ : FVec Ideal S8192x256 .bf16 := m ((c.tc : Thread nD τ).loc main_arg4)
abbrev dK : FVec Ideal S8192x128 .bf16 := m ((c.tc : Thread nD τ).loc main_arg5)

/-- The compressed arrays in their columns of the joint projection. -/
def padP (Q : FVec Ideal S8192x256 .bf16) (K : FVec Ideal S8192x128 .bf16) : FVec Ideal S8192x5632 .bf16 :=
  truncf .bf16 (pad S8192x5632 ![0, 5120] ![0, 128] ![0, 0] (concatenate S8192x384 1 [⟨S8192x256, extf .f32 Q bitsLt_bf16_f32⟩, ⟨S8192x128, extf .f32 K bitsLt_bf16_f32⟩] concatenates_S8192x256_S8192x128_S8192x384_d1)
    (sitofp .f32 (constantI S_ 32 0#32)) pads_S8192x384_S8192x5632_000_51201280 h_S_) bitsLt_bf16_f32

/-- The region finds them so. -/
theorem V_proj : Gen.V m c main_v4 = padP (aQ m c) (aK m c) := by
  unfold_abbrev_sides
  after_reads_simp
  rfl
theorem V_gq : Gen.V m c main_v5 = shapeCast S1x256 (gQ m c) shapeCasts_S256_S1x256 := by
  unfold_abbrev_sides
  after_reads_simp
  rfl
theorem V_gk : Gen.V m c main_v6 = shapeCast S1x128 (gK m c) shapeCasts_S128_S1x128 := by
  unfold_abbrev_sides
  after_reads_simp
  rfl

/-- An entry of the joint projection in the query's and in the key's columns. -/
theorem padP_q (Q : FVec Ideal S8192x256 .bf16) (K : FVec Ideal S8192x128 .bf16) (i : Fin 8192) (j : Fin 256) : padP Q K (ix2 i ⟨5120 + j.val, by omega⟩) = Q (ix2 i j) := by
  pointwise [padP]
  rw [dif_pos (by omega)]
theorem padP_k (Q : FVec Ideal S8192x256 .bf16) (K : FVec Ideal S8192x128 .bf16) (i : Fin 8192) (j : Fin 128) : padP Q K (ix2 i ⟨5376 + j.val, by omega⟩) = K (ix2 i j) := by
  pointwise [padP]
  rw [dif_pos (by omega), dif_neg (by omega)]
  exact congrArg (fun k => K (ix2 i k)) (Fin.ext (by show 5376 + j.val - 5120 - 256 = j.val; omega))

/-- Every window's block index: rows of 512 in turn. -/
theorem idx : ∀ t : Fin cfg0.N, win0_0.index t = ![0, 0] ∧ win0_1.index t = ![0, 0] ∧ win0_2.index t = ![t.val, 20] ∧ win0_3.index t = ![t.val, 42]
    ∧ win0_4.index t = ![t.val, 0] ∧ win0_5.index t = ![t.val, 0] ∧ win0_6.index t = ![t.val, 0] ∧ win0_7.index t = ![t.val, 0] ∧ win0_8.index t = ![0, 0] ∧ win0_9.index t = ![0, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The blocks, entry by entry. -/
theorem b0 (t : Fin cfg0.N) (l : Fin 256) : (iblk m c 0 t : Vec Ideal S1x256 .f32) (ix2 0 l) = gQ m c (ix1 l) := by
  refine Eq.trans (b := (shapeCast S1x256 (gQ m c) shapeCasts_S256_S1x256 : FVec Ideal S1x256 .f32) (ix2 0 l)) ?_ (by pointwise [])
  rw [← V_gq]
  blk_ext [iblk, idx t]
theorem b1 (t : Fin cfg0.N) (l : Fin 128) : (iblk m c 1 t : Vec Ideal S1x128 .f32) (ix2 0 l) = gK m c (ix1 l) := by
  refine Eq.trans (b := (shapeCast S1x128 (gK m c) shapeCasts_S128_S1x128 : FVec Ideal S1x128 .f32) (ix2 0 l)) ?_ (by pointwise [])
  rw [← V_gk]
  blk_ext [iblk, idx t]
theorem b2 (t : Fin cfg0.N) (a : Fin 512) (l : Fin 256) : (iblk m c 2 t : Vec Ideal S512x256 .bf16) (ix2 a l) = aQ m c (ix2 (row t a) l) := by
  rw [← padP_q (aQ m c) (aK m c), ← V_proj]
  blk_ext [iblk, idx t] <;> simp only [row] <;> omega
theorem b3 (t : Fin cfg0.N) (a : Fin 512) (l : Fin 128) : (iblk m c 3 t : Vec Ideal S512x128 .bf16) (ix2 a l) = aK m c (ix2 (row t a) l) := by
  rw [← padP_k (aQ m c) (aK m c), ← V_proj]
  blk_ext [iblk, idx t] <;> simp only [row] <;> omega
theorem b4 (t : Fin cfg0.N) (a : Fin 512) (l : Fin 256) : (iblk m c 4 t : Vec Ideal S512x256 .bf16) (ix2 a l) = dQ m c (ix2 (row t a) l) := by
  blk_ext [iblk, idx t] <;> simp only [row] <;> omega
theorem b5 (t : Fin cfg0.N) (a : Fin 512) (l : Fin 128) : (iblk m c 5 t : Vec Ideal S512x128 .bf16) (ix2 a l) = dK m c (ix2 (row t a) l) := by
  blk_ext [iblk, idx t] <;> simp only [row] <;> omega

/-- What every point leaves in the first two results' blocks. -/
theorem outs6 (t : Fin cfg0.N) : (outsAt0 m c t.val t.isLt).1 = k0_pay21 (k0_pay5 (iblk m c 0 t)) (k0_pay7 (iblk m c 2 t)) (k0_pay9 (iblk m c 2 t)) (k0_pay10 (iblk m c 2 t)) (k0_pay17 (iblk m c 4 t)) := by
  by_cases h : t.val % 16 = 0
  · rw [outsAt0_A m c t h h]
    frame_out
  · rw [outsAt0_B m c t h h]
    frame_out
theorem outs7 (t : Fin cfg0.N) : (outsAt0 m c t.val t.isLt).2.1 = k0_pay22 (k0_pay6 (iblk m c 1 t)) (k0_pay12 (iblk m c 3 t)) (k0_pay14 (iblk m c 3 t)) (k0_pay15 (iblk m c 3 t)) (iblk m c 5 t) := by
  by_cases h : t.val % 16 = 0
  · rw [outsAt0_A m c t h h]
    frame_out
  · rw [outsAt0_B m c t h h]
    frame_out
/-- What the first point leaves in the gains' blocks, and what a later one makes of it. -/
theorem outs8_A (t : Fin cfg0.N) (h : t.val % 16 = 0) : (outsAt0 m c t.val t.isLt).2.2.1 = k0_pay2 (k0_pay20 (k0_pay11 (iblk m c 2 t)) (k0_pay17 (iblk m c 4 t))) (k0_pay1 (F := Ideal)) := by
  rw [outsAt0_A m c t h h]
  frame_out
theorem outs8_B (t : Fin cfg0.N) (h : ¬t.val % 16 = 0) : (outsAt0 m c t.val t.isLt).2.2.1 = k0_pay2 (k0_pay20 (k0_pay11 (iblk m c 2 t)) (k0_pay17 (iblk m c 4 t)))
    (outsAt0 m c (t.val - 1) (by omega)).2.2.1 := by
  rw [outsAt0_B m c t h h]
  frame_out
theorem outs9_A (t : Fin cfg0.N) (h : t.val % 16 = 0) : (outsAt0 m c t.val t.isLt).2.2.2 = k0_pay4 (k0_pay19 (k0_pay16 (iblk m c 3 t)) (iblk m c 5 t)) (k0_pay3 (F := Ideal)) := by
  rw [outsAt0_A m c t h h]
  frame_out
theorem outs9_B (t : Fin cfg0.N) (h : ¬t.val % 16 = 0) : (outsAt0 m c t.val t.isLt).2.2.2 = k0_pay4 (k0_pay19 (k0_pay16 (iblk m c 3 t)) (iblk m c 5 t))
    (outsAt0 m c (t.val - 1) (by omega)).2.2.2 := by
  rw [outsAt0_B m c t h h]
  frame_out

/-- The first two result arrays after the run. -/
theorem arr6 (i : Fin 8192) (l : Fin 256) : (show Vec Ideal S8192x256 .bf16 from (dats m 0 c).arrAt 6 cfg0.N) (ix2 i l) = dX 0x43800000#32 (fun k => aQ m c (ix2 i k)) (fun k => gQ m c (ix1 k)) (fun k => dQ m c (ix2 i k)) l := by
  have key := (dats m 0 c).arrAt_forall_of_covers 6 (fun x w => ∀ (i : Fin 8192) (l : Fin 256), (show S8192x256.Idx from x) = ix2 i l →
    (show EReal from w) = dX 0x43800000#32 (fun k => aQ m c (ix2 i k)) (fun k => gQ m c (ix1 k)) (fun k => dQ m c (ix2 i k)) l) (by decide +kernel) (fun t hf y => ?_) (ix2 i l)
  · exact key i l rfl
  intro i l hx
  have h0 := congrArg (fun x : S8192x256.Idx => (x 0).val) hx
  have h1 := congrArg (fun x : S8192x256.Idx => (x 1).val) hx
  blk_simp [idx t] at h0 h1
  blk_simp
  rw [after0_6, outs6]
  idx_vars y
  have ei : i = row t y0 := Fin.ext (by simp only [row]; simp at h0; omega)
  have el : l = y1 := Fin.ext (by simp at h1; omega)
  rw [ei, el]
  refine (pay_q _ _ _ _ _).trans ?_
  simp only [b0, b2, b4]
theorem arr7 (i : Fin 8192) (l : Fin 128) : (show Vec Ideal S8192x128 .bf16 from (dats m 0 c).arrAt 7 cfg0.N) (ix2 i l) = dX 0x43000000#32 (fun k => aK m c (ix2 i k)) (fun k => gK m c (ix1 k)) (fun k => dK m c (ix2 i k)) l := by
  have key := (dats m 0 c).arrAt_forall_of_covers 7 (fun x w => ∀ (i : Fin 8192) (l : Fin 128), (show S8192x128.Idx from x) = ix2 i l →
    (show EReal from w) = dX 0x43000000#32 (fun k => aK m c (ix2 i k)) (fun k => gK m c (ix1 k)) (fun k => dK m c (ix2 i k)) l) (by decide +kernel) (fun t hf y => ?_) (ix2 i l)
  · exact key i l rfl
  intro i l hx
  have h0 := congrArg (fun x : S8192x128.Idx => (x 0).val) hx
  have h1 := congrArg (fun x : S8192x128.Idx => (x 1).val) hx
  blk_simp [idx t] at h0 h1
  blk_simp
  rw [after0_7, outs7]
  idx_vars y
  have ei : i = row t y0 := Fin.ext (by simp only [row]; simp at h0; omega)
  have el : l = y1 := Fin.ext (by simp at h1; omega)
  rw [ei, el]
  refine (pay_k _ _ _ _ _).trans ?_
  simp only [b1, b3, b5]

/-- The rows of the array, block by block. -/
theorem rows_sum (f : Fin 8192 → EReal) : ∑ n : Fin 16, ∑ a : Fin 512, f (row n a) = ∑ i, f i := by
  rw [← Finset.sum_product']
  refine (Equiv.sum_comp (finProdFinEquiv (m := 16) (n := 512)) f).symm.trans ?_ |>.symm
  refine Finset.sum_congr rfl fun x _ => congrArg f (Fin.ext ?_)
  show x.2.val + 512 * x.1.val = x.1.val * 512 + x.2.val
  omega

/-- What a point adds to this gain's gradient. -/
def term8 (l : Fin 256) (n : ℕ) : EReal := if hn : n < cfg0.N then ∑ a : Fin 512, dW 0x43800000#32 (fun k => aQ m c (ix2 (row ⟨n, hn⟩ a) k)) (fun k => dQ m c (ix2 (row ⟨n, hn⟩ a) k)) l else 0

/-- The gain's gradient the last point leaves, as the sum of the points' terms. -/
theorem sum8 (l : Fin 256) (t : Fin cfg0.N) (ht : t.val % 16 = 15) :
    (outsAt0 m c t.val t.isLt).2.2.1 (ix2 0 l) = ∑ n ∈ Finset.range 16, term8 m c l (16 * (t.val / 16) + n) := by
  have := Pipeline.eq_sum_of_reset_step_apply_of_mod (N := cfg0.N) (ι := Unit) (M := EReal) (fun n hn _ => (outsAt0 m c n hn).2.2.1 (ix2 0 l)) 16 (fun _ => 0) (fun n _ => term8 m c l n)
    (fun t h0 _ => by
      show (outsAt0 m c t.val t.isLt).2.2.1 (ix2 0 l) = 0 + term8 m c l t.val
      rw [outs8_A m c t h0, pay_gq]
      unfold term8
      rw [dif_pos t.isLt]
      refine congrArg₂ (· + ·) (by pointwise [k0_pay1]) ?_
      simp only [b2, b4])
    (fun t h0 _ => by
      show (outsAt0 m c t.val t.isLt).2.2.1 (ix2 0 l) = (outsAt0 m c (t.val - 1) _).2.2.1 (ix2 0 l) + term8 m c l t.val
      rw [outs8_B m c t h0, pay_gq]
      unfold term8
      rw [dif_pos t.isLt]
      simp only [b2, b4])
    t ht ()
  exact this.trans (zero_add _)

/-- The result array of this gain's gradient after the run. -/
theorem arr8 (l : Fin 256) : (show Vec Ideal S1x256 .f32 from (dats m 0 c).arrAt 8 cfg0.N) (ix2 0 l) = ∑ i, dW 0x43800000#32 (fun k => aQ m c (ix2 (i) k)) (fun k => dQ m c (ix2 (i) k)) l := by
  have key := (dats m 0 c).arrAt_forall_of_covers 8 (fun x w => ∀ (l : Fin 256), (show S1x256.Idx from x) = ix2 0 l →
    (show EReal from w) = ∑ i, dW 0x43800000#32 (fun k => aQ m c (ix2 (i) k)) (fun k => dQ m c (ix2 (i) k)) l) (by decide +kernel) (fun t hf y => ?_) (ix2 0 l)
  · exact key l rfl
  intro l hx
  have h1 := congrArg (fun x : S1x256.Idx => (x 1).val) hx
  blk_simp [idx t] at h1
  blk_simp
  rw [after0_8]
  idx_vars y
  have hy : y0 = 0 := Fin.ext (by omega)
  have hl : y1 = l := Fin.ext (by simp at h1; omega)
  have ht := (flush0_8 t).mp hf
  have ht' : t.val = 15 := by have := t.isLt; have : cfg0.N = 16 := rfl; omega
  rw [hy, hl]
  refine (sum8 m c _ t (by omega)).trans ?_
  rw [ht', Finset.sum_range, ← rows_sum]
  refine Finset.sum_congr rfl fun n _ => ?_
  unfold term8
  have hn : 16 * (15 / 16) + n.val < cfg0.N := by rw [show cfg0.N = 16 from rfl]; omega
  rw [dif_pos hn]
  have e : (⟨16 * (15 / 16) + n.val, hn⟩ : Fin cfg0.N) = n := Fin.ext (by show 16 * (15 / 16) + n.val = n.val; omega)
  rw [e]

/-- What a point adds to this gain's gradient. -/
def term9 (l : Fin 128) (n : ℕ) : EReal := if hn : n < cfg0.N then ∑ a : Fin 512, dW 0x43000000#32 (fun k => aK m c (ix2 (row ⟨n, hn⟩ a) k)) (fun k => dK m c (ix2 (row ⟨n, hn⟩ a) k)) l else 0

/-- The gain's gradient the last point leaves, as the sum of the points' terms. -/
theorem sum9 (l : Fin 128) (t : Fin cfg0.N) (ht : t.val % 16 = 15) :
    (outsAt0 m c t.val t.isLt).2.2.2 (ix2 0 l) = ∑ n ∈ Finset.range 16, term9 m c l (16 * (t.val / 16) + n) := by
  have := Pipeline.eq_sum_of_reset_step_apply_of_mod (N := cfg0.N) (ι := Unit) (M := EReal) (fun n hn _ => (outsAt0 m c n hn).2.2.2 (ix2 0 l)) 16 (fun _ => 0) (fun n _ => term9 m c l n)
    (fun t h0 _ => by
      show (outsAt0 m c t.val t.isLt).2.2.2 (ix2 0 l) = 0 + term9 m c l t.val
      rw [outs9_A m c t h0, pay_gk]
      unfold term9
      rw [dif_pos t.isLt]
      refine congrArg₂ (· + ·) (by pointwise [k0_pay3]) ?_
      simp only [b3, b5])
    (fun t h0 _ => by
      show (outsAt0 m c t.val t.isLt).2.2.2 (ix2 0 l) = (outsAt0 m c (t.val - 1) _).2.2.2 (ix2 0 l) + term9 m c l t.val
      rw [outs9_B m c t h0, pay_gk]
      unfold term9
      rw [dif_pos t.isLt]
      simp only [b3, b5])
    t ht ()
  exact this.trans (zero_add _)

/-- The result array of this gain's gradient after the run. -/
theorem arr9 (l : Fin 128) : (show Vec Ideal S1x128 .f32 from (dats m 0 c).arrAt 9 cfg0.N) (ix2 0 l) = ∑ i, dW 0x43000000#32 (fun k => aK m c (ix2 (i) k)) (fun k => dK m c (ix2 (i) k)) l := by
  have key := (dats m 0 c).arrAt_forall_of_covers 9 (fun x w => ∀ (l : Fin 128), (show S1x128.Idx from x) = ix2 0 l →
    (show EReal from w) = ∑ i, dW 0x43000000#32 (fun k => aK m c (ix2 (i) k)) (fun k => dK m c (ix2 (i) k)) l) (by decide +kernel) (fun t hf y => ?_) (ix2 0 l)
  · exact key l rfl
  intro l hx
  have h1 := congrArg (fun x : S1x128.Idx => (x 1).val) hx
  blk_simp [idx t] at h1
  blk_simp
  rw [after0_9]
  idx_vars y
  have hy : y0 = 0 := Fin.ext (by omega)
  have hl : y1 = l := Fin.ext (by simp at h1; omega)
  have ht := (flush0_9 t).mp hf
  have ht' : t.val = 15 := by have := t.isLt; have : cfg0.N = 16 := rfl; omega
  rw [hy, hl]
  refine (sum9 m c _ t (by omega)).trans ?_
  rw [ht', Finset.sum_range, ← rows_sum]
  refine Finset.sum_congr rfl fun n _ => ?_
  unfold term9
  have hn : 16 * (15 / 16) + n.val < cfg0.N := by rw [show cfg0.N = 16 from rfl]; omega
  rw [dif_pos hn]
  have e : (⟨16 * (15 / 16) + n.val, hn⟩ : Fin cfg0.N) = n := Fin.ext (by show 16 * (15 / 16) + n.val = n.val; omega)
  rw [e]

/-- The kernel's run: its four results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v7_0) = (dats m 0 c).arrAt 6 cfg0.N
      ∧ r.2.mem ((c.tc : Thread nD τ).loc main_v7_1) = (dats m 0 c).arrAt 7 cfg0.N
      ∧ r.2.mem ((c.tc : Thread nD τ).loc main_v7_2) = (dats m 0 c).arrAt 8 cfg0.N
      ∧ r.2.mem ((c.tc : Thread nD τ).loc main_v7_3) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 6, (h.1 c).1 7, (h.1 c).1 8, (h.1 c).1 9, h.2.1 c⟩)
    (θ_run_and (run_main m ρ) (frame m ρ))

/-- Kernel and reference end with the same four gradients. -/
theorem algebraic : Cert.algebraic_Kernel10Ideal_Reference10Ideal := by
  pair_intro
  · run_from run_values m g
  · run_from Cert.Reference10Ideal.Value.run m' g'
    · funext j
      idx_vars j
      refine Eq.trans ?_ (arr6 m c j0 j1).symm
      pointwise [dX, back, ms, Cert.Reference10Ideal.Value.res_main_v76]
      simp only [Fin.sum_univ_one, (hagree c).1, (hagree c).2.1, (hagree c).2.2.1, (hagree c).2.2.2.1, (hagree c).2.2.2.2.1, (hagree c).2.2.2.2.2]
    · funext j
      idx_vars j
      refine Eq.trans ?_ (arr7 m c j0 j1).symm
      pointwise [dX, back, ms, Cert.Reference10Ideal.Value.res_main_v77]
      simp only [Fin.sum_univ_one, (hagree c).1, (hagree c).2.1, (hagree c).2.2.1, (hagree c).2.2.2.1, (hagree c).2.2.2.2.1, (hagree c).2.2.2.2.2]
    · funext j
      idx_vars j
      obtain rfl : j0 = 0 := Fin.ext (by omega)
      refine Eq.trans ?_ (arr8 m c j1).symm
      pointwise [dW, ms]
      simp only [Fin.sum_univ_one]
    · funext j
      idx_vars j
      obtain rfl : j0 = 0 := Fin.ext (by omega)
      refine Eq.trans ?_ (arr9 m c j1).symm
      pointwise [dW, ms]
      simp only [Fin.sum_univ_one]

end Cert.Kernel10Ideal.Lat

end
-- ==== Proof.DH2.lean ====
module

public import proofs.«01_k».proof.Proof.Gen.Kernel11Ideal.Frame
public import proofs.«01_k».proof.Proof.Gen.Reference11Ideal.Run
public import Idealize.ShloMosaic.Lib.Pipeline.ValueKit
public import Idealize.ShloMosaic.Lib.StableHlo.RunRead
public import Idealize.ShloMosaic.Lib.Claim
public import proofs.«01_k».proof.Defs

public import proofs.«01_k».proof.Proof.LatNorm

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel11Ideal.Dh

open Cert.Kernel11Ideal Cert.Kernel11Ideal.Gen
open Cert.Kernel10Ideal.Lat (ms back dX dW)

variable (m : (ℓ : Loc nD τ sig) → Buf (Elt Ideal) ℓ) (c : Dev nD)

/-- The gradient of the gated units, their weights, the norm's input, the residual's gradient and the gain: the arguments. -/
abbrev aU : FVec Ideal S8192x5632 .bf16 := m ((c.tc : Thread nD τ).loc main_arg0)
abbrev aW : FVec Ideal S1024x5632 .bf16 := m ((c.tc : Thread nD τ).loc main_arg1)
abbrev aX : FVec Ideal S8192x1024 .f32 := m ((c.tc : Thread nD τ).loc main_arg2)
abbrev aY : FVec Ideal S8192x1024 .f32 := m ((c.tc : Thread nD τ).loc main_arg3)
abbrev aG : FVec Ideal S1024 .f32 := m ((c.tc : Thread nD τ).loc main_arg4)

/-- The norm's cotangent: the product with the transposed weights. -/
def ct (U : FVec Ideal S8192x5632 .bf16) (W : FVec Ideal S1024x5632 .bf16) (i : Fin 8192) (l : Fin 1024) : EReal := ∑ k, (U (ix2 i k) : EReal) * W (ix2 l k)

/-- A column of the product in the grid's fourth that holds it. -/
def col (n : Fin 4) (k : Fin 1408) : Fin 5632 := ⟨n.val * 1408 + k.val, by omega⟩

/-- The product, a fourth at a time. -/
theorem cols_sum (f : Fin 5632 → EReal) : ∑ n : Fin 4, ∑ k : Fin 1408, f (col n k) = ∑ i, f i := by
  rw [← Finset.sum_product']
  exact Finset.sum_equiv finProdFinEquiv (fun _ => by simp) (fun x _ => congrArg f (Fin.ext (by show x.1.val * 1408 + x.2.val = x.2.val + 1408 * x.1.val; omega)))

/-- What a point adds to the carried product. -/
theorem pay_acc (u : Vec Ideal S512x1408 .bf16) (y : Vec Ideal S512x1024 .f32) (w : Vec Ideal S1024x1408 .bf16) (a : Fin 512) (l : Fin 1024) :
    k0_pay2 u y w (ix2 a l) = y (ix2 a l) + ∑ k : Fin 1408, (u (ix2 a k) : EReal) * w (ix2 l k) := by
  pointwise [k0_pay2]

/-- The payload stored into the first result's block. -/
theorem pay_x (d x y : Vec Ideal S512x1024 .f32) (g : Vec Ideal S1x1024 .f32) (a : Fin 512) (l : Fin 1024) :
    k0_pay8 d x y g (ix2 a l) = dX 0x44800000#32 (fun k => x (ix2 a k)) (fun k => g (ix2 0 k)) (fun k => d (ix2 a k)) l + y (ix2 a l) := by
  pointwise [k0_pay5, k0_pay6, k0_pay8, dX, back, ms]
  simp only [Fin.sum_univ_one]

/-- The payload stored into the second result's block: the same. -/
theorem pay_b (d x y : Vec Ideal S512x1024 .f32) (g : Vec Ideal S1x1024 .f32) (a : Fin 512) (l : Fin 1024) :
    (k0_pay9 d x y g (ix2 a l) : EReal) = dX 0x44800000#32 (fun k => x (ix2 a k)) (fun k => g (ix2 0 k)) (fun k => d (ix2 a k)) l + y (ix2 a l) := by
  rw [← pay_x]
  rfl

/-- The payload added into the third result's block. -/
theorem pay_g (d x : Vec Ideal S512x1024 .f32) (y : Vec Ideal S1x1024 .f32) (l : Fin 1024) :
    k0_pay4 (k0_pay7 d x) y (ix2 0 l) = y (ix2 0 l) + ∑ a : Fin 512, dW 0x44800000#32 (fun k => x (ix2 a k)) (fun k => d (ix2 a k)) l := by
  pointwise [k0_pay4, k0_pay5, k0_pay6, k0_pay7, dW, ms]

/-- The region finds the gain in a row. -/
theorem V_g : Gen.V m c main_v0 = shapeCast S1x1024 (aG m c) shapeCasts_S1024_S1x1024 := by
  unfold_abbrev_sides
  after_reads_simp
  rfl

/-- Every window's block index: rows of 512 in turn, and within them the product's columns in fourths. -/
theorem idx : ∀ t : Fin cfg0.N, win0_0.index t = ![t.val / 4, t.val % 4] ∧ win0_1.index t = ![0, t.val % 4] ∧ win0_2.index t = ![t.val / 4, 0] ∧ win0_3.index t = ![t.val / 4, 0]
    ∧ win0_4.index t = ![0, 0] ∧ win0_5.index t = ![t.val / 4, 0] ∧ win0_6.index t = ![t.val / 4, 0] ∧ win0_7.index t = ![0, 0] :=
  (by decide +kernel : ∀ t : Fin grid0.N, _)

theorem lt64 (t : Fin cfg0.N) : t.val < 64 := lt_of_lt_of_eq t.isLt N_0

/-- The array's row of a block's row, and its column of a block's column, at a grid point. -/
def row (n : Fin 16) (a : Fin 512) : Fin 8192 := ⟨n.val * 512 + a, by omega⟩
def rb (t : Fin cfg0.N) : Fin 16 := ⟨t.val / 4, by have := lt64 t; omega⟩
def kb (t : Fin cfg0.N) : Fin 4 := ⟨t.val % 4, by omega⟩

/-- The blocks, entry by entry. -/
theorem b0 (t : Fin cfg0.N) (a : Fin 512) (k : Fin 1408) : (iblk m c 0 t : Vec Ideal S512x1408 .bf16) (ix2 a k) = aU m c (ix2 (row (rb t) a) (col (kb t) k)) := by
  blk_ext [iblk, idx t] <;> simp only [row, rb, kb, col] <;> omega
theorem b1 (t : Fin cfg0.N) (l : Fin 1024) (k : Fin 1408) : (iblk m c 1 t : Vec Ideal S1024x1408 .bf16) (ix2 l k) = aW m c (ix2 l (col (kb t) k)) := by
  blk_ext [iblk, idx t] <;> simp only [row, rb, kb, col] <;> omega
theorem b2 (t : Fin cfg0.N) (a : Fin 512) (l : Fin 1024) : (iblk m c 2 t : Vec Ideal S512x1024 .f32) (ix2 a l) = aX m c (ix2 (row (rb t) a) l) := by
  blk_ext [iblk, idx t] <;> simp only [row, rb, kb, col] <;> omega
theorem b3 (t : Fin cfg0.N) (a : Fin 512) (l : Fin 1024) : (iblk m c 3 t : Vec Ideal S512x1024 .f32) (ix2 a l) = aY m c (ix2 (row (rb t) a) l) := by
  blk_ext [iblk, idx t] <;> simp only [row, rb, kb, col] <;> omega
theorem b4 (t : Fin cfg0.N) (l : Fin 1024) : (iblk m c 4 t : Vec Ideal S1x1024 .f32) (ix2 0 l) = aG m c (ix1 l) := by
  refine Eq.trans (b := (shapeCast S1x1024 (aG m c) shapeCasts_S1024_S1x1024 : FVec Ideal S1x1024 .f32) (ix2 0 l)) ?_ (by pointwise [])
  rw [← V_g]
  blk_ext [iblk, idx t]

/-- The carried product after a point, and the point before's. -/
abbrev acc (n : ℕ) (h : n < cfg0.N) : Vec Ideal S512x1024 .f32 := (outsAt0 m c n h).2.2.2

/-- The scratch read back. -/
theorem read_scratch (h : (Memref.whole cc0_scratch0).IsWhole) (X : Vec Ideal S512x1024 .f32) : View.read (Elt Ideal) (View.whole cc0_scratch0) (h.unread X) = X := h.read_unread X

/-- A fourth's first point starts the carried product; a later one adds to it. -/
theorem acc_A (t : Fin cfg0.N) (h : t.val % 4 = 0) : acc m c t.val t.isLt = k0_pay2 (iblk m c 0 t) (k0_pay1 (F := Ideal)) (iblk m c 1 t) := by
  unfold acc
  rw [outsAt0_A m c t h (by omega)]
  frame_out
theorem acc_B (t : Fin cfg0.N) (h : ¬t.val % 4 = 0) : acc m c t.val t.isLt = k0_pay2 (iblk m c 0 t) (acc m c (t.val - 1) (by omega)) (iblk m c 1 t) := by
  unfold acc
  by_cases h1 : t.val % 4 = 3
  · by_cases h2 : t.val < 4
    · rw [outsAt0_C m c t h h1 h2]
      frame_out
      rw [read_scratch]
    · rw [outsAt0_D m c t h h1 h2]
      frame_out
      rw [read_scratch]
  · rw [outsAt0_B m c t h h1]
    frame_out
    rw [read_scratch]

/-- What a row's last point leaves in the first two results' blocks. -/
theorem outs5 (t : Fin cfg0.N) (h : t.val % 4 = 3) : (outsAt0 m c t.val t.isLt).1 = k0_pay8 (acc m c t.val t.isLt) (iblk m c 2 t) (iblk m c 3 t) (iblk m c 4 t) := by
  rw [acc_B m c t (by omega)]
  by_cases h2 : t.val < 4
  · rw [outsAt0_C m c t (by omega) h h2]
    frame_out
    rw [read_scratch]
  · rw [outsAt0_D m c t (by omega) h h2]
    frame_out
    rw [read_scratch]
theorem outs6 (t : Fin cfg0.N) (h : t.val % 4 = 3) : (outsAt0 m c t.val t.isLt).2.1 = k0_pay9 (acc m c t.val t.isLt) (iblk m c 2 t) (iblk m c 3 t) (iblk m c 4 t) := by
  rw [acc_B m c t (by omega)]
  by_cases h2 : t.val < 4
  · rw [outsAt0_C m c t (by omega) h h2]
    frame_out
    rw [read_scratch]
  · rw [outsAt0_D m c t (by omega) h h2]
    frame_out
    rw [read_scratch]

/-- The gain's gradient: started by the first row block's last point, added to by the others', kept by every other point. -/
theorem outs7_C (t : Fin cfg0.N) (h : t.val % 4 = 3) (h2 : t.val < 4) : (outsAt0 m c t.val t.isLt).2.2.1 = k0_pay4 (k0_pay7 (acc m c t.val t.isLt) (iblk m c 2 t)) (k0_pay3 (F := Ideal)) := by
  rw [acc_B m c t (by omega)]
  rw [outsAt0_C m c t (by omega) h h2]
  frame_out
  rw [read_scratch]
theorem outs7_D (t : Fin cfg0.N) (h : t.val % 4 = 3) (h2 : ¬t.val < 4) : (outsAt0 m c t.val t.isLt).2.2.1 = k0_pay4 (k0_pay7 (acc m c t.val t.isLt) (iblk m c 2 t))
    (outsAt0 m c (t.val - 1) (by omega)).2.2.1 := by
  rw [acc_B m c t (by omega)]
  rw [outsAt0_D m c t (by omega) h h2]
  frame_out
  rw [read_scratch]
theorem outs7_B (t : Fin cfg0.N) (h : ¬t.val % 4 = 3) (h0 : t.val ≠ 0) : (outsAt0 m c t.val t.isLt).2.2.1 = (outsAt0 m c (t.val - 1) (by omega)).2.2.1 := by
  by_cases h1 : t.val % 4 = 0
  · rw [outsAt0_A m c t h1 h]
    rfl
  · rw [outsAt0_B m c t h1 h]
    rfl

/-- What a point adds to the carried product's entry. -/
def termA (a : Fin 512) (l : Fin 1024) (n : ℕ) : EReal :=
  if hn : n < cfg0.N then ∑ k : Fin 1408, (aU m c (ix2 (row (rb ⟨n, hn⟩) a) (col (kb ⟨n, hn⟩) k)) : EReal) * aW m c (ix2 l (col (kb ⟨n, hn⟩) k)) else 0

/-- The carried product at a row block's last point: the whole product. -/
theorem acc_last (t : Fin cfg0.N) (ht : t.val % 4 = 3) (a : Fin 512) (l : Fin 1024) : acc m c t.val t.isLt (ix2 a l) = ct (aU m c) (aW m c) (row (rb t) a) l := by
  have := Pipeline.eq_sum_of_reset_step_apply_of_mod (N := cfg0.N) (ι := Unit) (M := EReal) (fun n hn _ => acc m c n hn (ix2 a l)) 4 (fun _ => 0) (fun n _ => termA m c a l n)
    (fun t h0 _ => by
      show acc m c t.val t.isLt (ix2 a l) = 0 + termA m c a l t.val
      rw [acc_A m c t h0, pay_acc]
      unfold termA
      rw [dif_pos t.isLt]
      refine congrArg₂ (· + ·) (by pointwise [k0_pay1]) ?_
      simp only [b0, b1])
    (fun t h0 _ => by
      show acc m c t.val t.isLt (ix2 a l) = acc m c (t.val - 1) _ (ix2 a l) + termA m c a l t.val
      rw [acc_B m c t h0, pay_acc]
      unfold termA
      rw [dif_pos t.isLt]
      simp only [b0, b1])
    t ht ()
  refine (this.trans (zero_add _)).trans ?_
  unfold ct
  rw [Finset.sum_range, ← cols_sum]
  refine Finset.sum_congr rfl fun n _ => ?_
  have hN : cfg0.N = 64 := N_0
  have hn : 4 * (t.val / 4) + n.val < cfg0.N := by have := lt64 t; omega
  unfold termA
  rw [dif_pos hn]
  have e1 : rb ⟨4 * (t.val / 4) + n.val, hn⟩ = rb t := Fin.ext (by simp only [rb]; omega)
  have e2 : kb ⟨4 * (t.val / 4) + n.val, hn⟩ = n := Fin.ext (by simp only [kb]; omega)
  rw [e1, e2]

/-- The gradient the first two results hold. -/
def gX (i : Fin 8192) (l : Fin 1024) : EReal :=
  dX 0x44800000#32 (fun k => aX m c (ix2 i k)) (fun k => aG m c (ix1 k)) (fun k => ct (aU m c) (aW m c) i k) l + aY m c (ix2 i l)

/-- The first two result arrays after the run. -/
theorem arr5 (i : Fin 8192) (l : Fin 1024) : (show Vec Ideal S8192x1024 .f32 from (dats m 0 c).arrAt 5 cfg0.N) (ix2 i l) = gX m c i l := by
  have key := (dats m 0 c).arrAt_forall_of_covers 5 (fun x w => ∀ (i : Fin 8192) (l : Fin 1024), (show S8192x1024.Idx from x) = ix2 i l →
    (show EReal from w) = gX m c i l) (by decide +kernel) (fun t hf y => ?_) (ix2 i l)
  · exact key i l rfl
  intro i l hx
  have h0 := congrArg (fun x : S8192x1024.Idx => (x 0).val) hx
  have h1 := congrArg (fun x : S8192x1024.Idx => (x 1).val) hx
  have ht := (flush0_5 t).mp hf
  blk_simp [idx t] at h0 h1
  blk_simp
  rw [after0_5, outs5 m c t ht]
  idx_vars y
  have ei : i = row (rb t) y0 := Fin.ext (by simp only [row, rb]; simp at h0; omega)
  have el : l = y1 := Fin.ext (by simp at h1; omega)
  rw [ei, el]
  refine (pay_x _ _ _ _ _ _).trans ?_
  simp only [b2, b3, b4, acc_last m c t ht]
  rfl
theorem arr6 (i : Fin 8192) (l : Fin 1024) : (show Vec Ideal S8192x1024 .bf16 from (dats m 0 c).arrAt 6 cfg0.N) (ix2 i l) = gX m c i l := by
  have key := (dats m 0 c).arrAt_forall_of_covers 6 (fun x w => ∀ (i : Fin 8192) (l : Fin 1024), (show S8192x1024.Idx from x) = ix2 i l →
    (show EReal from w) = gX m c i l) (by decide +kernel) (fun t hf y => ?_) (ix2 i l)
  · exact key i l rfl
  intro i l hx
  have h0 := congrArg (fun x : S8192x1024.Idx => (x 0).val) hx
  have h1 := congrArg (fun x : S8192x1024.Idx => (x 1).val) hx
  have ht := (flush0_6 t).mp hf
  blk_simp [idx t] at h0 h1
  blk_simp
  rw [after0_6, outs6 m c t ht]
  idx_vars y
  have ei : i = row (rb t) y0 := Fin.ext (by simp only [row, rb]; simp at h0; omega)
  have el : l = y1 := Fin.ext (by simp at h1; omega)
  rw [ei, el]
  refine (pay_b _ _ _ _ _ _).trans ?_
  simp only [b2, b3, b4, acc_last m c t ht]
  rfl

/-- What a row block adds to the gain's gradient. -/
def termG (l : Fin 1024) (n : Fin 16) : EReal :=
  ∑ a : Fin 512, dW 0x44800000#32 (fun k => aX m c (ix2 (row n a) k)) (fun k => ct (aU m c) (aW m c) (row n a) k) l

/-- The gain's gradient after a row block's last point: the sum of the row blocks so far. -/
theorem sum7 (l : Fin 1024) (b : ℕ) : ∀ t : Fin cfg0.N, t.val = 4 * b + 3 → (outsAt0 m c t.val t.isLt).2.2.1 (ix2 0 l)
    = ∑ n ∈ Finset.range (b + 1), if hn : n < 16 then termG m c l ⟨n, hn⟩ else 0 := by
  induction b with
  | zero =>
    intro t ht
    have hz : (k0_pay3 (F := Ideal)) (ix2 0 l) = (0 : EReal) := by pointwise [k0_pay3]
    have er : rb t = ⟨0, by omega⟩ := Fin.ext (by simp only [rb]; omega)
    rw [outs7_C m c t (by omega) (by omega), pay_g, Finset.sum_range_one, dif_pos (by omega), hz, zero_add]
    simp only [b2, acc_last m c t (show t.val % 4 = 3 by omega), er]
    rfl
  | succ b ih =>
    intro t ht
    have hN := lt64 t
    have e2 : (outsAt0 m c (t.val - 1) (by omega)).2.2.1 = (outsAt0 m c (t.val - 1 - 1) (by omega)).2.2.1 := outs7_B m c ⟨t.val - 1, by omega⟩ (by simp only; omega) (by simp only; omega)
    have e1 : (outsAt0 m c (t.val - 1 - 1) (by omega)).2.2.1 = (outsAt0 m c (t.val - 1 - 1 - 1) (by omega)).2.2.1 := outs7_B m c ⟨t.val - 1 - 1, by omega⟩ (by simp only; omega) (by simp only; omega)
    have e0 : (outsAt0 m c (t.val - 1 - 1 - 1) (by omega)).2.2.1 = (outsAt0 m c (t.val - 1 - 1 - 1 - 1) (by omega)).2.2.1 := outs7_B m c ⟨t.val - 1 - 1 - 1, by omega⟩ (by simp only; omega) (by simp only; omega)
    have ei : (outsAt0 m c (t.val - 1 - 1 - 1 - 1) (by omega)).2.2.1 (ix2 0 l) = _ := ih ⟨t.val - 1 - 1 - 1 - 1, by omega⟩ (by simp only; omega)
    have er : rb t = ⟨b + 1, by omega⟩ := Fin.ext (by simp only [rb]; omega)
    rw [outs7_D m c t (by omega) (by omega), pay_g, e2, e1, e0, ei, Finset.sum_range_succ (n := b + 1), dif_pos (show b + 1 < 16 by omega)]
    simp only [b2, acc_last m c t (show t.val % 4 = 3 by omega), er]
    rfl

/-- The rows, a block at a time. -/
theorem rows_sum (f : Fin 8192 → EReal) : ∑ n : Fin 16, ∑ a : Fin 512, f (row n a) = ∑ i, f i := by
  rw [← Finset.sum_product']
  exact Finset.sum_equiv finProdFinEquiv (fun _ => by simp) (fun x _ => congrArg f (Fin.ext (by show x.1.val * 512 + x.2.val = x.2.val + 512 * x.1.val; omega)))

/-- The result array of the gain's gradient after the run. -/
theorem arr7 (l : Fin 1024) : (show Vec Ideal S1x1024 .f32 from (dats m 0 c).arrAt 7 cfg0.N) (ix2 0 l)
    = ∑ i, dW 0x44800000#32 (fun k => aX m c (ix2 i k)) (fun k => ct (aU m c) (aW m c) i k) l := by
  have key := (dats m 0 c).arrAt_forall_of_covers 7 (fun x w => ∀ (l : Fin 1024), (show S1x1024.Idx from x) = ix2 0 l →
    (show EReal from w) = ∑ i, dW 0x44800000#32 (fun k => aX m c (ix2 i k)) (fun k => ct (aU m c) (aW m c) i k) l) (by decide +kernel) (fun t hf y => ?_) (ix2 0 l)
  · exact key l rfl
  intro l hx
  have h1 := congrArg (fun x : S1x1024.Idx => (x 1).val) hx
  blk_simp [idx t] at h1
  blk_simp
  rw [after0_7]
  idx_vars y
  have hy : y0 = 0 := Fin.ext (by omega)
  have hl : y1 = l := Fin.ext (by simp at h1; omega)
  have ht := (flush0_7 t).mp hf
  have ht' : t.val = 4 * 15 + 3 := by have := lt64 t; omega
  rw [hy, hl]
  refine (sum7 m c l 15 t ht').trans ?_
  rw [Finset.sum_range, ← rows_sum]
  refine Finset.sum_congr rfl fun n _ => ?_
  rw [dif_pos n.isLt]
  rfl

/-- The kernel's run: its three results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v1_0) = (dats m 0 c).arrAt 5 cfg0.N
      ∧ r.2.mem ((c.tc : Thread nD τ).loc main_v1_1) = (dats m 0 c).arrAt 6 cfg0.N
      ∧ r.2.mem ((c.tc : Thread nD τ).loc main_v1_2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, h.2.1 c⟩)
    (θ_run_and (run_main m ρ) (frame m ρ))

/-- The residual's gradient first. -/
theorem gX_eq (i : Fin 8192) (l : Fin 1024) : gX m c i l = aY m c (ix2 i l) + ct (aU m c) (aW m c) i l * aG m c (ix1 l) * Ideal.rsqrt (ms 0x44800000#32 (fun k => aX m c (ix2 i k)))
    + aX m c (ix2 i l) * back 0x44800000#32 (fun k => aX m c (ix2 i k)) (fun k => ct (aU m c) (aW m c) i k * aG m c (ix1 k))
    + back 0x44800000#32 (fun k => aX m c (ix2 i k)) (fun k => ct (aU m c) (aW m c) i k * aG m c (ix1 k)) * aX m c (ix2 i l) := by
  unfold gX dX
  rw [add_comm, ← add_assoc, ← add_assoc]

/-- Kernel and reference end with the same gradient, twice, and the same gain's gradient. -/
theorem algebraic : Cert.algebraic_Kernel11Ideal_Reference11Ideal := by
  pair_intro
  · run_from run_values m g
  · run_from Cert.Reference11Ideal.Value.run m' g'
    · funext j
      idx_vars j
      refine Eq.trans ?_ (arr5 m c j0 j1).symm
      rw [gX_eq]
      pointwise [ct, back, ms, Cert.Reference11Ideal.Value.res_main_v40]
      simp only [Fin.sum_univ_one, (hagree c).1, (hagree c).2.1, (hagree c).2.2.1, (hagree c).2.2.2.1, (hagree c).2.2.2.2]
    · funext j
      idx_vars j
      refine Eq.trans ?_ (arr6 m c j0 j1).symm
      rw [gX_eq]
      pointwise [ct, back, ms, Cert.Reference11Ideal.Value.res_main_v41]
      simp only [Fin.sum_univ_one, (hagree c).1, (hagree c).2.1, (hagree c).2.2.1, (hagree c).2.2.2.1, (hagree c).2.2.2.2]
    · funext j
      idx_vars j
      obtain rfl : j0 = 0 := Fin.ext (by omega)
      refine Eq.trans ?_ (arr7 m c j1).symm
      pointwise [ct, dW, ms]
      simp only [Fin.sum_univ_one]

end Cert.Kernel11Ideal.Dh

end
-- ==== Proof.Din.lean ====
module

public import proofs.«01_k».proof.Proof.Gen.Kernel12Ideal.Frame
public import proofs.«01_k».proof.Proof.Gen.Reference12Ideal.Run
public import Idealize.ShloMosaic.Lib.Pipeline.ValueKit
public import Idealize.ShloMosaic.Lib.StableHlo.RunRead
public import Idealize.ShloMosaic.Lib.Claim
public import proofs.«01_k».proof.Defs

public import proofs.«01_k».proof.Proof.LatNorm

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel12Ideal.Din

open Cert.Kernel12Ideal Cert.Kernel12Ideal.Gen
open Cert.Kernel10Ideal.Lat (ms back dX dW)

variable (m : (ℓ : Loc nD τ sig) → Buf (Elt Ideal) ℓ) (c : Dev nD)

/-- The gradient of the projection, its weights, the norm's input, the residual's gradient and the gain: the arguments. -/
abbrev aU : FVec Ideal S8192x5536 .bf16 := m ((c.tc : Thread nD τ).loc main_arg0)
abbrev aW : FVec Ideal S1024x5536 .bf16 := m ((c.tc : Thread nD τ).loc main_arg1)
abbrev aX : FVec Ideal S8192x1024 .f32 := m ((c.tc : Thread nD τ).loc main_arg2)
abbrev aY : FVec Ideal S8192x1024 .f32 := m ((c.tc : Thread nD τ).loc main_arg3)
abbrev aG : FVec Ideal S1024 .f32 := m ((c.tc : Thread nD τ).loc main_arg4)

/-- The norm's cotangent: the product with the transposed weights. -/
def ct (U : FVec Ideal S8192x5536 .bf16) (W : FVec Ideal S1024x5536 .bf16) (i : Fin 8192) (l : Fin 1024) : EReal := ∑ k, (U (ix2 i k) : EReal) * W (ix2 l k)

/-- The column of the argument that stands at a column of the version's order (5536: none), and back. -/
def src (k : ℕ) : ℕ :=
  if k < 2048 then k - 0 + 3488 else if k < 3072 then k - 2048 + 1440 else if k < 4096 then k - 3072 + 2464 else if k < 4608 then k - 4096 + 416 else if k < 5120 then k - 4608 + 928 else if k < 5376 then k - 5120 + 0 else if k < 5504 then k - 5376 + 256 else if k < 5568 then 5536 else if k < 5600 then k - 5568 + 384 else 5536
def dst (k : ℕ) : ℕ :=
  if k < 256 then k - 0 + 5120 else if k < 384 then k - 256 + 5376 else if k < 416 then k - 384 + 5568 else if k < 928 then k - 416 + 4096 else if k < 1440 then k - 928 + 4608 else if k < 2464 then k - 1440 + 2048 else if k < 3488 then k - 2464 + 3072 else k - 3488 + 0

/-- The two, segment by segment. -/
theorem src_0 (k : ℕ) (h : 0 ≤ k) (h' : k < 2048) : src k = k - 0 + 3488 := by
  unfold src
  rw [if_pos (by omega)]
theorem src_1 (k : ℕ) (h : 2048 ≤ k) (h' : k < 3072) : src k = k - 2048 + 1440 := by
  unfold src
  rw [if_neg (by omega), if_pos (by omega)]
theorem src_2 (k : ℕ) (h : 3072 ≤ k) (h' : k < 4096) : src k = k - 3072 + 2464 := by
  unfold src
  rw [if_neg (by omega), if_neg (by omega), if_pos (by omega)]
theorem src_3 (k : ℕ) (h : 4096 ≤ k) (h' : k < 4608) : src k = k - 4096 + 416 := by
  unfold src
  rw [if_neg (by omega), if_neg (by omega), if_neg (by omega), if_pos (by omega)]
theorem src_4 (k : ℕ) (h : 4608 ≤ k) (h' : k < 5120) : src k = k - 4608 + 928 := by
  unfold src
  rw [if_neg (by omega), if_neg (by omega), if_neg (by omega), if_neg (by omega), if_pos (by omega)]
theorem src_5 (k : ℕ) (h : 5120 ≤ k) (h' : k < 5376) : src k = k - 5120 + 0 := by
  unfold src
  rw [if_neg (by omega), if_neg (by omega), if_neg (by omega), if_neg (by omega), if_neg (by omega), if_pos (by omega)]
theorem src_6 (k : ℕ) (h : 5376 ≤ k) (h' : k < 5504) : src k = k - 5376 + 256 := by
  unfold src
  rw [if_neg (by omega), if_neg (by omega), if_neg (by omega), if_neg (by omega), if_neg (by omega), if_neg (by omega), if_pos (by omega)]
theorem src_7 (k : ℕ) (h : 5504 ≤ k) (h' : k < 5568) : src k = 5536 := by
  unfold src
  rw [if_neg (by omega), if_neg (by omega), if_neg (by omega), if_neg (by omega), if_neg (by omega), if_neg (by omega), if_neg (by omega), if_pos (by omega)]
theorem src_8 (k : ℕ) (h : 5568 ≤ k) (h' : k < 5600) : src k = k - 5568 + 384 := by
  unfold src
  rw [if_neg (by omega), if_neg (by omega), if_neg (by omega), if_neg (by omega), if_neg (by omega), if_neg (by omega), if_neg (by omega), if_neg (by omega), if_pos (by omega)]
theorem src_9 (k : ℕ) (h : 5600 ≤ k) (h' : k < 5632) : src k = 5536 := by
  unfold src
  rw [if_neg (by omega), if_neg (by omega), if_neg (by omega), if_neg (by omega), if_neg (by omega), if_neg (by omega), if_neg (by omega), if_neg (by omega), if_neg (by omega)]
theorem dst_5 (k : ℕ) (h : 0 ≤ k) (h' : k < 256) : dst k = k - 0 + 5120 := by
  unfold dst
  rw [if_pos (by omega)]
theorem dst_6 (k : ℕ) (h : 256 ≤ k) (h' : k < 384) : dst k = k - 256 + 5376 := by
  unfold dst
  rw [if_neg (by omega), if_pos (by omega)]
theorem dst_8 (k : ℕ) (h : 384 ≤ k) (h' : k < 416) : dst k = k - 384 + 5568 := by
  unfold dst
  rw [if_neg (by omega), if_neg (by omega), if_pos (by omega)]
theorem dst_3 (k : ℕ) (h : 416 ≤ k) (h' : k < 928) : dst k = k - 416 + 4096 := by
  unfold dst
  rw [if_neg (by omega), if_neg (by omega), if_neg (by omega), if_pos (by omega)]
theorem dst_4 (k : ℕ) (h : 928 ≤ k) (h' : k < 1440) : dst k = k - 928 + 4608 := by
  unfold dst
  rw [if_neg (by omega), if_neg (by omega), if_neg (by omega), if_neg (by omega), if_pos (by omega)]
theorem dst_1 (k : ℕ) (h : 1440 ≤ k) (h' : k < 2464) : dst k = k - 1440 + 2048 := by
  unfold dst
  rw [if_neg (by omega), if_neg (by omega), if_neg (by omega), if_neg (by omega), if_neg (by omega), if_pos (by omega)]
theorem dst_2 (k : ℕ) (h : 2464 ≤ k) (h' : k < 3488) : dst k = k - 2464 + 3072 := by
  unfold dst
  rw [if_neg (by omega), if_neg (by omega), if_neg (by omega), if_neg (by omega), if_neg (by omega), if_neg (by omega), if_pos (by omega)]
theorem dst_0 (k : ℕ) (h : 3488 ≤ k) (h' : k < 5536) : dst k = k - 3488 + 0 := by
  unfold dst
  rw [if_neg (by omega), if_neg (by omega), if_neg (by omega), if_neg (by omega), if_neg (by omega), if_neg (by omega), if_neg (by omega)]

/-- A column lies in one of the segments, in either order. -/
theorem dst_cases (k : ℕ) (h : k < 5536) : (0 ≤ k ∧ k < 256) ∨ (256 ≤ k ∧ k < 384) ∨ (384 ≤ k ∧ k < 416) ∨ (416 ≤ k ∧ k < 928) ∨ (928 ≤ k ∧ k < 1440) ∨ (1440 ≤ k ∧ k < 2464) ∨ (2464 ≤ k ∧ k < 3488) ∨ (3488 ≤ k ∧ k < 5536) := by omega
theorem src_cases (k : ℕ) (h : k < 5632) : (0 ≤ k ∧ k < 2048) ∨ (2048 ≤ k ∧ k < 3072) ∨ (3072 ≤ k ∧ k < 4096) ∨ (4096 ≤ k ∧ k < 4608) ∨ (4608 ≤ k ∧ k < 5120) ∨ (5120 ≤ k ∧ k < 5376) ∨ (5376 ≤ k ∧ k < 5504) ∨ (5504 ≤ k ∧ k < 5568) ∨ (5568 ≤ k ∧ k < 5600) ∨ (5600 ≤ k ∧ k < 5632) := by omega

theorem dst_lt (k : ℕ) (h : k < 5536) : dst k < 5632 := by
  rcases dst_cases k h with ⟨h1, h2⟩ | ⟨h1, h2⟩ | ⟨h1, h2⟩ | ⟨h1, h2⟩ | ⟨h1, h2⟩ | ⟨h1, h2⟩ | ⟨h1, h2⟩ | ⟨h1, h2⟩
  · rw [dst_5 k h1 h2]; omega
  · rw [dst_6 k h1 h2]; omega
  · rw [dst_8 k h1 h2]; omega
  · rw [dst_3 k h1 h2]; omega
  · rw [dst_4 k h1 h2]; omega
  · rw [dst_1 k h1 h2]; omega
  · rw [dst_2 k h1 h2]; omega
  · rw [dst_0 k h1 h2]; omega
theorem src_dst (k : ℕ) (h : k < 5536) : src (dst k) = k := by
  rcases dst_cases k h with ⟨h1, h2⟩ | ⟨h1, h2⟩ | ⟨h1, h2⟩ | ⟨h1, h2⟩ | ⟨h1, h2⟩ | ⟨h1, h2⟩ | ⟨h1, h2⟩ | ⟨h1, h2⟩
  · rw [dst_5 k h1 h2, src_5 _ (by omega) (by omega)]; omega
  · rw [dst_6 k h1 h2, src_6 _ (by omega) (by omega)]; omega
  · rw [dst_8 k h1 h2, src_8 _ (by omega) (by omega)]; omega
  · rw [dst_3 k h1 h2, src_3 _ (by omega) (by omega)]; omega
  · rw [dst_4 k h1 h2, src_4 _ (by omega) (by omega)]; omega
  · rw [dst_1 k h1 h2, src_1 _ (by omega) (by omega)]; omega
  · rw [dst_2 k h1 h2, src_2 _ (by omega) (by omega)]; omega
  · rw [dst_0 k h1 h2, src_0 _ (by omega) (by omega)]; omega
theorem dst_src (k : ℕ) (hk : k < 5632) (h : src k < 5536) : dst (src k) = k := by
  rcases src_cases k hk with ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩
  · rw [src_0 k h1 h2, dst_0 _ (by omega) (by omega)]; omega
  · rw [src_1 k h1 h2, dst_1 _ (by omega) (by omega)]; omega
  · rw [src_2 k h1 h2, dst_2 _ (by omega) (by omega)]; omega
  · rw [src_3 k h1 h2, dst_3 _ (by omega) (by omega)]; omega
  · rw [src_4 k h1 h2, dst_4 _ (by omega) (by omega)]; omega
  · rw [src_5 k h1 h2, dst_5 _ (by omega) (by omega)]; omega
  · rw [src_6 k h1 h2, dst_6 _ (by omega) (by omega)]; omega
  · rw [src_7 k h1 h2] at h; omega
  · rw [src_8 k h1 h2, dst_8 _ (by omega) (by omega)]; omega
  · rw [src_9 k h1 h2] at h; omega

/-- A row in the version's order. -/
def perm (f : Fin 5536 → EReal) (k : Fin 5632) : EReal := if h : src k < 5536 then f ⟨src k, h⟩ else 0

theorem perm_eq (f : Fin 5536 → EReal) (k : Fin 5632) (j : ℕ) (hj : j < 5536) (h : src k = j) : perm f k = f ⟨j, hj⟩ := by
  subst h
  unfold perm
  rw [dif_pos hj]
theorem perm_none (f : Fin 5536 → EReal) (k : Fin 5632) (h : src k = 5536) : perm f k = 0 := by
  unfold perm
  rw [dif_neg (by omega)]

/-- The version's order changes no sum of products. -/
theorem perm_sum (f g : Fin 5536 → EReal) : ∑ k, perm f k * perm g k = ∑ k, f k * g k := by
  symm
  refine Finset.sum_of_injOn (fun k => ⟨dst k, dst_lt k k.isLt⟩) ?_ (fun _ _ => Finset.mem_coe.mpr (Finset.mem_univ _)) ?_ ?_
  · intro a _ b _ h
    have e := congrArg (fun x : Fin 5632 => src x.val) h
    simp only [src_dst _ a.isLt, src_dst _ b.isLt] at e
    exact Fin.ext e
  · intro k _ h
    have hk : ¬src k < 5536 := fun hs => h ⟨⟨src k, hs⟩, Finset.mem_coe.mpr (Finset.mem_univ _), Fin.ext (dst_src k k.isLt hs)⟩
    unfold perm
    rw [dif_neg hk, zero_mul]
  · intro k _
    have e := src_dst k k.isLt
    have h : src (dst k) < 5536 := lt_of_eq_of_lt e k.isLt
    have ek : (⟨src (dst k), h⟩ : Fin 5536) = k := Fin.ext e
    unfold perm
    simp only [dif_pos h, ek]

/-- The joined segments are the row in the version's order. -/
theorem joined (f : Fin 5536 → EReal) (k : Fin 5632) (z : EReal) (hz : z = 0) :
    (if h : k.val < 2048 then f ⟨3488 + k.val, by omega⟩ else if h : k.val - 2048 < 1024 then f ⟨1440 + (k.val - 2048), by omega⟩ else if h : k.val - 2048 - 1024 < 1024 then f ⟨2464 + (k.val - 2048 - 1024), by omega⟩ else if h : k.val - 2048 - 1024 - 1024 < 512 then f ⟨416 + (k.val - 2048 - 1024 - 1024), by omega⟩ else if h : k.val - 2048 - 1024 - 1024 - 512 < 512 then f ⟨928 + (k.val - 2048 - 1024 - 1024 - 512), by omega⟩ else if h : k.val - 2048 - 1024 - 1024 - 512 - 512 < 256 then f ⟨k.val - 2048 - 1024 - 1024 - 512 - 512, by omega⟩ else if h : k.val - 2048 - 1024 - 1024 - 512 - 512 - 256 < 128 then f ⟨256 + (k.val - 2048 - 1024 - 1024 - 512 - 512 - 256), by omega⟩ else if h : 64 ≤ k.val - 2048 - 1024 - 1024 - 512 - 512 - 256 - 128 ∧ k.val - 2048 - 1024 - 1024 - 512 - 512 - 256 - 128 - 64 < 32 then f ⟨384 + (k.val - 2048 - 1024 - 1024 - 512 - 512 - 256 - 128 - 64), by omega⟩ else z) = perm f k := by
  rcases src_cases k k.isLt with ⟨h1, h2⟩ | ⟨h1, h2⟩ | ⟨h1, h2⟩ | ⟨h1, h2⟩ | ⟨h1, h2⟩ | ⟨h1, h2⟩ | ⟨h1, h2⟩ | ⟨h1, h2⟩ | ⟨h1, h2⟩ | ⟨h1, h2⟩
  · rw [perm_eq _ k _ (by omega) (src_0 k h1 h2), dif_pos (by omega)]
    exact congrArg f (Fin.ext (by simp only; omega))
  · rw [perm_eq _ k _ (by omega) (src_1 k h1 h2), dif_neg (by omega), dif_pos (by omega)]
    exact congrArg f (Fin.ext (by simp only; omega))
  · rw [perm_eq _ k _ (by omega) (src_2 k h1 h2), dif_neg (by omega), dif_neg (by omega), dif_pos (by omega)]
    exact congrArg f (Fin.ext (by simp only; omega))
  · rw [perm_eq _ k _ (by omega) (src_3 k h1 h2), dif_neg (by omega), dif_neg (by omega), dif_neg (by omega), dif_pos (by omega)]
    exact congrArg f (Fin.ext (by simp only; omega))
  · rw [perm_eq _ k _ (by omega) (src_4 k h1 h2), dif_neg (by omega), dif_neg (by omega), dif_neg (by omega), dif_neg (by omega), dif_pos (by omega)]
    exact congrArg f (Fin.ext (by simp only; omega))
  · rw [perm_eq _ k _ (by omega) (src_5 k h1 h2), dif_neg (by omega), dif_neg (by omega), dif_neg (by omega), dif_neg (by omega), dif_neg (by omega), dif_pos (by omega)]
    exact congrArg f (Fin.ext (by simp only; omega))
  · rw [perm_eq _ k _ (by omega) (src_6 k h1 h2), dif_neg (by omega), dif_neg (by omega), dif_neg (by omega), dif_neg (by omega), dif_neg (by omega), dif_neg (by omega), dif_pos (by omega)]
    exact congrArg f (Fin.ext (by simp only; omega))
  · rw [perm_none _ k (src_7 k h1 h2), dif_neg (by omega), dif_neg (by omega), dif_neg (by omega), dif_neg (by omega), dif_neg (by omega), dif_neg (by omega), dif_neg (by omega), dif_neg (by omega)]
    exact hz
  · rw [perm_eq _ k _ (by omega) (src_8 k h1 h2), dif_neg (by omega), dif_neg (by omega), dif_neg (by omega), dif_neg (by omega), dif_neg (by omega), dif_neg (by omega), dif_neg (by omega), dif_pos (by omega)]
    exact congrArg f (Fin.ext (by simp only; omega))
  · rw [perm_none _ k (src_9 k h1 h2), dif_neg (by omega), dif_neg (by omega), dif_neg (by omega), dif_neg (by omega), dif_neg (by omega), dif_neg (by omega), dif_neg (by omega), dif_neg (by omega)]
    exact hz

/-- The version's order of the columns, as the host lines make it. -/
def orderU (X : FVec Ideal S8192x5536 .f32) : FVec Ideal S8192x5632 .bf16 :=
  truncf .bf16 (concatenate S8192x5632 1 [⟨S8192x2048, extractStridedSlice S8192x2048 ![0, 3488] X slices_S8192x5536_S8192x2048_0_3488⟩, ⟨S8192x1024, extractStridedSlice S8192x1024 ![0, 1440] X slices_S8192x5536_S8192x1024_0_1440⟩, ⟨S8192x1024, extractStridedSlice S8192x1024 ![0, 2464] X slices_S8192x5536_S8192x1024_0_2464⟩, ⟨S8192x512, extractStridedSlice S8192x512 ![0, 416] X slices_S8192x5536_S8192x512_0_416⟩, ⟨S8192x512, extractStridedSlice S8192x512 ![0, 928] X slices_S8192x5536_S8192x512_0_928⟩, ⟨S8192x256, extractStridedSlice S8192x256 ![0, 0] X slices_S8192x5536_S8192x256_0_0⟩, ⟨S8192x128, extractStridedSlice S8192x128 ![0, 256] X slices_S8192x5536_S8192x128_0_256⟩,
    ⟨S8192x128, pad S8192x128 ![0, 64] ![0, 32] ![0, 0] (extractStridedSlice S8192x32 ![0, 384] X slices_S8192x5536_S8192x32_0_384) (sitofp .f32 (constantI S_ 32 0#32)) pads_S8192x32_S8192x128_000_64320 h_S_⟩] concatenates_S8192x2048_S8192x1024_S8192x1024_S8192x512_S8192x512_S8192x256_S8192x128_S8192x128_S8192x5632_d1) bitsLt_bf16_f32

/-- Its entries. -/
theorem orderU_at (A : FVec Ideal S8192x5536 .bf16) (i : Fin 8192) (k : Fin 5632) : (orderU (extf .f32 A bitsLt_bf16_f32) (ix2 i k) : EReal) = perm (fun k => A (ix2 i k)) k := by
  pointwise [orderU]
  exact joined (fun k => A (ix2 i k)) k _ (by show (((0#32).toInt : ℝ) : EReal) = 0; simp)

/-- The version's order of the columns, as the host lines make it. -/
def orderW (X : FVec Ideal S1024x5536 .f32) : FVec Ideal S1024x5632 .bf16 :=
  truncf .bf16 (concatenate S1024x5632 1 [⟨S1024x2048, extractStridedSlice S1024x2048 ![0, 3488] X slices_S1024x5536_S1024x2048_0_3488⟩, ⟨S1024x1024, extractStridedSlice S1024x1024 ![0, 1440] X slices_S1024x5536_S1024x1024_0_1440⟩, ⟨S1024x1024, extractStridedSlice S1024x1024 ![0, 2464] X slices_S1024x5536_S1024x1024_0_2464⟩, ⟨S1024x512, extractStridedSlice S1024x512 ![0, 416] X slices_S1024x5536_S1024x512_0_416⟩, ⟨S1024x512, extractStridedSlice S1024x512 ![0, 928] X slices_S1024x5536_S1024x512_0_928⟩, ⟨S1024x256, extractStridedSlice S1024x256 ![0, 0] X slices_S1024x5536_S1024x256_0_0⟩, ⟨S1024x128, extractStridedSlice S1024x128 ![0, 256] X slices_S1024x5536_S1024x128_0_256⟩,
    ⟨S1024x128, pad S1024x128 ![0, 64] ![0, 32] ![0, 0] (extractStridedSlice S1024x32 ![0, 384] X slices_S1024x5536_S1024x32_0_384) (sitofp .f32 (constantI S_ 32 0#32)) pads_S1024x32_S1024x128_000_64320 h_S_⟩] concatenates_S1024x2048_S1024x1024_S1024x1024_S1024x512_S1024x512_S1024x256_S1024x128_S1024x128_S1024x5632_d1) bitsLt_bf16_f32

/-- Its entries. -/
theorem orderW_at (A : FVec Ideal S1024x5536 .bf16) (i : Fin 1024) (k : Fin 5632) : (orderW (extf .f32 A bitsLt_bf16_f32) (ix2 i k) : EReal) = perm (fun k => A (ix2 i k)) k := by
  pointwise [orderW]
  exact joined (fun k => A (ix2 i k)) k _ (by show (((0#32).toInt : ℝ) : EReal) = 0; simp)

/-- The region finds the two arguments in that order. -/
theorem V_u : Gen.V m c main_v11 = orderU (extf .f32 (aU m c) bitsLt_bf16_f32) := by
  unfold_abbrev_sides
  after_reads_simp
  rfl
theorem V_w : Gen.V m c main_v23 = orderW (extf .f32 (aW m c) bitsLt_bf16_f32) := by
  unfold_abbrev_sides
  after_reads_simp
  rfl

/-- A column of the product in the grid's fourth that holds it. -/
def col (n : Fin 4) (k : Fin 1408) : Fin 5632 := ⟨n.val * 1408 + k.val, by omega⟩

/-- The product, a fourth at a time. -/
theorem cols_sum (f : Fin 5632 → EReal) : ∑ n : Fin 4, ∑ k : Fin 1408, f (col n k) = ∑ i, f i := by
  rw [← Finset.sum_product']
  exact Finset.sum_equiv finProdFinEquiv (fun _ => by simp) (fun x _ => congrArg f (Fin.ext (by show x.1.val * 1408 + x.2.val = x.2.val + 1408 * x.1.val; omega)))

/-- What a point adds to the carried product. -/
theorem pay_acc (u : Vec Ideal S512x1408 .bf16) (y : Vec Ideal S512x1024 .f32) (w : Vec Ideal S1024x1408 .bf16) (a : Fin 512) (l : Fin 1024) :
    k0_pay2 u y w (ix2 a l) = y (ix2 a l) + ∑ k : Fin 1408, (u (ix2 a k) : EReal) * w (ix2 l k) := by
  pointwise [k0_pay2]

/-- The payload stored into the first result's block. -/
theorem pay_x (d x y : Vec Ideal S512x1024 .f32) (g : Vec Ideal S1x1024 .f32) (a : Fin 512) (l : Fin 1024) :
    k0_pay8 d x y g (ix2 a l) = dX 0x44800000#32 (fun k => x (ix2 a k)) (fun k => g (ix2 0 k)) (fun k => d (ix2 a k)) l + y (ix2 a l) := by
  pointwise [k0_pay5, k0_pay6, k0_pay8, dX, back, ms]
  simp only [Fin.sum_univ_one]

/-- The payload added into the second result's block. -/
theorem pay_g (d x : Vec Ideal S512x1024 .f32) (y : Vec Ideal S1x1024 .f32) (l : Fin 1024) :
    k0_pay4 (k0_pay7 d x) y (ix2 0 l) = y (ix2 0 l) + ∑ a : Fin 512, dW 0x44800000#32 (fun k => x (ix2 a k)) (fun k => d (ix2 a k)) l := by
  pointwise [k0_pay4, k0_pay5, k0_pay6, k0_pay7, dW, ms]

/-- The region finds the gain in a row. -/
theorem V_g : Gen.V m c main_v24 = shapeCast S1x1024 (aG m c) shapeCasts_S1024_S1x1024 := by
  unfold_abbrev_sides
  after_reads_simp
  rfl

/-- Every window's block index: rows of 512 in turn, and within them the product's columns in fourths. -/
theorem idx : ∀ t : Fin cfg0.N, win0_0.index t = ![t.val / 4, t.val % 4] ∧ win0_1.index t = ![0, t.val % 4] ∧ win0_2.index t = ![t.val / 4, 0] ∧ win0_3.index t = ![t.val / 4, 0]
    ∧ win0_4.index t = ![0, 0] ∧ win0_5.index t = ![t.val / 4, 0] ∧ win0_6.index t = ![0, 0] :=
  (by decide +kernel : ∀ t : Fin grid0.N, _)

theorem lt64 (t : Fin cfg0.N) : t.val < 64 := lt_of_lt_of_eq t.isLt N_0

/-- The array's row of a block's row, and its column of a block's column, at a grid point. -/
def row (n : Fin 16) (a : Fin 512) : Fin 8192 := ⟨n.val * 512 + a, by omega⟩
def rb (t : Fin cfg0.N) : Fin 16 := ⟨t.val / 4, by have := lt64 t; omega⟩
def kb (t : Fin cfg0.N) : Fin 4 := ⟨t.val % 4, by omega⟩

/-- The blocks, entry by entry. -/
theorem b0 (t : Fin cfg0.N) (a : Fin 512) (k : Fin 1408) : (iblk m c 0 t : Vec Ideal S512x1408 .bf16) (ix2 a k) = perm (fun k => aU m c (ix2 (row (rb t) a) k)) (col (kb t) k) := by
  rw [← orderU_at, ← V_u]
  blk_ext [iblk, idx t] <;> simp only [row, rb, kb, col] <;> omega
theorem b1 (t : Fin cfg0.N) (l : Fin 1024) (k : Fin 1408) : (iblk m c 1 t : Vec Ideal S1024x1408 .bf16) (ix2 l k) = perm (fun k => aW m c (ix2 l k)) (col (kb t) k) := by
  rw [← orderW_at, ← V_w]
  blk_ext [iblk, idx t] <;> simp only [row, rb, kb, col] <;> omega
theorem b2 (t : Fin cfg0.N) (a : Fin 512) (l : Fin 1024) : (iblk m c 2 t : Vec Ideal S512x1024 .f32) (ix2 a l) = aX m c (ix2 (row (rb t) a) l) := by
  blk_ext [iblk, idx t] <;> simp only [row, rb, kb, col] <;> omega
theorem b3 (t : Fin cfg0.N) (a : Fin 512) (l : Fin 1024) : (iblk m c 3 t : Vec Ideal S512x1024 .f32) (ix2 a l) = aY m c (ix2 (row (rb t) a) l) := by
  blk_ext [iblk, idx t] <;> simp only [row, rb, kb, col] <;> omega
theorem b4 (t : Fin cfg0.N) (l : Fin 1024) : (iblk m c 4 t : Vec Ideal S1x1024 .f32) (ix2 0 l) = aG m c (ix1 l) := by
  refine Eq.trans (b := (shapeCast S1x1024 (aG m c) shapeCasts_S1024_S1x1024 : FVec Ideal S1x1024 .f32) (ix2 0 l)) ?_ (by pointwise [])
  rw [← V_g]
  blk_ext [iblk, idx t]

/-- The carried product after a point, and the point before's. -/
abbrev acc (n : ℕ) (h : n < cfg0.N) : Vec Ideal S512x1024 .f32 := (outsAt0 m c n h).2.2

/-- The scratch read back. -/
theorem read_scratch (h : (Memref.whole cc0_scratch0).IsWhole) (X : Vec Ideal S512x1024 .f32) : View.read (Elt Ideal) (View.whole cc0_scratch0) (h.unread X) = X := h.read_unread X

/-- A fourth's first point starts the carried product; a later one adds to it. -/
theorem acc_A (t : Fin cfg0.N) (h : t.val % 4 = 0) : acc m c t.val t.isLt = k0_pay2 (iblk m c 0 t) (k0_pay1 (F := Ideal)) (iblk m c 1 t) := by
  unfold acc
  rw [outsAt0_A m c t h (by omega)]
  frame_out
theorem acc_B (t : Fin cfg0.N) (h : ¬t.val % 4 = 0) : acc m c t.val t.isLt = k0_pay2 (iblk m c 0 t) (acc m c (t.val - 1) (by omega)) (iblk m c 1 t) := by
  unfold acc
  by_cases h1 : t.val % 4 = 3
  · by_cases h2 : t.val < 4
    · rw [outsAt0_C m c t h h1 h2]
      frame_out
      rw [read_scratch]
    · rw [outsAt0_D m c t h h1 h2]
      frame_out
      rw [read_scratch]
  · rw [outsAt0_B m c t h h1]
    frame_out
    rw [read_scratch]

/-- What a row's last point leaves in the first result's block. -/
theorem outs5 (t : Fin cfg0.N) (h : t.val % 4 = 3) : (outsAt0 m c t.val t.isLt).1 = k0_pay8 (acc m c t.val t.isLt) (iblk m c 2 t) (iblk m c 3 t) (iblk m c 4 t) := by
  rw [acc_B m c t (by omega)]
  by_cases h2 : t.val < 4
  · rw [outsAt0_C m c t (by omega) h h2]
    frame_out
    rw [read_scratch]
  · rw [outsAt0_D m c t (by omega) h h2]
    frame_out
    rw [read_scratch]
/-- The gain's gradient: started by the first row block's last point, added to by the others', kept by every other point. -/
theorem outs6_C (t : Fin cfg0.N) (h : t.val % 4 = 3) (h2 : t.val < 4) : (outsAt0 m c t.val t.isLt).2.1 = k0_pay4 (k0_pay7 (acc m c t.val t.isLt) (iblk m c 2 t)) (k0_pay3 (F := Ideal)) := by
  rw [acc_B m c t (by omega)]
  rw [outsAt0_C m c t (by omega) h h2]
  frame_out
  rw [read_scratch]
theorem outs6_D (t : Fin cfg0.N) (h : t.val % 4 = 3) (h2 : ¬t.val < 4) : (outsAt0 m c t.val t.isLt).2.1 = k0_pay4 (k0_pay7 (acc m c t.val t.isLt) (iblk m c 2 t))
    (outsAt0 m c (t.val - 1) (by omega)).2.1 := by
  rw [acc_B m c t (by omega)]
  rw [outsAt0_D m c t (by omega) h h2]
  frame_out
  rw [read_scratch]
theorem outs6_B (t : Fin cfg0.N) (h : ¬t.val % 4 = 3) (h0 : t.val ≠ 0) : (outsAt0 m c t.val t.isLt).2.1 = (outsAt0 m c (t.val - 1) (by omega)).2.1 := by
  by_cases h1 : t.val % 4 = 0
  · rw [outsAt0_A m c t h1 h]
    rfl
  · rw [outsAt0_B m c t h1 h]
    rfl

/-- What a point adds to the carried product's entry. -/
def termA (a : Fin 512) (l : Fin 1024) (n : ℕ) : EReal :=
  if hn : n < cfg0.N then ∑ k : Fin 1408, perm (fun k => aU m c (ix2 (row (rb ⟨n, hn⟩) a) k)) (col (kb ⟨n, hn⟩) k) * perm (fun k => aW m c (ix2 l k)) (col (kb ⟨n, hn⟩) k) else 0

/-- The carried product at a row block's last point: the whole product. -/
theorem acc_last (t : Fin cfg0.N) (ht : t.val % 4 = 3) (a : Fin 512) (l : Fin 1024) : acc m c t.val t.isLt (ix2 a l) = ct (aU m c) (aW m c) (row (rb t) a) l := by
  have := Pipeline.eq_sum_of_reset_step_apply_of_mod (N := cfg0.N) (ι := Unit) (M := EReal) (fun n hn _ => acc m c n hn (ix2 a l)) 4 (fun _ => 0) (fun n _ => termA m c a l n)
    (fun t h0 _ => by
      show acc m c t.val t.isLt (ix2 a l) = 0 + termA m c a l t.val
      rw [acc_A m c t h0, pay_acc]
      unfold termA
      rw [dif_pos t.isLt]
      refine congrArg₂ (· + ·) (by pointwise [k0_pay1]) ?_
      simp only [b0, b1])
    (fun t h0 _ => by
      show acc m c t.val t.isLt (ix2 a l) = acc m c (t.val - 1) _ (ix2 a l) + termA m c a l t.val
      rw [acc_B m c t h0, pay_acc]
      unfold termA
      rw [dif_pos t.isLt]
      simp only [b0, b1])
    t ht ()
  refine (this.trans (zero_add _)).trans ?_
  unfold ct
  rw [Finset.sum_range, ← perm_sum, ← cols_sum]
  refine Finset.sum_congr rfl fun n _ => ?_
  have hN : cfg0.N = 64 := N_0
  have hn : 4 * (t.val / 4) + n.val < cfg0.N := by have := lt64 t; omega
  unfold termA
  rw [dif_pos hn]
  have e1 : rb ⟨4 * (t.val / 4) + n.val, hn⟩ = rb t := Fin.ext (by simp only [rb]; omega)
  have e2 : kb ⟨4 * (t.val / 4) + n.val, hn⟩ = n := Fin.ext (by simp only [kb]; omega)
  rw [e1, e2]

/-- The gradient the first result holds. -/
def gX (i : Fin 8192) (l : Fin 1024) : EReal :=
  dX 0x44800000#32 (fun k => aX m c (ix2 i k)) (fun k => aG m c (ix1 k)) (fun k => ct (aU m c) (aW m c) i k) l + aY m c (ix2 i l)

/-- The first result array after the run. -/
theorem arr5 (i : Fin 8192) (l : Fin 1024) : (show Vec Ideal S8192x1024 .f32 from (dats m 0 c).arrAt 5 cfg0.N) (ix2 i l) = gX m c i l := by
  have key := (dats m 0 c).arrAt_forall_of_covers 5 (fun x w => ∀ (i : Fin 8192) (l : Fin 1024), (show S8192x1024.Idx from x) = ix2 i l →
    (show EReal from w) = gX m c i l) (by decide +kernel) (fun t hf y => ?_) (ix2 i l)
  · exact key i l rfl
  intro i l hx
  have h0 := congrArg (fun x : S8192x1024.Idx => (x 0).val) hx
  have h1 := congrArg (fun x : S8192x1024.Idx => (x 1).val) hx
  have ht := (flush0_5 t).mp hf
  blk_simp [idx t] at h0 h1
  blk_simp
  rw [after0_5, outs5 m c t ht]
  idx_vars y
  have ei : i = row (rb t) y0 := Fin.ext (by simp only [row, rb]; simp at h0; omega)
  have el : l = y1 := Fin.ext (by simp at h1; omega)
  rw [ei, el]
  refine (pay_x _ _ _ _ _ _).trans ?_
  simp only [b2, b3, b4, acc_last m c t ht]
  rfl
/-- What a row block adds to the gain's gradient. -/
def termG (l : Fin 1024) (n : Fin 16) : EReal :=
  ∑ a : Fin 512, dW 0x44800000#32 (fun k => aX m c (ix2 (row n a) k)) (fun k => ct (aU m c) (aW m c) (row n a) k) l

/-- The gain's gradient after a row block's last point: the sum of the row blocks so far. -/
theorem sum6 (l : Fin 1024) (b : ℕ) : ∀ t : Fin cfg0.N, t.val = 4 * b + 3 → (outsAt0 m c t.val t.isLt).2.1 (ix2 0 l)
    = ∑ n ∈ Finset.range (b + 1), if hn : n < 16 then termG m c l ⟨n, hn⟩ else 0 := by
  induction b with
  | zero =>
    intro t ht
    have hz : (k0_pay3 (F := Ideal)) (ix2 0 l) = (0 : EReal) := by pointwise [k0_pay3]
    have er : rb t = ⟨0, by omega⟩ := Fin.ext (by simp only [rb]; omega)
    rw [outs6_C m c t (by omega) (by omega), pay_g, Finset.sum_range_one, dif_pos (by omega), hz, zero_add]
    simp only [b2, acc_last m c t (show t.val % 4 = 3 by omega), er]
    rfl
  | succ b ih =>
    intro t ht
    have hN := lt64 t
    have e2 : (outsAt0 m c (t.val - 1) (by omega)).2.1 = (outsAt0 m c (t.val - 1 - 1) (by omega)).2.1 := outs6_B m c ⟨t.val - 1, by omega⟩ (by simp only; omega) (by simp only; omega)
    have e1 : (outsAt0 m c (t.val - 1 - 1) (by omega)).2.1 = (outsAt0 m c (t.val - 1 - 1 - 1) (by omega)).2.1 := outs6_B m c ⟨t.val - 1 - 1, by omega⟩ (by simp only; omega) (by simp only; omega)
    have e0 : (outsAt0 m c (t.val - 1 - 1 - 1) (by omega)).2.1 = (outsAt0 m c (t.val - 1 - 1 - 1 - 1) (by omega)).2.1 := outs6_B m c ⟨t.val - 1 - 1 - 1, by omega⟩ (by simp only; omega) (by simp only; omega)
    have ei : (outsAt0 m c (t.val - 1 - 1 - 1 - 1) (by omega)).2.1 (ix2 0 l) = _ := ih ⟨t.val - 1 - 1 - 1 - 1, by omega⟩ (by simp only; omega)
    have er : rb t = ⟨b + 1, by omega⟩ := Fin.ext (by simp only [rb]; omega)
    rw [outs6_D m c t (by omega) (by omega), pay_g, e2, e1, e0, ei, Finset.sum_range_succ (n := b + 1), dif_pos (show b + 1 < 16 by omega)]
    simp only [b2, acc_last m c t (show t.val % 4 = 3 by omega), er]
    rfl

/-- The rows, a block at a time. -/
theorem rows_sum (f : Fin 8192 → EReal) : ∑ n : Fin 16, ∑ a : Fin 512, f (row n a) = ∑ i, f i := by
  rw [← Finset.sum_product']
  exact Finset.sum_equiv finProdFinEquiv (fun _ => by simp) (fun x _ => congrArg f (Fin.ext (by show x.1.val * 512 + x.2.val = x.2.val + 512 * x.1.val; omega)))

/-- The result array of the gain's gradient after the run. -/
theorem arr6 (l : Fin 1024) : (show Vec Ideal S1x1024 .f32 from (dats m 0 c).arrAt 6 cfg0.N) (ix2 0 l)
    = ∑ i, dW 0x44800000#32 (fun k => aX m c (ix2 i k)) (fun k => ct (aU m c) (aW m c) i k) l := by
  have key := (dats m 0 c).arrAt_forall_of_covers 6 (fun x w => ∀ (l : Fin 1024), (show S1x1024.Idx from x) = ix2 0 l →
    (show EReal from w) = ∑ i, dW 0x44800000#32 (fun k => aX m c (ix2 i k)) (fun k => ct (aU m c) (aW m c) i k) l) (by decide +kernel) (fun t hf y => ?_) (ix2 0 l)
  · exact key l rfl
  intro l hx
  have h1 := congrArg (fun x : S1x1024.Idx => (x 1).val) hx
  blk_simp [idx t] at h1
  blk_simp
  rw [after0_6]
  idx_vars y
  have hy : y0 = 0 := Fin.ext (by omega)
  have hl : y1 = l := Fin.ext (by simp at h1; omega)
  have ht := (flush0_6 t).mp hf
  have ht' : t.val = 4 * 15 + 3 := by have := lt64 t; omega
  rw [hy, hl]
  refine (sum6 m c l 15 t ht').trans ?_
  rw [Finset.sum_range, ← rows_sum]
  refine Finset.sum_congr rfl fun n _ => ?_
  rw [dif_pos n.isLt]
  rfl

/-- The kernel's run: its two results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v25_0) = (dats m 0 c).arrAt 5 cfg0.N
      ∧ r.2.mem ((c.tc : Thread nD τ).loc main_v25_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, h.2.1 c⟩)
    (θ_run_and (run_main m ρ) (frame m ρ))

/-- The residual's gradient first. -/
theorem gX_eq (i : Fin 8192) (l : Fin 1024) : gX m c i l = aY m c (ix2 i l) + ct (aU m c) (aW m c) i l * aG m c (ix1 l) * Ideal.rsqrt (ms 0x44800000#32 (fun k => aX m c (ix2 i k)))
    + aX m c (ix2 i l) * back 0x44800000#32 (fun k => aX m c (ix2 i k)) (fun k => ct (aU m c) (aW m c) i k * aG m c (ix1 k))
    + back 0x44800000#32 (fun k => aX m c (ix2 i k)) (fun k => ct (aU m c) (aW m c) i k * aG m c (ix1 k)) * aX m c (ix2 i l) := by
  unfold gX dX
  rw [add_comm, ← add_assoc, ← add_assoc]

/-- Kernel and reference end with the same gradient and the same gain's gradient. -/
theorem algebraic : Cert.algebraic_Kernel12Ideal_Reference12Ideal := by
  pair_intro
  · run_from run_values m g
  · run_from Cert.Reference12Ideal.Value.run m' g'
    · funext j
      idx_vars j
      refine Eq.trans ?_ (arr5 m c j0 j1).symm
      rw [gX_eq]
      pointwise [ct, back, ms, Cert.Reference12Ideal.Value.res_main_v40]
      simp only [Fin.sum_univ_one, (hagree c).1, (hagree c).2.1, (hagree c).2.2.1, (hagree c).2.2.2.1, (hagree c).2.2.2.2]
    · funext j
      idx_vars j
      obtain rfl : j0 = 0 := Fin.ext (by omega)
      refine Eq.trans ?_ (arr6 m c j1).symm
      pointwise [ct, dW, ms]
      simp only [Fin.sum_univ_one]

end Cert.Kernel12Ideal.Din

end
-- ==== Proof.SwigluFwd.lean ====
module

public import proofs.«01_k».proof.Proof.Gen.Kernel14Ideal.Frame
public import proofs.«01_k».proof.Proof.Gen.Reference14Ideal.Run
public import Idealize.ShloMosaic.Lib.Pipeline.ValueKit
public import Idealize.ShloMosaic.Lib.StableHlo.RunRead
public import Idealize.ShloMosaic.Lib.Claim
public import proofs.«01_k».proof.Defs
public import proofs.«01_k».proof.Proof.Swiglu

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel14Ideal.Swf

open Cert.Kernel14Ideal Cert.Kernel14Ideal.Gen
open Cert.KernelIdeal.Swi (sg)

variable (m : (ℓ : Loc nD τ sig) → Buf (Elt Ideal) ℓ) (c : Dev nD)

/-- The gates beside the upward halves: the argument. -/
abbrev aU : FVec Ideal S8192x5632 .bf16 := m ((c.tc : Thread nD τ).loc main_arg0)

/-- The payload stored into the result's block. -/
theorem pay (x y : Vec Ideal S512x2816 .bf16) (a : Fin 512) (l : Fin 2816) : (k0_pay1 x y (ix2 a l) : EReal) = x (ix2 a l) * sg (x (ix2 a l)) * y (ix2 a l) := by
  pointwise [k0_pay1, sg]

/-- Every window's block index: rows of 512 in turn. -/
theorem idx : ∀ t : Fin cfg0.N, win0_0.index t = ![t.val, 0] ∧ win0_1.index t = ![t.val, 1] ∧ win0_2.index t = ![t.val, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The gate's and the upward half's columns. -/
def ca (l : Fin 2816) : Fin 5632 := ⟨l.val, by omega⟩
def cb (l : Fin 2816) : Fin 5632 := ⟨2816 + l.val, by omega⟩

/-- The blocks, entry by entry. -/
theorem b0 (t : Fin cfg0.N) (a : Fin 512) (l : Fin 2816) : (iblk m c 0 t : Vec Ideal S512x2816 .bf16) (ix2 a l) = aU m c (ix2 (row t a) (ca l)) := by
  blk_ext [iblk, idx t] <;> simp only [row, ca] <;> omega
theorem b1 (t : Fin cfg0.N) (a : Fin 512) (l : Fin 2816) : (iblk m c 1 t : Vec Ideal S512x2816 .bf16) (ix2 a l) = aU m c (ix2 (row t a) (cb l)) := by
  blk_ext [iblk, idx t] <;> simp only [row, cb] <;> omega

/-- The result array after the run. -/
theorem arr2 (i : Fin 8192) (l : Fin 2816) : (show Vec Ideal S8192x2816 .bf16 from (dats m 0 c).arrAt 2 cfg0.N) (ix2 i l) = aU m c (ix2 i (ca l)) * sg (aU m c (ix2 i (ca l))) * aU m c (ix2 i (cb l)) := by
  have key := (dats m 0 c).arrAt_forall_of_covers 2 (fun x w => ∀ (i : Fin 8192) (l : Fin 2816), (show S8192x2816.Idx from x) = ix2 i l →
    (show EReal from w) = aU m c (ix2 i (ca l)) * sg (aU m c (ix2 i (ca l))) * aU m c (ix2 i (cb l))) (by decide +kernel) (fun t hf y => ?_) (ix2 i l)
  · exact key i l rfl
  intro i l hx
  have h0 := congrArg (fun x : S8192x2816.Idx => (x 0).val) hx
  have h1 := congrArg (fun x : S8192x2816.Idx => (x 1).val) hx
  blk_simp [idx t] at h0 h1
  blk_simp
  rw [after0_2]; frame_out
  idx_vars y
  have ei : i = row t y0 := Fin.ext (by simp only [row]; simp at h0; omega)
  have el : l = y1 := Fin.ext (by simp at h1; omega)
  rw [ei, el]
  refine (pay _ _ _ _).trans ?_
  simp only [b0, b1]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  (θ_run defs _ _).mono (fun _ h c => ⟨(h.1 c).1 2, h.2.1 c⟩)
    (θ_run_and (run_main m ρ) (frame m ρ))

/-- Kernel and reference end with the same gated values. -/
theorem algebraic : Cert.algebraic_Kernel14Ideal_Reference14Ideal := by
  have hz (x : EReal) : -x = 0 - x := (zero_sub x).symm
  pair_intro
  · run_from run_values m g
  · run_from Cert.Reference14Ideal.Value.run m' g'
    funext j
    idx_vars j
    refine Eq.trans ?_ (arr2 m c j0 j1).symm
    pointwise [sg, hz, ca, cb]

end Cert.Kernel14Ideal.Swf

end
-- ==== Proof.MergeFwd.lean ====
module

public import proofs.«01_k».proof.Proof.Gen.Kernel15Ideal.Frame
public import proofs.«01_k».proof.Proof.Gen.Reference15Ideal.Run
public import Idealize.ShloMosaic.Lib.Pipeline.ValueKit
public import Idealize.ShloMosaic.Lib.StableHlo.RunRead
public import Idealize.ShloMosaic.Lib.Claim
public import proofs.«01_k».proof.Defs
public import proofs.«01_k».proof.Proof.Swiglu

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel15Ideal.Mgf

open Cert.Kernel15Ideal Cert.Kernel15Ideal.Gen
open Cert.KernelIdeal.Swi (sg)

variable (m : (ℓ : Loc nD τ sig) → Buf (Elt Ideal) ℓ) (c : Dev nD)

/-- The gates' arguments and the two gated values: the arguments. -/
abbrev aL : FVec Ideal S8192x2048 .bf16 := m ((c.tc : Thread nD τ).loc main_arg0)
abbrev aA : FVec Ideal S8192x1024 .bf16 := m ((c.tc : Thread nD τ).loc main_arg1)
abbrev aB : FVec Ideal S8192x1024 .bf16 := m ((c.tc : Thread nD τ).loc main_arg2)

/-- The payload stored into the result's block. -/
theorem pay (x0 x1 x2 x3 : Vec Ideal S512x1024 .bf16) (a : Fin 512) (l : Fin 1024) :
    (k0_pay1 x0 x1 x2 x3 (ix2 a l) : EReal) = sg (x0 (ix2 a l)) * x2 (ix2 a l) + sg (x1 (ix2 a l)) * x3 (ix2 a l) := by
  pointwise [k0_pay1, sg]

/-- The gates' arguments in their columns of the joint projection. -/
def padL (L : FVec Ideal S8192x2048 .bf16) : FVec Ideal S8192x5632 .bf16 :=
  truncf .bf16 (pad S8192x5632 ![0, 0] ![0, 3584] ![0, 0] (extf .f32 L bitsLt_bf16_f32) (sitofp .f32 (constantI S_ 32 0#32)) pads_S8192x2048_S8192x5632_000_035840 h_S_) bitsLt_bf16_f32

/-- The region finds them so. -/
theorem V_proj : Gen.V m c main_v2 = padL (aL m c) := by
  unfold_abbrev_sides
  after_reads_simp
  rfl

/-- An entry of the joint projection in the gates' columns. -/
theorem padL_at (L : FVec Ideal S8192x2048 .bf16) (i : Fin 8192) (j : Fin 2048) : padL L (ix2 i ⟨j.val, by omega⟩) = L (ix2 i j) := by
  pointwise [padL]

/-- Every window's block index: rows of 512 in turn. -/
theorem idx : ∀ t : Fin cfg0.N, win0_0.index t = ![t.val, 0] ∧ win0_1.index t = ![t.val, 1] ∧ win0_2.index t = ![t.val, 0]
    ∧ win0_3.index t = ![t.val, 0] ∧ win0_4.index t = ![t.val, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The two gates' columns. -/
def ca (l : Fin 1024) : Fin 2048 := ⟨l.val, by omega⟩
def cb (l : Fin 1024) : Fin 2048 := ⟨1024 + l.val, by omega⟩

/-- The blocks, entry by entry. -/
theorem b0 (t : Fin cfg0.N) (a : Fin 512) (l : Fin 1024) : (X0_0 m c t : Vec Ideal S512x1024 .bf16) (ix2 a l) = aL m c (ix2 (row t a) (ca l)) := by
  rw [← padL_at (aL m c), ← V_proj]
  unfold X0_0 Pipeline.Window.fill
  rw [dif_pos (moved0_0 t _)]
  blk_ext [iblk, idx t] <;> simp only [row, ca] <;> omega
theorem b1 (t : Fin cfg0.N) (a : Fin 512) (l : Fin 1024) : (X0_1 m c t : Vec Ideal S512x1024 .bf16) (ix2 a l) = aL m c (ix2 (row t a) (cb l)) := by
  rw [← padL_at (aL m c), ← V_proj]
  unfold X0_1 Pipeline.Window.fill
  rw [dif_pos (moved0_1 t _)]
  blk_ext [iblk, idx t] <;> simp only [row, cb] <;> omega
theorem b2 (t : Fin cfg0.N) (a : Fin 512) (l : Fin 1024) : (iblk m c 2 t : Vec Ideal S512x1024 .bf16) (ix2 a l) = aA m c (ix2 (row t a) l) := by
  blk_ext [iblk, idx t] <;> simp only [row] <;> omega
theorem b3 (t : Fin cfg0.N) (a : Fin 512) (l : Fin 1024) : (iblk m c 3 t : Vec Ideal S512x1024 .bf16) (ix2 a l) = aB m c (ix2 (row t a) l) := by
  blk_ext [iblk, idx t] <;> simp only [row] <;> omega

/-- The result array after the run. -/
theorem arr4 (i : Fin 8192) (l : Fin 1024) : (show Vec Ideal S8192x1024 .bf16 from (dats m 0 c).arrAt 4 cfg0.N) (ix2 i l) = sg (aL m c (ix2 i (ca l))) * aA m c (ix2 i l) + sg (aL m c (ix2 i (cb l))) * aB m c (ix2 i l) := by
  have key := (dats m 0 c).arrAt_forall_of_covers 4 (fun x w => ∀ (i : Fin 8192) (l : Fin 1024), (show S8192x1024.Idx from x) = ix2 i l →
    (show EReal from w) = sg (aL m c (ix2 i (ca l))) * aA m c (ix2 i l) + sg (aL m c (ix2 i (cb l))) * aB m c (ix2 i l)) (by decide +kernel) (fun t hf y => ?_) (ix2 i l)
  · exact key i l rfl
  intro i l hx
  have h0 := congrArg (fun x : S8192x1024.Idx => (x 0).val) hx
  have h1 := congrArg (fun x : S8192x1024.Idx => (x 1).val) hx
  blk_simp [idx t] at h0 h1
  blk_simp
  rw [after0_4]; simp only [outsAt0]; frame_out
  idx_vars y
  have ei : i = row t y0 := Fin.ext (by simp only [row]; simp at h0; omega)
  have el : l = y1 := Fin.ext (by simp at h1; omega)
  rw [ei, el]
  refine (pay _ _ _ _ _ _).trans ?_
  simp only [b0, b1, b2, b3]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v3) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 4, h.2.1 c⟩)
    (θ_run_and (run_main m ρ) (frame m ρ))

/-- Kernel and reference end with the same gated sum. -/
theorem algebraic : Cert.algebraic_Kernel15Ideal_Reference15Ideal := by
  have hz (x : EReal) : -x = 0 - x := (zero_sub x).symm
  pair_intro
  · run_from run_values m g
  · run_from Cert.Reference15Ideal.Value.run m' g'
    funext j
    idx_vars j
    refine Eq.trans ?_ (arr4 m c j0 j1).symm
    pointwise [sg, hz, ca, cb]

end Cert.Kernel15Ideal.Mgf

end
-- ==== Proof.LatFwd.lean ====
module

public import proofs.«01_k».proof.Proof.Gen.Kernel16Ideal.Frame
public import proofs.«01_k».proof.Proof.Gen.Reference16Ideal.Run
public import Idealize.ShloMosaic.Lib.Pipeline.ValueKit
public import Idealize.ShloMosaic.Lib.StableHlo.RunRead
public import Idealize.ShloMosaic.Lib.Claim
public import proofs.«01_k».proof.Defs
public import proofs.«01_k».proof.Proof.LatNorm

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel16Ideal.Laf

open Cert.Kernel16Ideal Cert.Kernel16Ideal.Gen
open Cert.Kernel10Ideal.Lat (ms)

variable (m : (ℓ : Loc nD τ sig) → Buf (Elt Ideal) ℓ) (c : Dev nD)

/-- The compressed query, the compressed key and value, and the two gains: the arguments. -/
abbrev aQ : FVec Ideal S8192x256 .bf16 := m ((c.tc : Thread nD τ).loc main_arg0)
abbrev aK : FVec Ideal S8192x128 .bf16 := m ((c.tc : Thread nD τ).loc main_arg1)
abbrev gQ : FVec Ideal S256 .f32 := m ((c.tc : Thread nD τ).loc main_arg2)
abbrev gK : FVec Ideal S128 .f32 := m ((c.tc : Thread nD τ).loc main_arg3)

/-- The payloads stored into the results' blocks. -/
theorem pay_q (g : Vec Ideal S1x256 .f32) (x : Vec Ideal S512x256 .bf16) (a : Fin 512) (l : Fin 256) :
    (k0_pay1 g x (ix2 a l) : EReal) = x (ix2 a l) * Ideal.rsqrt (ms 0x43800000#32 (fun k => x (ix2 a k))) * g (ix2 0 l) := by
  pointwise [k0_pay1, ms]
theorem pay_k (g : Vec Ideal S1x128 .f32) (x : Vec Ideal S512x128 .bf16) (a : Fin 512) (l : Fin 128) :
    (k0_pay2 g x (ix2 a l) : EReal) = x (ix2 a l) * Ideal.rsqrt (ms 0x43000000#32 (fun k => x (ix2 a k))) * g (ix2 0 l) := by
  pointwise [k0_pay2, ms]

/-- The compressed arrays in their columns of the joint projection. -/
def padP (Q : FVec Ideal S8192x256 .bf16) (K : FVec Ideal S8192x128 .bf16) : FVec Ideal S8192x5632 .bf16 :=
  truncf .bf16 (pad S8192x5632 ![0, 5120] ![0, 128] ![0, 0] (concatenate S8192x384 1 [⟨S8192x256, extf .f32 Q bitsLt_bf16_f32⟩, ⟨S8192x128, extf .f32 K bitsLt_bf16_f32⟩] concatenates_S8192x256_S8192x128_S8192x384_d1)
    (sitofp .f32 (constantI S_ 32 0#32)) pads_S8192x384_S8192x5632_000_51201280 h_S_) bitsLt_bf16_f32

/-- The region finds them so. -/
theorem V_proj : Gen.V m c main_v4 = padP (aQ m c) (aK m c) := by
  unfold_abbrev_sides
  after_reads_simp
  rfl
theorem V_gq : Gen.V m c main_v5 = shapeCast S1x256 (gQ m c) shapeCasts_S256_S1x256 := by
  unfold_abbrev_sides
  after_reads_simp
  rfl
theorem V_gk : Gen.V m c main_v6 = shapeCast S1x128 (gK m c) shapeCasts_S128_S1x128 := by
  unfold_abbrev_sides
  after_reads_simp
  rfl

/-- An entry of the joint projection in the query's and in the key's columns. -/
theorem padP_q (Q : FVec Ideal S8192x256 .bf16) (K : FVec Ideal S8192x128 .bf16) (i : Fin 8192) (j : Fin 256) : padP Q K (ix2 i ⟨5120 + j.val, by omega⟩) = Q (ix2 i j) := by
  pointwise [padP]
  rw [dif_pos (by omega)]
theorem padP_k (Q : FVec Ideal S8192x256 .bf16) (K : FVec Ideal S8192x128 .bf16) (i : Fin 8192) (j : Fin 128) : padP Q K (ix2 i ⟨5376 + j.val, by omega⟩) = K (ix2 i j) := by
  pointwise [padP]
  rw [dif_pos (by omega), dif_neg (by omega)]
  exact congrArg (fun k => K (ix2 i k)) (Fin.ext (by show 5376 + j.val - 5120 - 256 = j.val; omega))

/-- Every window's block index: rows of 512 in turn. -/
theorem idx : ∀ t : Fin cfg0.N, win0_0.index t = ![0, 0] ∧ win0_1.index t = ![0, 0] ∧ win0_2.index t = ![t.val, 20] ∧ win0_3.index t = ![t.val, 42]
    ∧ win0_4.index t = ![t.val, 0] ∧ win0_5.index t = ![t.val, 0] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The blocks, entry by entry. -/
theorem b0 (t : Fin cfg0.N) (l : Fin 256) : (iblk m c 0 t : Vec Ideal S1x256 .f32) (ix2 0 l) = gQ m c (ix1 l) := by
  refine Eq.trans (b := (shapeCast S1x256 (gQ m c) shapeCasts_S256_S1x256 : FVec Ideal S1x256 .f32) (ix2 0 l)) ?_ (by pointwise [])
  rw [← V_gq]
  blk_ext [iblk, idx t]
theorem b1 (t : Fin cfg0.N) (l : Fin 128) : (iblk m c 1 t : Vec Ideal S1x128 .f32) (ix2 0 l) = gK m c (ix1 l) := by
  refine Eq.trans (b := (shapeCast S1x128 (gK m c) shapeCasts_S128_S1x128 : FVec Ideal S1x128 .f32) (ix2 0 l)) ?_ (by pointwise [])
  rw [← V_gk]
  blk_ext [iblk, idx t]
theorem b2 (t : Fin cfg0.N) (a : Fin 512) (l : Fin 256) : (iblk m c 2 t : Vec Ideal S512x256 .bf16) (ix2 a l) = aQ m c (ix2 (row t a) l) := by
  rw [← padP_q (aQ m c) (aK m c), ← V_proj]
  blk_ext [iblk, idx t] <;> simp only [row] <;> omega
theorem b3 (t : Fin cfg0.N) (a : Fin 512) (l : Fin 128) : (iblk m c 3 t : Vec Ideal S512x128 .bf16) (ix2 a l) = aK m c (ix2 (row t a) l) := by
  rw [← padP_k (aQ m c) (aK m c), ← V_proj]
  blk_ext [iblk, idx t] <;> simp only [row] <;> omega

/-- The first result array after the run. -/
theorem arr4 (i : Fin 8192) (l : Fin 256) : (show Vec Ideal S8192x256 .bf16 from (dats m 0 c).arrAt 4 cfg0.N) (ix2 i l) = aQ m c (ix2 i l) * Ideal.rsqrt (ms 0x43800000#32 (fun k => aQ m c (ix2 i k))) * gQ m c (ix1 l) := by
  have key := (dats m 0 c).arrAt_forall_of_covers 4 (fun x w => ∀ (i : Fin 8192) (l : Fin 256), (show S8192x256.Idx from x) = ix2 i l →
    (show EReal from w) = aQ m c (ix2 i l) * Ideal.rsqrt (ms 0x43800000#32 (fun k => aQ m c (ix2 i k))) * gQ m c (ix1 l)) (by decide +kernel) (fun t hf y => ?_) (ix2 i l)
  · exact key i l rfl
  intro i l hx
  have h0 := congrArg (fun x : S8192x256.Idx => (x 0).val) hx
  have h1 := congrArg (fun x : S8192x256.Idx => (x 1).val) hx
  blk_simp [idx t] at h0 h1
  blk_simp
  rw [after0_4]; frame_out
  idx_vars y
  have ei : i = row t y0 := Fin.ext (by simp only [row]; simp at h0; omega)
  have el : l = y1 := Fin.ext (by simp at h1; omega)
  rw [ei, el]
  refine (pay_q _ _ _ _).trans ?_
  simp only [b0, b2]

/-- The second result array after the run. -/
theorem arr5 (i : Fin 8192) (l : Fin 128) : (show Vec Ideal S8192x128 .bf16 from (dats m 0 c).arrAt 5 cfg0.N) (ix2 i l) = aK m c (ix2 i l) * Ideal.rsqrt (ms 0x43000000#32 (fun k => aK m c (ix2 i k))) * gK m c (ix1 l) := by
  have key := (dats m 0 c).arrAt_forall_of_covers 5 (fun x w => ∀ (i : Fin 8192) (l : Fin 128), (show S8192x128.Idx from x) = ix2 i l →
    (show EReal from w) = aK m c (ix2 i l) * Ideal.rsqrt (ms 0x43000000#32 (fun k => aK m c (ix2 i k))) * gK m c (ix1 l)) (by decide +kernel) (fun t hf y => ?_) (ix2 i l)
  · exact key i l rfl
  intro i l hx
  have h0 := congrArg (fun x : S8192x128.Idx => (x 0).val) hx
  have h1 := congrArg (fun x : S8192x128.Idx => (x 1).val) hx
  blk_simp [idx t] at h0 h1
  blk_simp
  rw [after0_5]; frame_out
  idx_vars y
  have ei : i = row t y0 := Fin.ext (by simp only [row]; simp at h0; omega)
  have el : l = y1 := Fin.ext (by simp at h1; omega)
  rw [ei, el]
  refine (pay_k _ _ _ _).trans ?_
  simp only [b1, b3]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v7_0) = (dats m 0 c).arrAt 4 cfg0.N
      ∧ r.2.mem ((c.tc : Thread nD τ).loc main_v7_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, h.2.1 c⟩)
    (θ_run_and (run_main m ρ) (frame m ρ))

/-- Kernel and reference end with the same two normed arrays. -/
theorem algebraic : Cert.algebraic_Kernel16Ideal_Reference16Ideal := by
  pair_intro
  · run_from run_values m g
  · run_from Cert.Reference16Ideal.Value.run m' g'
    · funext j
      idx_vars j
      refine Eq.trans ?_ (arr4 m c j0 j1).symm
      pointwise [ms]
    · funext j
      idx_vars j
      refine Eq.trans ?_ (arr5 m c j0 j1).symm
      pointwise [ms]

end Cert.Kernel16Ideal.Laf

end
-- ==== Proof.PostFwd.lean ====
module

public import proofs.«01_k».proof.Proof.Gen.Kernel17Ideal.Frame
public import proofs.«01_k».proof.Proof.Gen.Reference17Ideal.Run
public import Idealize.ShloMosaic.Lib.Pipeline.ValueKit
public import Idealize.ShloMosaic.Lib.StableHlo.RunRead
public import Idealize.ShloMosaic.Lib.Claim
public import proofs.«01_k».proof.Defs
public import proofs.«01_k».proof.Proof.LatNorm
public import proofs.«01_k».proof.Proof.Swiglu

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel17Ideal.Pof

open Cert.Kernel17Ideal Cert.Kernel17Ideal.Gen
open Cert.KernelIdeal.Swi (sg)
open Cert.Kernel10Ideal.Lat (ms)

variable (m : (ℓ : Loc nD τ sig) → Buf (Elt Ideal) ℓ) (c : Dev nD)

/-- The gated norm of a head's row. -/
def gn (r g : Fin 128 → EReal) (l : Fin 128) : EReal := g l * sg (g l) * (r l * Ideal.rsqrt (ms 0x43000000#32 r))

/-- The payload stored into the result's block. -/
theorem pay (x0 x1 : Vec Ideal S2048x128 .f32) (x2 : Vec Ideal S2048x128 .bf16) (a : Fin 2048) (l : Fin 128) :
    (k0_pay1 x0 x1 x2 (ix2 a l) : EReal) = gn (fun k => (x0 (ix2 a k) : EReal) + x1 (ix2 a k)) (fun k => x2 (ix2 a k)) l := by
  pointwise [k0_pay1, gn, ms, sg]

/-- A head's lane among the columns. -/
def cc (h : Fin 8) (l : Fin 128) : Fin 1024 := ⟨128 * h + l, by omega⟩

/-- The two directions' retention and the gate: the arguments. -/
abbrev aF : FVec Ideal S8192x1024 .f32 := m ((c.tc : Thread nD τ).loc main_arg0)
abbrev aB : FVec Ideal S8192x1024 .f32 := m ((c.tc : Thread nD τ).loc main_arg1)
abbrev aG : FVec Ideal S8192x1024 .bf16 := m ((c.tc : Thread nD τ).loc main_arg2)

/-- The gate in its columns of the joint projection. -/
def padG (G : FVec Ideal S8192x1024 .bf16) : FVec Ideal S8192x5632 .bf16 :=
  truncf .bf16 (pad S8192x5632 ![0, 3072] ![0, 1536] ![0, 0] (extf .f32 G bitsLt_bf16_f32) (sitofp .f32 (constantI S_ 32 0#32)) pads_S8192x1024_S8192x5632_000_307215360 h_S_) bitsLt_bf16_f32

/-- The region finds the gate so. -/
theorem V_proj : Gen.V m c main_v2 = padG (aG m c) := by
  unfold_abbrev_sides
  after_reads_simp
  rfl

/-- An entry of the joint projection in the gate's columns. -/
theorem padG_at (G : FVec Ideal S8192x1024 .bf16) (i : Fin 8192) (k : Fin 5632) (j : Fin 1024) (hk : k.val = 3072 + j.val) : padG G (ix2 i k) = G (ix2 i j) := by
  rw [show k = ⟨3072 + j.val, by omega⟩ from Fin.ext hk]
  pointwise [padG]

/-- Every window's block index: rows of 2048 in turn, the heads within them. -/
theorem idx : ∀ t : Fin cfg0.N, win0_0.index t = ![t.val / 8, t.val % 8] ∧ win0_1.index t = ![t.val / 8, t.val % 8] ∧ win0_2.index t = ![t.val / 8, 24 + t.val % 8]
    ∧ win0_3.index t = ![t.val / 8, t.val % 8] :=
  (by decide +kernel : ∀ t : Fin grid0.N, _)

/-- The head of a grid point. -/
def hd (t : Fin cfg0.N) : Fin 8 := ⟨t.val % 8, by omega⟩
/-- The array's row of a block's row at a grid point. -/
def row (t : Fin cfg0.N) (a : Fin 2048) : Fin 8192 := ⟨t.val / 8 * 2048 + a, by have := t.isLt; have : cfg0.N = 32 := rfl; omega⟩

/-- The blocks, entry by entry. -/
theorem b0 (t : Fin cfg0.N) (a : Fin 2048) (l : Fin 128) : (iblk m c 0 t : Vec Ideal S2048x128 .f32) (ix2 a l) = aF m c (ix2 (row t a) (cc (hd t) l)) := by
  blk_ext [iblk, idx t] <;> simp only [row, cc, hd] <;> omega
theorem b1 (t : Fin cfg0.N) (a : Fin 2048) (l : Fin 128) : (iblk m c 1 t : Vec Ideal S2048x128 .f32) (ix2 a l) = aB m c (ix2 (row t a) (cc (hd t) l)) := by
  blk_ext [iblk, idx t] <;> simp only [row, cc, hd] <;> omega
theorem b2 (t : Fin cfg0.N) (a : Fin 2048) (l : Fin 128) : (iblk m c 2 t : Vec Ideal S2048x128 .bf16) (ix2 a l) = aG m c (ix2 (row t a) (cc (hd t) l)) := by
  rw [← padG_at (aG m c) (row t a) ⟨3072 + (cc (hd t) l).val, by omega⟩ _ rfl, ← V_proj]
  blk_ext [iblk, idx t] <;> simp only [row, cc, hd] <;> omega

/-- The result array after the run. -/
theorem arr3 (i : Fin 8192) (h : Fin 8) (l : Fin 128) : (show Vec Ideal S8192x1024 .bf16 from (dats m 0 c).arrAt 3 cfg0.N) (ix2 i (cc h l)) = gn (fun k => (aF m c (ix2 i (cc h k)) : EReal) + aB m c (ix2 i (cc h k))) (fun k => aG m c (ix2 i (cc h k))) l := by
  have key := (dats m 0 c).arrAt_forall_of_covers 3 (fun x w => ∀ (i : Fin 8192) (h : Fin 8) (l : Fin 128), (show S8192x1024.Idx from x) = ix2 i (cc h l) →
    (show EReal from w) = gn (fun k => (aF m c (ix2 i (cc h k)) : EReal) + aB m c (ix2 i (cc h k))) (fun k => aG m c (ix2 i (cc h k))) l) (by decide +kernel) (fun t hf y => ?_) (ix2 i (cc h l))
  · exact key i h l rfl
  intro i h l hx
  have h0 := congrArg (fun x : S8192x1024.Idx => (x 0).val) hx
  have h1 := congrArg (fun x : S8192x1024.Idx => (x 1).val) hx
  blk_simp [idx t] at h0 h1
  blk_simp
  rw [after0_3]; frame_out
  idx_vars y
  have ei : i = row t y0 := Fin.ext (by simp only [row]; simp [cc] at h0; omega)
  have eh : h = hd t := Fin.ext (by simp only [hd]; simp [cc] at h1; omega)
  have el : l = y1 := Fin.ext (by simp [cc] at h1; omega)
  rw [ei, eh, el]
  refine (pay _ _ _ _ _).trans ?_
  simp only [b0, b1, b2]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v3) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, h.2.1 c⟩)
    (θ_run_and (run_main m ρ) (frame m ρ))

/-- Every column is a head's lane. -/
theorem cc_cover (j : Fin 1024) : ∃ (h : Fin 8) (l : Fin 128), j = cc h l :=
  ⟨⟨j.val / 128, by omega⟩, ⟨j.val % 128, by omega⟩, Fin.ext (by show j.val = 128 * (j.val / 128) + j.val % 128; omega)⟩

/-- Kernel and reference end with the same gated norms. -/
theorem algebraic : Cert.algebraic_Kernel17Ideal_Reference17Ideal := by
  have hz (x : EReal) : -x = 0 - x := (zero_sub x).symm
  pair_intro
  · run_from run_values m g
  · run_from Cert.Reference17Ideal.Value.run m' g'
    funext j
    idx_vars j
    obtain ⟨h, l, rfl⟩ := cc_cover j1
    refine Eq.trans ?_ (arr3 m c j0 h l).symm
    have e (x : Fin 128) : (⟨(cc h l).val / 128 * 128 + x.val, by omega⟩ : Fin 1024) = cc h x := Fin.ext (by simp only [cc]; omega)
    pointwise [gn, ms, sg, hz]
    simp only [e]

end Cert.Kernel17Ideal.Pof

end
-- ==== Proof.RopeFwd.lean ====
module

public import proofs.«01_k».proof.Proof.Gen.Kernel18Ideal.Frame
public import proofs.«01_k».proof.Proof.Gen.Reference18Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Reference18Ideal.Rot

open Cert.Reference18Ideal Cert.Reference18Ideal.Gen

/-- The reference's rotary embedding of an array. -/
def rot (p : (⟨S8192, .i32⟩ : BufTy).Contents (Elt Ideal)) (X : FVec Ideal S8192x512 .bf16) : FVec Ideal S8192x8x64 .f32 :=
  concatenate S8192x8x64 2 [⟨S8192x8x32, (subf (mulf (extractStridedSlice S8192x8x32 ![0, 0, 0] (shapeCast S8192x8x64 (extf .f32 X bitsLt_bf16_f32) shapeCasts_S8192x512_S8192x8x64) slices_S8192x8x64_S8192x8x32_0_0_0) (broadcastInDim S8192x8x32 ![0, 1, 2] bcast_S8192x1x32_S8192x8x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 p))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x8x32 ![0, 0, 32] (shapeCast S8192x8x64 (extf .f32 X bitsLt_bf16_f32) shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 p))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩, ⟨S8192x8x32, (addf (mulf (extractStridedSlice S8192x8x32 ![0, 0, 32] (shapeCast S8192x8x64 (extf .f32 X bitsLt_bf16_f32) shapeCasts_S8192x512_S8192x8x64) slices_S8192x8x64_S8192x8x32_0_0_32) (broadcastInDim S8192x8x32 ![0, 1, 2] bcast_S8192x1x32_S8192x8x32_0_1_2 (broadcastInDim S8192x1x32 ![0, 2] bcast_S8192x32_S8192x1x32_0_2 (Host.cos (mulf (broadcastInDim S8192x32 ![0, 1] bcast_S8192x1_S8192x32_0_1 (broadcastInDim S8192x1 ![0] bcast_S8192_S8192x1_0 (sitofp .f32 p))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))) (mulf (extractStridedSlice S8192x8x32 ![0, 0, 0] (shapeCast S8192x8x64 (extf .f32 X bitsLt_bf16_f32) shapeCasts_S8192x512_S8192x8x64) slices_S8192x8x64_S8192x8x32_0_0_0) (broadcastInDim S8192x8x32 ![0, 1, 2] bcast_S8192x1x32_S8192x8x32_0_1_2 (broadcastInDim S8192x1x32 ![0, 2] bcast_S8192x32_S8192x1x32_0_2 (Host.sin (mulf (broadcastInDim S8192x32 ![0, 1] bcast_S8192x1_S8192x32_0_1 (broadcastInDim S8192x1 ![0] bcast_S8192_S8192x1_0 (sitofp .f32 p))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))))))))⟩] concatenates_S8192x8x32_S8192x8x32_S8192x8x64_d2

/-- The results are the embeddings flattened, the keys' scaled. -/
theorem flat_q (p) (X : FVec Ideal S8192x512 .bf16) (i : Fin 8192) (k : Fin 512) :
    (truncf .bf16 (shapeCast S8192x512 (rot p X) shapeCasts_S8192x8x64_S8192x512) bitsLt_bf16_f32 : FVec Ideal S8192x512 .bf16) (ix2 i k) = rot p X (ix3 i ⟨k.val / 64, by omega⟩ ⟨k.val % 64, by omega⟩) := by
  pointwise []
theorem flat_k (p) (X : FVec Ideal S8192x512 .bf16) (i : Fin 8192) (k : Fin 512) :
    (truncf .bf16 (shapeCast S8192x512 (mulf (rot p X) (broadcastInDim S8192x8x64 ![] bcast_S_S8192x8x64 (constant S_ .f32 0x3E000000#32))) shapeCasts_S8192x8x64_S8192x512) bitsLt_bf16_f32 : FVec Ideal S8192x512 .bf16) (ix2 i k)
      = rot p X (ix3 i ⟨k.val / 64, by omega⟩ ⟨k.val % 64, by omega⟩) * Ideal.ofBits .f32 0x3E000000#32 := by
  pointwise []

end Cert.Reference18Ideal.Rot

namespace Cert.Kernel18Ideal.Rof

open Cert.Kernel18Ideal Cert.Kernel18Ideal.Gen
open Cert.Reference18Ideal.Rot (rot flat_q flat_k)

/-- A lane of a tile: the quarter of 32 lanes and the lane within it. -/
def ln (q : Fin 4) (j : Fin 32) : Fin 128 := ⟨32 * q.val + j.val, by omega⟩

/-- A lane turned: itself by the cosine, the lanes a half behind and before by the other two tables. -/
def turn (x y z A B C : EReal) : EReal := x * A + y * B + z * C

/-- The keys' scale. -/
def k8 : EReal := Ideal.ofBits .f32 0x3E000000#32

/-- The lanes a half behind and before. -/
theorem e1 (q : Fin 4) (j : Fin 32) : (⟨((ln q j).val + 128 - 96) % 128, by omega⟩ : Fin 128) = ln (q + 1) j := Fin.ext (by simp only [ln]; fin_cases q <;> simp <;> omega)
theorem e3 (q : Fin 4) (j : Fin 32) : (⟨((ln q j).val + 128 - 32) % 128, by omega⟩ : Fin 128) = ln (q + 3) j := Fin.ext (by simp only [ln]; fin_cases q <;> simp <;> omega)

/-- The stored payloads. -/
theorem pay_q (x : Vec Ideal S2048x128 .bf16) (A B C : Vec Ideal S2048x128 .f32) (a : Fin 2048) (q : Fin 4) (j : Fin 32) :
    (k0_pay4 x A B C (ix2 a (ln q j)) : EReal) = turn (x (ix2 a (ln q j))) (x (ix2 a (ln (q + 1) j))) (x (ix2 a (ln (q + 3) j))) (A (ix2 a (ln q j))) (B (ix2 a (ln q j))) (C (ix2 a (ln q j))) := by
  have e1 := e1 q j
  have e3 := e3 q j
  pointwise [k0_pay4, k0_pay1, k0_pay2, k0_pay3, turn]
  rw [e1, e3]
theorem pay_k (x : Vec Ideal S2048x128 .bf16) (A B C : Vec Ideal S2048x128 .f32) (a : Fin 2048) (q : Fin 4) (j : Fin 32) :
    (k0_pay5 x A B C (ix2 a (ln q j)) : EReal) = turn (x (ix2 a (ln q j))) (x (ix2 a (ln (q + 1) j))) (x (ix2 a (ln (q + 3) j))) (A (ix2 a (ln q j))) (B (ix2 a (ln q j))) (C (ix2 a (ln q j))) * k8 := by
  have e1 := e1 q j
  have e3 := e3 q j
  pointwise [k0_pay5, k0_pay1, k0_pay2, k0_pay3, turn, k8]
  rw [e1, e3]

/-- The angles: a position times a half's frequency. -/
def ang (p : (⟨S8192, .i32⟩ : BufTy).Contents (Elt Ideal)) : FVec Ideal S8192x32 .f32 :=
  mulf (broadcastInDim S8192x32 ![0, 1] bcast_S8192x1_S8192x32_0_1 (broadcastInDim S8192x1 ![0] bcast_S8192_S8192x1_0 (sitofp .f32 p)))
    (broadcastInDim S8192x32 ![0, 1] bcast_S1x32_S8192x32_0_1 (broadcastInDim S1x32 ![1] bcast_S32_S1x32_1 (Host.powf (broadcastInDim S32 ![] bcast_S_S32 (constant S_ .f32 0x461C4000#32))
      (Host.divf (Host.negf (sitofp .f32 (iotaInDim S32 32 0))) (broadcastInDim S32 ![] bcast_S_S32 (constant S_ .f32 0x42000000#32))))))

/-- No rotation. -/
def nul : FVec Ideal S8192x32 .f32 := broadcastInDim S8192x32 ![] bcast_S_S8192x32 (constant S_ .f32 0x00000000#32)

/-- Four pieces of 32 lanes side by side. -/
def four (x y z w : FVec Ideal S8192x32 .f32) : FVec Ideal S8192x128 .f32 :=
  concatenate S8192x128 1 [⟨S8192x32, x⟩, ⟨S8192x32, y⟩, ⟨S8192x32, z⟩, ⟨S8192x32, w⟩] concatenates_S8192x32_S8192x32_S8192x32_S8192x32_S8192x128_d1

/-- The four pieces, entry by entry. -/
theorem four_at (x y z w : FVec Ideal S8192x32 .f32) (i : Fin 8192) (q : Fin 4) (j : Fin 32) :
    four x y z w (ix2 i (ln q j)) = (![x, y, z, w] q) (ix2 i j) := by
  have off (k : Fin 4) (b : Fin S8192x32.rank) (hb : b.cast (rfl : S8192x32.rank = S8192x128.rank) ≠ (1 : Fin 2)) :
      ((ix2 i j : S8192x32.Idx) b).val = ((ix2 i (ln k j) : S8192x128.Idx) (b.cast rfl)).val := by
    fin_cases b
    · rfl
    · exact absurd rfl hb
  have on (k : Fin 4) (n : Nat) (hn : n = 32 * k.val) : n + ((ix2 i j : S8192x32.Idx) 1).val = ((ix2 i (ln k j) : S8192x128.Idx) 1).val := by
    subst hn; rfl
  let xs : List ((s : Shape) × (s.Idx → Ideal .f32)) := [⟨S8192x32, x⟩, ⟨S8192x32, y⟩, ⟨S8192x32, z⟩, ⟨S8192x32, w⟩]
  have pc (k : Fin 4) (v : FVec Ideal S8192x32 .f32) (hv : xs[k.val]'k.isLt = ⟨S8192x32, v⟩) (hs : (((xs.take k.val).map (·.1)).map fun s => if h : s.rank = S8192x128.rank then s.size ((1 : Fin S8192x128.rank).cast h.symm) else 0).sum = 32 * k.val) :
      four x y z w (ix2 i (ln k j)) = v (ix2 i j) :=
    concatenate_apply_piece 1 xs concatenates_S8192x32_S8192x32_S8192x32_S8192x32_S8192x128_d1 (ix2 i (ln k j)) k.val k.isLt S8192x32 v hv rfl (32 * k.val) hs (ix2 i j) (off k) (on k _ rfl)
  fin_cases q
  · exact pc 0 x rfl rfl
  · exact pc 1 y rfl rfl
  · exact pc 2 z rfl rfl
  · exact pc 3 w rfl rfl

variable (m : (ℓ : Loc nD τ sig) → Buf (Elt Ideal) ℓ) (c : Dev nD)

/-- The positions, the queries and the keys: the arguments. -/
abbrev aP : (⟨S8192, .i32⟩ : BufTy).Contents (Elt Ideal) := m ((c.tc : Thread nD τ).loc main_arg0)
abbrev aQ : FVec Ideal S8192x512 .bf16 := m ((c.tc : Thread nD τ).loc main_arg1)
abbrev aK : FVec Ideal S8192x512 .bf16 := m ((c.tc : Thread nD τ).loc main_arg2)

/-- The region finds the three tables so. -/
theorem V_cos : Gen.V m c main_v21 = four (Host.cos (ang (aP m c))) (Host.cos (ang (aP m c))) (Host.cos (ang (aP m c))) (Host.cos (ang (aP m c))) := by
  unfold_abbrev_sides
  after_reads_simp
  rfl
theorem V_neg : Gen.V m c main_v22 = four (Host.negf (Host.sin (ang (aP m c)))) nul (Host.negf (Host.sin (ang (aP m c)))) nul := by
  unfold_abbrev_sides
  after_reads_simp
  rfl
theorem V_pos : Gen.V m c main_v23 = four nul (Host.sin (ang (aP m c))) nul (Host.sin (ang (aP m c))) := by
  unfold_abbrev_sides
  after_reads_simp
  rfl

/-- The queries and keys in their columns of the joint projection. -/
def padR (Q K : FVec Ideal S8192x512 .bf16) : FVec Ideal S8192x5632 .bf16 :=
  truncf .bf16 (pad S8192x5632 ![0, 4096] ![0, 512] ![0, 0] (concatenate S8192x1024 1 [⟨S8192x512, extf .f32 Q bitsLt_bf16_f32⟩, ⟨S8192x512, extf .f32 K bitsLt_bf16_f32⟩] concatenates_S8192x512_S8192x512_S8192x1024_d1)
    (sitofp .f32 (constantI S_ 32 0#32)) pads_S8192x1024_S8192x5632_000_40965120 h_S_) bitsLt_bf16_f32

/-- The region finds them so. -/
theorem V_proj : Gen.V m c main_v4 = padR (aQ m c) (aK m c) := by
  unfold_abbrev_sides
  after_reads_simp
  rfl

/-- An entry of the joint projection in the queries' and in the keys' columns. -/
theorem padR_q (Q K : FVec Ideal S8192x512 .bf16) (i : Fin 8192) (j : Fin 512) : padR Q K (ix2 i ⟨4096 + j.val, by omega⟩) = Q (ix2 i j) := by
  pointwise [padR]
  rw [dif_pos (by omega)]
theorem padR_k (Q K : FVec Ideal S8192x512 .bf16) (i : Fin 8192) (j : Fin 512) : padR Q K (ix2 i ⟨4608 + j.val, by omega⟩) = K (ix2 i j) := by
  pointwise [padR]
  rw [dif_pos (by omega), dif_neg (by omega)]
  exact congrArg (fun k => K (ix2 i k)) (Fin.ext (by show 4608 + j.val - 4096 - 512 = j.val; omega))

/-- The block column, quarter and lane of a column. -/
def cq (b : Fin 4) (q : Fin 4) (j : Fin 32) : Fin 512 := ⟨128 * b.val + 32 * q.val + j.val, by omega⟩

/-- Every window's block index: rows of 2048 in turn, the column blocks within them. -/
theorem idx : ∀ t : Fin cfg0.N, win0_0.index t = ![t.val / 4, 32 + t.val % 4] ∧ win0_1.index t = ![t.val / 4, 36 + t.val % 4] ∧ win0_2.index t = ![t.val / 4, 0] ∧ win0_3.index t = ![t.val / 4, 0] ∧ win0_4.index t = ![t.val / 4, 0]
    ∧ win0_5.index t = ![t.val / 4, t.val % 4] ∧ win0_6.index t = ![t.val / 4, t.val % 4] :=
  (by decide +kernel : ∀ t : Fin grid0.N, _)

/-- The column block of a grid point. -/
def bl (t : Fin cfg0.N) : Fin 4 := ⟨t.val % 4, by omega⟩
/-- The array's row of a block's row at a grid point. -/
def row (t : Fin cfg0.N) (a : Fin 2048) : Fin 8192 := ⟨t.val / 4 * 2048 + a, by have := t.isLt; have : cfg0.N = 16 := rfl; omega⟩

/-- The blocks, entry by entry. -/
theorem b2 (t : Fin cfg0.N) (a : Fin 2048) (q : Fin 4) (j : Fin 32) : (iblk m c 2 t : Vec Ideal S2048x128 .f32) (ix2 a (ln q j)) = Host.cos (ang (aP m c)) (ix2 (row t a) j) := by
  refine Eq.trans (b := Gen.V m c main_v21 (ix2 (row t a) (ln q j))) ?_ ?_
  · blk_ext [iblk, idx t] <;> simp only [row] <;> omega
  · rw [V_cos, four_at]; fin_cases q <;> rfl
theorem b3 (t : Fin cfg0.N) (a : Fin 2048) (q : Fin 4) (j : Fin 32) : (iblk m c 3 t : Vec Ideal S2048x128 .f32) (ix2 a (ln q j))
    = (![Host.negf (Host.sin (ang (aP m c))), nul, Host.negf (Host.sin (ang (aP m c))), nul] q) (ix2 (row t a) j) := by
  rw [← four_at, ← V_neg]
  blk_ext [iblk, idx t] <;> simp only [row] <;> omega
theorem b4 (t : Fin cfg0.N) (a : Fin 2048) (q : Fin 4) (j : Fin 32) : (iblk m c 4 t : Vec Ideal S2048x128 .f32) (ix2 a (ln q j))
    = (![nul, Host.sin (ang (aP m c)), nul, Host.sin (ang (aP m c))] q) (ix2 (row t a) j) := by
  rw [← four_at, ← V_pos]
  blk_ext [iblk, idx t] <;> simp only [row] <;> omega
theorem b0 (t : Fin cfg0.N) (a : Fin 2048) (q : Fin 4) (j : Fin 32) : (iblk m c 0 t : Vec Ideal S2048x128 .bf16) (ix2 a (ln q j)) = aQ m c (ix2 (row t a) (cq (bl t) q j)) := by
  rw [← padR_q (aQ m c) (aK m c), ← V_proj]
  blk_ext [iblk, idx t] <;> simp only [row, cq, bl, ln] <;> omega
theorem b1 (t : Fin cfg0.N) (a : Fin 2048) (q : Fin 4) (j : Fin 32) : (iblk m c 1 t : Vec Ideal S2048x128 .bf16) (ix2 a (ln q j)) = aK m c (ix2 (row t a) (cq (bl t) q j)) := by
  rw [← padR_k (aQ m c) (aK m c), ← V_proj]
  blk_ext [iblk, idx t] <;> simp only [row, cq, bl, ln] <;> omega

/-- The turned array at a row, a column block, a quarter and a lane, as the kernel computes it. -/
def tK (p : (⟨S8192, .i32⟩ : BufTy).Contents (Elt Ideal)) (X : FVec Ideal S8192x512 .bf16) (i : Fin 8192) (b q : Fin 4) (j : Fin 32) : EReal :=
  turn (X (ix2 i (cq b q j))) (X (ix2 i (cq b (q + 1) j))) (X (ix2 i (cq b (q + 3) j))) (Host.cos (ang p) (ix2 i j))
    ((![Host.negf (Host.sin (ang p)), nul, Host.negf (Host.sin (ang p)), nul] q) (ix2 i j)) ((![nul, Host.sin (ang p), nul, Host.sin (ang p)] q) (ix2 i j))

/-- Every lane of a tile is a quarter's lane. -/
theorem ln_cover (l : Fin 128) : ∃ (q : Fin 4) (j : Fin 32), l = ln q j :=
  ⟨⟨l.val / 32, by omega⟩, ⟨l.val % 32, by omega⟩, Fin.ext (by show l.val = 32 * (l.val / 32) + l.val % 32; omega)⟩

/-- The first result array after the run. -/
theorem arr5 (i : Fin 8192) (b q : Fin 4) (j : Fin 32) :
    (show Vec Ideal S8192x512 .bf16 from (dats m 0 c).arrAt 5 cfg0.N) (ix2 i (cq b q j)) = tK (aP m c) (aQ m c) i b q j := by
  have key := (dats m 0 c).arrAt_forall_of_covers 5 (fun x w => ∀ (i : Fin 8192) (b q : Fin 4) (j : Fin 32), (show S8192x512.Idx from x) = ix2 i (cq b q j) →
    (show EReal from w) = tK (aP m c) (aQ m c) i b q j) (by decide +kernel) (fun t hf y => ?_) (ix2 i (cq b q j))
  · exact key i b q j rfl
  intro i b q j hx
  have h0 := congrArg (fun x : S8192x512.Idx => (x 0).val) hx
  have h1 := congrArg (fun x : S8192x512.Idx => (x 1).val) hx
  blk_simp [idx t] at h0 h1
  blk_simp
  rw [after0_5]; frame_out
  idx_vars y
  obtain ⟨q', j', rfl⟩ := ln_cover y1
  simp [ln, cq] at h0 h1
  have ei : i = row t y0 := Fin.ext (by simp only [row]; omega)
  have eb : b = bl t := Fin.ext (by simp only [bl]; omega)
  have eq : q = q' := Fin.ext (by omega)
  have ej : j = j' := Fin.ext (by omega)
  rw [ei, eb, eq, ej]
  refine (pay_q _ _ _ _ _ _ _).trans ?_
  simp only [tK, b0, b2, b3, b4]

/-- The second result array after the run. -/
theorem arr6 (i : Fin 8192) (b q : Fin 4) (j : Fin 32) :
    (show Vec Ideal S8192x512 .bf16 from (dats m 0 c).arrAt 6 cfg0.N) (ix2 i (cq b q j)) = tK (aP m c) (aK m c) i b q j * k8 := by
  have key := (dats m 0 c).arrAt_forall_of_covers 6 (fun x w => ∀ (i : Fin 8192) (b q : Fin 4) (j : Fin 32), (show S8192x512.Idx from x) = ix2 i (cq b q j) →
    (show EReal from w) = tK (aP m c) (aK m c) i b q j * k8) (by decide +kernel) (fun t hf y => ?_) (ix2 i (cq b q j))
  · exact key i b q j rfl
  intro i b q j hx
  have h0 := congrArg (fun x : S8192x512.Idx => (x 0).val) hx
  have h1 := congrArg (fun x : S8192x512.Idx => (x 1).val) hx
  blk_simp [idx t] at h0 h1
  blk_simp
  rw [after0_6]; frame_out
  idx_vars y
  obtain ⟨q', j', rfl⟩ := ln_cover y1
  simp [ln, cq] at h0 h1
  have ei : i = row t y0 := Fin.ext (by simp only [row]; omega)
  have eb : b = bl t := Fin.ext (by simp only [bl]; omega)
  have eq : q = q' := Fin.ext (by omega)
  have ej : j = j' := Fin.ext (by omega)
  rw [ei, eb, eq, ej]
  refine (pay_k _ _ _ _ _ _ _).trans ?_
  simp only [tK, b1, b2, b3, b4]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v24_0) = (dats m 0 c).arrAt 5 cfg0.N
      ∧ r.2.mem ((c.tc : Thread nD τ).loc main_v24_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 5, (h.1 c).1 6, h.2.1 c⟩)
    (θ_run_and (run_main m ρ) (frame m ρ))

/-- Every column is a block's quarter's lane. -/
theorem cq_cover (k : Fin 512) : ∃ (b q : Fin 4) (j : Fin 32), k = cq b q j :=
  ⟨⟨k.val / 128, by omega⟩, ⟨k.val % 128 / 32, by omega⟩, ⟨k.val % 32, by omega⟩, Fin.ext (by show k.val = 128 * (k.val / 128) + 32 * (k.val % 128 / 32) + k.val % 32; omega)⟩

/-- The turned array in a head's first half. -/
def ev (p : (⟨S8192, .i32⟩ : BufTy).Contents (Elt Ideal)) (X : FVec Ideal S8192x512 .bf16) (i : Fin 8192) (b q r : Fin 4) (j : Fin 32) : EReal :=
  X (ix2 i (cq b q j)) * Host.cos (ang p) (ix2 i j) - X (ix2 i (cq b r j)) * Host.sin (ang p) (ix2 i j)

/-- The turned array in a head's second half. -/
def od (p : (⟨S8192, .i32⟩ : BufTy).Contents (Elt Ideal)) (X : FVec Ideal S8192x512 .bf16) (i : Fin 8192) (b q r : Fin 4) (j : Fin 32) : EReal :=
  X (ix2 i (cq b q j)) * Host.cos (ang p) (ix2 i j) + X (ix2 i (cq b r j)) * Host.sin (ang p) (ix2 i j)

/-- No rotation is zero everywhere. -/
theorem nul_at (i : Fin 8192) (j : Fin 32) : nul (ix2 i j) = 0 := by pointwise [nul]

/-- The kernel's sums are these. -/
theorem tK0 (p) (X : FVec Ideal S8192x512 .bf16) (i : Fin 8192) (b : Fin 4) (j : Fin 32) : tK p X i b 0 j = ev p X i b 0 1 j := by
  change _ + _ * -(Host.sin (ang p) (ix2 i j) : EReal) + _ * nul (ix2 i j) = _
  rw [nul_at, mul_zero, add_zero, mul_neg, ← sub_eq_add_neg]; rfl
theorem tK2 (p) (X : FVec Ideal S8192x512 .bf16) (i : Fin 8192) (b : Fin 4) (j : Fin 32) : tK p X i b 2 j = ev p X i b 2 3 j := by
  change _ + _ * -(Host.sin (ang p) (ix2 i j) : EReal) + _ * nul (ix2 i j) = _
  rw [nul_at, mul_zero, add_zero, mul_neg, ← sub_eq_add_neg]; rfl
theorem tK1 (p) (X : FVec Ideal S8192x512 .bf16) (i : Fin 8192) (b : Fin 4) (j : Fin 32) : tK p X i b 1 j = od p X i b 1 0 j := by
  change _ + _ * nul (ix2 i j) + _ * (Host.sin (ang p) (ix2 i j) : EReal) = _
  rw [nul_at, mul_zero, add_zero]; rfl
theorem tK3 (p) (X : FVec Ideal S8192x512 .bf16) (i : Fin 8192) (b : Fin 4) (j : Fin 32) : tK p X i b 3 j = od p X i b 3 2 j := by
  change _ + _ * nul (ix2 i j) + _ * (Host.sin (ang p) (ix2 i j) : EReal) = _
  rw [nul_at, mul_zero, add_zero]; rfl

set_option maxHeartbeats 2000000 in
/-- The reference in a head's first half. -/
theorem rot_ev (p) (X : FVec Ideal S8192x512 .bf16) (i : Fin 8192) (b q r : Fin 4) (j : Fin 32) (h : q.val % 2 = 0) (h' : r.val = q.val + 1) (k : Fin 512) (hk : cq b q j = k) :
    rot p X (ix3 i ⟨k.val / 64, by omega⟩ ⟨k.val % 64, by omega⟩) = ev p X i b q r j := by
  have v : k.val = 128 * b.val + 32 * q.val + j.val := hk ▸ rfl
  have w : k.val % 64 = j.val := by omega
  have e : (⟨k.val / 64 * 64 + (32 + k.val % 64), by omega⟩ : Fin 512) = cq b r j := Fin.ext (by simp only [cq]; omega)
  pointwise [ev, ang, rot]
  rw [dif_pos (by omega), e]
  simp only [w, hk]

set_option maxHeartbeats 2000000 in
/-- The reference in a head's second half. -/
theorem rot_od (p) (X : FVec Ideal S8192x512 .bf16) (i : Fin 8192) (b q r : Fin 4) (j : Fin 32) (h : q.val % 2 = 1) (h' : q.val = r.val + 1) (k : Fin 512) (hk : cq b q j = k) :
    rot p X (ix3 i ⟨k.val / 64, by omega⟩ ⟨k.val % 64, by omega⟩) = od p X i b q r j := by
  have v : k.val = 128 * b.val + 32 * q.val + j.val := hk ▸ rfl
  have w : k.val % 64 - 32 = j.val := by omega
  have e : (⟨k.val / 64 * 64 + (32 + (k.val % 64 - 32)), by omega⟩ : Fin 512) = k := Fin.ext (by show k.val / 64 * 64 + (32 + (k.val % 64 - 32)) = k.val; omega)
  have e' : (⟨k.val / 64 * 64 + (k.val % 64 - 32), by omega⟩ : Fin 512) = cq b r j := Fin.ext (by simp only [cq]; omega)
  pointwise [od, ang, rot]
  rw [dif_neg (by omega), e, e']
  simp only [w, hk]

/-- The reference's embedding is the kernel's. -/
theorem rot_tK (p) (X : FVec Ideal S8192x512 .bf16) (i : Fin 8192) (b q : Fin 4) (j : Fin 32) :
    rot p X (ix3 i ⟨(cq b q j).val / 64, by omega⟩ ⟨(cq b q j).val % 64, by omega⟩) = tK p X i b q j := by
  rcases (by omega : q = 0 ∨ q = 1 ∨ q = 2 ∨ q = 3) with rfl | rfl | rfl | rfl
  · exact (rot_ev p X i b 0 1 j rfl rfl _ rfl).trans (tK0 _ _ _ _ _).symm
  · exact (rot_od p X i b 1 0 j rfl rfl _ rfl).trans (tK1 _ _ _ _ _).symm
  · exact (rot_ev p X i b 2 3 j rfl rfl _ rfl).trans (tK2 _ _ _ _ _).symm
  · exact (rot_od p X i b 3 2 j rfl rfl _ rfl).trans (tK3 _ _ _ _ _).symm

/-- Kernel and reference end with the same turned queries and keys. -/
theorem algebraic : Cert.algebraic_Kernel18Ideal_Reference18Ideal := by
  pair_intro
  · run_from run_values m g
  · run_from Cert.Reference18Ideal.Value.run m' g'
    · funext k
      idx_vars k
      obtain ⟨b, q, j, rfl⟩ := cq_cover k1
      refine Eq.trans ?_ (arr5 m c k0 b q j).symm
      unfold aP aQ
      exact (flat_q _ _ _ _).trans (rot_tK _ _ _ _ _ _)
    · funext k
      idx_vars k
      obtain ⟨b, q, j, rfl⟩ := cq_cover k1
      refine Eq.trans ?_ (arr6 m c k0 b q j).symm
      unfold aP aK
      rw [(hagree c).2.2]
      exact (flat_k _ _ _ _).trans (congrArg (· * k8) (rot_tK _ _ _ _ _ _))

end Cert.Kernel18Ideal.Rof

end
-- ==== Proof.QkFwd.lean ====
module

public import proofs.«01_k».proof.Proof.Gen.Kernel19Ideal.Frame
public import proofs.«01_k».proof.Proof.Gen.Reference19Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Reference19Ideal.Nrm

open Cert.Reference19Ideal Cert.Reference19Ideal.Gen

/-- One over the root of a head's mean square. -/
def rs (x : Fin 96 → EReal) : EReal := Ideal.rsqrt (Ideal.div (∑ k, x k * x k) (Ideal.ofBits .f32 0x42C00000#32) + Ideal.ofBits .f32 0x358637BD#32)

/-- The normed head times the gain. -/
def nr (x g : Fin 96 → EReal) (k : Fin 96) : EReal := x k * rs x * g k

/-- The angles: a position times a half's frequency. -/
def ang (p : (⟨S8192, .i32⟩ : BufTy).Contents (Elt Ideal)) : FVec Ideal S8192x16 .f32 :=
  mulf (broadcastInDim S8192x16 ![0, 1] bcast_S8192x1_S8192x16_0_1 (broadcastInDim S8192x1 ![0] bcast_S8192_S8192x1_0 (sitofp .f32 p))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The reference's norm of an array of heads. -/
def nrm (X : FVec Ideal S8192x8x96 .f32) (G : FVec Ideal S96 .f32) : FVec Ideal S8192x8x96 .f32 :=
  mulf (mulf X (broadcastInDim S8192x8x96 ![0, 1, 2] bcast_S8192x8x1_S8192x8x96_0_1_2 (Host.rsqrt (addf (Host.divf (broadcastInDim S8192x8x1 ![0, 1] bcast_S8192x8_S8192x8x1_0_1 (Host.reduceAdd (mulf X X) (constant S_ .f32 0x00000000#32) reducesTo_S8192x8x96_S8192x8_d2 h_S_)) (broadcastInDim S8192x8x1 ![] bcast_S_S8192x8x1 (constant S_ .f32 0x42C00000#32))) (broadcastInDim S8192x8x1 ![] bcast_S_S8192x8x1 (constant S_ .f32 0x358637BD#32)))))) (broadcastInDim S8192x8x96 ![0, 1, 2] bcast_S1x1x96_S8192x8x96_0_1_2 (broadcastInDim S1x1x96 ![2] bcast_S96_S1x1x96_2 G))

/-- The reference's rotary embedding of the last 32 columns of a head. -/
def rot (p : (⟨S8192, .i32⟩ : BufTy).Contents (Elt Ideal)) (Y : FVec Ideal S8192x8x96 .f32) : FVec Ideal S8192x8x96 .f32 :=
  concatenate S8192x8x96 2 [⟨S8192x8x64, (extractStridedSlice S8192x8x64 ![0, 0, 0] Y slices_S8192x8x96_S8192x8x64_0_0_0)⟩, ⟨S8192x8x32, (concatenate S8192x8x32 2 [⟨S8192x8x16, (subf (mulf (extractStridedSlice S8192x8x16 ![0, 0, 0] (extractStridedSlice S8192x8x32 ![0, 0, 64] Y slices_S8192x8x96_S8192x8x32_0_0_64) slices_S8192x8x32_S8192x8x16_0_0_0) (broadcastInDim S8192x8x16 ![0, 1, 2] bcast_S8192x1x16_S8192x8x16_0_1_2 (broadcastInDim S8192x1x16 ![0, 2] bcast_S8192x16_S8192x1x16_0_2 (Host.cos (ang p))))) (mulf (extractStridedSlice S8192x8x16 ![0, 0, 16] (extractStridedSlice S8192x8x32 ![0, 0, 64] Y slices_S8192x8x96_S8192x8x32_0_0_64) slices_S8192x8x32_S8192x8x16_0_0_16) (broadcastInDim S8192x8x16 ![0, 1, 2] bcast_S8192x1x16_S8192x8x16_0_1_2 (broadcastInDim S8192x1x16 ![0, 2] bcast_S8192x16_S8192x1x16_0_2 (Host.sin (ang p))))))⟩, ⟨S8192x8x16, (addf (mulf (extractStridedSlice S8192x8x16 ![0, 0, 16] (extractStridedSlice S8192x8x32 ![0, 0, 64] Y slices_S8192x8x96_S8192x8x32_0_0_64) slices_S8192x8x32_S8192x8x16_0_0_16) (broadcastInDim S8192x8x16 ![0, 1, 2] bcast_S8192x1x16_S8192x8x16_0_1_2 (broadcastInDim S8192x1x16 ![0, 2] bcast_S8192x16_S8192x1x16_0_2 (Host.cos (ang p))))) (mulf (extractStridedSlice S8192x8x16 ![0, 0, 0] (extractStridedSlice S8192x8x32 ![0, 0, 64] Y slices_S8192x8x96_S8192x8x32_0_0_64) slices_S8192x8x32_S8192x8x16_0_0_0) (broadcastInDim S8192x8x16 ![0, 1, 2] bcast_S8192x1x16_S8192x8x16_0_1_2 (broadcastInDim S8192x1x16 ![0, 2] bcast_S8192x16_S8192x1x16_0_2 (Host.sin (ang p))))))⟩] concatenates_S8192x8x16_S8192x8x16_S8192x8x32_d2)⟩] concatenates_S8192x8x64_S8192x8x32_S8192x8x96_d2

/-- The reference's keys before the norm: the heads' own columns beside the shared ones. -/
def keys (N : FVec Ideal S8192x8x64 .bf16) (R : FVec Ideal S8192x32 .bf16) : FVec Ideal S8192x8x96 .f32 :=
  concatenate S8192x8x96 2 [⟨S8192x8x64, (extf .f32 N bitsLt_bf16_f32)⟩, ⟨S8192x8x32, (broadcastInDim S8192x8x32 ![0, 1, 2] bcast_S8192x1x32_S8192x8x32_0_1_2 (broadcastInDim S8192x1x32 ![0, 2] bcast_S8192x32_S8192x1x32_0_2 (extf .f32 R bitsLt_bf16_f32)))⟩] concatenates_S8192x8x64_S8192x8x32_S8192x8x96_d2

/-- The norm, entry by entry. -/
theorem nrm_at (X : FVec Ideal S8192x8x96 .f32) (G : FVec Ideal S96 .f32) (i : Fin 8192) (h : Fin 8) (k : Fin 96) :
    nrm X G (ix3 i h k) = nr (fun k => X (ix3 i h k)) (fun k => G (ix1 k)) k := by
  pointwise [nrm, nr, rs]

/-- The embedding keeps the first 64 columns. -/
theorem rot_lo (p) (Y : FVec Ideal S8192x8x96 .f32) (i : Fin 8192) (h : Fin 8) (k : Fin 64) : rot p Y (ix3 i h ⟨k.val, by omega⟩) = Y (ix3 i h ⟨k.val, by omega⟩) := by
  pointwise [rot]

/-- It turns the first of the two halves of 16. -/
theorem rot_md (p) (Y : FVec Ideal S8192x8x96 .f32) (i : Fin 8192) (h : Fin 8) (k : Fin 16) : rot p Y (ix3 i h ⟨64 + k.val, by omega⟩)
    = Y (ix3 i h ⟨64 + k.val, by omega⟩) * Host.cos (ang p) (ix2 i k) - Y (ix3 i h ⟨80 + k.val, by omega⟩) * Host.sin (ang p) (ix2 i k) := by
  have e : (⟨64 + (16 + k.val), by omega⟩ : Fin 96) = ⟨80 + k.val, by omega⟩ := Fin.ext (by show 64 + (16 + k.val) = 80 + k.val; omega)
  pointwise [rot, ang]
  rw [e]

/-- It turns the second. -/
theorem rot_hi (p) (Y : FVec Ideal S8192x8x96 .f32) (i : Fin 8192) (h : Fin 8) (k : Fin 16) : rot p Y (ix3 i h ⟨80 + k.val, by omega⟩)
    = Y (ix3 i h ⟨80 + k.val, by omega⟩) * Host.cos (ang p) (ix2 i k) + Y (ix3 i h ⟨64 + k.val, by omega⟩) * Host.sin (ang p) (ix2 i k) := by
  have n : 80 + k.val - 64 - 16 = k.val := by omega
  have e : (⟨64 + (16 + k.val), by omega⟩ : Fin 96) = ⟨80 + k.val, by omega⟩ := Fin.ext (by show 64 + (16 + k.val) = 80 + k.val; omega)
  pointwise [rot, ang]
  rw [dif_neg (by omega), dif_neg (by omega)]
  simp only [n]
  rw [e]

/-- The keys, entry by entry. -/
theorem keys_lo (N : FVec Ideal S8192x8x64 .bf16) (R : FVec Ideal S8192x32 .bf16) (i : Fin 8192) (h : Fin 8) (k : Fin 64) : keys N R (ix3 i h ⟨k.val, by omega⟩) = N (ix3 i h k) := by
  pointwise [keys]
theorem keys_hi (N : FVec Ideal S8192x8x64 .bf16) (R : FVec Ideal S8192x32 .bf16) (i : Fin 8192) (h : Fin 8) (k : Fin 32) : keys N R (ix3 i h ⟨64 + k.val, by omega⟩) = R (ix2 i k) := by
  pointwise [keys]

/-- The queries' result is the embedding times the attention's scale, the keys' the embedding. -/
theorem out_q (Z : FVec Ideal S8192x8x96 .f32) (i : Fin 8192) (h : Fin 8) (k : Fin 96) :
    (truncf .bf16 (mulf Z (broadcastInDim S8192x8x96 ![] bcast_S_S8192x8x96 (constant S_ .f32 0x3E16C740#32))) bitsLt_bf16_f32 : FVec Ideal S8192x8x96 .bf16) (ix3 i h k) = Z (ix3 i h k) * Ideal.ofBits .f32 0x3E16C740#32 := by
  pointwise []

end Cert.Reference19Ideal.Nrm

namespace Cert.Kernel19Ideal.Qkf

open Cert.Kernel19Ideal Cert.Kernel19Ideal.Gen
open Cert.Reference19Ideal.Nrm (rs nr nrm rot keys nrm_at rot_lo rot_md rot_hi keys_lo keys_hi out_q)

/-- The reciprocal of the heads' width, as the kernel's named constant. -/
def i96 : EReal := Named.named (F := Ideal) Cert.Kernel19Ideal.κ (φ := .f32) "inv_qk" 0x3C2AAAAB#32
theorem i96_eq : i96 = (((96 : ℝ)⁻¹ : ℝ) : EReal) := IdealRules.named_const.ideal_named_scalar _ _ _ _ rfl

/-- The attention's scale. -/
def q8 : EReal := Ideal.ofBits .f32 0x3E16C740#32

/-- One over the root of the mean square, over the padded lanes. -/
def krs (y : Fin 128 → EReal) : EReal := Ideal.rsqrt ((∑ k, y k * y k) * i96 + Ideal.ofBits .f32 0x358637BD#32)

/-- The normed lane times the gain. -/
def kn (y g : Fin 128 → EReal) (k : Fin 128) : EReal := y k * krs y * g k

/-- The lanes 16 behind and before. -/
def bh (l : Fin 128) : Fin 128 := ⟨(l.val + 128 - 112) % 128, by omega⟩
def bf (l : Fin 128) : Fin 128 := ⟨(l.val + 128 - 16) % 128, by omega⟩

/-- The normed lanes turned by the three tables. -/
def kv (y g A B C : Fin 128 → EReal) (l : Fin 128) : EReal := kn y g l * A l + kn y g (bh l) * B l + kn y g (bf l) * C l

set_option maxHeartbeats 1000000 in
/-- The stored payloads. -/
theorem pay_q (g : Vec Ideal S1x128 .f32) (x : Vec Ideal S2048x128 .bf16) (A B C : Vec Ideal S2048x128 .f32) (a : Fin 2048) (l : Fin 128) :
    (k0_pay1 (k0_pay9 g x A B C) (Scalar.ofBits .f32 0x3E16C740#32) (ix2 a l) : EReal)
      = kv (fun k => x (ix2 a k)) (fun k => g (ix2 0 k)) (fun k => A (ix2 a k)) (fun k => B (ix2 a k)) (fun k => C (ix2 a k)) l * q8 := by
  pointwise [k0_pay1, k0_pay9, k0_pay6, k0_pay7, k0_pay8, kv, kn, krs, q8, i96, bh, bf]
set_option maxHeartbeats 1000000 in
theorem pay_k (g : Vec Ideal S1x128 .f32) (x y : Vec Ideal S2048x128 .bf16) (A B C : Vec Ideal S2048x128 .f32) (a : Fin 2048) (l : Fin 128) :
    (k0_pay2 (k0_pay3 g) (k0_pay4 x) (k0_pay5 y) (k0_pay6 A) (k0_pay7 B) (k0_pay8 C) (ix2 a l) : EReal)
      = kv (fun k => x (ix2 a k) + y (ix2 a k)) (fun k => g (ix2 0 k)) (fun k => A (ix2 a k)) (fun k => B (ix2 a k)) (fun k => C (ix2 a k)) l := by
  pointwise [k0_pay2, k0_pay3, k0_pay4, k0_pay5, k0_pay6, k0_pay7, k0_pay8, kv, kn, krs, i96, bh, bf]

/-- The lanes in use and those behind them. -/
def up (k : Fin 96) : Fin 128 := ⟨k.val, by omega⟩
def zz (k : Fin 32) : Fin 128 := ⟨96 + k.val, by omega⟩

/-- The lanes behind add nothing to the mean square. -/
theorem krs_eq (y : Fin 128 → EReal) (x : Fin 96 → EReal) (h1 : ∀ k, y (up k) = x k) (h2 : ∀ k, y (zz k) = 0) : krs y = rs x := by
  have e : (∑ k : Fin 128, y k * y k) = ∑ k : Fin 96, x k * x k := by
    refine (Fin.sum_univ_add (a := 96) (b := 32) (fun k : Fin (96 + 32) => y k * y k)).trans ?_
    have a (k : Fin 96) : y (Fin.castAdd 32 k) = x k := h1 k
    have b (k : Fin 32) : y (Fin.natAdd 96 k) = 0 := h2 k
    simp only [a, b, mul_zero, Finset.sum_const_zero, add_zero]
  unfold krs rs
  have h96 : (Ideal.ofBits .f32 0x42C00000#32 : EReal) = ((96 : ℝ) : EReal) := by simp [Ideal.ofBits, Ideal.ieee]; rw [← EReal.coe_mul]; norm_num
  rw [e, i96_eq, h96, Ideal.div_coe (by norm_num), one_div]

section Lanes
variable (y g A B C : Fin 128 → EReal) (x w : Fin 96 → EReal) (h1 : ∀ k, y (up k) = x k) (h2 : ∀ k, y (zz k) = 0) (hg : ∀ k, g (up k) = w k)
include h1 h2 hg

/-- A lane in use is the reference's normed column. -/
theorem kn_eq (k : Fin 96) : kn y g (up k) = nr x w k := by
  unfold kn nr; rw [krs_eq y x h1 h2, h1, hg]

/-- The three stretches of lanes. -/
theorem kv_lo (k : Fin 64) (hA : A ⟨k.val, by omega⟩ = 1) (hB : B ⟨k.val, by omega⟩ = 0) (hC : C ⟨k.val, by omega⟩ = 0) :
    kv y g A B C ⟨k.val, by omega⟩ = nr x w ⟨k.val, by omega⟩ := by
  unfold kv; rw [hA, hB, hC, mul_one, mul_zero, mul_zero, add_zero, add_zero]
  exact kn_eq y g x w h1 h2 hg ⟨k.val, by omega⟩
theorem kv_md (k : Fin 16) (s t : EReal) (hA : A ⟨64 + k.val, by omega⟩ = s) (hB : B ⟨64 + k.val, by omega⟩ = -t) (hC : C ⟨64 + k.val, by omega⟩ = 0) :
    kv y g A B C ⟨64 + k.val, by omega⟩ = nr x w ⟨64 + k.val, by omega⟩ * s - nr x w ⟨80 + k.val, by omega⟩ * t := by
  have e : bh ⟨64 + k.val, by omega⟩ = up ⟨80 + k.val, by omega⟩ := Fin.ext (by simp only [bh, up]; omega)
  unfold kv; rw [hA, hB, hC, mul_zero, add_zero, mul_neg, ← sub_eq_add_neg, e, kn_eq y g x w h1 h2 hg]
  exact congrArg (fun u => u * s - _) (kn_eq y g x w h1 h2 hg ⟨64 + k.val, by omega⟩)
theorem kv_hi (k : Fin 16) (s t : EReal) (hA : A ⟨80 + k.val, by omega⟩ = s) (hB : B ⟨80 + k.val, by omega⟩ = 0) (hC : C ⟨80 + k.val, by omega⟩ = t) :
    kv y g A B C ⟨80 + k.val, by omega⟩ = nr x w ⟨80 + k.val, by omega⟩ * s + nr x w ⟨64 + k.val, by omega⟩ * t := by
  have e : bf ⟨80 + k.val, by omega⟩ = up ⟨64 + k.val, by omega⟩ := Fin.ext (by simp only [bf, up]; omega)
  unfold kv; rw [hA, hB, hC, mul_zero, add_zero, e, kn_eq y g x w h1 h2 hg]
  exact congrArg (fun u => u * s + _) (kn_eq y g x w h1 h2 hg ⟨80 + k.val, by omega⟩)
end Lanes

/-- The angles, as the kernel's program writes them. -/
def ang (p : (⟨S8192, .i32⟩ : BufTy).Contents (Elt Ideal)) : FVec Ideal S8192x16 .f32 :=
  mulf (broadcastInDim S8192x16 ![0, 1] bcast_S8192x1_S8192x16_0_1 (broadcastInDim S8192x1 ![0] bcast_S8192_S8192x1_0 (sitofp .f32 p))) (broadcastInDim S8192x16 ![0, 1] bcast_S1x16_S8192x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- The three tables. -/
def tA (u : FVec Ideal S8192x16 .f32) : FVec Ideal S8192x128 .f32 :=
  concatenate S8192x128 1 [⟨S8192x64, broadcastInDim S8192x64 ![] bcast_S_S8192x64 (constant S_ .f32 0x3F800000#32)⟩, ⟨S8192x16, u⟩, ⟨S8192x16, u⟩, ⟨S8192x32, broadcastInDim S8192x32 ![] bcast_S_S8192x32 (constant S_ .f32 0x3F800000#32)⟩] concatenates_S8192x64_S8192x16_S8192x16_S8192x32_S8192x128_d1
def tB (u : FVec Ideal S8192x16 .f32) : FVec Ideal S8192x128 .f32 :=
  concatenate S8192x128 1 [⟨S8192x64, broadcastInDim S8192x64 ![] bcast_S_S8192x64 (constant S_ .f32 0x00000000#32)⟩, ⟨S8192x16, u⟩, ⟨S8192x48, broadcastInDim S8192x48 ![] bcast_S_S8192x48 (constant S_ .f32 0x00000000#32)⟩] concatenates_S8192x64_S8192x16_S8192x48_S8192x128_d1
def tC (u : FVec Ideal S8192x16 .f32) : FVec Ideal S8192x128 .f32 :=
  concatenate S8192x128 1 [⟨S8192x80, broadcastInDim S8192x80 ![] bcast_S_S8192x80 (constant S_ .f32 0x00000000#32)⟩, ⟨S8192x16, u⟩, ⟨S8192x32, broadcastInDim S8192x32 ![] bcast_S_S8192x32 (constant S_ .f32 0x00000000#32)⟩] concatenates_S8192x80_S8192x16_S8192x32_S8192x128_d1

/-- The tables, entry by entry. -/
theorem tA_lo (u) (i : Fin 8192) (k : Fin 64) : tA u (ix2 i ⟨k.val, by omega⟩) = (1 : EReal) := by
  pointwise [tA]
theorem tA_md (u) (i : Fin 8192) (k : Fin 16) : tA u (ix2 i ⟨64 + k.val, by omega⟩) = u (ix2 i k) := by
  pointwise [tA]
theorem tA_hi (u) (i : Fin 8192) (k : Fin 16) : tA u (ix2 i ⟨80 + k.val, by omega⟩) = u (ix2 i k) := by
  pointwise [tA]
  rw [dif_neg (by omega), dif_neg (by omega), dif_pos (by omega)]
  exact congrArg (fun k => u (ix2 i k)) (Fin.ext (by show 80 + k.val - 64 - 16 = k.val; omega))
theorem tB_lo (u) (i : Fin 8192) (k : Fin 64) : tB u (ix2 i ⟨k.val, by omega⟩) = (0 : EReal) := by
  pointwise [tB]
theorem tB_md (u) (i : Fin 8192) (k : Fin 16) : tB u (ix2 i ⟨64 + k.val, by omega⟩) = u (ix2 i k) := by
  pointwise [tB]
theorem tB_hi (u) (i : Fin 8192) (k : Fin 16) : tB u (ix2 i ⟨80 + k.val, by omega⟩) = (0 : EReal) := by
  pointwise [tB]
  rw [dif_neg (by omega), dif_neg (by omega)]
theorem tC_lo (u) (i : Fin 8192) (k : Fin 64) : tC u (ix2 i ⟨k.val, by omega⟩) = (0 : EReal) := by
  pointwise [tC]
  rw [dif_pos (by omega)]
theorem tC_md (u) (i : Fin 8192) (k : Fin 16) : tC u (ix2 i ⟨64 + k.val, by omega⟩) = (0 : EReal) := by
  pointwise [tC]
  rw [dif_pos (by omega)]
theorem tC_hi (u) (i : Fin 8192) (k : Fin 16) : tC u (ix2 i ⟨80 + k.val, by omega⟩) = u (ix2 i k) := by
  pointwise [tC]

/-- A column of a head in the padded arrays, and a column of the shared key's tile. -/
def cc (h : Fin 8) (l : Fin 128) : Fin 1024 := ⟨h.val * 128 + l.val, by omega⟩
def cr (l : Fin 128) : Fin 5632 := ⟨5504 + l.val, by omega⟩

/-- The padded arrays. -/
def padG (G : FVec Ideal S96 .f32) : FVec Ideal S1x128 .f32 :=
  pad S1x128 ![0, 0] ![0, 32] ![0, 0] (shapeCast S1x96 G shapeCasts_S96_S1x96) (sitofp .f32 (constantI S_ 32 0#32)) pads_S1x96_S1x128_000_0320 h_S_
def padQ (X : FVec Ideal S8192x8x96 .bf16) : FVec Ideal S8192x1024 .bf16 :=
  truncf .bf16 (shapeCast S8192x1024 (pad S8192x8x128 ![0, 0, 0] ![0, 0, 32] ![0, 0, 0] (extf .f32 X bitsLt_bf16_f32) (sitofp .f32 (constantI S_ 32 0#32)) pads_S8192x8x96_S8192x8x128_000_000_0320 h_S_) shapeCasts_S8192x8x128_S8192x1024) bitsLt_bf16_f32
def padN (X : FVec Ideal S8192x8x64 .bf16) : FVec Ideal S8192x1024 .bf16 :=
  truncf .bf16 (shapeCast S8192x1024 (pad S8192x8x128 ![0, 0, 0] ![0, 0, 64] ![0, 0, 0] (extf .f32 X bitsLt_bf16_f32) (sitofp .f32 (constantI S_ 32 0#32)) pads_S8192x8x64_S8192x8x128_000_000_0640 h_S_) shapeCasts_S8192x8x128_S8192x1024) bitsLt_bf16_f32
def padR (X : FVec Ideal S8192x32 .bf16) : FVec Ideal S8192x5632 .bf16 :=
  truncf .bf16 (pad S8192x5632 ![0, 5568] ![0, 32] ![0, 0] (extf .f32 X bitsLt_bf16_f32) (sitofp .f32 (constantI S_ 32 0#32)) pads_S8192x32_S8192x5632_000_5568320 h_S_) bitsLt_bf16_f32

/-- The padding. -/
theorem z0 : (FloatOps.sitofp (F := Ideal) .f32 (0#32 : BitVec 32) : EReal) = 0 := by
  show (((0#32 : BitVec 32).toInt : ℝ) : EReal) = 0
  simp

/-- The padded arrays, entry by entry. -/
theorem padG_at (G) (k : Fin 96) : padG G (ix2 0 (up k)) = G (ix1 k) := by
  pointwise [padG, up]
theorem padQ_at (X) (i : Fin 8192) (h : Fin 8) (k : Fin 96) : padQ X (ix2 i (cc h (up k))) = X (ix3 i h k) := by
  pointwise [padQ, up, cc]
  rw [dif_pos (by omega)]
  exact congrArg (fun k => X (ix3 i h k)) (Fin.ext (by show (h.val * 128 + k.val) % 128 = k.val; omega))
theorem padQ_z (X) (i : Fin 8192) (h : Fin 8) (k : Fin 32) : padQ X (ix2 i (cc h (zz k))) = (0 : EReal) := by
  pointwise [padQ, zz, cc]
  rw [dif_neg (by omega), z0]
theorem padN_at (X) (i : Fin 8192) (h : Fin 8) (k : Fin 64) : padN X (ix2 i (cc h ⟨k.val, by omega⟩)) = X (ix3 i h k) := by
  pointwise [padN, cc]
  rw [dif_pos (by omega)]
  exact congrArg (fun k => X (ix3 i h k)) (Fin.ext (by show (h.val * 128 + k.val) % 128 = k.val; omega))
theorem padN_z (X) (i : Fin 8192) (h : Fin 8) (k : Fin 64) : padN X (ix2 i (cc h ⟨64 + k.val, by omega⟩)) = (0 : EReal) := by
  pointwise [padN, cc]
  rw [dif_neg (by omega), z0]
theorem padR_lo (X) (i : Fin 8192) (k : Fin 64) : padR X (ix2 i (cr ⟨k.val, by omega⟩)) = (0 : EReal) := by
  pointwise [padR, cr]
  rw [dif_neg (by omega), z0]
theorem padR_at (X) (i : Fin 8192) (k : Fin 32) : padR X (ix2 i (cr ⟨64 + k.val, by omega⟩)) = X (ix2 i k) := by
  pointwise [padR, cr]
  rw [dif_pos (by omega)]
  exact congrArg (fun k => X (ix2 i k)) (Fin.ext (by show 5504 + (64 + k.val) - 5568 = k.val; omega))
theorem padR_z (X) (i : Fin 8192) (k : Fin 32) : padR X (ix2 i (cr (zz k))) = (0 : EReal) := by
  pointwise [padR, cr, zz]
  rw [dif_neg (by omega), z0]

variable (m : (ℓ : Loc nD τ sig) → Buf (Elt Ideal) ℓ) (c : Dev nD)

/-- The positions, the queries, the keys' own and shared columns, and the two gains: the arguments. -/
abbrev aP : (⟨S8192, .i32⟩ : BufTy).Contents (Elt Ideal) := m ((c.tc : Thread nD τ).loc main_arg0)
abbrev aQ : FVec Ideal S8192x8x96 .bf16 := m ((c.tc : Thread nD τ).loc main_arg1)
abbrev aN : FVec Ideal S8192x8x64 .bf16 := m ((c.tc : Thread nD τ).loc main_arg2)
abbrev aR : FVec Ideal S8192x32 .bf16 := m ((c.tc : Thread nD τ).loc main_arg3)
abbrev gQ : FVec Ideal S96 .f32 := m ((c.tc : Thread nD τ).loc main_arg4)
abbrev gK : FVec Ideal S96 .f32 := m ((c.tc : Thread nD τ).loc main_arg5)

/-- The region finds the call's arrays so. -/
theorem V_gq : Gen.V m c main_v1 = padG (gQ m c) := by
  unfold_abbrev_sides
  after_reads_simp
  rfl
theorem V_gk : Gen.V m c main_v3 = padG (gK m c) := by
  unfold_abbrev_sides
  after_reads_simp
  rfl
theorem V_q : Gen.V m c main_v7 = padQ (aQ m c) := by
  unfold_abbrev_sides
  after_reads_simp
  rfl
theorem V_n : Gen.V m c main_v11 = padN (aN m c) := by
  unfold_abbrev_sides
  after_reads_simp
  rfl
theorem V_r : Gen.V m c main_v14 = padR (aR m c) := by
  unfold_abbrev_sides
  after_reads_simp
  rfl
theorem V_a : Gen.V m c main_v36 = tA (Host.cos (ang (aP m c))) := by
  unfold_abbrev_sides
  after_reads_simp
  rfl
theorem V_b : Gen.V m c main_v37 = tB (Host.negf (Host.sin (ang (aP m c)))) := by
  unfold_abbrev_sides
  after_reads_simp
  rfl
theorem V_c : Gen.V m c main_v38 = tC (Host.sin (ang (aP m c))) := by
  unfold_abbrev_sides
  after_reads_simp
  rfl

/-- Every window's block index: rows of 2048 in turn, the heads within them. -/
theorem idx : ∀ t : Fin cfg0.N, win0_0.index t = ![0, 0] ∧ win0_1.index t = ![0, 0] ∧ win0_2.index t = ![t.val / 8, t.val % 8] ∧ win0_3.index t = ![t.val / 8, t.val % 8] ∧ win0_4.index t = ![t.val / 8, 43]
    ∧ win0_5.index t = ![t.val / 8, 0] ∧ win0_6.index t = ![t.val / 8, 0] ∧ win0_7.index t = ![t.val / 8, 0] ∧ win0_8.index t = ![t.val / 8, t.val % 8] ∧ win0_9.index t = ![t.val / 8, t.val % 8] :=
  (by decide +kernel : ∀ t : Fin grid0.N, _)

/-- The head of a grid point. -/
def hd (t : Fin cfg0.N) : Fin 8 := ⟨t.val % 8, by omega⟩
/-- The array's row of a block's row at a grid point. -/
def row (t : Fin cfg0.N) (a : Fin 2048) : Fin 8192 := ⟨t.val / 8 * 2048 + a, by have := t.isLt; have : cfg0.N = 32 := rfl; omega⟩

/-- The blocks, entry by entry. -/
theorem b0 (t : Fin cfg0.N) (k : Fin 128) : (iblk m c 0 t : Vec Ideal S1x128 .f32) (ix2 0 k) = padG (gQ m c) (ix2 0 k) := by
  rw [← V_gq]
  blk_ext [iblk, idx t] <;> omega
theorem b1 (t : Fin cfg0.N) (k : Fin 128) : (iblk m c 1 t : Vec Ideal S1x128 .f32) (ix2 0 k) = padG (gK m c) (ix2 0 k) := by
  rw [← V_gk]
  blk_ext [iblk, idx t] <;> omega
theorem b2 (t : Fin cfg0.N) (a : Fin 2048) (k : Fin 128) : (iblk m c 2 t : Vec Ideal S2048x128 .bf16) (ix2 a k) = padQ (aQ m c) (ix2 (row t a) (cc (hd t) k)) := by
  rw [← V_q]
  blk_ext [iblk, idx t] <;> simp only [row, cc, cr, hd] <;> omega
theorem b3 (t : Fin cfg0.N) (a : Fin 2048) (k : Fin 128) : (iblk m c 3 t : Vec Ideal S2048x128 .bf16) (ix2 a k) = padN (aN m c) (ix2 (row t a) (cc (hd t) k)) := by
  rw [← V_n]
  blk_ext [iblk, idx t] <;> simp only [row, cc, cr, hd] <;> omega
theorem b4 (t : Fin cfg0.N) (a : Fin 2048) (k : Fin 128) : (iblk m c 4 t : Vec Ideal S2048x128 .bf16) (ix2 a k) = padR (aR m c) (ix2 (row t a) (cr k)) := by
  rw [← V_r]
  blk_ext [iblk, idx t] <;> simp only [row, cc, cr, hd] <;> omega
theorem b5 (t : Fin cfg0.N) (a : Fin 2048) (k : Fin 128) : (iblk m c 5 t : Vec Ideal S2048x128 .f32) (ix2 a k) = tA (Host.cos (ang (aP m c))) (ix2 (row t a) (k)) := by
  rw [← V_a]
  blk_ext [iblk, idx t] <;> simp only [row, cc, cr, hd] <;> omega
theorem b6 (t : Fin cfg0.N) (a : Fin 2048) (k : Fin 128) : (iblk m c 6 t : Vec Ideal S2048x128 .f32) (ix2 a k) = tB (Host.negf (Host.sin (ang (aP m c)))) (ix2 (row t a) (k)) := by
  rw [← V_b]
  blk_ext [iblk, idx t] <;> simp only [row, cc, cr, hd] <;> omega
theorem b7 (t : Fin cfg0.N) (a : Fin 2048) (k : Fin 128) : (iblk m c 7 t : Vec Ideal S2048x128 .f32) (ix2 a k) = tC (Host.sin (ang (aP m c))) (ix2 (row t a) (k)) := by
  rw [← V_c]
  blk_ext [iblk, idx t] <;> simp only [row, cc, cr, hd] <;> omega

/-- The two results at a row, a head and a lane, as the kernel computes them. -/
def oQ (p : (⟨S8192, .i32⟩ : BufTy).Contents (Elt Ideal)) (Q : FVec Ideal S8192x8x96 .bf16) (G : FVec Ideal S96 .f32) (i : Fin 8192) (h : Fin 8) (l : Fin 128) : EReal :=
  kv (fun k => padQ Q (ix2 i (cc h k))) (fun k => padG G (ix2 0 k)) (fun k => tA (Host.cos (ang p)) (ix2 i k)) (fun k => tB (Host.negf (Host.sin (ang p))) (ix2 i k)) (fun k => tC (Host.sin (ang p)) (ix2 i k)) l * q8
def oK (p : (⟨S8192, .i32⟩ : BufTy).Contents (Elt Ideal)) (N : FVec Ideal S8192x8x64 .bf16) (R : FVec Ideal S8192x32 .bf16) (G : FVec Ideal S96 .f32) (i : Fin 8192) (h : Fin 8) (l : Fin 128) : EReal :=
  kv (fun k => padN N (ix2 i (cc h k)) + padR R (ix2 i (cr k))) (fun k => padG G (ix2 0 k)) (fun k => tA (Host.cos (ang p)) (ix2 i k)) (fun k => tB (Host.negf (Host.sin (ang p))) (ix2 i k)) (fun k => tC (Host.sin (ang p)) (ix2 i k)) l

/-- The first result array after the run. -/
theorem arr8 (i : Fin 8192) (h : Fin 8) (l : Fin 128) : (show Vec Ideal S8192x1024 .bf16 from (dats m 0 c).arrAt 8 cfg0.N) (ix2 i (cc h l)) = oQ (aP m c) (aQ m c) (gQ m c) i h l := by
  have key := (dats m 0 c).arrAt_forall_of_covers 8 (fun x w => ∀ (i : Fin 8192) (h : Fin 8) (l : Fin 128), (show S8192x1024.Idx from x) = ix2 i (cc h l) →
    (show EReal from w) = oQ (aP m c) (aQ m c) (gQ m c) i h l) (by decide +kernel) (fun t hf y => ?_) (ix2 i (cc h l))
  · exact key i h l rfl
  intro i h l hx
  have h0 := congrArg (fun x : S8192x1024.Idx => (x 0).val) hx
  have h1 := congrArg (fun x : S8192x1024.Idx => (x 1).val) hx
  blk_simp [idx t] at h0 h1
  blk_simp
  rw [after0_8]; frame_out
  idx_vars y
  simp [cc] at h0 h1
  have ei : i = row t y0 := Fin.ext (by simp only [row]; omega)
  have eh : h = hd t := Fin.ext (by simp only [hd]; omega)
  have el : l = y1 := Fin.ext (by omega)
  rw [ei, eh, el]
  refine (pay_q _ _ _ _ _ _ _).trans ?_
  simp only [oQ, b0, b2, b5, b6, b7]

/-- The second result array after the run. -/
theorem arr9 (i : Fin 8192) (h : Fin 8) (l : Fin 128) : (show Vec Ideal S8192x1024 .bf16 from (dats m 0 c).arrAt 9 cfg0.N) (ix2 i (cc h l)) = oK (aP m c) (aN m c) (aR m c) (gK m c) i h l := by
  have key := (dats m 0 c).arrAt_forall_of_covers 9 (fun x w => ∀ (i : Fin 8192) (h : Fin 8) (l : Fin 128), (show S8192x1024.Idx from x) = ix2 i (cc h l) →
    (show EReal from w) = oK (aP m c) (aN m c) (aR m c) (gK m c) i h l) (by decide +kernel) (fun t hf y => ?_) (ix2 i (cc h l))
  · exact key i h l rfl
  intro i h l hx
  have h0 := congrArg (fun x : S8192x1024.Idx => (x 0).val) hx
  have h1 := congrArg (fun x : S8192x1024.Idx => (x 1).val) hx
  blk_simp [idx t] at h0 h1
  blk_simp
  rw [after0_9]; frame_out
  idx_vars y
  simp [cc] at h0 h1
  have ei : i = row t y0 := Fin.ext (by simp only [row]; omega)
  have eh : h = hd t := Fin.ext (by simp only [hd]; omega)
  have el : l = y1 := Fin.ext (by omega)
  rw [ei, eh, el]
  refine (pay_k _ _ _ _ _ _ _ _).trans ?_
  simp only [oK, b1, b3, b4, b5, b6, b7]

/-- Different windows have different arrays. -/
theorem arr_inj : Function.Injective (Pipeline.arrRef spec0) := by decide

/-- The result's host lines. -/
theorem W_0 : Pipeline.afterTail₀ cfgs (dats m) 0 (V0 m) [hostOps1] c main_v41 = extractStridedSlice S8192x8x96 ![0, 0, 0] (shapeCast S8192x8x128 ((dats m 0 c).arrAt 8 cfg0.N) shapeCasts_S8192x1024_S8192x8x128) slices_S8192x8x128_S8192x8x96_0_0_0 := by
  unfold Pipeline.afterTail₀
  simp only [List.flatten_cons, List.flatten_nil, List.append_nil]
  after_reads_simp
  rw [show ∀ V A, Pipeline.withArrays spec0 c V A (Proc.devRef .tc main_v39_0) = A 8 from fun V A => Pipeline.withArrays_arr spec0 arr_inj c V A 8]
  try rfl
/-- The result's host lines. -/
theorem W_1 : Pipeline.afterTail₀ cfgs (dats m) 0 (V0 m) [hostOps1] c main_v43 = extractStridedSlice S8192x8x96 ![0, 0, 0] (shapeCast S8192x8x128 ((dats m 0 c).arrAt 9 cfg0.N) shapeCasts_S8192x1024_S8192x8x128) slices_S8192x8x128_S8192x8x96_0_0_0 := by
  unfold Pipeline.afterTail₀
  simp only [List.flatten_cons, List.flatten_nil, List.append_nil]
  after_reads_simp
  rw [show ∀ V A, Pipeline.withArrays spec0 c V A (Proc.devRef .tc main_v39_1) = A 9 from fun V A => Pipeline.withArrays_arr spec0 arr_inj c V A 9]
  try rfl

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v41) = extractStridedSlice S8192x8x96 ![0, 0, 0] (shapeCast S8192x8x128 ((dats m 0 c).arrAt 8 cfg0.N) shapeCasts_S8192x1024_S8192x8x128) slices_S8192x8x128_S8192x8x96_0_0_0
      ∧ r.2.mem ((c.tc : Thread nD τ).loc main_v43) = extractStridedSlice S8192x8x96 ![0, 0, 0] (shapeCast S8192x8x128 ((dats m 0 c).arrAt 9 cfg0.N) shapeCasts_S8192x1024_S8192x8x128) slices_S8192x8x128_S8192x8x96_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).2 main_v41 (Pipeline.mem_restRefs_of main_v41 (by decide) (by decide))).trans (W_0 m c), ((h.1 c).2 main_v43 (Pipeline.mem_restRefs_of main_v43 (by decide) (by decide))).trans (W_1 m c), h.2.1 c⟩)
    (θ_run_and (run_main m ρ) (frame m ρ))

/-- A head's columns in use, out of the padded array. -/
theorem cut_at (A : FVec Ideal S8192x1024 .bf16) (i : Fin 8192) (h : Fin 8) (k : Fin 96) :
    (extractStridedSlice S8192x8x96 ![0, 0, 0] (shapeCast S8192x8x128 A shapeCasts_S8192x1024_S8192x8x128) slices_S8192x8x128_S8192x8x96_0_0_0 : FVec Ideal S8192x8x96 .bf16) (ix3 i h k) = A (ix2 i (cc h (up k))) := by
  pointwise [cc, up]

/-- Every column of a head lies in one of the three stretches. -/
theorem cover (k : Fin 96) : (∃ j : Fin 64, k = ⟨j.val, by omega⟩) ∨ (∃ j : Fin 16, k = ⟨64 + j.val, by omega⟩) ∨ (∃ j : Fin 16, k = ⟨80 + j.val, by omega⟩) := by
  by_cases h : k.val < 64
  · exact .inl ⟨⟨k.val, h⟩, rfl⟩
  by_cases h' : k.val < 80
  · exact .inr (.inl ⟨⟨k.val - 64, by omega⟩, Fin.ext (by show k.val = 64 + (k.val - 64); omega)⟩)
  · exact .inr (.inr ⟨⟨k.val - 80, by omega⟩, Fin.ext (by show k.val = 80 + (k.val - 80); omega)⟩)

/-- The turned lanes of a padded head are the reference's embedding of the normed head. -/
theorem kv_rot (p : (⟨S8192, .i32⟩ : BufTy).Contents (Elt Ideal)) (X : FVec Ideal S8192x8x96 .f32) (G : FVec Ideal S96 .f32) (i : Fin 8192) (h : Fin 8) (y : Fin 128 → EReal)
    (h1 : ∀ k, y (up k) = X (ix3 i h k)) (h2 : ∀ k, y (zz k) = 0) (k : Fin 96) :
    rot p (nrm X G) (ix3 i h k) = kv y (fun k => padG G (ix2 0 k)) (fun k => tA (Host.cos (ang p)) (ix2 i k)) (fun k => tB (Host.negf (Host.sin (ang p))) (ix2 i k)) (fun k => tC (Host.sin (ang p)) (ix2 i k)) (up k) := by
  rcases cover k with ⟨j, rfl⟩ | ⟨j, rfl⟩ | ⟨j, rfl⟩
  · rw [rot_lo, nrm_at]
    exact (kv_lo y _ _ _ _ _ _ h1 h2 (padG_at G) j (tA_lo _ i j) (tB_lo _ i j) (tC_lo _ i j)).symm
  · rw [rot_md, nrm_at, nrm_at]
    exact (kv_md y _ _ _ _ _ _ h1 h2 (padG_at G) j _ _ (tA_md _ i j) (tB_md _ i j) (tC_md _ i j)).symm
  · rw [rot_hi, nrm_at, nrm_at]
    exact (kv_hi y _ _ _ _ _ _ h1 h2 (padG_at G) j _ _ (tA_hi _ i j) (tB_hi _ i j) (tC_hi _ i j)).symm

/-- Every column of a head is one of its own or one of the shared. -/
theorem cover2 (k : Fin 96) : (∃ j : Fin 64, k = ⟨j.val, by omega⟩) ∨ (∃ j : Fin 32, k = ⟨64 + j.val, by omega⟩) := by
  by_cases h : k.val < 64
  · exact .inl ⟨⟨k.val, h⟩, rfl⟩
  · exact .inr ⟨⟨k.val - 64, by omega⟩, Fin.ext (by show k.val = 64 + (k.val - 64); omega)⟩

/-- The padded key's lanes. -/
theorem key_up (N : FVec Ideal S8192x8x64 .bf16) (R : FVec Ideal S8192x32 .bf16) (i : Fin 8192) (h : Fin 8) (k : Fin 96) :
    (padN N (ix2 i (cc h (up k))) + padR R (ix2 i (cr (up k))) : EReal) = keys N R (ix3 i h k) := by
  rcases cover2 k with ⟨j, rfl⟩ | ⟨j, rfl⟩
  · rw [keys_lo]
    exact (congrArg₂ (fun x y : EReal => x + y) (padN_at N i h j) (padR_lo R i j)).trans (add_zero _)
  · rw [keys_hi]
    exact (congrArg₂ (fun x y : EReal => x + y) (padN_z N i h ⟨j.val, by omega⟩) (padR_at R i j)).trans (zero_add _)
theorem key_z (N : FVec Ideal S8192x8x64 .bf16) (R : FVec Ideal S8192x32 .bf16) (i : Fin 8192) (h : Fin 8) (k : Fin 32) :
    (padN N (ix2 i (cc h (zz k))) + padR R (ix2 i (cr (zz k))) : EReal) = 0 := by
  have e : zz k = ⟨64 + (⟨32 + k.val, by omega⟩ : Fin 64).val, by simp only; omega⟩ := Fin.ext (by simp only [zz]; omega)
  rw [padR_z, e, padN_z, add_zero]

/-- Arrays of heads are equal when their entries are. -/
theorem ext3 (A B : FVec Ideal S8192x8x96 .bf16) (e : ∀ (i : Fin 8192) (h : Fin 8) (k : Fin 96), A (ix3 i h k) = B (ix3 i h k)) : A = B := by
  funext k
  idx_vars k
  exact e k0 k1 k2

/-- Kernel and reference end with the same queries and keys. -/
theorem algebraic : Cert.algebraic_Kernel19Ideal_Reference19Ideal := by
  pair_intro
  · run_from run_values m g
  · run_from Cert.Reference19Ideal.Value.run m' g'
    · refine ext3 _ _ (fun k0 k1 k2 => ?_)
      refine Eq.trans ?_ ((cut_at _ k0 k1 k2).trans (arr8 m c k0 k1 (up k2))).symm
      unfold aP aQ gQ
      rw [← (hagree c).1, ← (hagree c).2.1, ← (hagree c).2.2.2.2.1]
      refine (out_q _ _ _ _).trans (congrArg (· * q8) (kv_rot _ _ _ _ _ _ (fun k => padQ_at _ _ _ k) (fun k => padQ_z _ _ _ k) _))
    · refine ext3 _ _ (fun k0 k1 k2 => ?_)
      refine Eq.trans ?_ ((cut_at _ k0 k1 k2).trans (arr9 m c k0 k1 (up k2))).symm
      unfold aP aN aR gK
      rw [← (hagree c).1, ← (hagree c).2.2.1, ← (hagree c).2.2.2.1, ← (hagree c).2.2.2.2.2]
      exact kv_rot _ _ _ _ _ _ (key_up _ _ _ _) (key_z _ _ _ _) _

end Cert.Kernel19Ideal.Qkf

end
-- ==== Proof.DwGu.lean ====
module

public import proofs.«01_k».proof.Proof.Gen.Kernel20Ideal.Frame
public import proofs.«01_k».proof.Proof.Gen.Reference20Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel20Ideal.Dw

open Cert.Kernel20Ideal Cert.Kernel20Ideal.Gen

variable (m : (ℓ : Loc nD τ sig) → Buf (Elt Ideal) ℓ) (c : Dev nD)

/-- The normed rows and the gradient of their product with the joint weight: the arguments. -/
abbrev aH : FVec Ideal S8192x1024 .bf16 := m ((c.tc : Thread nD τ).loc main_arg0)
abbrev aD : FVec Ideal S8192x5632 .bf16 := m ((c.tc : Thread nD τ).loc main_arg1)

/-- The weights' gradient: the product of the transposed rows with the gradient. -/
def dw (H : FVec Ideal S8192x1024 .bf16) (D : FVec Ideal S8192x5632 .bf16) (i : Fin 1024) (j : Fin 5632) : EReal := ∑ k, (H (ix2 k i) : EReal) * D (ix2 k j)

/-- The sequence's row of a block's row, and the weights' row and column of a piece's row and column. -/
def row (n : Fin 4) (k : Fin 2048) : Fin 8192 := ⟨n.val * 2048 + k.val, by omega⟩
def hf (n : Fin 2) (a : Fin 512) : Fin 1024 := ⟨n.val * 512 + a.val, by omega⟩
def col (n : Fin 4) (j : Fin 1408) : Fin 5632 := ⟨n.val * 1408 + j.val, by omega⟩

/-- The product's terms, a fourth at a time. -/
theorem rows_sum (f : Fin 8192 → EReal) : ∑ n : Fin 4, ∑ k : Fin 2048, f (row n k) = ∑ i, f i := by
  rw [← Finset.sum_product']
  exact Finset.sum_equiv finProdFinEquiv (fun _ => by simp) (fun x _ => congrArg f (Fin.ext (by show x.1.val * 2048 + x.2.val = x.2.val + 2048 * x.1.val; omega)))

/-- What a point adds to the carried product. -/
theorem pay_acc (h : Vec Ideal S2048x512 .bf16) (y : Vec Ideal S512x1408 .f32) (d : Vec Ideal S2048x1408 .bf16) (i : Fin 512) (j : Fin 1408) :
    k0_pay2 h y d (ix2 i j) = y (ix2 i j) + ∑ k : Fin 2048, (h (ix2 k i) : EReal) * d (ix2 k j) := by
  pointwise [k0_pay2]

/-- The payload stored into the result's block: the carried product. -/
theorem pay_out (y : Vec Ideal S512x1408 .f32) (i : Fin 512) (j : Fin 1408) : (k0_pay3 y (ix4 0 0 i j) : EReal) = y (ix2 i j) := by
  pointwise [k0_pay3]

/-- Every window's block index: the two halves of the weights' rows, within them the columns in fourths, within them the sequence in fourths. -/
theorem idx : ∀ t : Fin cfg0.N, win0_0.index t = ![t.val % 4, t.val / 16] ∧ win0_1.index t = ![t.val % 4, t.val / 4 % 4] ∧ win0_2.index t = ![t.val / 4 % 4, t.val / 16, 0, 0] :=
  (by decide +kernel : ∀ t : Fin grid0.N, _)

theorem lt32 (t : Fin cfg0.N) : t.val < 32 := lt_of_lt_of_eq t.isLt N_0

/-- A grid point's half of the rows, its fourth of the columns and its fourth of the sequence. -/
def hb (t : Fin cfg0.N) : Fin 2 := ⟨t.val / 16, by have := lt32 t; omega⟩
def cb (t : Fin cfg0.N) : Fin 4 := ⟨t.val / 4 % 4, by omega⟩
def kb (t : Fin cfg0.N) : Fin 4 := ⟨t.val % 4, by omega⟩

/-- The blocks, entry by entry. -/
theorem b0 (t : Fin cfg0.N) (k : Fin 2048) (i : Fin 512) : (iblk m c 0 t : Vec Ideal S2048x512 .bf16) (ix2 k i) = aH m c (ix2 (row (kb t) k) (hf (hb t) i)) := by
  blk_ext [iblk, idx t] <;> simp only [row, kb, hf, hb] <;> omega
theorem b1 (t : Fin cfg0.N) (k : Fin 2048) (j : Fin 1408) : (iblk m c 1 t : Vec Ideal S2048x1408 .bf16) (ix2 k j) = aD m c (ix2 (row (kb t) k) (col (cb t) j)) := by
  blk_ext [iblk, idx t] <;> simp only [row, kb, col, cb] <;> omega

/-- The carried product after a point. -/
abbrev acc (n : ℕ) (h : n < cfg0.N) : Vec Ideal S512x1408 .f32 := (outsAt0 m c n h).2

/-- The scratch read back. -/
theorem read_scratch (h : (Memref.whole cc0_scratch0).IsWhole) (X : Vec Ideal S512x1408 .f32) : View.read (Elt Ideal) (View.whole cc0_scratch0) (h.unread X) = X := h.read_unread X

/-- A fourth's first point starts the carried product; a later one adds to it. -/
theorem acc_A (t : Fin cfg0.N) (h : t.val % 4 = 0) : acc m c t.val t.isLt = k0_pay2 (iblk m c 0 t) (k0_pay1 (F := Ideal)) (iblk m c 1 t) := by
  unfold acc
  rw [outsAt0_A m c t h (by omega)]
  frame_out
theorem acc_B (t : Fin cfg0.N) (h : ¬t.val % 4 = 0) : acc m c t.val t.isLt = k0_pay2 (iblk m c 0 t) (acc m c (t.val - 1) (by omega)) (iblk m c 1 t) := by
  unfold acc
  by_cases h1 : t.val % 4 = 3
  · rw [outsAt0_C m c t h h1]
    frame_out
    rw [read_scratch]
  · rw [outsAt0_B m c t h h1]
    frame_out
    rw [read_scratch]

/-- What a fourth's last point leaves in the result's block. -/
theorem outs2 (t : Fin cfg0.N) (h : t.val % 4 = 3) : (outsAt0 m c t.val t.isLt).1 = k0_pay3 (acc m c t.val t.isLt) := by
  rw [acc_B m c t (by omega)]
  rw [outsAt0_C m c t (by omega) h]
  frame_out
  rw [read_scratch]

/-- What a point adds to the carried product's entry. -/
def termA (i : Fin 512) (j : Fin 1408) (n : ℕ) : EReal :=
  if hn : n < cfg0.N then ∑ k : Fin 2048, (aH m c (ix2 (row (kb ⟨n, hn⟩) k) (hf (hb ⟨n, hn⟩) i)) : EReal) * aD m c (ix2 (row (kb ⟨n, hn⟩) k) (col (cb ⟨n, hn⟩) j)) else 0

/-- The carried product at a fourth's last point: the whole product. -/
theorem acc_last (t : Fin cfg0.N) (ht : t.val % 4 = 3) (i : Fin 512) (j : Fin 1408) : acc m c t.val t.isLt (ix2 i j) = dw (aH m c) (aD m c) (hf (hb t) i) (col (cb t) j) := by
  have := Pipeline.eq_sum_of_reset_step_apply_of_mod (N := cfg0.N) (ι := Unit) (M := EReal) (fun n hn _ => acc m c n hn (ix2 i j)) 4 (fun _ => 0) (fun n _ => termA m c i j n)
    (fun t h0 _ => by
      show acc m c t.val t.isLt (ix2 i j) = 0 + termA m c i j t.val
      rw [acc_A m c t h0, pay_acc]
      unfold termA
      rw [dif_pos t.isLt]
      refine congrArg₂ (· + ·) (by pointwise [k0_pay1]) ?_
      simp only [b0, b1])
    (fun t h0 _ => by
      show acc m c t.val t.isLt (ix2 i j) = acc m c (t.val - 1) _ (ix2 i j) + termA m c i j t.val
      rw [acc_B m c t h0, pay_acc]
      unfold termA
      rw [dif_pos t.isLt]
      simp only [b0, b1])
    t ht ()
  refine (this.trans (zero_add _)).trans ?_
  unfold dw
  rw [Finset.sum_range, ← rows_sum]
  refine Finset.sum_congr rfl fun n _ => ?_
  have hN : cfg0.N = 32 := N_0
  have hn : 4 * (t.val / 4) + n.val < cfg0.N := by have := lt32 t; omega
  unfold termA
  rw [dif_pos hn]
  have e1 : cb ⟨4 * (t.val / 4) + n.val, hn⟩ = cb t := Fin.ext (by simp only [cb]; omega)
  have e2 : kb ⟨4 * (t.val / 4) + n.val, hn⟩ = n := Fin.ext (by simp only [kb]; omega)
  have e3 : hb ⟨4 * (t.val / 4) + n.val, hn⟩ = hb t := Fin.ext (by simp only [hb]; omega)
  rw [e1, e2, e3]

/-- The result array after the run. -/
theorem arr2 (q : Fin 4) (r : Fin 2) (i : Fin 512) (j : Fin 1408) :
    (show Vec Ideal S4x2x512x1408 .bf16 from (dats m 0 c).arrAt 2 cfg0.N) (ix4 q r i j) = dw (aH m c) (aD m c) (hf r i) (col q j) := by
  have key := (dats m 0 c).arrAt_forall_of_covers 2 (fun x w => ∀ (q : Fin 4) (r : Fin 2) (i : Fin 512) (j : Fin 1408), (show S4x2x512x1408.Idx from x) = ix4 q r i j →
    (show EReal from w) = dw (aH m c) (aD m c) (hf r i) (col q j)) (by decide +kernel) (fun t hf y => ?_) (ix4 q r i j)
  · exact key q r i j rfl
  intro q r i j hx
  have h0 := congrArg (fun x : S4x2x512x1408.Idx => (x 0).val) hx
  have h1 := congrArg (fun x : S4x2x512x1408.Idx => (x 1).val) hx
  have h2 := congrArg (fun x : S4x2x512x1408.Idx => (x 2).val) hx
  have h3 := congrArg (fun x : S4x2x512x1408.Idx => (x 3).val) hx
  have ht := (flush0_2 t).mp hf
  blk_simp [idx t] at h0 h1 h2 h3
  blk_simp
  rw [after0_2, outs2 m c t ht]
  idx_vars y
  obtain rfl : y0 = 0 := Fin.ext (by omega)
  obtain rfl : y1 = 0 := Fin.ext (by omega)
  simp at h0 h1 h2 h3
  have eq : q = cb t := Fin.ext (by simp only [cb]; omega)
  have er : r = hb t := Fin.ext (by simp only [hb]; omega)
  have ei : i = y2 := Fin.ext (by omega)
  have ej : j = y3 := Fin.ext (by omega)
  rw [eq, er, ei, ej]
  exact (pay_out _ _ _).trans (acc_last m c t ht _ _)

/-- Different windows have different arrays. -/
theorem arr_inj : Function.Injective (Pipeline.arrRef spec0) := by decide

/-- The result after the tail: the pieces side by side. -/
theorem W_res : Pipeline.afterTail₀ cfgs (dats m) 0 (V0 m) [hostOps1] c main_v2
    = shapeCast S1024x5632 (transpose S2x512x4x1408 [1, 2, 0, 3] ((dats m 0 c).arrAt 2 cfg0.N) transposes_S4x2x512x1408_S2x512x4x1408_1_2_0_3) shapeCasts_S2x512x4x1408_S1024x5632 := by
  unfold Pipeline.afterTail₀
  simp only [List.flatten_cons, List.flatten_nil, List.append_nil]
  after_reads_simp
  rw [show ∀ V A, Pipeline.withArrays spec0 c V A (Proc.devRef .tc main_v0) = A 2 from fun V A => Pipeline.withArrays_arr spec0 arr_inj c V A 2]
  rfl

/-- The kernel's run: its result and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v2) = shapeCast S1024x5632 (transpose S2x512x4x1408 [1, 2, 0, 3] ((dats m 0 c).arrAt 2 cfg0.N) transposes_S4x2x512x1408_S2x512x4x1408_1_2_0_3) shapeCasts_S2x512x4x1408_S1024x5632
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v2 (Pipeline.mem_restRefs_of main_v2 (by decide) (by decide))).trans (W_res m c), h.2.1 c⟩)
    (θ_run_and (run_main m ρ) (frame m ρ))

/-- The pieces side by side, entry by entry. -/
theorem piece (w : FVec Ideal S4x2x512x1408 .bf16) (q : Fin 4) (r : Fin 2) (i : Fin 512) (j : Fin 1408) :
    shapeCast S1024x5632 (transpose S2x512x4x1408 [1, 2, 0, 3] w transposes_S4x2x512x1408_S2x512x4x1408_1_2_0_3) shapeCasts_S2x512x4x1408_S1024x5632 (ix2 (hf r i) (col q j)) = w (ix4 q r i j) := by
  have h0 : (⟨(hf r i).val / 512, by omega⟩ : Fin 2) = r := Fin.ext (by simp only [hf]; omega)
  pointwise [hf, col]

/-- The result, entry by entry. -/
theorem res (i : Fin 1024) (j : Fin 5632) :
    (shapeCast S1024x5632 (transpose S2x512x4x1408 [1, 2, 0, 3] ((dats m 0 c).arrAt 2 cfg0.N : FVec Ideal S4x2x512x1408 .bf16) transposes_S4x2x512x1408_S2x512x4x1408_1_2_0_3) shapeCasts_S2x512x4x1408_S1024x5632) (ix2 i j)
      = dw (aH m c) (aD m c) i j := by
  have ei : i = hf ⟨i.val / 512, by omega⟩ ⟨i.val % 512, by omega⟩ := Fin.ext (by simp only [hf]; omega)
  have ej : j = col ⟨j.val / 1408, by omega⟩ ⟨j.val % 1408, by omega⟩ := Fin.ext (by simp only [col]; omega)
  rw [ei, ej]
  exact (piece _ _ _ _ _).trans (arr2 m c _ _ _ _)

/-- Kernel and reference end with the same gradient of the weights. -/
theorem algebraic : Cert.algebraic_Kernel20Ideal_Reference20Ideal := by
  pair_intro
  · run_from run_values m g
  · run_from Cert.Reference20Ideal.Value.run m' g'
    funext j
    idx_vars j
    refine Eq.trans ?_ (res m c j0 j1).symm
    pointwise [dw]

end Cert.Kernel20Ideal.Dw

end
-- ==== Proof.Adamw.lean ====
module

public import proofs.«01_k».proof.Proof.Gen.Kernel21Ideal.Frame
public import proofs.«01_k».proof.Proof.Gen.Reference21Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel21Ideal.Adw

open Cert.Kernel21Ideal Cert.Kernel21Ideal.Gen

variable (m : (ℓ : Loc nD τ sig) → Buf (Elt Ideal) ℓ) (c : Dev nD)

/-- The weights, their gradient and the two moments: the arguments. -/
abbrev aW : FVec Ideal S1024x1408 .f32 := m ((c.tc : Thread nD τ).loc main_arg0)
abbrev aG : FVec Ideal S1024x1408 .f32 := m ((c.tc : Thread nD τ).loc main_arg1)
abbrev aM : FVec Ideal S1024x1408 .f32 := m ((c.tc : Thread nD τ).loc main_arg2)
abbrev aV : FVec Ideal S1024x1408 .f32 := m ((c.tc : Thread nD τ).loc main_arg3)

/-- A float constant's value. -/
abbrev k (b : BitVec 32) : EReal := Scalar.ofBits (F := Ideal) .f32 b

/-- The new moments and the step, of a weight, its gradient and its moments. -/
def m2 (g x : EReal) : EReal := k 0x3F666666#32 * x + k 0x3DCCCCCD#32 * g
def v2 (g x : EReal) : EReal := k 0x3F7FBE77#32 * x + k 0x3A83126F#32 * (g * g)
def dl (w g x y : EReal) : EReal :=
  k 0xBA83126F#32 * (Ideal.div (Ideal.div (m2 g x) (k 0x3F26BD02#32)) (Ideal.sqrt (Ideal.div (v2 g y) (k 0x3C231ACC#32)) + k 0x322BCC77#32) + k 0x3C23D70A#32 * w)

/-- The payloads stored into the three results' blocks. -/
theorem pay_m (g x : Vec Ideal S256x1408 .f32) (a : Fin 256) (l : Fin 1408) : k0_pay1 g x (ix2 a l) = m2 (g (ix2 a l)) (x (ix2 a l)) := by
  pointwise [k0_pay1, m2]
theorem pay_v (g x : Vec Ideal S256x1408 .f32) (a : Fin 256) (l : Fin 1408) : k0_pay2 g x (ix2 a l) = v2 (g (ix2 a l)) (x (ix2 a l)) := by
  pointwise [k0_pay2, v2]
theorem pay_d (w g x y : Vec Ideal S256x1408 .f32) (a : Fin 256) (l : Fin 1408) : k0_pay3 w g x y (ix2 a l) = dl (w (ix2 a l)) (g (ix2 a l)) (x (ix2 a l)) (y (ix2 a l)) := by
  pointwise [k0_pay1, k0_pay2, k0_pay3, m2, v2, dl]

/-- Every window's block index: rows of 256 in turn. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

/-- The array's row of a block's row at a grid point. -/
def row (t : Fin cfg0.N) (a : Fin 256) : Fin 1024 := ⟨t.val * 256 + a, by have := t.isLt; have : cfg0.N = 4 := rfl; omega⟩

/-- The blocks, entry by entry. -/
theorem b0 (t : Fin cfg0.N) (a : Fin 256) (l : Fin 1408) : (iblk m c 0 t : Vec Ideal S256x1408 .f32) (ix2 a l) = aW m c (ix2 (row t a) l) := by
  blk_ext [iblk, idx t] <;> simp only [row] <;> omega
theorem b1 (t : Fin cfg0.N) (a : Fin 256) (l : Fin 1408) : (iblk m c 1 t : Vec Ideal S256x1408 .f32) (ix2 a l) = aG m c (ix2 (row t a) l) := by
  blk_ext [iblk, idx t] <;> simp only [row] <;> omega
theorem b2 (t : Fin cfg0.N) (a : Fin 256) (l : Fin 1408) : (iblk m c 2 t : Vec Ideal S256x1408 .f32) (ix2 a l) = aM m c (ix2 (row t a) l) := by
  blk_ext [iblk, idx t] <;> simp only [row] <;> omega
theorem b3 (t : Fin cfg0.N) (a : Fin 256) (l : Fin 1408) : (iblk m c 3 t : Vec Ideal S256x1408 .f32) (ix2 a l) = aV m c (ix2 (row t a) l) := by
  blk_ext [iblk, idx t] <;> simp only [row] <;> omega

/-- Result array 0 after the run. -/
theorem arr4 (i : Fin 1024) (l : Fin 1408) : (show Vec Ideal S1024x1408 .f32 from (dats m 0 c).arrAt 4 cfg0.N) (ix2 i l) = dl (aW m c (ix2 i l)) (aG m c (ix2 i l)) (aM m c (ix2 i l)) (aV m c (ix2 i l)) := by
  have key := (dats m 0 c).arrAt_forall_of_covers 4 (fun x w => ∀ (i : Fin 1024) (l : Fin 1408), (show S1024x1408.Idx from x) = ix2 i l →
    (show EReal from w) = dl (aW m c (ix2 i l)) (aG m c (ix2 i l)) (aM m c (ix2 i l)) (aV m c (ix2 i l))) (by decide +kernel) (fun t hf y => ?_) (ix2 i l)
  · exact key i l rfl
  intro i l hx
  have h0 := congrArg (fun x : S1024x1408.Idx => (x 0).val) hx
  have h1 := congrArg (fun x : S1024x1408.Idx => (x 1).val) hx
  blk_simp [idx t] at h0 h1
  blk_simp
  rw [after0_4]; frame_out
  idx_vars y
  have ei : i = row t y0 := Fin.ext (by simp only [row]; simp at h0; omega)
  have el : l = y1 := Fin.ext (by simp at h1; omega)
  rw [ei, el]
  refine (pay_d _ _ _ _ _ _).trans ?_
  simp only [b0, b1, b2, b3]

/-- Result array 1 after the run. -/
theorem arr5 (i : Fin 1024) (l : Fin 1408) : (show Vec Ideal S1024x1408 .f32 from (dats m 0 c).arrAt 5 cfg0.N) (ix2 i l) = m2 (aG m c (ix2 i l)) (aM m c (ix2 i l)) := by
  have key := (dats m 0 c).arrAt_forall_of_covers 5 (fun x w => ∀ (i : Fin 1024) (l : Fin 1408), (show S1024x1408.Idx from x) = ix2 i l →
    (show EReal from w) = m2 (aG m c (ix2 i l)) (aM m c (ix2 i l))) (by decide +kernel) (fun t hf y => ?_) (ix2 i l)
  · exact key i l rfl
  intro i l hx
  have h0 := congrArg (fun x : S1024x1408.Idx => (x 0).val) hx
  have h1 := congrArg (fun x : S1024x1408.Idx => (x 1).val) hx
  blk_simp [idx t] at h0 h1
  blk_simp
  rw [after0_5]; frame_out
  idx_vars y
  have ei : i = row t y0 := Fin.ext (by simp only [row]; simp at h0; omega)
  have el : l = y1 := Fin.ext (by simp at h1; omega)
  rw [ei, el]
  refine (pay_m _ _ _ _).trans ?_
  simp only [b0, b1, b2, b3]

/-- Result array 2 after the run. -/
theorem arr6 (i : Fin 1024) (l : Fin 1408) : (show Vec Ideal S1024x1408 .f32 from (dats m 0 c).arrAt 6 cfg0.N) (ix2 i l) = v2 (aG m c (ix2 i l)) (aV m c (ix2 i l)) := by
  have key := (dats m 0 c).arrAt_forall_of_covers 6 (fun x w => ∀ (i : Fin 1024) (l : Fin 1408), (show S1024x1408.Idx from x) = ix2 i l →
    (show EReal from w) = v2 (aG m c (ix2 i l)) (aV m c (ix2 i l))) (by decide +kernel) (fun t hf y => ?_) (ix2 i l)
  · exact key i l rfl
  intro i l hx
  have h0 := congrArg (fun x : S1024x1408.Idx => (x 0).val) hx
  have h1 := congrArg (fun x : S1024x1408.Idx => (x 1).val) hx
  blk_simp [idx t] at h0 h1
  blk_simp
  rw [after0_6]; frame_out
  idx_vars y
  have ei : i = row t y0 := Fin.ext (by simp only [row]; simp at h0; omega)
  have el : l = y1 := Fin.ext (by simp at h1; omega)
  rw [ei, el]
  refine (pay_v _ _ _ _).trans ?_
  simp only [b0, b1, b2, b3]

/-- The kernel's run: its results and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v0_0) = (dats m 0 c).arrAt 4 cfg0.N
      ∧ r.2.mem ((c.tc : Thread nD τ).loc main_v0_1) = (dats m 0 c).arrAt 5 cfg0.N
      ∧ r.2.mem ((c.tc : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, h.2.1 c⟩)
    (θ_run_and (run_main m ρ) (frame m ρ))

/-- Kernel and reference end with the same step and the same moments. -/
theorem algebraic : Cert.algebraic_Kernel21Ideal_Reference21Ideal := by
  pair_intro
  · run_from run_values m g
  · run_from Cert.Reference21Ideal.Value.run m' g'
    · funext j
      idx_vars j
      refine Eq.trans ?_ (arr4 m c j0 j1).symm
      pointwise [dl, m2, v2]
    · funext j
      idx_vars j
      refine Eq.trans ?_ (arr5 m c j0 j1).symm
      pointwise [m2]
    · funext j
      idx_vars j
      refine Eq.trans ?_ (arr6 m c j0 j1).symm
      pointwise [v2]

end Cert.Kernel21Ideal.Adw

end
-- ==== Proof.GradSum.lean ====
module

public import proofs.«01_k».proof.Proof.Gen.Kernel22Ideal.Frame
public import proofs.«01_k».proof.Proof.Gen.Reference22Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel22Ideal.Gs

open Cert.Kernel22Ideal Cert.Kernel22Ideal.Gen

variable (m : (ℓ : Loc nD τ sig) → Buf (Elt Ideal) ℓ) (c : Dev nD)

/-- The eight devices' pieces: the argument. -/
abbrev aP : FVec Ideal S8x512x1408 .bf16 := m ((c.tc : Thread nD τ).loc main_arg0)

/-- The payload stored into the result's block. -/
theorem pay (v : Fin 8 → Vec Ideal S1x256x1408 .bf16) (a : Fin 256) (l : Fin 1408) :
    (k0_pay1 (v 0) (v 1) (v 2) (v 3) (v 4) (v 5) (v 6) (v 7) (ix2 a l) : EReal) = ∑ d, (v d (ix3 0 a l) : EReal) := by
  rw [Fin.sum_univ_eight]
  pointwise [k0_pay1]

/-- Every window's block index: rows of 256 in turn. -/
theorem idx : ∀ t : Fin cfg0.N, win0_0.index t = ![0, t.val, 0] ∧ win0_1.index t = ![t.val, 0] :=
  (by decide +kernel : ∀ t : Fin grid0.N, _)

/-- The array's row of a block's row at a grid point. -/
def row (t : Fin cfg0.N) (a : Fin 256) : Fin 512 := ⟨t.val * 256 + a, by have := t.isLt; have : cfg0.N = 2 := rfl; omega⟩

/-- The block, entry by entry. -/
theorem b0 (t : Fin cfg0.N) (d : Fin 8) (a : Fin 256) (l : Fin 1408) : (iblk m c 0 t : Vec Ideal S8x256x1408 .bf16) (ix3 d a l) = aP m c (ix3 d (row t a) l) := by
  blk_ext [iblk, idx t] <;> simp only [row] <;> omega

/-- The result array after the run. -/
theorem arr1 (i : Fin 512) (l : Fin 1408) : (show Vec Ideal S512x1408 .f32 from (dats m 0 c).arrAt 1 cfg0.N) (ix2 i l) = ∑ d, (aP m c (ix3 d i l) : EReal) := by
  have key := (dats m 0 c).arrAt_forall_of_covers 1 (fun x w => ∀ (i : Fin 512) (l : Fin 1408), (show S512x1408.Idx from x) = ix2 i l →
    (show EReal from w) = ∑ d, (aP m c (ix3 d i l) : EReal)) (by decide +kernel) (fun t hf y => ?_) (ix2 i l)
  · exact key i l rfl
  intro i l hx
  have h0 := congrArg (fun x : S512x1408.Idx => (x 0).val) hx
  have h1 := congrArg (fun x : S512x1408.Idx => (x 1).val) hx
  blk_simp [idx t] at h0 h1
  blk_simp
  rw [after0_1]; frame_out
  idx_vars y
  have ei : i = row t y0 := Fin.ext (by simp only [row]; simp at h0; omega)
  have el : l = y1 := Fin.ext (by simp at h1; omega)
  rw [ei, el]
  refine (pay ![_, _, _, _, _, _, _, _] _ _).trans ?_
  refine Finset.sum_congr rfl fun d _ => ?_
  rw [← b0]
  have key (x : Vec Ideal S8x256x1408 .bf16) : (![View.ld x r0_0, View.ld x r0_1, View.ld x r0_2, View.ld x r0_3, View.ld x r0_4, View.ld x r0_5, View.ld x r0_6, View.ld x r0_7] : Fin 8 → Vec Ideal S1x256x1408 .bf16)
      d (ix3 0 y0 y1) = x (ix3 d y0 y1) := by
    fin_cases d <;> exact congrArg x (funext fun e => Fin.ext (by fin_cases e <;> first | rfl | (show 0 + 1 * y0.val = y0.val; omega) | (show 0 + 1 * y1.val = y1.val; omega)))
  exact key (iblk m c 0 t)

/-- The kernel's run: its result and its argument. -/
theorem run_values (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 1 cfg0.N
      ∧ r.2.mem ((c.tc : Thread nD τ).loc main_arg0) = m ((c.tc : Thread nD τ).loc main_arg0)) :=
  (θ_run defs _ _).mono (fun _ h c => ⟨(h.1 c).1 1, h.2.1 c⟩)
    (θ_run_and (run_main m ρ) (frame m ρ))

/-- Two arrays with the same entries are equal. -/
theorem ext2 (x y : Vec Ideal S512x1408 .f32) (h : ∀ i l, x (ix2 i l) = y (ix2 i l)) : x = y := by
  funext j
  idx_vars j
  exact h j0 j1

/-- Kernel and reference end with the same sums. -/
theorem algebraic : Cert.algebraic_Kernel22Ideal_Reference22Ideal := by
  pair_intro
  · run_from run_values m g
  · refine (θ_run _ _ _).mono (fun _ h c => ⟨(h c).1.trans ?_, (h c).2⟩) (Cert.Reference22Ideal.Value.run m' g')
    refine ext2 _ _ fun i l => ?_
    refine Eq.trans ?_ (arr1 m c i l).symm
    rw [hagree c]
    pointwise []

end Cert.Kernel22Ideal.Gs

end
-- ==== Proof.DvSum.lean ====
module

public import proofs.«01_k».proof.Proof.Gen.Kernel23Ideal.Frame
public import proofs.«01_k».proof.Proof.Gen.Reference23Ideal.Run
public import Idealize.ShloMosaic.Lib.Pipeline.ValueKit
public import Idealize.ShloMosaic.Lib.StableHlo.RunRead
public import Idealize.ShloMosaic.Lib.Claim
public import proofs.«01_k».proof.Defs

@[expose] public section

set_option maxRecDepth 16384

noncomputable section

open Idealize.ShloMosaic Idealize.ShloMosaic.ValueKit Idealize.ShloMosaic.TcCoe Idealize.SL.Sem
open Idealize.ShloMosaic.Pipeline (Dat)

namespace Cert.Kernel23Ideal.Dv

open Cert.Kernel23Ideal Cert.Kernel23Ideal.Gen

variable (m : (ℓ : Loc nD τ sig) → Buf (Elt Ideal) ℓ) (c : Dev nD)

/-- The two directions' gradients: the arguments. -/
abbrev aF : FVec Ideal S8192x1024 .bf16 := m ((c.tc : Thread nD τ).loc main_arg0)
abbrev aB : FVec Ideal S8192x1024 .bf16 := m ((c.tc : Thread nD τ).loc main_arg1)

/-- The payload stored into the result's block. -/
theorem pay (x y : Vec Ideal S512x1024 .bf16) (a : Fin 512) (l : Fin 1024) : (k0_pay1 x y (ix2 a l) : EReal) = (x (ix2 a l) : EReal) + y (ix2 a l) := by
  pointwise [k0_pay1]

/-- Every window's block index: rows of 512 in turn; the result's columns the third block. -/
theorem idx : ∀ t : Fin cfg0.N, win0_0.index t = ![t.val, 0] ∧ win0_1.index t = ![t.val, 0] ∧ win0_2.index t = ![t.val, 2] :=
  (by decide +kernel : ∀ t : Fin grid0.N, _)

/-- The array's row of a block's row at a grid point. -/
def row (t : Fin cfg0.N) (a : Fin 512) : Fin 8192 := ⟨t.val * 512 + a, by have := t.isLt; have : cfg0.N = 16 := rfl; omega⟩

/-- The blocks, entry by entry. -/
theorem b0 (t : Fin cfg0.N) (a : Fin 512) (l : Fin 1024) : (iblk m c 0 t : Vec Ideal S512x1024 .bf16) (ix2 a l) = aF m c (ix2 (row t a) l) := by
  blk_ext [iblk, idx t] <;> simp only [row] <;> omega
theorem b1 (t : Fin cfg0.N) (a : Fin 512) (l : Fin 1024) : (iblk m c 1 t : Vec Ideal S512x1024 .bf16) (ix2 a l) = aB m c (ix2 (row t a) l) := by
  blk_ext [iblk, idx t] <;> simp only [row] <;> omega

/-- The result array after the run, in the call's columns. -/
theorem arr2 (i : Fin 8192) (l : Fin 1024) (k : Fin 5632) (hk : k.val = 2048 + l.val) :
    (show Vec Ideal S8192x5632 .bf16 from (dats m 0 c).arrAt 2 cfg0.N) (ix2 i k) = (aF m c (ix2 i l) : EReal) + aB m c (ix2 i l) := by
  have key := (dats m 0 c).arrAt_forall_of_coversWhere 2 (fun x w => ∀ (i : Fin 8192) (l : Fin 1024) (k : Fin 5632), k.val = 2048 + l.val →
    (show S8192x5632.Idx from x) = ix2 i k → (show EReal from w) = (aF m c (ix2 i l) : EReal) + aB m c (ix2 i l)) (fun β => β (1 : Fin _) = 2) (by decide +kernel)
    (fun t hf y => ?_) (fun j hj => ?_) (ix2 i k)
  · exact key i l k hk rfl
  · intro i l k hk hx
    have h0 := congrArg (fun x : S8192x5632.Idx => (x 0).val) hx
    have h1 := congrArg (fun x : S8192x5632.Idx => (x 1).val) hx
    blk_simp [idx t] at h0 h1
    blk_simp
    rw [after0_2]; simp only [outsAt0]; frame_out
    obtain ⟨z, hz⟩ : ∃ z : S512x1024.Idx, z = (win0 2).xinj (grid0.coords t) y := ⟨_, rfl⟩
    have z0 : (z 0).val = (y 0).val := congrArg (fun x : S512x1024.Idx => (x 0).val) hz
    have z1 : (z 1).val = (y 1).val := congrArg (fun x : S512x1024.Idx => (x 1).val) hz
    refine Eq.trans (congrArg (k0_pay1 (iblk m c 0 t) (iblk m c 1 t)) hz.symm) ?_
    rw [← z0] at h0
    rw [← z1] at h1
    clear hz z0 z1 hx
    generalize hu : z = u at h0 h1 ⊢
    clear hu
    idx_vars u
    simp at h0 h1
    have ei : i = row t u0 := Fin.ext (by simp only [row]; omega)
    have el : l = u1 := Fin.ext (by omega)
    rw [ei, el]
    refine (pay _ _ _ _).trans ?_
    simp only [b0, b1]
  · intro i l k hk hx
    have h1 := congrArg (fun x : S8192x5632.Idx => (x 1).val) hx
    blk_simp [Pipeline.Window.cell_apply] at hj
    blk_simp at h1
    exact absurd h1 (by omega)

/-- Different windows have different arrays. -/
theorem arr_inj : Function.Injective (Pipeline.arrRef spec0) := by decide

/-- The result after the tail: the call's columns. -/
theorem W_res : Pipeline.afterTail₀ cfgs (dats m) 0 (V0 m) [hostOps1] c main_v3
    = extractStridedSlice S8192x1024 ![0, 2048] ((dats m 0 c).arrAt 2 cfg0.N) slices_S8192x5632_S8192x1024_0_2048 := by
  unfold Pipeline.afterTail₀
  simp only [List.flatten_cons, List.flatten_nil, List.append_nil]
  after_reads_simp
  rw [show ∀ V A, Pipeline.withArrays spec0 c V A (Proc.devRef .tc main_v2) = A 2 from fun V A => Pipeline.withArrays_arr spec0 arr_inj c V A 2]

/-- The kernel's run: its result and its arguments. -/
theorem run_values (ρ : Dev nD → PrngReg) : θ_run defs (onTc (τ := τ) (main (F := Ideal))) ⟨m, fun _ => 0, ρ⟩ (fun r => ∀ c : Dev nD,
      r.2.mem ((c.tc : Thread nD τ).loc main_v3) = extractStridedSlice S8192x1024 ![0, 2048] ((dats m 0 c).arrAt 2 cfg0.N) slices_S8192x5632_S8192x1024_0_2048
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).2 main_v3 (Pipeline.mem_restRefs_of main_v3 (by decide) (by decide))).trans (W_res m c), h.2.1 c⟩)
    (θ_run_and (run_main m ρ) (frame m ρ))

/-- The result, entry by entry. -/
theorem res0 (i : Fin 8192) (l : Fin 1024) :
    (extractStridedSlice S8192x1024 ![0, 2048] ((dats m 0 c).arrAt 2 cfg0.N : FVec Ideal S8192x5632 .bf16) slices_S8192x5632_S8192x1024_0_2048 (ix2 i l) : EReal)
      = (aF m c (ix2 i l) : EReal) + aB m c (ix2 i l) := by
  refine Eq.trans ?_ (arr2 m c i l ⟨2048 + l.val, by omega⟩ rfl)
  pointwise []

/-- Kernel and reference end with the same sums. -/
theorem algebraic : Cert.algebraic_Kernel23Ideal_Reference23Ideal := by
  pair_intro
  · run_from run_values m g
  · run_from Cert.Reference23Ideal.Value.run m' g'
    funext j
    idx_vars j
    refine Eq.trans ?_ (res0 m c j0 j1).symm
    pointwise []

end Cert.Kernel23Ideal.Dv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Swiglu
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.MlaFinal
public import proofs.«01_k».proof.Proof.MlaSafe
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.RetPost
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Merge
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.RopeQ
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.RopeK
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.FwdClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.LossK
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.LatNorm
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.DH2
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Din
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.SwigluFwd
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.MergeFwd
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.LatFwd
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.PostFwd
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.RopeFwd
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.QkFwd
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.DwGu
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Adamw
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.GradSum
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Reference23Ideal.Run
public import proofs.«01_k».proof.Proof.DvSum
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference ends with its semaphores at zero and its arguments as they were. -/
theorem frame_reference : Cert.quiescent_ReferenceIdeal := by
  intro m ρ _
  refine (θ_run Cert.ReferenceIdeal.defs _ _).mono (fun r h => ⟨fun c => (h c).2, ?_⟩) (Cert.ReferenceIdeal.Value.run m ρ)
  exact Idealize.ShloMosaic.sem_eq_zero_of_no_sems (by decide) r.2

/-- Kernel and reference end with one gradient in their results. -/
theorem algebraic : Cert.algebraic_KernelIdeal_ReferenceIdeal := by
  pair_intro
  · run_from Cert.KernelIdeal.Gen.run_main m g
  · run_from Cert.ReferenceIdeal.Value.run m' g'
    rw [Cert.KernelIdeal.Swi.final m c]
    funext j
    have hz (x : EReal) : -x = 0 - x := (zero_sub x).symm
    idx_vars j
    pointwise [Cert.KernelIdeal.Swi.grad, Cert.KernelIdeal.Swi.sg, hz]
    by_cases h : (j1 : ℕ) < 2816
    · rw [dif_neg (by omega), dif_pos h, dif_pos (by intro a; match a with | ⟨0, _⟩ => (exact ⟨by simp, by simp [Nat.mod_one], by simpa using j0.isLt⟩) | ⟨1, _⟩ => (exact ⟨by simp, by simp [Nat.mod_one], by simpa using h⟩)), zero_add]
      exact congrArg₂ (· + ·) rfl (mul_assoc (_ : EReal) _ _).symm
    · rw [dif_pos (by have := j1.isLt; omega), dif_neg h, dif_neg (fun q => h (by simpa using (q 1).2.2)), add_zero]

/-- The side conditions of the attention's precondition. -/
instance facts_finite3 : Cert.Pre_finite3.Facts where
  shapeCasts_S8192x512_S8192x8x64 := by decide
  bitsLt_bf16_f32 := by decide
  concatenates_S8192x8x96_S8192x8x96_S8192x8x64_S8192x8x64_S8192x8x320_d2 := by decide
  bcast_S_S8192x8x320 := by decide

/-- The attention gradient's reference ends with its semaphores at zero and its arguments as they were. -/
theorem frame_reference3 : Cert.quiescent_Reference3Ideal := by
  intro m ρ _
  refine (θ_run Cert.Reference3Ideal.defs _ _).mono (fun r h => ⟨fun c => (h c).2.2.2, ?_⟩) (Cert.Reference3Ideal.Value.run m ρ)
  exact Idealize.ShloMosaic.sem_eq_zero_of_no_sems (by decide) r.2

/-- The group norm and gate gradient's reference ends with its semaphores at zero and its arguments as they were. -/
theorem frame_reference6 : Cert.quiescent_Reference6Ideal := by
  intro m ρ _
  refine (θ_run Cert.Reference6Ideal.defs _ _).mono (fun r h => ⟨fun c => (h c).2.2, ?_⟩) (Cert.Reference6Ideal.Value.run m ρ)
  exact Idealize.ShloMosaic.sem_eq_zero_of_no_sems (by decide) r.2

/-- The branch gates' gradient's reference ends with its semaphores at zero and its arguments as they were. -/
theorem frame_reference5 : Cert.quiescent_Reference5Ideal := by
  intro m ρ _
  refine (θ_run Cert.Reference5Ideal.defs _ _).mono (fun r h => ⟨fun c => (h c).2.2.2, ?_⟩) (Cert.Reference5Ideal.Value.run m ρ)
  exact Idealize.ShloMosaic.sem_eq_zero_of_no_sems (by decide) r.2

/-- The query rotary gradient's reference ends with its semaphores at zero and its arguments as they were. -/
theorem frame_reference7 : Cert.quiescent_Reference7Ideal := by
  intro m ρ _
  refine (θ_run Cert.Reference7Ideal.defs _ _).mono (fun r h => ⟨fun c => (h c).2, ?_⟩) (Cert.Reference7Ideal.Value.run m ρ)
  exact Idealize.ShloMosaic.sem_eq_zero_of_no_sems (by decide) r.2

/-- The key rotary gradient's reference ends with its semaphores at zero and its arguments as they were. -/
theorem frame_reference8 : Cert.quiescent_Reference8Ideal := by
  intro m ρ _
  refine (θ_run Cert.Reference8Ideal.defs _ _).mono (fun r h => ⟨fun c => (h c).2, ?_⟩) (Cert.Reference8Ideal.Value.run m ρ)
  exact Idealize.ShloMosaic.sem_eq_zero_of_no_sems (by decide) r.2

/-- The side conditions of the attention's forward precondition. -/
instance facts_finite13 : Cert.Pre_finite13.Facts where
  bitsLt_bf16_f32 := by decide
  concatenates_S8192x8x96_S8192x8x96_S8192x8x192_d2 := by decide
  bcast_S_S8192x8x192 := by decide

/-- The attention's reference ends with its semaphores at zero and its arguments as they were. -/
theorem frame_reference13 : Cert.quiescent_Reference13Ideal := by
  intro m ρ _
  refine (θ_run Cert.Reference13Ideal.defs _ _).mono (fun r h => ⟨fun c => (h c).2.2, ?_⟩) (Cert.Reference13Ideal.Value.run m ρ)
  exact Idealize.ShloMosaic.sem_eq_zero_of_no_sems (by decide) r.2

/-- The loss's reference ends with its semaphores at zero and its arguments as they were. -/
theorem frame_reference4 : Cert.quiescent_Reference4Ideal := by
  intro m ρ _
  refine (θ_run Cert.Reference4Ideal.defs _ _).mono (fun r h => ⟨fun c => (h c).2.2.2, ?_⟩) (Cert.Reference4Ideal.Value.run m ρ)
  exact Idealize.ShloMosaic.sem_eq_zero_of_no_sems (by decide) r.2

/-- The latent norms' gradient's reference ends with its semaphores at zero and its arguments as they were. -/
theorem frame_reference10 : Cert.quiescent_Reference10Ideal := by
  intro m ρ _
  refine (θ_run Cert.Reference10Ideal.defs _ _).mono (fun r h => ⟨fun c => (h c).2.2.2.2, ?_⟩) (Cert.Reference10Ideal.Value.run m ρ)
  exact Idealize.ShloMosaic.sem_eq_zero_of_no_sems (by decide) r.2

/-- The feed-forward norm's gradient's reference ends with its semaphores at zero and its arguments as they were. -/
theorem frame_reference11 : Cert.quiescent_Reference11Ideal := by
  intro m ρ _
  refine (θ_run Cert.Reference11Ideal.defs _ _).mono (fun r h => ⟨fun c => (h c).2.2.2, ?_⟩) (Cert.Reference11Ideal.Value.run m ρ)
  exact Idealize.ShloMosaic.sem_eq_zero_of_no_sems (by decide) r.2

/-- The first norm's gradient's reference ends with its semaphores at zero and its arguments as they were. -/
theorem frame_reference12 : Cert.quiescent_Reference12Ideal := by
  intro m ρ _
  refine (θ_run Cert.Reference12Ideal.defs _ _).mono (fun r h => ⟨fun c => (h c).2.2, ?_⟩) (Cert.Reference12Ideal.Value.run m ρ)
  exact Idealize.ShloMosaic.sem_eq_zero_of_no_sems (by decide) r.2

/-- The gated unit's reference ends with its semaphores at zero and its arguments as they were. -/
theorem frame_reference14 : Cert.quiescent_Reference14Ideal := by
  intro m ρ _
  refine (θ_run Cert.Reference14Ideal.defs _ _).mono (fun r h => ⟨fun c => (h c).2, ?_⟩) (Cert.Reference14Ideal.Value.run m ρ)
  exact Idealize.ShloMosaic.sem_eq_zero_of_no_sems (by decide) r.2

/-- The gated sum's reference ends with its semaphores at zero and its arguments as they were. -/
theorem frame_reference15 : Cert.quiescent_Reference15Ideal := by
  intro m ρ _
  refine (θ_run Cert.Reference15Ideal.defs _ _).mono (fun r h => ⟨fun c => (h c).2, ?_⟩) (Cert.Reference15Ideal.Value.run m ρ)
  exact Idealize.ShloMosaic.sem_eq_zero_of_no_sems (by decide) r.2

/-- The compressed arrays' norms' reference ends with its semaphores at zero and its arguments as they were. -/
theorem frame_reference16 : Cert.quiescent_Reference16Ideal := by
  intro m ρ _
  refine (θ_run Cert.Reference16Ideal.defs _ _).mono (fun r h => ⟨fun c => (h c).2.2, ?_⟩) (Cert.Reference16Ideal.Value.run m ρ)
  exact Idealize.ShloMosaic.sem_eq_zero_of_no_sems (by decide) r.2

/-- The retention's gated norm's reference ends with its semaphores at zero and its arguments as they were. -/
theorem frame_reference17 : Cert.quiescent_Reference17Ideal := by
  intro m ρ _
  refine (θ_run Cert.Reference17Ideal.defs _ _).mono (fun r h => ⟨fun c => (h c).2, ?_⟩) (Cert.Reference17Ideal.Value.run m ρ)
  exact Idealize.ShloMosaic.sem_eq_zero_of_no_sems (by decide) r.2

/-- The retention's turned queries' and keys' reference ends with its semaphores at zero and its arguments as they were. -/
theorem frame_reference18 : Cert.quiescent_Reference18Ideal := by
  intro m ρ _
  refine (θ_run Cert.Reference18Ideal.defs _ _).mono (fun r h => ⟨fun c => (h c).2.2, ?_⟩) (Cert.Reference18Ideal.Value.run m ρ)
  exact Idealize.ShloMosaic.sem_eq_zero_of_no_sems (by decide) r.2

/-- The attention's normed and turned queries' and keys' reference ends with its semaphores at zero and its arguments as they were. -/
theorem frame_reference19 : Cert.quiescent_Reference19Ideal := by
  intro m ρ _
  refine (θ_run Cert.Reference19Ideal.defs _ _).mono (fun r h => ⟨fun c => (h c).2.2, ?_⟩) (Cert.Reference19Ideal.Value.run m ρ)
  exact Idealize.ShloMosaic.sem_eq_zero_of_no_sems (by decide) r.2

/-- The gate and up weights' gradient's reference ends with its semaphores at zero and its arguments as they were. -/
theorem frame_reference20 : Cert.quiescent_Reference20Ideal := by
  intro m ρ _
  refine (θ_run Cert.Reference20Ideal.defs _ _).mono (fun r h => ⟨fun c => (h c).2, ?_⟩) (Cert.Reference20Ideal.Value.run m ρ)
  exact Idealize.ShloMosaic.sem_eq_zero_of_no_sems (by decide) r.2

/-- The optimiser's reference ends with its semaphores at zero and its arguments as they were. -/
theorem frame_reference21 : Cert.quiescent_Reference21Ideal := by
  intro m ρ _
  refine (θ_run Cert.Reference21Ideal.defs _ _).mono (fun r h => ⟨fun c => (h c).2.2.2, ?_⟩) (Cert.Reference21Ideal.Value.run m ρ)
  exact Idealize.ShloMosaic.sem_eq_zero_of_no_sems (by decide) r.2

/-- The gradient pieces' sum's reference ends with its semaphores at zero and its arguments as they were. -/
theorem frame_reference22 : Cert.quiescent_Reference22Ideal := by
  intro m ρ _
  refine (θ_run Cert.Reference22Ideal.defs _ _).mono (fun r h => ⟨fun c => (h c).2, ?_⟩) (Cert.Reference22Ideal.Value.run m ρ)
  exact Idealize.ShloMosaic.sem_eq_zero_of_no_sems (by decide) r.2

/-- The two directions' sum's reference ends with its semaphores at zero and its arguments as they were. -/
theorem frame_reference23 : Cert.quiescent_Reference23Ideal := by
  intro m ρ _
  refine (θ_run Cert.Reference23Ideal.defs _ _).mono (fun r h => ⟨fun c => (h c).2, ?_⟩) (Cert.Reference23Ideal.Value.run m ρ)
  exact Idealize.ShloMosaic.sem_eq_zero_of_no_sems (by decide) r.2

/-- At the machine's floats a named constant is its bits. -/
local instance : Named Bits where
  named _ _ {φ} b := Scalar.ofBits φ b

/-- The attention gradient's kernel ends with its semaphores at zero and its arguments as they were. -/
theorem frame_kernel3 : Cert.quiescent_Kernel3 := fun m ρ _ =>
  (show _ from by sl_kernel_rfl : (θ_run (Cert.Kernel3Ideal.defs (F := Bits)) (onTc (Cert.Kernel3Ideal.main (F := Bits))) ⟨m, fun _ => 0, ρ⟩) = (θ_run (Cert.Kernel3.defs (F := Bits)) (onTc (Cert.Kernel3.main (F := Bits))) ⟨m, fun _ => 0, ρ⟩)) ▸ Cert.Kernel3Ideal.MlaSafe.frame (F := Bits) m ρ

/-- The claims, in their order: every program's frame, then pair by pair what its rounding keeps and what it computes. -/
theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel6.Gen.facts, Cert.Kernel6Ideal.Gen.facts, Cert.Reference6Ideal.Gen.facts,
  Cert.Kernel5.Gen.facts, Cert.Kernel5Ideal.Gen.facts, Cert.Reference5Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel13.Gen.facts, Cert.Kernel13Ideal.Gen.facts, Cert.Reference13Ideal.Gen.facts,
  Cert.Kernel4.Gen.facts, Cert.Kernel4Ideal.Gen.facts, Cert.Reference4Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  facts_finite3, facts_finite13, fun m ρ _ => Cert.Kernel.Gen.frame m ρ, fun m ρ _ => Cert.KernelIdeal.Gen.frame m ρ,
  frame_reference, frame_kernel3, fun m ρ _ => Cert.Kernel3Ideal.Mla.frame m ρ,
  fun m ρ _ => Cert.Kernel3Ideal.Mla.frame m ρ, frame_reference3, fun m ρ _ => frame_reference3 m ρ trivial,
  fun m ρ _ => Cert.Kernel6.Gen.frame m ρ, fun m ρ _ => Cert.Kernel6Ideal.Gen.frame m ρ, frame_reference6,
  fun m ρ _ => Cert.Kernel5.Gen.frame m ρ, fun m ρ _ => Cert.Kernel5Ideal.Gen.frame m ρ, frame_reference5,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel13.Gen.frame m ρ, fun m ρ _ => Cert.Kernel13Ideal.Gen.frame m ρ,
  fun m ρ _ => Cert.Kernel13Ideal.Gen.frame m ρ, frame_reference13, fun m ρ _ => frame_reference13 m ρ trivial,
  fun m ρ _ => Cert.Kernel4.Gen.frame m ρ, fun m ρ _ => Cert.Kernel4Ideal.Gen.frame m ρ, frame_reference4,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  trivial, algebraic, IdealRules.named_const.statement _ _ _ _ _ rfl,
  Cert.Kernel3Ideal.Mla.algebraic, trivial, Cert.Kernel6Ideal.Post.algebraic,
  trivial, Cert.Kernel5Ideal.Merge.algebraic, trivial,
  Cert.Kernel7Ideal.RopeQ.algebraic, trivial, Cert.Kernel8Ideal.RopeK.algebraic,
  IdealRules.named_const.statement _ _ _ _ _ rfl, Cert.Kernel13Ideal.Fwd.algebraic,
  trivial, Cert.Kernel4Ideal.Loss.algebraic,
  trivial, Cert.Kernel10Ideal.Lat.algebraic,
  trivial, Cert.Kernel11Ideal.Dh.algebraic,
  trivial, Cert.Kernel12Ideal.Din.algebraic,
  trivial, Cert.Kernel14Ideal.Swf.algebraic,
  trivial, Cert.Kernel15Ideal.Mgf.algebraic,
  trivial, Cert.Kernel16Ideal.Laf.algebraic,
  trivial, Cert.Kernel17Ideal.Pof.algebraic,
  trivial, Cert.Kernel18Ideal.Rof.algebraic,
  IdealRules.named_const.statement _ _ _ _ _ rfl, Cert.Kernel19Ideal.Qkf.algebraic,
  trivial, Cert.Kernel20Ideal.Dw.algebraic,
  trivial, Cert.Kernel21Ideal.Adw.algebraic,
  trivial, Cert.Kernel22Ideal.Gs.algebraic,
  trivial, Cert.Kernel23Ideal.Dv.algebraic⟩

end Cert.Proof

end
